-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_SsmInZ (m : (ℓ : Loc Cert.SsmInZ.nD Cert.SsmInZ.τ Cert.SsmInZ.sig) → Buf (Elt Bits) ℓ) : Prop :=
  True

def Pre_SsmInZIdeal (m : (ℓ : Loc Cert.SsmInZIdeal.nD Cert.SsmInZIdeal.τ Cert.SsmInZIdeal.sig) → Buf (Elt Ideal) ℓ) : Prop :=
  True

def Pre_SsmInZReferenceIdeal (m : (ℓ : Loc Cert.SsmInZReferenceIdeal.nD Cert.SsmInZReferenceIdeal.τ Cert.SsmInZReferenceIdeal.sig) → Buf (Elt Ideal) ℓ) : Prop :=
  True

def Pre_SsmInXbc (m : (ℓ : Loc Cert.SsmInXbc.nD Cert.SsmInXbc.τ Cert.SsmInXbc.sig) → Buf (Elt Bits) ℓ) : Prop :=
  True

def Pre_SsmInXbcIdeal (m : (ℓ : Loc Cert.SsmInXbcIdeal.nD Cert.SsmInXbcIdeal.τ Cert.SsmInXbcIdeal.sig) → Buf (Elt Ideal) ℓ) : Prop :=
  True

def Pre_SsmInXbcReferenceIdeal (m : (ℓ : Loc Cert.SsmInXbcReferenceIdeal.nD Cert.SsmInXbcReferenceIdeal.τ Cert.SsmInXbcReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_MoeUp [hPre_dispatched : Cert.Pre_dispatched.Facts] (m : (ℓ : Loc Cert.MoeUp.nD Cert.MoeUp.τ Cert.MoeUp.sig) → Buf (Elt Bits) ℓ) : Prop :=
  ∀ c : Dev Cert.MoeUp.nD,
    (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.2.2.1 = (fun _ => 1#1)
    ∧ (Cert.Pre_dispatched.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5)) (m ((c.tc : Thread Cert.MoeUp.nD Cert.MoeUp.τ).loc Cert.MoeUp.main_arg6)) (m ((c.tc : Thread Cert.MoeUp.nD Cert.MoeUp.τ).loc Cert.MoeUp.main_arg7))).2.2.2.2.2.2.2.2 = (fun _ => 1#1)

def Pre_MoeUpIdeal [hPre_dispatched : Cert.Pre_dispatched.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.2.2.1 = (fun _ => 1#1)
    ∧ (Cert.Pre_dispatched.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))).2.2.2.2.2.2.2.2 = (fun _ => 1#1)

def Pre_MoeUpReferenceIdeal (m : (ℓ : Loc Cert.MoeUpReferenceIdeal.nD Cert.MoeUpReferenceIdeal.τ Cert.MoeUpReferenceIdeal.sig) → Buf (Elt Ideal) ℓ) : Prop :=
  True

def Pre_MoeUpReferenceIdeal_dispatched [hPre_dispatched : Cert.Pre_dispatched.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.2.2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.2.2.2.2.1 = (fun _ => 1#1)
    ∧ (Cert.Pre_dispatched.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3)) (m ((c.tc : Thread Cert.MoeUpReferenceIdeal.nD Cert.MoeUpReferenceIdeal.τ).loc Cert.MoeUpReferenceIdeal.main_arg4)) (m ((c.tc : Thread Cert.MoeUpReferenceIdeal.nD Cert.MoeUpReferenceIdeal.τ).loc Cert.MoeUpReferenceIdeal.main_arg5)) (m ((c.tc : Thread Cert.MoeUpReferenceIdeal.nD Cert.MoeUpReferenceIdeal.τ).loc Cert.MoeUpReferenceIdeal.main_arg6)) (m ((c.tc : Thread Cert.MoeUpReferenceIdeal.nD Cert.MoeUpReferenceIdeal.τ).loc Cert.MoeUpReferenceIdeal.main_arg7))).2.2.2.2.2.2.2.2 = (fun _ => 1#1)

def Pre_MoeDown [hPre_dispatched_down : Cert.Pre_dispatched_down.Facts] (m : (ℓ : Loc Cert.MoeDown.nD Cert.MoeDown.τ Cert.MoeDown.sig) → Buf (Elt Bits) ℓ) : Prop :=
  ∀ c : Dev Cert.MoeDown.nD,
    (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.2.2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.2.2.2.2.1 = (fun _ => 1#1)
    ∧ (Cert.Pre_dispatched_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4)) (m ((c.tc : Thread Cert.MoeDown.nD Cert.MoeDown.τ).loc Cert.MoeDown.main_arg5)) (m ((c.tc : Thread Cert.MoeDown.nD Cert.MoeDown.τ).loc Cert.MoeDown.main_arg6))).2.2.2.2.2.2.2.2 = (fun _ => 1#1)

def Pre_MoeDownIdeal [hPre_dispatched_down : Cert.Pre_dispatched_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.2.2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.2.2.2.2.1 = (fun _ => 1#1)
    ∧ (Cert.Pre_dispatched_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))).2.2.2.2.2.2.2.2 = (fun _ => 1#1)

def Pre_MoeDownReferenceIdeal (m : (ℓ : Loc Cert.MoeDownReferenceIdeal.nD Cert.MoeDownReferenceIdeal.τ Cert.MoeDownReferenceIdeal.sig) → Buf (Elt Ideal) ℓ) : Prop :=
  True

def Pre_MoeDownReferenceIdeal_dispatched_down [hPre_dispatched_down : Cert.Pre_dispatched_down.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.2.2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.2.2.2.2.1 = (fun _ => 1#1)
    ∧ (Cert.Pre_dispatched_down.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3)) (m ((c.tc : Thread Cert.MoeDownReferenceIdeal.nD Cert.MoeDownReferenceIdeal.τ).loc Cert.MoeDownReferenceIdeal.main_arg4)) (m ((c.tc : Thread Cert.MoeDownReferenceIdeal.nD Cert.MoeDownReferenceIdeal.τ).loc Cert.MoeDownReferenceIdeal.main_arg5)) (m ((c.tc : Thread Cert.MoeDownReferenceIdeal.nD Cert.MoeDownReferenceIdeal.τ).loc Cert.MoeDownReferenceIdeal.main_arg6))).2.2.2.2.2.2.2.2 = (fun _ => 1#1)

def Pre_SsmDt (m : (ℓ : Loc Cert.SsmDt.nD Cert.SsmDt.τ Cert.SsmDt.sig) → Buf (Elt Bits) ℓ) : Prop :=
  True

def Pre_SsmDtIdeal (m : (ℓ : Loc Cert.SsmDtIdeal.nD Cert.SsmDtIdeal.τ Cert.SsmDtIdeal.sig) → Buf (Elt Ideal) ℓ) : Prop :=
  True

def Pre_SsmDtReferenceIdeal (m : (ℓ : Loc Cert.SsmDtReferenceIdeal.nD Cert.SsmDtReferenceIdeal.τ Cert.SsmDtReferenceIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormReferenceIdeal (m : (ℓ : Loc Cert.GateNormReferenceIdeal.nD Cert.GateNormReferenceIdeal.τ Cert.GateNormReferenceIdeal.sig) → Buf (Elt Ideal) ℓ) : Prop :=
  True

def Pre_Caches (m : (ℓ : Loc Cert.Caches.nD Cert.Caches.τ Cert.Caches.sig) → Buf (Elt Bits) ℓ) : Prop :=
  True

def Pre_CachesIdeal (m : (ℓ : Loc Cert.CachesIdeal.nD Cert.CachesIdeal.τ Cert.CachesIdeal.sig) → Buf (Elt Ideal) ℓ) : Prop :=
  True

def Pre_CachesReferenceIdeal (m : (ℓ : Loc Cert.CachesReferenceIdeal.nD Cert.CachesReferenceIdeal.τ Cert.CachesReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_MixedReferenceIdeal (m : (ℓ : Loc Cert.MixedReferenceIdeal.nD Cert.MixedReferenceIdeal.τ Cert.MixedReferenceIdeal.sig) → Buf (Elt Ideal) ℓ) : Prop :=
  True

def Pre_Adapt (m : (ℓ : Loc Cert.Adapt.nD Cert.Adapt.τ Cert.Adapt.sig) → Buf (Elt Bits) ℓ) : Prop :=
  True

def Pre_AdaptIdeal (m : (ℓ : Loc Cert.AdaptIdeal.nD Cert.AdaptIdeal.τ Cert.AdaptIdeal.sig) → Buf (Elt Ideal) ℓ) : Prop :=
  True

def Pre_AdaptReferenceIdeal (m : (ℓ : Loc Cert.AdaptReferenceIdeal.nD Cert.AdaptReferenceIdeal.τ Cert.AdaptReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_SsmInZ [hSsmInZ : Cert.SsmInZ.Facts] : Prop :=
  ∀ (m : (ℓ : Loc Cert.SsmInZ.nD Cert.SsmInZ.τ Cert.SsmInZ.sig) → Buf (Elt Bits) ℓ) (g : Dev Cert.SsmInZ.nD → PrngReg), Pre_SsmInZ m →
    θ_run (Cert.SsmInZ.defs (F := Bits)) (onTc (τ := Cert.SsmInZ.τ) (Cert.SsmInZ.main (F := Bits))) ⟨m, fun _ => 0, g⟩ (fun r => (∀ c : Dev Cert.SsmInZ.nD,
      r.2.mem ((c.tc : Thread Cert.SsmInZ.nD Cert.SsmInZ.τ).loc Cert.SsmInZ.main_arg0) = m ((c.tc : Thread Cert.SsmInZ.nD Cert.SsmInZ.τ).loc Cert.SsmInZ.main_arg0)
      ∧ r.2.mem ((c.tc : Thread Cert.SsmInZ.nD Cert.SsmInZ.τ).loc Cert.SsmInZ.main_arg1) = m ((c.tc : Thread Cert.SsmInZ.nD Cert.SsmInZ.τ).loc Cert.SsmInZ.main_arg1))
      ∧ r.2.sem = fun _ => 0)

def quiescent_SsmInZIdeal [hSsmInZIdeal : Cert.SsmInZIdeal.Facts] : Prop :=
  ∀ (m : (ℓ : Loc Cert.SsmInZIdeal.nD Cert.SsmInZIdeal.τ Cert.SsmInZIdeal.sig) → Buf (Elt Ideal) ℓ) (g : Dev Cert.SsmInZIdeal.nD → PrngReg), Pre_SsmInZIdeal m →
    θ_run (Cert.SsmInZIdeal.defs (F := Ideal)) (onTc (τ := Cert.SsmInZIdeal.τ) (Cert.SsmInZIdeal.main (F := Ideal))) ⟨m, fun _ => 0, g⟩ (fun r => (∀ c : Dev Cert.SsmInZIdeal.nD,
      r.2.mem ((c.tc : Thread Cert.SsmInZIdeal.nD Cert.SsmInZIdeal.τ).loc Cert.SsmInZIdeal.main_arg0) = m ((c.tc : Thread Cert.SsmInZIdeal.nD Cert.SsmInZIdeal.τ).loc Cert.SsmInZIdeal.main_arg0)
      ∧ r.2.mem ((c.tc : Thread Cert.SsmInZIdeal.nD Cert.SsmInZIdeal.τ).loc Cert.SsmInZIdeal.main_arg1) = m ((c.tc : Thread Cert.SsmInZIdeal.nD Cert.SsmInZIdeal.τ).loc Cert.SsmInZIdeal.main_arg1))
      ∧ r.2.sem = fun _ => 0)

def quiescent_SsmInZReferenceIdeal [hSsmInZReferenceIdeal : Cert.SsmInZReferenceIdeal.Facts] : Prop :=
  ∀ (m : (ℓ : Loc Cert.SsmInZReferenceIdeal.nD Cert.SsmInZReferenceIdeal.τ Cert.SsmInZReferenceIdeal.sig) → Buf (Elt Ideal) ℓ) (g : Dev Cert.SsmInZReferenceIdeal.nD → PrngReg), Pre_SsmInZReferenceIdeal m →
    θ_run (Cert.SsmInZReferenceIdeal.defs (F := Ideal)) (onTc (τ := Cert.SsmInZReferenceIdeal.τ) (Cert.SsmInZReferenceIdeal.main (F := Ideal))) ⟨m, fun _ => 0, g⟩ (fun r => (∀ c : Dev Cert.SsmInZReferenceIdeal.nD,
      r.2.mem ((c.tc : Thread Cert.SsmInZReferenceIdeal.nD Cert.SsmInZReferenceIdeal.τ).loc Cert.SsmInZReferenceIdeal.main_arg0) = m ((c.tc : Thread Cert.SsmInZReferenceIdeal.nD Cert.SsmInZReferenceIdeal.τ).loc Cert.SsmInZReferenceIdeal.main_arg0)
      ∧ r.2.mem ((c.tc : Thread Cert.SsmInZReferenceIdeal.nD Cert.SsmInZReferenceIdeal.τ).loc Cert.SsmInZReferenceIdeal.main_arg1) = m ((c.tc : Thread Cert.SsmInZReferenceIdeal.nD Cert.SsmInZReferenceIdeal.τ).loc Cert.SsmInZReferenceIdeal.main_arg1))
      ∧ r.2.sem = fun _ => 0)

def quiescent_SsmInXbc [hSsmInXbc : Cert.SsmInXbc.Facts] : Prop :=
  ∀ (m : (ℓ : Loc Cert.SsmInXbc.nD Cert.SsmInXbc.τ Cert.SsmInXbc.sig) → Buf (Elt Bits) ℓ) (g : Dev Cert.SsmInXbc.nD → PrngReg), Pre_SsmInXbc m →
    θ_run (Cert.SsmInXbc.defs (F := Bits)) (onTc (τ := Cert.SsmInXbc.τ) (Cert.SsmInXbc.main (F := Bits))) ⟨m, fun _ => 0, g⟩ (fun r => (∀ c : Dev Cert.SsmInXbc.nD,
      r.2.mem ((c.tc : Thread Cert.SsmInXbc.nD Cert.SsmInXbc.τ).loc Cert.SsmInXbc.main_arg0) = m ((c.tc : Thread Cert.SsmInXbc.nD Cert.SsmInXbc.τ).loc Cert.SsmInXbc.main_arg0)
      ∧ r.2.mem ((c.tc : Thread Cert.SsmInXbc.nD Cert.SsmInXbc.τ).loc Cert.SsmInXbc.main_arg1) = m ((c.tc : Thread Cert.SsmInXbc.nD Cert.SsmInXbc.τ).loc Cert.SsmInXbc.main_arg1))
      ∧ r.2.sem = fun _ => 0)

def quiescent_SsmInXbcIdeal [hSsmInXbcIdeal : Cert.SsmInXbcIdeal.Facts] : Prop :=
  ∀ (m : (ℓ : Loc Cert.SsmInXbcIdeal.nD Cert.SsmInXbcIdeal.τ Cert.SsmInXbcIdeal.sig) → Buf (Elt Ideal) ℓ) (g : Dev Cert.SsmInXbcIdeal.nD → PrngReg), Pre_SsmInXbcIdeal m →
    θ_run (Cert.SsmInXbcIdeal.defs (F := Ideal)) (onTc (τ := Cert.SsmInXbcIdeal.τ) (Cert.SsmInXbcIdeal.main (F := Ideal))) ⟨m, fun _ => 0, g⟩ (fun r => (∀ c : Dev Cert.SsmInXbcIdeal.nD,
      r.2.mem ((c.tc : Thread Cert.SsmInXbcIdeal.nD Cert.SsmInXbcIdeal.τ).loc Cert.SsmInXbcIdeal.main_arg0) = m ((c.tc : Thread Cert.SsmInXbcIdeal.nD Cert.SsmInXbcIdeal.τ).loc Cert.SsmInXbcIdeal.main_arg0)
      ∧ r.2.mem ((c.tc : Thread Cert.SsmInXbcIdeal.nD Cert.SsmInXbcIdeal.τ).loc Cert.SsmInXbcIdeal.main_arg1) = m ((c.tc : Thread Cert.SsmInXbcIdeal.nD Cert.SsmInXbcIdeal.τ).loc Cert.SsmInXbcIdeal.main_arg1))
      ∧ r.2.sem = fun _ => 0)

def quiescent_SsmInXbcReferenceIdeal [hSsmInXbcReferenceIdeal : Cert.SsmInXbcReferenceIdeal.Facts] : Prop :=
  ∀ (m : (ℓ : Loc Cert.SsmInXbcReferenceIdeal.nD Cert.SsmInXbcReferenceIdeal.τ Cert.SsmInXbcReferenceIdeal.sig) → Buf (Elt Ideal) ℓ) (g : Dev Cert.SsmInXbcReferenceIdeal.nD → PrngReg), Pre_SsmInXbcReferenceIdeal m →
    θ_run (Cert.SsmInXbcReferenceIdeal.defs (F := Ideal)) (onTc (τ := Cert.SsmInXbcReferenceIdeal.τ) (Cert.SsmInXbcReferenceIdeal.main (F := Ideal))) ⟨m, fun _ => 0, g⟩ (fun r => (∀ c : Dev Cert.SsmInXbcReferenceIdeal.nD,
      r.2.mem ((c.tc : Thread Cert.SsmInXbcReferenceIdeal.nD Cert.SsmInXbcReferenceIdeal.τ).loc Cert.SsmInXbcReferenceIdeal.main_arg0) = m ((c.tc : Thread Cert.SsmInXbcReferenceIdeal.nD Cert.SsmInXbcReferenceIdeal.τ).loc Cert.SsmInXbcReferenceIdeal.main_arg0)
      ∧ r.2.mem ((c.tc : Thread Cert.SsmInXbcReferenceIdeal.nD Cert.SsmInXbcReferenceIdeal.τ).loc Cert.SsmInXbcReferenceIdeal.main_arg1) = m ((c.tc : Thread Cert.SsmInXbcReferenceIdeal.nD Cert.SsmInXbcReferenceIdeal.τ).loc Cert.SsmInXbcReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1))
      ∧ r.2.sem = fun _ => 0)

def quiescent_MoeUp [hMoeUp : Cert.MoeUp.Facts] [hPre_dispatched : Cert.Pre_dispatched.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5)
      ∧ r.2.mem ((c.tc : Thread Cert.MoeUp.nD Cert.MoeUp.τ).loc Cert.MoeUp.main_arg6) = m ((c.tc : Thread Cert.MoeUp.nD Cert.MoeUp.τ).loc Cert.MoeUp.main_arg6)
      ∧ r.2.mem ((c.tc : Thread Cert.MoeUp.nD Cert.MoeUp.τ).loc Cert.MoeUp.main_arg7) = m ((c.tc : Thread Cert.MoeUp.nD Cert.MoeUp.τ).loc Cert.MoeUp.main_arg7))
      ∧ r.2.sem = fun _ => 0)

def quiescent_MoeUpIdeal [hMoeUpIdeal : Cert.MoeUpIdeal.Facts] [hPre_dispatched : Cert.Pre_dispatched.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
      ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
      ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7))
      ∧ r.2.sem = fun _ => 0)

def quiescent_MoeUpReferenceIdeal [hMoeUpReferenceIdeal : Cert.MoeUpReferenceIdeal.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4)
      ∧ r.2.mem ((c.tc : Thread Cert.MoeUpReferenceIdeal.nD Cert.MoeUpReferenceIdeal.τ).loc Cert.MoeUpReferenceIdeal.main_arg5) = m ((c.tc : Thread Cert.MoeUpReferenceIdeal.nD Cert.MoeUpReferenceIdeal.τ).loc Cert.MoeUpReferenceIdeal.main_arg5)
      ∧ r.2.mem ((c.tc : Thread Cert.MoeUpReferenceIdeal.nD Cert.MoeUpReferenceIdeal.τ).loc Cert.MoeUpReferenceIdeal.main_arg6) = m ((c.tc : Thread Cert.MoeUpReferenceIdeal.nD Cert.MoeUpReferenceIdeal.τ).loc Cert.MoeUpReferenceIdeal.main_arg6)
      ∧ r.2.mem ((c.tc : Thread Cert.MoeUpReferenceIdeal.nD Cert.MoeUpReferenceIdeal.τ).loc Cert.MoeUpReferenceIdeal.main_arg7) = m ((c.tc : Thread Cert.MoeUpReferenceIdeal.nD Cert.MoeUpReferenceIdeal.τ).loc Cert.MoeUpReferenceIdeal.main_arg7))
      ∧ r.2.sem = fun _ => 0)

def quiescent_MoeUpReferenceIdeal_pre_dispatched [hMoeUpReferenceIdeal : Cert.MoeUpReferenceIdeal.Facts] [hPre_dispatched : Cert.Pre_dispatched.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal_dispatched m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3)
      ∧ r.2.mem ((c.tc : Thread Cert.MoeUpReferenceIdeal.nD Cert.MoeUpReferenceIdeal.τ).loc Cert.MoeUpReferenceIdeal.main_arg4) = m ((c.tc : Thread Cert.MoeUpReferenceIdeal.nD Cert.MoeUpReferenceIdeal.τ).loc Cert.MoeUpReferenceIdeal.main_arg4)
      ∧ r.2.mem ((c.tc : Thread Cert.MoeUpReferenceIdeal.nD Cert.MoeUpReferenceIdeal.τ).loc Cert.MoeUpReferenceIdeal.main_arg5) = m ((c.tc : Thread Cert.MoeUpReferenceIdeal.nD Cert.MoeUpReferenceIdeal.τ).loc Cert.MoeUpReferenceIdeal.main_arg5)
      ∧ r.2.mem ((c.tc : Thread Cert.MoeUpReferenceIdeal.nD Cert.MoeUpReferenceIdeal.τ).loc Cert.MoeUpReferenceIdeal.main_arg6) = m ((c.tc : Thread Cert.MoeUpReferenceIdeal.nD Cert.MoeUpReferenceIdeal.τ).loc Cert.MoeUpReferenceIdeal.main_arg6)
      ∧ r.2.mem ((c.tc : Thread Cert.MoeUpReferenceIdeal.nD Cert.MoeUpReferenceIdeal.τ).loc Cert.MoeUpReferenceIdeal.main_arg7) = m ((c.tc : Thread Cert.MoeUpReferenceIdeal.nD Cert.MoeUpReferenceIdeal.τ).loc Cert.MoeUpReferenceIdeal.main_arg7))
      ∧ r.2.sem = fun _ => 0)

def quiescent_MoeDown [hMoeDown : Cert.MoeDown.Facts] [hPre_dispatched_down : Cert.Pre_dispatched_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4)
      ∧ r.2.mem ((c.tc : Thread Cert.MoeDown.nD Cert.MoeDown.τ).loc Cert.MoeDown.main_arg5) = m ((c.tc : Thread Cert.MoeDown.nD Cert.MoeDown.τ).loc Cert.MoeDown.main_arg5)
      ∧ r.2.mem ((c.tc : Thread Cert.MoeDown.nD Cert.MoeDown.τ).loc Cert.MoeDown.main_arg6) = m ((c.tc : Thread Cert.MoeDown.nD Cert.MoeDown.τ).loc Cert.MoeDown.main_arg6))
      ∧ r.2.sem = fun _ => 0)

def quiescent_MoeDownIdeal [hMoeDownIdeal : Cert.MoeDownIdeal.Facts] [hPre_dispatched_down : Cert.Pre_dispatched_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
      ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5)
      ∧ r.2.mem ((c.tc : Thread Cert.MoeDownIdeal.nD Cert.MoeDownIdeal.τ).loc Cert.MoeDownIdeal.main_arg6) = m ((c.tc : Thread Cert.MoeDownIdeal.nD Cert.MoeDownIdeal.τ).loc Cert.MoeDownIdeal.main_arg6))
      ∧ r.2.sem = fun _ => 0)

def quiescent_MoeDownReferenceIdeal [hMoeDownReferenceIdeal : Cert.MoeDownReferenceIdeal.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3)
      ∧ r.2.mem ((c.tc : Thread Cert.MoeDownReferenceIdeal.nD Cert.MoeDownReferenceIdeal.τ).loc Cert.MoeDownReferenceIdeal.main_arg4) = m ((c.tc : Thread Cert.MoeDownReferenceIdeal.nD Cert.MoeDownReferenceIdeal.τ).loc Cert.MoeDownReferenceIdeal.main_arg4)
      ∧ r.2.mem ((c.tc : Thread Cert.MoeDownReferenceIdeal.nD Cert.MoeDownReferenceIdeal.τ).loc Cert.MoeDownReferenceIdeal.main_arg5) = m ((c.tc : Thread Cert.MoeDownReferenceIdeal.nD Cert.MoeDownReferenceIdeal.τ).loc Cert.MoeDownReferenceIdeal.main_arg5)
      ∧ r.2.mem ((c.tc : Thread Cert.MoeDownReferenceIdeal.nD Cert.MoeDownReferenceIdeal.τ).loc Cert.MoeDownReferenceIdeal.main_arg6) = m ((c.tc : Thread Cert.MoeDownReferenceIdeal.nD Cert.MoeDownReferenceIdeal.τ).loc Cert.MoeDownReferenceIdeal.main_arg6))
      ∧ r.2.sem = fun _ => 0)

def quiescent_MoeDownReferenceIdeal_pre_dispatched_down [hMoeDownReferenceIdeal : Cert.MoeDownReferenceIdeal.Facts] [hPre_dispatched_down : Cert.Pre_dispatched_down.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal_dispatched_down m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3)
      ∧ r.2.mem ((c.tc : Thread Cert.MoeDownReferenceIdeal.nD Cert.MoeDownReferenceIdeal.τ).loc Cert.MoeDownReferenceIdeal.main_arg4) = m ((c.tc : Thread Cert.MoeDownReferenceIdeal.nD Cert.MoeDownReferenceIdeal.τ).loc Cert.MoeDownReferenceIdeal.main_arg4)
      ∧ r.2.mem ((c.tc : Thread Cert.MoeDownReferenceIdeal.nD Cert.MoeDownReferenceIdeal.τ).loc Cert.MoeDownReferenceIdeal.main_arg5) = m ((c.tc : Thread Cert.MoeDownReferenceIdeal.nD Cert.MoeDownReferenceIdeal.τ).loc Cert.MoeDownReferenceIdeal.main_arg5)
      ∧ r.2.mem ((c.tc : Thread Cert.MoeDownReferenceIdeal.nD Cert.MoeDownReferenceIdeal.τ).loc Cert.MoeDownReferenceIdeal.main_arg6) = m ((c.tc : Thread Cert.MoeDownReferenceIdeal.nD Cert.MoeDownReferenceIdeal.τ).loc Cert.MoeDownReferenceIdeal.main_arg6))
      ∧ r.2.sem = fun _ => 0)

def quiescent_SsmDt [hSsmDt : Cert.SsmDt.Facts] : Prop :=
  ∀ (m : (ℓ : Loc Cert.SsmDt.nD Cert.SsmDt.τ Cert.SsmDt.sig) → Buf (Elt Bits) ℓ) (g : Dev Cert.SsmDt.nD → PrngReg), Pre_SsmDt m →
    θ_run (Cert.SsmDt.defs (F := Bits)) (onTc (τ := Cert.SsmDt.τ) (Cert.SsmDt.main (F := Bits))) ⟨m, fun _ => 0, g⟩ (fun r => (∀ c : Dev Cert.SsmDt.nD,
      r.2.mem ((c.tc : Thread Cert.SsmDt.nD Cert.SsmDt.τ).loc Cert.SsmDt.main_arg0) = m ((c.tc : Thread Cert.SsmDt.nD Cert.SsmDt.τ).loc Cert.SsmDt.main_arg0)
      ∧ r.2.mem ((c.tc : Thread Cert.SsmDt.nD Cert.SsmDt.τ).loc Cert.SsmDt.main_arg1) = m ((c.tc : Thread Cert.SsmDt.nD Cert.SsmDt.τ).loc Cert.SsmDt.main_arg1))
      ∧ r.2.sem = fun _ => 0)

def quiescent_SsmDtIdeal [hSsmDtIdeal : Cert.SsmDtIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg), Pre_SsmDtIdeal m →
    θ_run (Cert.SsmDtIdeal.defs (F := Ideal)) (onTc (τ := Cert.SsmDtIdeal.τ) (Cert.SsmDtIdeal.main (F := Ideal))) ⟨m, fun _ => 0, g⟩ (fun r => (∀ c : Dev Cert.SsmDtIdeal.nD,
      r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
      ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ r.2.sem = fun _ => 0)

def quiescent_SsmDtReferenceIdeal [hSsmDtReferenceIdeal : Cert.SsmDtReferenceIdeal.Facts] : Prop :=
  ∀ (m : (ℓ : Loc Cert.SsmDtReferenceIdeal.nD Cert.SsmDtReferenceIdeal.τ Cert.SsmDtReferenceIdeal.sig) → Buf (Elt Ideal) ℓ) (g : Dev Cert.SsmDtReferenceIdeal.nD → PrngReg), Pre_SsmDtReferenceIdeal m →
    θ_run (Cert.SsmDtReferenceIdeal.defs (F := Ideal)) (onTc (τ := Cert.SsmDtReferenceIdeal.τ) (Cert.SsmDtReferenceIdeal.main (F := Ideal))) ⟨m, fun _ => 0, g⟩ (fun r => (∀ c : Dev Cert.SsmDtReferenceIdeal.nD,
      r.2.mem ((c.tc : Thread Cert.SsmDtReferenceIdeal.nD Cert.SsmDtReferenceIdeal.τ).loc Cert.SsmDtReferenceIdeal.main_arg0) = m ((c.tc : Thread Cert.SsmDtReferenceIdeal.nD Cert.SsmDtReferenceIdeal.τ).loc Cert.SsmDtReferenceIdeal.main_arg0)
      ∧ r.2.mem ((c.tc : Thread Cert.SsmDtReferenceIdeal.nD Cert.SsmDtReferenceIdeal.τ).loc Cert.SsmDtReferenceIdeal.main_arg1) = m ((c.tc : Thread Cert.SsmDtReferenceIdeal.nD Cert.SsmDtReferenceIdeal.τ).loc Cert.SsmDtReferenceIdeal.main_arg1))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormReferenceIdeal [hGateNormReferenceIdeal : Cert.GateNormReferenceIdeal.Facts] : Prop :=
  ∀ (m : (ℓ : Loc Cert.GateNormReferenceIdeal.nD Cert.GateNormReferenceIdeal.τ Cert.GateNormReferenceIdeal.sig) → Buf (Elt Ideal) ℓ) (g : Dev Cert.GateNormReferenceIdeal.nD → PrngReg), Pre_GateNormReferenceIdeal m →
    θ_run (Cert.GateNormReferenceIdeal.defs (F := Ideal)) (onTc (τ := Cert.GateNormReferenceIdeal.τ) (Cert.GateNormReferenceIdeal.main (F := Ideal))) ⟨m, fun _ => 0, g⟩ (fun r => (∀ c : Dev Cert.GateNormReferenceIdeal.nD,
      r.2.mem ((c.tc : Thread Cert.GateNormReferenceIdeal.nD Cert.GateNormReferenceIdeal.τ).loc Cert.GateNormReferenceIdeal.main_arg0) = m ((c.tc : Thread Cert.GateNormReferenceIdeal.nD Cert.GateNormReferenceIdeal.τ).loc Cert.GateNormReferenceIdeal.main_arg0)
      ∧ r.2.mem ((c.tc : Thread Cert.GateNormReferenceIdeal.nD Cert.GateNormReferenceIdeal.τ).loc Cert.GateNormReferenceIdeal.main_arg1) = m ((c.tc : Thread Cert.GateNormReferenceIdeal.nD Cert.GateNormReferenceIdeal.τ).loc Cert.GateNormReferenceIdeal.main_arg1)
      ∧ r.2.mem ((c.tc : Thread Cert.GateNormReferenceIdeal.nD Cert.GateNormReferenceIdeal.τ).loc Cert.GateNormReferenceIdeal.main_arg2) = m ((c.tc : Thread Cert.GateNormReferenceIdeal.nD Cert.GateNormReferenceIdeal.τ).loc Cert.GateNormReferenceIdeal.main_arg2))
      ∧ r.2.sem = fun _ => 0)

def quiescent_Caches [hCaches : Cert.Caches.Facts] : Prop :=
  ∀ (m : (ℓ : Loc Cert.Caches.nD Cert.Caches.τ Cert.Caches.sig) → Buf (Elt Bits) ℓ) (g : Dev Cert.Caches.nD → PrngReg), Pre_Caches m →
    θ_run (Cert.Caches.defs (F := Bits)) (onTc (τ := Cert.Caches.τ) (Cert.Caches.main (F := Bits))) ⟨m, fun _ => 0, g⟩ (fun r => (∀ c : Dev Cert.Caches.nD,
      r.2.mem ((c.tc : Thread Cert.Caches.nD Cert.Caches.τ).loc Cert.Caches.main_arg0) = m ((c.tc : Thread Cert.Caches.nD Cert.Caches.τ).loc Cert.Caches.main_arg0)
      ∧ r.2.mem ((c.tc : Thread Cert.Caches.nD Cert.Caches.τ).loc Cert.Caches.main_arg1) = m ((c.tc : Thread Cert.Caches.nD Cert.Caches.τ).loc Cert.Caches.main_arg1)
      ∧ r.2.mem ((c.tc : Thread Cert.Caches.nD Cert.Caches.τ).loc Cert.Caches.main_arg2) = m ((c.tc : Thread Cert.Caches.nD Cert.Caches.τ).loc Cert.Caches.main_arg2)
      ∧ r.2.mem ((c.tc : Thread Cert.Caches.nD Cert.Caches.τ).loc Cert.Caches.main_arg3) = m ((c.tc : Thread Cert.Caches.nD Cert.Caches.τ).loc Cert.Caches.main_arg3))
      ∧ r.2.sem = fun _ => 0)

def quiescent_CachesIdeal [hCachesIdeal : Cert.CachesIdeal.Facts] : Prop :=
  ∀ (m : (ℓ : Loc Cert.CachesIdeal.nD Cert.CachesIdeal.τ Cert.CachesIdeal.sig) → Buf (Elt Ideal) ℓ) (g : Dev Cert.CachesIdeal.nD → PrngReg), Pre_CachesIdeal m →
    θ_run (Cert.CachesIdeal.defs (F := Ideal)) (onTc (τ := Cert.CachesIdeal.τ) (Cert.CachesIdeal.main (F := Ideal))) ⟨m, fun _ => 0, g⟩ (fun r => (∀ c : Dev Cert.CachesIdeal.nD,
      r.2.mem ((c.tc : Thread Cert.CachesIdeal.nD Cert.CachesIdeal.τ).loc Cert.CachesIdeal.main_arg0) = m ((c.tc : Thread Cert.CachesIdeal.nD Cert.CachesIdeal.τ).loc Cert.CachesIdeal.main_arg0)
      ∧ r.2.mem ((c.tc : Thread Cert.CachesIdeal.nD Cert.CachesIdeal.τ).loc Cert.CachesIdeal.main_arg1) = m ((c.tc : Thread Cert.CachesIdeal.nD Cert.CachesIdeal.τ).loc Cert.CachesIdeal.main_arg1)
      ∧ r.2.mem ((c.tc : Thread Cert.CachesIdeal.nD Cert.CachesIdeal.τ).loc Cert.CachesIdeal.main_arg2) = m ((c.tc : Thread Cert.CachesIdeal.nD Cert.CachesIdeal.τ).loc Cert.CachesIdeal.main_arg2)
      ∧ r.2.mem ((c.tc : Thread Cert.CachesIdeal.nD Cert.CachesIdeal.τ).loc Cert.CachesIdeal.main_arg3) = m ((c.tc : Thread Cert.CachesIdeal.nD Cert.CachesIdeal.τ).loc Cert.CachesIdeal.main_arg3))
      ∧ r.2.sem = fun _ => 0)

def quiescent_CachesReferenceIdeal [hCachesReferenceIdeal : Cert.CachesReferenceIdeal.Facts] : Prop :=
  ∀ (m : (ℓ : Loc Cert.CachesReferenceIdeal.nD Cert.CachesReferenceIdeal.τ Cert.CachesReferenceIdeal.sig) → Buf (Elt Ideal) ℓ) (g : Dev Cert.CachesReferenceIdeal.nD → PrngReg), Pre_CachesReferenceIdeal m →
    θ_run (Cert.CachesReferenceIdeal.defs (F := Ideal)) (onTc (τ := Cert.CachesReferenceIdeal.τ) (Cert.CachesReferenceIdeal.main (F := Ideal))) ⟨m, fun _ => 0, g⟩ (fun r => (∀ c : Dev Cert.CachesReferenceIdeal.nD,
      r.2.mem ((c.tc : Thread Cert.CachesReferenceIdeal.nD Cert.CachesReferenceIdeal.τ).loc Cert.CachesReferenceIdeal.main_arg0) = m ((c.tc : Thread Cert.CachesReferenceIdeal.nD Cert.CachesReferenceIdeal.τ).loc Cert.CachesReferenceIdeal.main_arg0)
      ∧ r.2.mem ((c.tc : Thread Cert.CachesReferenceIdeal.nD Cert.CachesReferenceIdeal.τ).loc Cert.CachesReferenceIdeal.main_arg1) = m ((c.tc : Thread Cert.CachesReferenceIdeal.nD Cert.CachesReferenceIdeal.τ).loc Cert.CachesReferenceIdeal.main_arg1)
      ∧ r.2.mem ((c.tc : Thread Cert.CachesReferenceIdeal.nD Cert.CachesReferenceIdeal.τ).loc Cert.CachesReferenceIdeal.main_arg2) = m ((c.tc : Thread Cert.CachesReferenceIdeal.nD Cert.CachesReferenceIdeal.τ).loc Cert.CachesReferenceIdeal.main_arg2)
      ∧ r.2.mem ((c.tc : Thread Cert.CachesReferenceIdeal.nD Cert.CachesReferenceIdeal.τ).loc Cert.CachesReferenceIdeal.main_arg3) = m ((c.tc : Thread Cert.CachesReferenceIdeal.nD Cert.CachesReferenceIdeal.τ).loc Cert.CachesReferenceIdeal.main_arg3))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2)
      ∧ r.2.mem ((c.tc : Thread Cert.Mixed.nD Cert.Mixed.τ).loc Cert.Mixed.main_arg3) = m ((c.tc : Thread Cert.Mixed.nD Cert.Mixed.τ).loc Cert.Mixed.main_arg3)
      ∧ r.2.mem ((c.tc : Thread Cert.Mixed.nD Cert.Mixed.τ).loc Cert.Mixed.main_arg4) = m ((c.tc : Thread Cert.Mixed.nD Cert.Mixed.τ).loc Cert.Mixed.main_arg4))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ r.2.sem = fun _ => 0)

def quiescent_MixedReferenceIdeal [hMixedReferenceIdeal : Cert.MixedReferenceIdeal.Facts] : Prop :=
  ∀ (m : (ℓ : Loc Cert.MixedReferenceIdeal.nD Cert.MixedReferenceIdeal.τ Cert.MixedReferenceIdeal.sig) → Buf (Elt Ideal) ℓ) (g : Dev Cert.MixedReferenceIdeal.nD → PrngReg), Pre_MixedReferenceIdeal m →
    θ_run (Cert.MixedReferenceIdeal.defs (F := Ideal)) (onTc (τ := Cert.MixedReferenceIdeal.τ) (Cert.MixedReferenceIdeal.main (F := Ideal))) ⟨m, fun _ => 0, g⟩ (fun r => (∀ c : Dev Cert.MixedReferenceIdeal.nD,
      r.2.mem ((c.tc : Thread Cert.MixedReferenceIdeal.nD Cert.MixedReferenceIdeal.τ).loc Cert.MixedReferenceIdeal.main_arg0) = m ((c.tc : Thread Cert.MixedReferenceIdeal.nD Cert.MixedReferenceIdeal.τ).loc Cert.MixedReferenceIdeal.main_arg0)
      ∧ r.2.mem ((c.tc : Thread Cert.MixedReferenceIdeal.nD Cert.MixedReferenceIdeal.τ).loc Cert.MixedReferenceIdeal.main_arg1) = m ((c.tc : Thread Cert.MixedReferenceIdeal.nD Cert.MixedReferenceIdeal.τ).loc Cert.MixedReferenceIdeal.main_arg1)
      ∧ r.2.mem ((c.tc : Thread Cert.MixedReferenceIdeal.nD Cert.MixedReferenceIdeal.τ).loc Cert.MixedReferenceIdeal.main_arg2) = m ((c.tc : Thread Cert.MixedReferenceIdeal.nD Cert.MixedReferenceIdeal.τ).loc Cert.MixedReferenceIdeal.main_arg2)
      ∧ r.2.mem ((c.tc : Thread Cert.MixedReferenceIdeal.nD Cert.MixedReferenceIdeal.τ).loc Cert.MixedReferenceIdeal.main_arg3) = m ((c.tc : Thread Cert.MixedReferenceIdeal.nD Cert.MixedReferenceIdeal.τ).loc Cert.MixedReferenceIdeal.main_arg3)
      ∧ r.2.mem ((c.tc : Thread Cert.MixedReferenceIdeal.nD Cert.MixedReferenceIdeal.τ).loc Cert.MixedReferenceIdeal.main_arg4) = m ((c.tc : Thread Cert.MixedReferenceIdeal.nD Cert.MixedReferenceIdeal.τ).loc Cert.MixedReferenceIdeal.main_arg4))
      ∧ r.2.sem = fun _ => 0)

def quiescent_Adapt [hAdapt : Cert.Adapt.Facts] : Prop :=
  ∀ (m : (ℓ : Loc Cert.Adapt.nD Cert.Adapt.τ Cert.Adapt.sig) → Buf (Elt Bits) ℓ) (g : Dev Cert.Adapt.nD → PrngReg), Pre_Adapt m →
    θ_run (Cert.Adapt.defs (F := Bits)) (onTc (τ := Cert.Adapt.τ) (Cert.Adapt.main (F := Bits))) ⟨m, fun _ => 0, g⟩ (fun r => (∀ c : Dev Cert.Adapt.nD,
      r.2.mem ((c.tc : Thread Cert.Adapt.nD Cert.Adapt.τ).loc Cert.Adapt.main_arg0) = m ((c.tc : Thread Cert.Adapt.nD Cert.Adapt.τ).loc Cert.Adapt.main_arg0)
      ∧ r.2.mem ((c.tc : Thread Cert.Adapt.nD Cert.Adapt.τ).loc Cert.Adapt.main_arg1) = m ((c.tc : Thread Cert.Adapt.nD Cert.Adapt.τ).loc Cert.Adapt.main_arg1)
      ∧ r.2.mem ((c.tc : Thread Cert.Adapt.nD Cert.Adapt.τ).loc Cert.Adapt.main_arg2) = m ((c.tc : Thread Cert.Adapt.nD Cert.Adapt.τ).loc Cert.Adapt.main_arg2)
      ∧ r.2.mem ((c.tc : Thread Cert.Adapt.nD Cert.Adapt.τ).loc Cert.Adapt.main_arg3) = m ((c.tc : Thread Cert.Adapt.nD Cert.Adapt.τ).loc Cert.Adapt.main_arg3))
      ∧ r.2.sem = fun _ => 0)

def quiescent_AdaptIdeal [hAdaptIdeal : Cert.AdaptIdeal.Facts] : Prop :=
  ∀ (m : (ℓ : Loc Cert.AdaptIdeal.nD Cert.AdaptIdeal.τ Cert.AdaptIdeal.sig) → Buf (Elt Ideal) ℓ) (g : Dev Cert.AdaptIdeal.nD → PrngReg), Pre_AdaptIdeal m →
    θ_run (Cert.AdaptIdeal.defs (F := Ideal)) (onTc (τ := Cert.AdaptIdeal.τ) (Cert.AdaptIdeal.main (F := Ideal))) ⟨m, fun _ => 0, g⟩ (fun r => (∀ c : Dev Cert.AdaptIdeal.nD,
      r.2.mem ((c.tc : Thread Cert.AdaptIdeal.nD Cert.AdaptIdeal.τ).loc Cert.AdaptIdeal.main_arg0) = m ((c.tc : Thread Cert.AdaptIdeal.nD Cert.AdaptIdeal.τ).loc Cert.AdaptIdeal.main_arg0)
      ∧ r.2.mem ((c.tc : Thread Cert.AdaptIdeal.nD Cert.AdaptIdeal.τ).loc Cert.AdaptIdeal.main_arg1) = m ((c.tc : Thread Cert.AdaptIdeal.nD Cert.AdaptIdeal.τ).loc Cert.AdaptIdeal.main_arg1)
      ∧ r.2.mem ((c.tc : Thread Cert.AdaptIdeal.nD Cert.AdaptIdeal.τ).loc Cert.AdaptIdeal.main_arg2) = m ((c.tc : Thread Cert.AdaptIdeal.nD Cert.AdaptIdeal.τ).loc Cert.AdaptIdeal.main_arg2)
      ∧ r.2.mem ((c.tc : Thread Cert.AdaptIdeal.nD Cert.AdaptIdeal.τ).loc Cert.AdaptIdeal.main_arg3) = m ((c.tc : Thread Cert.AdaptIdeal.nD Cert.AdaptIdeal.τ).loc Cert.AdaptIdeal.main_arg3))
      ∧ r.2.sem = fun _ => 0)

def quiescent_AdaptReferenceIdeal [hAdaptReferenceIdeal : Cert.AdaptReferenceIdeal.Facts] : Prop :=
  ∀ (m : (ℓ : Loc Cert.AdaptReferenceIdeal.nD Cert.AdaptReferenceIdeal.τ Cert.AdaptReferenceIdeal.sig) → Buf (Elt Ideal) ℓ) (g : Dev Cert.AdaptReferenceIdeal.nD → PrngReg), Pre_AdaptReferenceIdeal m →
    θ_run (Cert.AdaptReferenceIdeal.defs (F := Ideal)) (onTc (τ := Cert.AdaptReferenceIdeal.τ) (Cert.AdaptReferenceIdeal.main (F := Ideal))) ⟨m, fun _ => 0, g⟩ (fun r => (∀ c : Dev Cert.AdaptReferenceIdeal.nD,
      r.2.mem ((c.tc : Thread Cert.AdaptReferenceIdeal.nD Cert.AdaptReferenceIdeal.τ).loc Cert.AdaptReferenceIdeal.main_arg0) = m ((c.tc : Thread Cert.AdaptReferenceIdeal.nD Cert.AdaptReferenceIdeal.τ).loc Cert.AdaptReferenceIdeal.main_arg0)
      ∧ r.2.mem ((c.tc : Thread Cert.AdaptReferenceIdeal.nD Cert.AdaptReferenceIdeal.τ).loc Cert.AdaptReferenceIdeal.main_arg1) = m ((c.tc : Thread Cert.AdaptReferenceIdeal.nD Cert.AdaptReferenceIdeal.τ).loc Cert.AdaptReferenceIdeal.main_arg1)
      ∧ r.2.mem ((c.tc : Thread Cert.AdaptReferenceIdeal.nD Cert.AdaptReferenceIdeal.τ).loc Cert.AdaptReferenceIdeal.main_arg2) = m ((c.tc : Thread Cert.AdaptReferenceIdeal.nD Cert.AdaptReferenceIdeal.τ).loc Cert.AdaptReferenceIdeal.main_arg2)
      ∧ r.2.mem ((c.tc : Thread Cert.AdaptReferenceIdeal.nD Cert.AdaptReferenceIdeal.τ).loc Cert.AdaptReferenceIdeal.main_arg3) = m ((c.tc : Thread Cert.AdaptReferenceIdeal.nD Cert.AdaptReferenceIdeal.τ).loc Cert.AdaptReferenceIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v10) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v4) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_SsmInZ_SsmInZIdeal : Prop :=
  True

def algebraic_SsmInZIdeal_SsmInZReferenceIdeal [hSsmInZIdeal : Cert.SsmInZIdeal.Facts] [hSsmInZReferenceIdeal : Cert.SsmInZReferenceIdeal.Facts] : Prop :=
  ∀ (m : (ℓ : Loc Cert.SsmInZIdeal.nD Cert.SsmInZIdeal.τ Cert.SsmInZIdeal.sig) → Buf (Elt Ideal) ℓ) (g : Dev Cert.SsmInZIdeal.nD → PrngReg)
    (m' : (ℓ : Loc Cert.SsmInZReferenceIdeal.nD Cert.SsmInZReferenceIdeal.τ Cert.SsmInZReferenceIdeal.sig) → Buf (Elt Ideal) ℓ) (g' : Dev Cert.SsmInZReferenceIdeal.nD → PrngReg), Pre_SsmInZIdeal m →
    (∀ c : Dev Cert.SsmInZIdeal.nD,
      m' ((c.tc : Thread Cert.SsmInZReferenceIdeal.nD Cert.SsmInZReferenceIdeal.τ).loc Cert.SsmInZReferenceIdeal.main_arg0) = m ((c.tc : Thread Cert.SsmInZIdeal.nD Cert.SsmInZIdeal.τ).loc Cert.SsmInZIdeal.main_arg0)
      ∧ m' ((c.tc : Thread Cert.SsmInZReferenceIdeal.nD Cert.SsmInZReferenceIdeal.τ).loc Cert.SsmInZReferenceIdeal.main_arg1) = m ((c.tc : Thread Cert.SsmInZIdeal.nD Cert.SsmInZIdeal.τ).loc Cert.SsmInZIdeal.main_arg1)) →
    ∃ (v0 : (c : Dev Cert.SsmInZIdeal.nD) → Buf (Elt Ideal) ((c.tc : Thread Cert.SsmInZIdeal.nD Cert.SsmInZIdeal.τ).loc Cert.SsmInZIdeal.main_v0)),
      θ_run (Cert.SsmInZIdeal.defs (F := Ideal)) (onTc (τ := Cert.SsmInZIdeal.τ) (Cert.SsmInZIdeal.main (F := Ideal))) ⟨m, fun _ => 0, g⟩ (fun r => ∀ c : Dev Cert.SsmInZIdeal.nD,
          r.2.mem ((c.tc : Thread Cert.SsmInZIdeal.nD Cert.SsmInZIdeal.τ).loc Cert.SsmInZIdeal.main_v0) = v0 c
          ∧ r.2.mem ((c.tc : Thread Cert.SsmInZIdeal.nD Cert.SsmInZIdeal.τ).loc Cert.SsmInZIdeal.main_arg0) = m ((c.tc : Thread Cert.SsmInZIdeal.nD Cert.SsmInZIdeal.τ).loc Cert.SsmInZIdeal.main_arg0)
          ∧ r.2.mem ((c.tc : Thread Cert.SsmInZIdeal.nD Cert.SsmInZIdeal.τ).loc Cert.SsmInZIdeal.main_arg1) = m ((c.tc : Thread Cert.SsmInZIdeal.nD Cert.SsmInZIdeal.τ).loc Cert.SsmInZIdeal.main_arg1))
      ∧ θ_run (Cert.SsmInZReferenceIdeal.defs (F := Ideal)) (onTc (τ := Cert.SsmInZReferenceIdeal.τ) (Cert.SsmInZReferenceIdeal.main (F := Ideal))) ⟨m', fun _ => 0, g'⟩ (fun r => ∀ c : Dev Cert.SsmInZReferenceIdeal.nD,
          r.2.mem ((c.tc : Thread Cert.SsmInZReferenceIdeal.nD Cert.SsmInZReferenceIdeal.τ).loc Cert.SsmInZReferenceIdeal.main_v5) = v0 c
          ∧ r.2.mem ((c.tc : Thread Cert.SsmInZReferenceIdeal.nD Cert.SsmInZReferenceIdeal.τ).loc Cert.SsmInZReferenceIdeal.main_arg0) = m' ((c.tc : Thread Cert.SsmInZReferenceIdeal.nD Cert.SsmInZReferenceIdeal.τ).loc Cert.SsmInZReferenceIdeal.main_arg0)
          ∧ r.2.mem ((c.tc : Thread Cert.SsmInZReferenceIdeal.nD Cert.SsmInZReferenceIdeal.τ).loc Cert.SsmInZReferenceIdeal.main_arg1) = m' ((c.tc : Thread Cert.SsmInZReferenceIdeal.nD Cert.SsmInZReferenceIdeal.τ).loc Cert.SsmInZReferenceIdeal.main_arg1))

def preserves_SsmInXbc_SsmInXbcIdeal : Prop :=
  True

def algebraic_SsmInXbcIdeal_SsmInXbcReferenceIdeal [hSsmInXbcIdeal : Cert.SsmInXbcIdeal.Facts] [hSsmInXbcReferenceIdeal : Cert.SsmInXbcReferenceIdeal.Facts] : Prop :=
  ∀ (m : (ℓ : Loc Cert.SsmInXbcIdeal.nD Cert.SsmInXbcIdeal.τ Cert.SsmInXbcIdeal.sig) → Buf (Elt Ideal) ℓ) (g : Dev Cert.SsmInXbcIdeal.nD → PrngReg)
    (m' : (ℓ : Loc Cert.SsmInXbcReferenceIdeal.nD Cert.SsmInXbcReferenceIdeal.τ Cert.SsmInXbcReferenceIdeal.sig) → Buf (Elt Ideal) ℓ) (g' : Dev Cert.SsmInXbcReferenceIdeal.nD → PrngReg), Pre_SsmInXbcIdeal m →
    (∀ c : Dev Cert.SsmInXbcIdeal.nD,
      m' ((c.tc : Thread Cert.SsmInXbcReferenceIdeal.nD Cert.SsmInXbcReferenceIdeal.τ).loc Cert.SsmInXbcReferenceIdeal.main_arg0) = m ((c.tc : Thread Cert.SsmInXbcIdeal.nD Cert.SsmInXbcIdeal.τ).loc Cert.SsmInXbcIdeal.main_arg0)
      ∧ m' ((c.tc : Thread Cert.SsmInXbcReferenceIdeal.nD Cert.SsmInXbcReferenceIdeal.τ).loc Cert.SsmInXbcReferenceIdeal.main_arg1) = m ((c.tc : Thread Cert.SsmInXbcIdeal.nD Cert.SsmInXbcIdeal.τ).loc Cert.SsmInXbcIdeal.main_arg1)) →
    ∃ (v0 : (c : Dev Cert.SsmInXbcIdeal.nD) → Buf (Elt Ideal) ((c.tc : Thread Cert.SsmInXbcIdeal.nD Cert.SsmInXbcIdeal.τ).loc Cert.SsmInXbcIdeal.main_v0)),
      θ_run (Cert.SsmInXbcIdeal.defs (F := Ideal)) (onTc (τ := Cert.SsmInXbcIdeal.τ) (Cert.SsmInXbcIdeal.main (F := Ideal))) ⟨m, fun _ => 0, g⟩ (fun r => ∀ c : Dev Cert.SsmInXbcIdeal.nD,
          r.2.mem ((c.tc : Thread Cert.SsmInXbcIdeal.nD Cert.SsmInXbcIdeal.τ).loc Cert.SsmInXbcIdeal.main_v0) = v0 c
          ∧ r.2.mem ((c.tc : Thread Cert.SsmInXbcIdeal.nD Cert.SsmInXbcIdeal.τ).loc Cert.SsmInXbcIdeal.main_arg0) = m ((c.tc : Thread Cert.SsmInXbcIdeal.nD Cert.SsmInXbcIdeal.τ).loc Cert.SsmInXbcIdeal.main_arg0)
          ∧ r.2.mem ((c.tc : Thread Cert.SsmInXbcIdeal.nD Cert.SsmInXbcIdeal.τ).loc Cert.SsmInXbcIdeal.main_arg1) = m ((c.tc : Thread Cert.SsmInXbcIdeal.nD Cert.SsmInXbcIdeal.τ).loc Cert.SsmInXbcIdeal.main_arg1))
      ∧ θ_run (Cert.SsmInXbcReferenceIdeal.defs (F := Ideal)) (onTc (τ := Cert.SsmInXbcReferenceIdeal.τ) (Cert.SsmInXbcReferenceIdeal.main (F := Ideal))) ⟨m', fun _ => 0, g'⟩ (fun r => ∀ c : Dev Cert.SsmInXbcReferenceIdeal.nD,
          r.2.mem ((c.tc : Thread Cert.SsmInXbcReferenceIdeal.nD Cert.SsmInXbcReferenceIdeal.τ).loc Cert.SsmInXbcReferenceIdeal.main_v5) = v0 c
          ∧ r.2.mem ((c.tc : Thread Cert.SsmInXbcReferenceIdeal.nD Cert.SsmInXbcReferenceIdeal.τ).loc Cert.SsmInXbcReferenceIdeal.main_arg0) = m' ((c.tc : Thread Cert.SsmInXbcReferenceIdeal.nD Cert.SsmInXbcReferenceIdeal.τ).loc Cert.SsmInXbcReferenceIdeal.main_arg0)
          ∧ r.2.mem ((c.tc : Thread Cert.SsmInXbcReferenceIdeal.nD Cert.SsmInXbcReferenceIdeal.τ).loc Cert.SsmInXbcReferenceIdeal.main_arg1) = m' ((c.tc : Thread Cert.SsmInXbcReferenceIdeal.nD Cert.SsmInXbcReferenceIdeal.τ).loc Cert.SsmInXbcReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v4) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v3) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v5) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v3) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v4) = v0 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1))

def preserves_MoeUp_MoeUpIdeal : Prop :=
  True

def algebraic_MoeUpIdeal_MoeUpReferenceIdeal_on_routed [hMoeUpIdeal : Cert.MoeUpIdeal.Facts] [hMoeUpReferenceIdeal : Cert.MoeUpReferenceIdeal.Facts] [hPre_dispatched : Cert.Pre_dispatched.Facts] [hOn_routed : Cert.On_routed.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)
      ∧ m' ((c.tc : Thread Cert.MoeUpReferenceIdeal.nD Cert.MoeUpReferenceIdeal.τ).loc Cert.MoeUpReferenceIdeal.main_arg4) = m ((c.tc : Thread Cert.MoeUpIdeal.nD Cert.MoeUpIdeal.τ).loc Cert.MoeUpIdeal.main_arg4)
      ∧ m' ((c.tc : Thread Cert.MoeUpReferenceIdeal.nD Cert.MoeUpReferenceIdeal.τ).loc Cert.MoeUpReferenceIdeal.main_arg5) = m ((c.tc : Thread Cert.MoeUpIdeal.nD Cert.MoeUpIdeal.τ).loc Cert.MoeUpIdeal.main_arg5)
      ∧ m' ((c.tc : Thread Cert.MoeUpReferenceIdeal.nD Cert.MoeUpReferenceIdeal.τ).loc Cert.MoeUpReferenceIdeal.main_arg6) = m ((c.tc : Thread Cert.MoeUpIdeal.nD Cert.MoeUpIdeal.τ).loc Cert.MoeUpIdeal.main_arg6)
      ∧ m' ((c.tc : Thread Cert.MoeUpReferenceIdeal.nD Cert.MoeUpReferenceIdeal.τ).loc Cert.MoeUpReferenceIdeal.main_arg7) = m ((c.tc : Thread Cert.MoeUpIdeal.nD Cert.MoeUpIdeal.τ).loc Cert.MoeUpIdeal.main_arg7)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          (∀ i : (⟨2, ![16384, 4096]⟩ : Shape).Idx, (Cert.On_routed.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))) i = 1#1 → r.2.mem ((c.tc : Thread Cert.MoeUpIdeal.nD Cert.MoeUpIdeal.τ).loc Cert.MoeUpIdeal.main_v0) i = v0 c i)
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5)
          ∧ r.2.mem ((c.tc : Thread Cert.MoeUpIdeal.nD Cert.MoeUpIdeal.τ).loc Cert.MoeUpIdeal.main_arg6) = m ((c.tc : Thread Cert.MoeUpIdeal.nD Cert.MoeUpIdeal.τ).loc Cert.MoeUpIdeal.main_arg6)
          ∧ r.2.mem ((c.tc : Thread Cert.MoeUpIdeal.nD Cert.MoeUpIdeal.τ).loc Cert.MoeUpIdeal.main_arg7) = m ((c.tc : Thread Cert.MoeUpIdeal.nD Cert.MoeUpIdeal.τ).loc Cert.MoeUpIdeal.main_arg7))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          (∀ i : (⟨2, ![16384, 4096]⟩ : Shape).Idx, (Cert.On_routed.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5)) (m ((c.tc : Thread Cert.MoeUpIdeal.nD Cert.MoeUpIdeal.τ).loc Cert.MoeUpIdeal.main_arg6)) (m ((c.tc : Thread Cert.MoeUpIdeal.nD Cert.MoeUpIdeal.τ).loc Cert.MoeUpIdeal.main_arg7))) i = 1#1 → r.2.mem ((c.tc : Thread Cert.MoeUpReferenceIdeal.nD Cert.MoeUpReferenceIdeal.τ).loc Cert.MoeUpReferenceIdeal.main_v33) i = v0 c i)
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3)
          ∧ r.2.mem ((c.tc : Thread Cert.MoeUpReferenceIdeal.nD Cert.MoeUpReferenceIdeal.τ).loc Cert.MoeUpReferenceIdeal.main_arg4) = m' ((c.tc : Thread Cert.MoeUpReferenceIdeal.nD Cert.MoeUpReferenceIdeal.τ).loc Cert.MoeUpReferenceIdeal.main_arg4)
          ∧ r.2.mem ((c.tc : Thread Cert.MoeUpReferenceIdeal.nD Cert.MoeUpReferenceIdeal.τ).loc Cert.MoeUpReferenceIdeal.main_arg5) = m' ((c.tc : Thread Cert.MoeUpReferenceIdeal.nD Cert.MoeUpReferenceIdeal.τ).loc Cert.MoeUpReferenceIdeal.main_arg5)
          ∧ r.2.mem ((c.tc : Thread Cert.MoeUpReferenceIdeal.nD Cert.MoeUpReferenceIdeal.τ).loc Cert.MoeUpReferenceIdeal.main_arg6) = m' ((c.tc : Thread Cert.MoeUpReferenceIdeal.nD Cert.MoeUpReferenceIdeal.τ).loc Cert.MoeUpReferenceIdeal.main_arg6)
          ∧ r.2.mem ((c.tc : Thread Cert.MoeUpReferenceIdeal.nD Cert.MoeUpReferenceIdeal.τ).loc Cert.MoeUpReferenceIdeal.main_arg7) = m' ((c.tc : Thread Cert.MoeUpReferenceIdeal.nD Cert.MoeUpReferenceIdeal.τ).loc Cert.MoeUpReferenceIdeal.main_arg7))

def preserves_MoeDown_MoeDownIdeal : Prop :=
  True

def algebraic_MoeDownIdeal_MoeDownReferenceIdeal_on_routed_down [hMoeDownIdeal : Cert.MoeDownIdeal.Facts] [hMoeDownReferenceIdeal : Cert.MoeDownReferenceIdeal.Facts] [hPre_dispatched_down : Cert.Pre_dispatched_down.Facts] [hOn_routed_down : Cert.On_routed_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)
      ∧ m' ((c.tc : Thread Cert.MoeDownReferenceIdeal.nD Cert.MoeDownReferenceIdeal.τ).loc Cert.MoeDownReferenceIdeal.main_arg4) = m ((c.tc : Thread Cert.MoeDownIdeal.nD Cert.MoeDownIdeal.τ).loc Cert.MoeDownIdeal.main_arg4)
      ∧ m' ((c.tc : Thread Cert.MoeDownReferenceIdeal.nD Cert.MoeDownReferenceIdeal.τ).loc Cert.MoeDownReferenceIdeal.main_arg5) = m ((c.tc : Thread Cert.MoeDownIdeal.nD Cert.MoeDownIdeal.τ).loc Cert.MoeDownIdeal.main_arg5)
      ∧ m' ((c.tc : Thread Cert.MoeDownReferenceIdeal.nD Cert.MoeDownReferenceIdeal.τ).loc Cert.MoeDownReferenceIdeal.main_arg6) = m ((c.tc : Thread Cert.MoeDownIdeal.nD Cert.MoeDownIdeal.τ).loc Cert.MoeDownIdeal.main_arg6)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          (∀ i : (⟨2, ![16384, 2048]⟩ : Shape).Idx, (Cert.On_routed_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))) i = 1#1 → r.2.mem ((c.tc : Thread Cert.MoeDownIdeal.nD Cert.MoeDownIdeal.τ).loc Cert.MoeDownIdeal.main_v0) i = v0 c i)
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4)
          ∧ r.2.mem ((c.tc : Thread Cert.MoeDownIdeal.nD Cert.MoeDownIdeal.τ).loc Cert.MoeDownIdeal.main_arg5) = m ((c.tc : Thread Cert.MoeDownIdeal.nD Cert.MoeDownIdeal.τ).loc Cert.MoeDownIdeal.main_arg5)
          ∧ r.2.mem ((c.tc : Thread Cert.MoeDownIdeal.nD Cert.MoeDownIdeal.τ).loc Cert.MoeDownIdeal.main_arg6) = m ((c.tc : Thread Cert.MoeDownIdeal.nD Cert.MoeDownIdeal.τ).loc Cert.MoeDownIdeal.main_arg6))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          (∀ i : (⟨2, ![16384, 2048]⟩ : Shape).Idx, (Cert.On_routed_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4)) (m ((c.tc : Thread Cert.MoeDownIdeal.nD Cert.MoeDownIdeal.τ).loc Cert.MoeDownIdeal.main_arg5)) (m ((c.tc : Thread Cert.MoeDownIdeal.nD Cert.MoeDownIdeal.τ).loc Cert.MoeDownIdeal.main_arg6))) i = 1#1 → r.2.mem ((c.tc : Thread Cert.MoeDownReferenceIdeal.nD Cert.MoeDownReferenceIdeal.τ).loc Cert.MoeDownReferenceIdeal.main_v27) i = v0 c i)
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3)
          ∧ r.2.mem ((c.tc : Thread Cert.MoeDownReferenceIdeal.nD Cert.MoeDownReferenceIdeal.τ).loc Cert.MoeDownReferenceIdeal.main_arg4) = m' ((c.tc : Thread Cert.MoeDownReferenceIdeal.nD Cert.MoeDownReferenceIdeal.τ).loc Cert.MoeDownReferenceIdeal.main_arg4)
          ∧ r.2.mem ((c.tc : Thread Cert.MoeDownReferenceIdeal.nD Cert.MoeDownReferenceIdeal.τ).loc Cert.MoeDownReferenceIdeal.main_arg5) = m' ((c.tc : Thread Cert.MoeDownReferenceIdeal.nD Cert.MoeDownReferenceIdeal.τ).loc Cert.MoeDownReferenceIdeal.main_arg5)
          ∧ r.2.mem ((c.tc : Thread Cert.MoeDownReferenceIdeal.nD Cert.MoeDownReferenceIdeal.τ).loc Cert.MoeDownReferenceIdeal.main_arg6) = m' ((c.tc : Thread Cert.MoeDownReferenceIdeal.nD Cert.MoeDownReferenceIdeal.τ).loc Cert.MoeDownReferenceIdeal.main_arg6))

def preserves_SsmDt_SsmDtIdeal : Prop :=
  True

def algebraic_SsmDtIdeal_SsmDtReferenceIdeal [hSsmDtIdeal : Cert.SsmDtIdeal.Facts] [hSsmDtReferenceIdeal : Cert.SsmDtReferenceIdeal.Facts] : Prop :=
  ∀ (m : (ℓ : Loc Cert.SsmDtIdeal.nD Cert.SsmDtIdeal.τ Cert.SsmDtIdeal.sig) → Buf (Elt Ideal) ℓ) (g : Dev Cert.SsmDtIdeal.nD → PrngReg)
    (m' : (ℓ : Loc Cert.SsmDtReferenceIdeal.nD Cert.SsmDtReferenceIdeal.τ Cert.SsmDtReferenceIdeal.sig) → Buf (Elt Ideal) ℓ) (g' : Dev Cert.SsmDtReferenceIdeal.nD → PrngReg), Pre_SsmDtIdeal m →
    (∀ c : Dev Cert.SsmDtIdeal.nD,
      m' ((c.tc : Thread Cert.SsmDtReferenceIdeal.nD Cert.SsmDtReferenceIdeal.τ).loc Cert.SsmDtReferenceIdeal.main_arg0) = m ((c.tc : Thread Cert.SsmDtIdeal.nD Cert.SsmDtIdeal.τ).loc Cert.SsmDtIdeal.main_arg0)
      ∧ m' ((c.tc : Thread Cert.SsmDtReferenceIdeal.nD Cert.SsmDtReferenceIdeal.τ).loc Cert.SsmDtReferenceIdeal.main_arg1) = m ((c.tc : Thread Cert.SsmDtIdeal.nD Cert.SsmDtIdeal.τ).loc Cert.SsmDtIdeal.main_arg1)) →
    ∃ (v0 : (c : Dev Cert.SsmDtIdeal.nD) → Buf (Elt Ideal) ((c.tc : Thread Cert.SsmDtIdeal.nD Cert.SsmDtIdeal.τ).loc Cert.SsmDtIdeal.main_v0)),
      θ_run (Cert.SsmDtIdeal.defs (F := Ideal)) (onTc (τ := Cert.SsmDtIdeal.τ) (Cert.SsmDtIdeal.main (F := Ideal))) ⟨m, fun _ => 0, g⟩ (fun r => ∀ c : Dev Cert.SsmDtIdeal.nD,
          r.2.mem ((c.tc : Thread Cert.SsmDtIdeal.nD Cert.SsmDtIdeal.τ).loc Cert.SsmDtIdeal.main_v0) = v0 c
          ∧ r.2.mem ((c.tc : Thread Cert.SsmDtIdeal.nD Cert.SsmDtIdeal.τ).loc Cert.SsmDtIdeal.main_arg0) = m ((c.tc : Thread Cert.SsmDtIdeal.nD Cert.SsmDtIdeal.τ).loc Cert.SsmDtIdeal.main_arg0)
          ∧ r.2.mem ((c.tc : Thread Cert.SsmDtIdeal.nD Cert.SsmDtIdeal.τ).loc Cert.SsmDtIdeal.main_arg1) = m ((c.tc : Thread Cert.SsmDtIdeal.nD Cert.SsmDtIdeal.τ).loc Cert.SsmDtIdeal.main_arg1))
      ∧ θ_run (Cert.SsmDtReferenceIdeal.defs (F := Ideal)) (onTc (τ := Cert.SsmDtReferenceIdeal.τ) (Cert.SsmDtReferenceIdeal.main (F := Ideal))) ⟨m', fun _ => 0, g'⟩ (fun r => ∀ c : Dev Cert.SsmDtReferenceIdeal.nD,
          r.2.mem ((c.tc : Thread Cert.SsmDtReferenceIdeal.nD Cert.SsmDtReferenceIdeal.τ).loc Cert.SsmDtReferenceIdeal.main_v4) = v0 c
          ∧ r.2.mem ((c.tc : Thread Cert.SsmDtReferenceIdeal.nD Cert.SsmDtReferenceIdeal.τ).loc Cert.SsmDtReferenceIdeal.main_arg0) = m' ((c.tc : Thread Cert.SsmDtReferenceIdeal.nD Cert.SsmDtReferenceIdeal.τ).loc Cert.SsmDtReferenceIdeal.main_arg0)
          ∧ r.2.mem ((c.tc : Thread Cert.SsmDtReferenceIdeal.nD Cert.SsmDtReferenceIdeal.τ).loc Cert.SsmDtReferenceIdeal.main_arg1) = m' ((c.tc : Thread Cert.SsmDtReferenceIdeal.nD Cert.SsmDtReferenceIdeal.τ).loc Cert.SsmDtReferenceIdeal.main_arg1))

def preserves_GateNorm_GateNormIdeal : Prop :=
  True

def algebraic_GateNormIdeal_GateNormReferenceIdeal [hGateNormIdeal : Cert.GateNormIdeal.Facts] [hGateNormReferenceIdeal : Cert.GateNormReferenceIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormReferenceIdeal.nD Cert.GateNormReferenceIdeal.τ Cert.GateNormReferenceIdeal.sig) → Buf (Elt Ideal) ℓ) (g' : Dev Cert.GateNormReferenceIdeal.nD → PrngReg), Pre_GateNormIdeal m →
    (∀ c : Dev Cert.GateNormIdeal.nD,
      m' ((c.tc : Thread Cert.GateNormReferenceIdeal.nD Cert.GateNormReferenceIdeal.τ).loc Cert.GateNormReferenceIdeal.main_arg0) = m ((c.tc : Thread Cert.GateNormIdeal.nD Cert.GateNormIdeal.τ).loc Cert.GateNormIdeal.main_arg0)
      ∧ m' ((c.tc : Thread Cert.GateNormReferenceIdeal.nD Cert.GateNormReferenceIdeal.τ).loc Cert.GateNormReferenceIdeal.main_arg1) = m ((c.tc : Thread Cert.GateNormIdeal.nD Cert.GateNormIdeal.τ).loc Cert.GateNormIdeal.main_arg1)
      ∧ m' ((c.tc : Thread Cert.GateNormReferenceIdeal.nD Cert.GateNormReferenceIdeal.τ).loc Cert.GateNormReferenceIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v1) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormReferenceIdeal.defs (F := Ideal)) (onTc (τ := Cert.GateNormReferenceIdeal.τ) (Cert.GateNormReferenceIdeal.main (F := Ideal))) ⟨m', fun _ => 0, g'⟩ (fun r => ∀ c : Dev Cert.GateNormReferenceIdeal.nD,
          r.2.mem ((c.tc : Thread Cert.GateNormReferenceIdeal.nD Cert.GateNormReferenceIdeal.τ).loc Cert.GateNormReferenceIdeal.main_v19) = v0 c
          ∧ r.2.mem ((c.tc : Thread Cert.GateNormReferenceIdeal.nD Cert.GateNormReferenceIdeal.τ).loc Cert.GateNormReferenceIdeal.main_arg0) = m' ((c.tc : Thread Cert.GateNormReferenceIdeal.nD Cert.GateNormReferenceIdeal.τ).loc Cert.GateNormReferenceIdeal.main_arg0)
          ∧ r.2.mem ((c.tc : Thread Cert.GateNormReferenceIdeal.nD Cert.GateNormReferenceIdeal.τ).loc Cert.GateNormReferenceIdeal.main_arg1) = m' ((c.tc : Thread Cert.GateNormReferenceIdeal.nD Cert.GateNormReferenceIdeal.τ).loc Cert.GateNormReferenceIdeal.main_arg1)
          ∧ r.2.mem ((c.tc : Thread Cert.GateNormReferenceIdeal.nD Cert.GateNormReferenceIdeal.τ).loc Cert.GateNormReferenceIdeal.main_arg2) = m' ((c.tc : Thread Cert.GateNormReferenceIdeal.nD Cert.GateNormReferenceIdeal.τ).loc Cert.GateNormReferenceIdeal.main_arg2))

def preserves_Caches_CachesIdeal : Prop :=
  True

def algebraic_CachesIdeal_CachesReferenceIdeal [hCachesIdeal : Cert.CachesIdeal.Facts] [hCachesReferenceIdeal : Cert.CachesReferenceIdeal.Facts] : Prop :=
  ∀ (m : (ℓ : Loc Cert.CachesIdeal.nD Cert.CachesIdeal.τ Cert.CachesIdeal.sig) → Buf (Elt Ideal) ℓ) (g : Dev Cert.CachesIdeal.nD → PrngReg)
    (m' : (ℓ : Loc Cert.CachesReferenceIdeal.nD Cert.CachesReferenceIdeal.τ Cert.CachesReferenceIdeal.sig) → Buf (Elt Ideal) ℓ) (g' : Dev Cert.CachesReferenceIdeal.nD → PrngReg), Pre_CachesIdeal m →
    (∀ c : Dev Cert.CachesIdeal.nD,
      m' ((c.tc : Thread Cert.CachesReferenceIdeal.nD Cert.CachesReferenceIdeal.τ).loc Cert.CachesReferenceIdeal.main_arg0) = m ((c.tc : Thread Cert.CachesIdeal.nD Cert.CachesIdeal.τ).loc Cert.CachesIdeal.main_arg0)
      ∧ m' ((c.tc : Thread Cert.CachesReferenceIdeal.nD Cert.CachesReferenceIdeal.τ).loc Cert.CachesReferenceIdeal.main_arg1) = m ((c.tc : Thread Cert.CachesIdeal.nD Cert.CachesIdeal.τ).loc Cert.CachesIdeal.main_arg1)
      ∧ m' ((c.tc : Thread Cert.CachesReferenceIdeal.nD Cert.CachesReferenceIdeal.τ).loc Cert.CachesReferenceIdeal.main_arg2) = m ((c.tc : Thread Cert.CachesIdeal.nD Cert.CachesIdeal.τ).loc Cert.CachesIdeal.main_arg2)
      ∧ m' ((c.tc : Thread Cert.CachesReferenceIdeal.nD Cert.CachesReferenceIdeal.τ).loc Cert.CachesReferenceIdeal.main_arg3) = m ((c.tc : Thread Cert.CachesIdeal.nD Cert.CachesIdeal.τ).loc Cert.CachesIdeal.main_arg3)) →
    ∃ (v0 : (c : Dev Cert.CachesIdeal.nD) → Buf (Elt Ideal) ((c.tc : Thread Cert.CachesIdeal.nD Cert.CachesIdeal.τ).loc Cert.CachesIdeal.main_v16)) (v1 : (c : Dev Cert.CachesIdeal.nD) → Buf (Elt Ideal) ((c.tc : Thread Cert.CachesIdeal.nD Cert.CachesIdeal.τ).loc Cert.CachesIdeal.main_v19)) (v2 : (c : Dev Cert.CachesIdeal.nD) → Buf (Elt Ideal) ((c.tc : Thread Cert.CachesIdeal.nD Cert.CachesIdeal.τ).loc Cert.CachesIdeal.main_v2_0)) (v3 : (c : Dev Cert.CachesIdeal.nD) → Buf (Elt Ideal) ((c.tc : Thread Cert.CachesIdeal.nD Cert.CachesIdeal.τ).loc Cert.CachesIdeal.main_v2_1)) (v4 : (c : Dev Cert.CachesIdeal.nD) → Buf (Elt Ideal) ((c.tc : Thread Cert.CachesIdeal.nD Cert.CachesIdeal.τ).loc Cert.CachesIdeal.main_v2_2)) (v5 : (c : Dev Cert.CachesIdeal.nD) → Buf (Elt Ideal) ((c.tc : Thread Cert.CachesIdeal.nD Cert.CachesIdeal.τ).loc Cert.CachesIdeal.main_v5_0)) (v6 : (c : Dev Cert.CachesIdeal.nD) → Buf (Elt Ideal) ((c.tc : Thread Cert.CachesIdeal.nD Cert.CachesIdeal.τ).loc Cert.CachesIdeal.main_v5_1)) (v7 : (c : Dev Cert.CachesIdeal.nD) → Buf (Elt Ideal) ((c.tc : Thread Cert.CachesIdeal.nD Cert.CachesIdeal.τ).loc Cert.CachesIdeal.main_v5_2)),
      θ_run (Cert.CachesIdeal.defs (F := Ideal)) (onTc (τ := Cert.CachesIdeal.τ) (Cert.CachesIdeal.main (F := Ideal))) ⟨m, fun _ => 0, g⟩ (fun r => ∀ c : Dev Cert.CachesIdeal.nD,
          r.2.mem ((c.tc : Thread Cert.CachesIdeal.nD Cert.CachesIdeal.τ).loc Cert.CachesIdeal.main_v16) = v0 c
          ∧ r.2.mem ((c.tc : Thread Cert.CachesIdeal.nD Cert.CachesIdeal.τ).loc Cert.CachesIdeal.main_v19) = v1 c
          ∧ r.2.mem ((c.tc : Thread Cert.CachesIdeal.nD Cert.CachesIdeal.τ).loc Cert.CachesIdeal.main_v2_0) = v2 c
          ∧ r.2.mem ((c.tc : Thread Cert.CachesIdeal.nD Cert.CachesIdeal.τ).loc Cert.CachesIdeal.main_v2_1) = v3 c
          ∧ r.2.mem ((c.tc : Thread Cert.CachesIdeal.nD Cert.CachesIdeal.τ).loc Cert.CachesIdeal.main_v2_2) = v4 c
          ∧ r.2.mem ((c.tc : Thread Cert.CachesIdeal.nD Cert.CachesIdeal.τ).loc Cert.CachesIdeal.main_v5_0) = v5 c
          ∧ r.2.mem ((c.tc : Thread Cert.CachesIdeal.nD Cert.CachesIdeal.τ).loc Cert.CachesIdeal.main_v5_1) = v6 c
          ∧ r.2.mem ((c.tc : Thread Cert.CachesIdeal.nD Cert.CachesIdeal.τ).loc Cert.CachesIdeal.main_v5_2) = v7 c
          ∧ r.2.mem ((c.tc : Thread Cert.CachesIdeal.nD Cert.CachesIdeal.τ).loc Cert.CachesIdeal.main_arg0) = m ((c.tc : Thread Cert.CachesIdeal.nD Cert.CachesIdeal.τ).loc Cert.CachesIdeal.main_arg0)
          ∧ r.2.mem ((c.tc : Thread Cert.CachesIdeal.nD Cert.CachesIdeal.τ).loc Cert.CachesIdeal.main_arg1) = m ((c.tc : Thread Cert.CachesIdeal.nD Cert.CachesIdeal.τ).loc Cert.CachesIdeal.main_arg1)
          ∧ r.2.mem ((c.tc : Thread Cert.CachesIdeal.nD Cert.CachesIdeal.τ).loc Cert.CachesIdeal.main_arg2) = m ((c.tc : Thread Cert.CachesIdeal.nD Cert.CachesIdeal.τ).loc Cert.CachesIdeal.main_arg2)
          ∧ r.2.mem ((c.tc : Thread Cert.CachesIdeal.nD Cert.CachesIdeal.τ).loc Cert.CachesIdeal.main_arg3) = m ((c.tc : Thread Cert.CachesIdeal.nD Cert.CachesIdeal.τ).loc Cert.CachesIdeal.main_arg3))
      ∧ θ_run (Cert.CachesReferenceIdeal.defs (F := Ideal)) (onTc (τ := Cert.CachesReferenceIdeal.τ) (Cert.CachesReferenceIdeal.main (F := Ideal))) ⟨m', fun _ => 0, g'⟩ (fun r => ∀ c : Dev Cert.CachesReferenceIdeal.nD,
          r.2.mem ((c.tc : Thread Cert.CachesReferenceIdeal.nD Cert.CachesReferenceIdeal.τ).loc Cert.CachesReferenceIdeal.main_v76) = v0 c
          ∧ r.2.mem ((c.tc : Thread Cert.CachesReferenceIdeal.nD Cert.CachesReferenceIdeal.τ).loc Cert.CachesReferenceIdeal.main_v83) = v1 c
          ∧ r.2.mem ((c.tc : Thread Cert.CachesReferenceIdeal.nD Cert.CachesReferenceIdeal.τ).loc Cert.CachesReferenceIdeal.main_v21) = v2 c
          ∧ r.2.mem ((c.tc : Thread Cert.CachesReferenceIdeal.nD Cert.CachesReferenceIdeal.τ).loc Cert.CachesReferenceIdeal.main_v34) = v3 c
          ∧ r.2.mem ((c.tc : Thread Cert.CachesReferenceIdeal.nD Cert.CachesReferenceIdeal.τ).loc Cert.CachesReferenceIdeal.main_v7) = v4 c
          ∧ r.2.mem ((c.tc : Thread Cert.CachesReferenceIdeal.nD Cert.CachesReferenceIdeal.τ).loc Cert.CachesReferenceIdeal.main_v56) = v5 c
          ∧ r.2.mem ((c.tc : Thread Cert.CachesReferenceIdeal.nD Cert.CachesReferenceIdeal.τ).loc Cert.CachesReferenceIdeal.main_v69) = v6 c
          ∧ r.2.mem ((c.tc : Thread Cert.CachesReferenceIdeal.nD Cert.CachesReferenceIdeal.τ).loc Cert.CachesReferenceIdeal.main_v42) = v7 c
          ∧ r.2.mem ((c.tc : Thread Cert.CachesReferenceIdeal.nD Cert.CachesReferenceIdeal.τ).loc Cert.CachesReferenceIdeal.main_arg0) = m' ((c.tc : Thread Cert.CachesReferenceIdeal.nD Cert.CachesReferenceIdeal.τ).loc Cert.CachesReferenceIdeal.main_arg0)
          ∧ r.2.mem ((c.tc : Thread Cert.CachesReferenceIdeal.nD Cert.CachesReferenceIdeal.τ).loc Cert.CachesReferenceIdeal.main_arg1) = m' ((c.tc : Thread Cert.CachesReferenceIdeal.nD Cert.CachesReferenceIdeal.τ).loc Cert.CachesReferenceIdeal.main_arg1)
          ∧ r.2.mem ((c.tc : Thread Cert.CachesReferenceIdeal.nD Cert.CachesReferenceIdeal.τ).loc Cert.CachesReferenceIdeal.main_arg2) = m' ((c.tc : Thread Cert.CachesReferenceIdeal.nD Cert.CachesReferenceIdeal.τ).loc Cert.CachesReferenceIdeal.main_arg2)
          ∧ r.2.mem ((c.tc : Thread Cert.CachesReferenceIdeal.nD Cert.CachesReferenceIdeal.τ).loc Cert.CachesReferenceIdeal.main_arg3) = m' ((c.tc : Thread Cert.CachesReferenceIdeal.nD Cert.CachesReferenceIdeal.τ).loc Cert.CachesReferenceIdeal.main_arg3))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v2_0)) (v1 : (c : Dev Cert.ModulateIdeal.nD) → Buf (Elt Ideal) ((c.tc : Thread Cert.ModulateIdeal.nD Cert.ModulateIdeal.τ).loc Cert.ModulateIdeal.main_v2_1)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v2_0) = v0 c
          ∧ r.2.mem ((c.tc : Thread Cert.ModulateIdeal.nD Cert.ModulateIdeal.τ).loc Cert.ModulateIdeal.main_v2_1) = v1 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v2) = v0 c
          ∧ r.2.mem ((c.tc : Thread Cert.ModulateReferenceIdeal.nD Cert.ModulateReferenceIdeal.τ).loc Cert.ModulateReferenceIdeal.main_v31) = v1 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2))

def preserves_Mixed_MixedIdeal : Prop :=
  True

def algebraic_MixedIdeal_MixedReferenceIdeal [hMixedIdeal : Cert.MixedIdeal.Facts] [hMixedReferenceIdeal : Cert.MixedReferenceIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.MixedReferenceIdeal.nD Cert.MixedReferenceIdeal.τ Cert.MixedReferenceIdeal.sig) → Buf (Elt Ideal) ℓ) (g' : Dev Cert.MixedReferenceIdeal.nD → PrngReg), Pre_MixedIdeal m →
    (∀ c : Dev Cert.MixedIdeal.nD,
      m' ((c.tc : Thread Cert.MixedReferenceIdeal.nD Cert.MixedReferenceIdeal.τ).loc Cert.MixedReferenceIdeal.main_arg0) = m ((c.tc : Thread Cert.MixedIdeal.nD Cert.MixedIdeal.τ).loc Cert.MixedIdeal.main_arg0)
      ∧ m' ((c.tc : Thread Cert.MixedReferenceIdeal.nD Cert.MixedReferenceIdeal.τ).loc Cert.MixedReferenceIdeal.main_arg1) = m ((c.tc : Thread Cert.MixedIdeal.nD Cert.MixedIdeal.τ).loc Cert.MixedIdeal.main_arg1)
      ∧ m' ((c.tc : Thread Cert.MixedReferenceIdeal.nD Cert.MixedReferenceIdeal.τ).loc Cert.MixedReferenceIdeal.main_arg2) = m ((c.tc : Thread Cert.MixedIdeal.nD Cert.MixedIdeal.τ).loc Cert.MixedIdeal.main_arg2)
      ∧ m' ((c.tc : Thread Cert.MixedReferenceIdeal.nD Cert.MixedReferenceIdeal.τ).loc Cert.MixedReferenceIdeal.main_arg3) = m ((c.tc : Thread Cert.MixedIdeal.nD Cert.MixedIdeal.τ).loc Cert.MixedIdeal.main_arg3)
      ∧ m' ((c.tc : Thread Cert.MixedReferenceIdeal.nD Cert.MixedReferenceIdeal.τ).loc Cert.MixedReferenceIdeal.main_arg4) = m ((c.tc : Thread Cert.MixedIdeal.nD Cert.MixedIdeal.τ).loc Cert.MixedIdeal.main_arg4)) →
    ∃ (v0 : (c : Dev Cert.MixedIdeal.nD) → Buf (Elt Ideal) ((c.tc : Thread Cert.MixedIdeal.nD Cert.MixedIdeal.τ).loc Cert.MixedIdeal.main_v2_0)) (v1 : (c : Dev Cert.MixedIdeal.nD) → Buf (Elt Ideal) ((c.tc : Thread Cert.MixedIdeal.nD Cert.MixedIdeal.τ).loc Cert.MixedIdeal.main_v2_1)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v2_0) = v0 c
          ∧ r.2.mem ((c.tc : Thread Cert.MixedIdeal.nD Cert.MixedIdeal.τ).loc Cert.MixedIdeal.main_v2_1) = v1 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ θ_run (Cert.MixedReferenceIdeal.defs (F := Ideal)) (onTc (τ := Cert.MixedReferenceIdeal.τ) (Cert.MixedReferenceIdeal.main (F := Ideal))) ⟨m', fun _ => 0, g'⟩ (fun r => ∀ c : Dev Cert.MixedReferenceIdeal.nD,
          r.2.mem ((c.tc : Thread Cert.MixedReferenceIdeal.nD Cert.MixedReferenceIdeal.τ).loc Cert.MixedReferenceIdeal.main_v44) = v0 c
          ∧ r.2.mem ((c.tc : Thread Cert.MixedReferenceIdeal.nD Cert.MixedReferenceIdeal.τ).loc Cert.MixedReferenceIdeal.main_v73) = v1 c
          ∧ r.2.mem ((c.tc : Thread Cert.MixedReferenceIdeal.nD Cert.MixedReferenceIdeal.τ).loc Cert.MixedReferenceIdeal.main_arg0) = m' ((c.tc : Thread Cert.MixedReferenceIdeal.nD Cert.MixedReferenceIdeal.τ).loc Cert.MixedReferenceIdeal.main_arg0)
          ∧ r.2.mem ((c.tc : Thread Cert.MixedReferenceIdeal.nD Cert.MixedReferenceIdeal.τ).loc Cert.MixedReferenceIdeal.main_arg1) = m' ((c.tc : Thread Cert.MixedReferenceIdeal.nD Cert.MixedReferenceIdeal.τ).loc Cert.MixedReferenceIdeal.main_arg1)
          ∧ r.2.mem ((c.tc : Thread Cert.MixedReferenceIdeal.nD Cert.MixedReferenceIdeal.τ).loc Cert.MixedReferenceIdeal.main_arg2) = m' ((c.tc : Thread Cert.MixedReferenceIdeal.nD Cert.MixedReferenceIdeal.τ).loc Cert.MixedReferenceIdeal.main_arg2)
          ∧ r.2.mem ((c.tc : Thread Cert.MixedReferenceIdeal.nD Cert.MixedReferenceIdeal.τ).loc Cert.MixedReferenceIdeal.main_arg3) = m' ((c.tc : Thread Cert.MixedReferenceIdeal.nD Cert.MixedReferenceIdeal.τ).loc Cert.MixedReferenceIdeal.main_arg3)
          ∧ r.2.mem ((c.tc : Thread Cert.MixedReferenceIdeal.nD Cert.MixedReferenceIdeal.τ).loc Cert.MixedReferenceIdeal.main_arg4) = m' ((c.tc : Thread Cert.MixedReferenceIdeal.nD Cert.MixedReferenceIdeal.τ).loc Cert.MixedReferenceIdeal.main_arg4))

def preserves_Adapt_AdaptIdeal : Prop :=
  True

def algebraic_AdaptIdeal_AdaptReferenceIdeal [hAdaptIdeal : Cert.AdaptIdeal.Facts] [hAdaptReferenceIdeal : Cert.AdaptReferenceIdeal.Facts] : Prop :=
  ∀ (m : (ℓ : Loc Cert.AdaptIdeal.nD Cert.AdaptIdeal.τ Cert.AdaptIdeal.sig) → Buf (Elt Ideal) ℓ) (g : Dev Cert.AdaptIdeal.nD → PrngReg)
    (m' : (ℓ : Loc Cert.AdaptReferenceIdeal.nD Cert.AdaptReferenceIdeal.τ Cert.AdaptReferenceIdeal.sig) → Buf (Elt Ideal) ℓ) (g' : Dev Cert.AdaptReferenceIdeal.nD → PrngReg), Pre_AdaptIdeal m →
    (∀ c : Dev Cert.AdaptIdeal.nD,
      m' ((c.tc : Thread Cert.AdaptReferenceIdeal.nD Cert.AdaptReferenceIdeal.τ).loc Cert.AdaptReferenceIdeal.main_arg0) = m ((c.tc : Thread Cert.AdaptIdeal.nD Cert.AdaptIdeal.τ).loc Cert.AdaptIdeal.main_arg0)
      ∧ m' ((c.tc : Thread Cert.AdaptReferenceIdeal.nD Cert.AdaptReferenceIdeal.τ).loc Cert.AdaptReferenceIdeal.main_arg1) = m ((c.tc : Thread Cert.AdaptIdeal.nD Cert.AdaptIdeal.τ).loc Cert.AdaptIdeal.main_arg1)
      ∧ m' ((c.tc : Thread Cert.AdaptReferenceIdeal.nD Cert.AdaptReferenceIdeal.τ).loc Cert.AdaptReferenceIdeal.main_arg2) = m ((c.tc : Thread Cert.AdaptIdeal.nD Cert.AdaptIdeal.τ).loc Cert.AdaptIdeal.main_arg2)
      ∧ m' ((c.tc : Thread Cert.AdaptReferenceIdeal.nD Cert.AdaptReferenceIdeal.τ).loc Cert.AdaptReferenceIdeal.main_arg3) = m ((c.tc : Thread Cert.AdaptIdeal.nD Cert.AdaptIdeal.τ).loc Cert.AdaptIdeal.main_arg3)) →
    ∃ (v0 : (c : Dev Cert.AdaptIdeal.nD) → Buf (Elt Ideal) ((c.tc : Thread Cert.AdaptIdeal.nD Cert.AdaptIdeal.τ).loc Cert.AdaptIdeal.main_v4)),
      θ_run (Cert.AdaptIdeal.defs (F := Ideal)) (onTc (τ := Cert.AdaptIdeal.τ) (Cert.AdaptIdeal.main (F := Ideal))) ⟨m, fun _ => 0, g⟩ (fun r => ∀ c : Dev Cert.AdaptIdeal.nD,
          r.2.mem ((c.tc : Thread Cert.AdaptIdeal.nD Cert.AdaptIdeal.τ).loc Cert.AdaptIdeal.main_v4) = v0 c
          ∧ r.2.mem ((c.tc : Thread Cert.AdaptIdeal.nD Cert.AdaptIdeal.τ).loc Cert.AdaptIdeal.main_arg0) = m ((c.tc : Thread Cert.AdaptIdeal.nD Cert.AdaptIdeal.τ).loc Cert.AdaptIdeal.main_arg0)
          ∧ r.2.mem ((c.tc : Thread Cert.AdaptIdeal.nD Cert.AdaptIdeal.τ).loc Cert.AdaptIdeal.main_arg1) = m ((c.tc : Thread Cert.AdaptIdeal.nD Cert.AdaptIdeal.τ).loc Cert.AdaptIdeal.main_arg1)
          ∧ r.2.mem ((c.tc : Thread Cert.AdaptIdeal.nD Cert.AdaptIdeal.τ).loc Cert.AdaptIdeal.main_arg2) = m ((c.tc : Thread Cert.AdaptIdeal.nD Cert.AdaptIdeal.τ).loc Cert.AdaptIdeal.main_arg2)
          ∧ r.2.mem ((c.tc : Thread Cert.AdaptIdeal.nD Cert.AdaptIdeal.τ).loc Cert.AdaptIdeal.main_arg3) = m ((c.tc : Thread Cert.AdaptIdeal.nD Cert.AdaptIdeal.τ).loc Cert.AdaptIdeal.main_arg3))
      ∧ θ_run (Cert.AdaptReferenceIdeal.defs (F := Ideal)) (onTc (τ := Cert.AdaptReferenceIdeal.τ) (Cert.AdaptReferenceIdeal.main (F := Ideal))) ⟨m', fun _ => 0, g'⟩ (fun r => ∀ c : Dev Cert.AdaptReferenceIdeal.nD,
          r.2.mem ((c.tc : Thread Cert.AdaptReferenceIdeal.nD Cert.AdaptReferenceIdeal.τ).loc Cert.AdaptReferenceIdeal.main_v8) = v0 c
          ∧ r.2.mem ((c.tc : Thread Cert.AdaptReferenceIdeal.nD Cert.AdaptReferenceIdeal.τ).loc Cert.AdaptReferenceIdeal.main_arg0) = m' ((c.tc : Thread Cert.AdaptReferenceIdeal.nD Cert.AdaptReferenceIdeal.τ).loc Cert.AdaptReferenceIdeal.main_arg0)
          ∧ r.2.mem ((c.tc : Thread Cert.AdaptReferenceIdeal.nD Cert.AdaptReferenceIdeal.τ).loc Cert.AdaptReferenceIdeal.main_arg1) = m' ((c.tc : Thread Cert.AdaptReferenceIdeal.nD Cert.AdaptReferenceIdeal.τ).loc Cert.AdaptReferenceIdeal.main_arg1)
          ∧ r.2.mem ((c.tc : Thread Cert.AdaptReferenceIdeal.nD Cert.AdaptReferenceIdeal.τ).loc Cert.AdaptReferenceIdeal.main_arg2) = m' ((c.tc : Thread Cert.AdaptReferenceIdeal.nD Cert.AdaptReferenceIdeal.τ).loc Cert.AdaptReferenceIdeal.main_arg2)
          ∧ r.2.mem ((c.tc : Thread Cert.AdaptReferenceIdeal.nD Cert.AdaptReferenceIdeal.τ).loc Cert.AdaptReferenceIdeal.main_arg3) = m' ((c.tc : Thread Cert.AdaptReferenceIdeal.nD Cert.AdaptReferenceIdeal.τ).loc Cert.AdaptReferenceIdeal.main_arg3))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v2_0)) (v1 : (c : Dev Cert.LastIdeal.nD) → Buf (Elt Ideal) ((c.tc : Thread Cert.LastIdeal.nD Cert.LastIdeal.τ).loc Cert.LastIdeal.main_v2_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2_0) = v0 c
          ∧ r.2.mem ((c.tc : Thread Cert.LastIdeal.nD Cert.LastIdeal.τ).loc Cert.LastIdeal.main_v2_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v53) = v0 c
          ∧ r.2.mem ((c.tc : Thread Cert.LastReferenceIdeal.nD Cert.LastReferenceIdeal.τ).loc Cert.LastReferenceIdeal.main_v54) = v1 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hSsmInZ : Cert.SsmInZ.Facts) (hSsmInZIdeal : Cert.SsmInZIdeal.Facts) (hSsmInZReferenceIdeal : Cert.SsmInZReferenceIdeal.Facts) (hSsmInXbc : Cert.SsmInXbc.Facts) (hSsmInXbcIdeal : Cert.SsmInXbcIdeal.Facts) (hSsmInXbcReferenceIdeal : Cert.SsmInXbcReferenceIdeal.Facts) (hSsmOut : Cert.SsmOut.Facts) (hSsmOutIdeal : Cert.SsmOutIdeal.Facts) (hSsmOutReferenceIdeal : Cert.SsmOutReferenceIdeal.Facts) (hMixIn : Cert.MixIn.Facts) (hMixInIdeal : Cert.MixInIdeal.Facts) (hMixInReferenceIdeal : Cert.MixInReferenceIdeal.Facts) (hMixOut : Cert.MixOut.Facts) (hMixOutIdeal : Cert.MixOutIdeal.Facts) (hMixOutReferenceIdeal : Cert.MixOutReferenceIdeal.Facts) (hQProj : Cert.QProj.Facts) (hQProjIdeal : Cert.QProjIdeal.Facts) (hQProjReferenceIdeal : Cert.QProjReferenceIdeal.Facts) (hKvProj : Cert.KvProj.Facts) (hKvProjIdeal : Cert.KvProjIdeal.Facts) (hKvProjReferenceIdeal : Cert.KvProjReferenceIdeal.Facts) (hMoeUp : Cert.MoeUp.Facts) (hMoeUpIdeal : Cert.MoeUpIdeal.Facts) (hMoeUpReferenceIdeal : Cert.MoeUpReferenceIdeal.Facts) (hMoeDown : Cert.MoeDown.Facts) (hMoeDownIdeal : Cert.MoeDownIdeal.Facts) (hMoeDownReferenceIdeal : Cert.MoeDownReferenceIdeal.Facts) (hSsmDt : Cert.SsmDt.Facts) (hSsmDtIdeal : Cert.SsmDtIdeal.Facts) (hSsmDtReferenceIdeal : Cert.SsmDtReferenceIdeal.Facts) (hGateNorm : Cert.GateNorm.Facts) (hGateNormIdeal : Cert.GateNormIdeal.Facts) (hGateNormReferenceIdeal : Cert.GateNormReferenceIdeal.Facts) (hCaches : Cert.Caches.Facts) (hCachesIdeal : Cert.CachesIdeal.Facts) (hCachesReferenceIdeal : Cert.CachesReferenceIdeal.Facts) (hModulate : Cert.Modulate.Facts) (hModulateIdeal : Cert.ModulateIdeal.Facts) (hModulateReferenceIdeal : Cert.ModulateReferenceIdeal.Facts) (hMixed : Cert.Mixed.Facts) (hMixedIdeal : Cert.MixedIdeal.Facts) (hMixedReferenceIdeal : Cert.MixedReferenceIdeal.Facts) (hAdapt : Cert.Adapt.Facts) (hAdaptIdeal : Cert.AdaptIdeal.Facts) (hAdaptReferenceIdeal : Cert.AdaptReferenceIdeal.Facts) (hLast : Cert.Last.Facts) (hLastIdeal : Cert.LastIdeal.Facts) (hLastReferenceIdeal : Cert.LastReferenceIdeal.Facts) (hPre_finite_scores : Cert.Pre_finite_scores.Facts) (hPre_dispatched : Cert.Pre_dispatched.Facts) (hPre_dispatched_down : Cert.Pre_dispatched_down.Facts) (hOn_routed : Cert.On_routed.Facts) (hOn_routed_down : Cert.On_routed_down.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_SsmInZ (hSsmInZ := hSsmInZ)
    ∧ quiescent_SsmInZIdeal (hSsmInZIdeal := hSsmInZIdeal)
    ∧ quiescent_SsmInZReferenceIdeal (hSsmInZReferenceIdeal := hSsmInZReferenceIdeal)
    ∧ quiescent_SsmInXbc (hSsmInXbc := hSsmInXbc)
    ∧ quiescent_SsmInXbcIdeal (hSsmInXbcIdeal := hSsmInXbcIdeal)
    ∧ quiescent_SsmInXbcReferenceIdeal (hSsmInXbcReferenceIdeal := hSsmInXbcReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_MoeUp (hMoeUp := hMoeUp) (hPre_dispatched := hPre_dispatched)
    ∧ quiescent_MoeUpIdeal (hMoeUpIdeal := hMoeUpIdeal) (hPre_dispatched := hPre_dispatched)
    ∧ quiescent_MoeUpReferenceIdeal (hMoeUpReferenceIdeal := hMoeUpReferenceIdeal)
    ∧ quiescent_MoeUpReferenceIdeal_pre_dispatched (hMoeUpReferenceIdeal := hMoeUpReferenceIdeal) (hPre_dispatched := hPre_dispatched)
    ∧ quiescent_MoeDown (hMoeDown := hMoeDown) (hPre_dispatched_down := hPre_dispatched_down)
    ∧ quiescent_MoeDownIdeal (hMoeDownIdeal := hMoeDownIdeal) (hPre_dispatched_down := hPre_dispatched_down)
    ∧ quiescent_MoeDownReferenceIdeal (hMoeDownReferenceIdeal := hMoeDownReferenceIdeal)
    ∧ quiescent_MoeDownReferenceIdeal_pre_dispatched_down (hMoeDownReferenceIdeal := hMoeDownReferenceIdeal) (hPre_dispatched_down := hPre_dispatched_down)
    ∧ quiescent_SsmDt (hSsmDt := hSsmDt)
    ∧ quiescent_SsmDtIdeal (hSsmDtIdeal := hSsmDtIdeal)
    ∧ quiescent_SsmDtReferenceIdeal (hSsmDtReferenceIdeal := hSsmDtReferenceIdeal)
    ∧ quiescent_GateNorm (hGateNorm := hGateNorm)
    ∧ quiescent_GateNormIdeal (hGateNormIdeal := hGateNormIdeal)
    ∧ quiescent_GateNormReferenceIdeal (hGateNormReferenceIdeal := hGateNormReferenceIdeal)
    ∧ quiescent_Caches (hCaches := hCaches)
    ∧ quiescent_CachesIdeal (hCachesIdeal := hCachesIdeal)
    ∧ quiescent_CachesReferenceIdeal (hCachesReferenceIdeal := hCachesReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_Mixed (hMixed := hMixed)
    ∧ quiescent_MixedIdeal (hMixedIdeal := hMixedIdeal)
    ∧ quiescent_MixedReferenceIdeal (hMixedReferenceIdeal := hMixedReferenceIdeal)
    ∧ quiescent_Adapt (hAdapt := hAdapt)
    ∧ quiescent_AdaptIdeal (hAdaptIdeal := hAdaptIdeal)
    ∧ quiescent_AdaptReferenceIdeal (hAdaptReferenceIdeal := hAdaptReferenceIdeal)
    ∧ quiescent_Last (hLast := hLast)
    ∧ quiescent_LastIdeal (hLastIdeal := hLastIdeal)
    ∧ quiescent_LastReferenceIdeal (hLastReferenceIdeal := hLastReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_SsmInZ_SsmInZIdeal
    ∧ algebraic_SsmInZIdeal_SsmInZReferenceIdeal (hSsmInZIdeal := hSsmInZIdeal) (hSsmInZReferenceIdeal := hSsmInZReferenceIdeal)
    ∧ preserves_SsmInXbc_SsmInXbcIdeal
    ∧ algebraic_SsmInXbcIdeal_SsmInXbcReferenceIdeal (hSsmInXbcIdeal := hSsmInXbcIdeal) (hSsmInXbcReferenceIdeal := hSsmInXbcReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_MixIn_MixInIdeal
    ∧ algebraic_MixInIdeal_MixInReferenceIdeal (hMixInIdeal := hMixInIdeal) (hMixInReferenceIdeal := hMixInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_QProj_QProjIdeal
    ∧ algebraic_QProjIdeal_QProjReferenceIdeal (hQProjIdeal := hQProjIdeal) (hQProjReferenceIdeal := hQProjReferenceIdeal)
    ∧ preserves_KvProj_KvProjIdeal
    ∧ algebraic_KvProjIdeal_KvProjReferenceIdeal (hKvProjIdeal := hKvProjIdeal) (hKvProjReferenceIdeal := hKvProjReferenceIdeal)
    ∧ preserves_MoeUp_MoeUpIdeal
    ∧ algebraic_MoeUpIdeal_MoeUpReferenceIdeal_on_routed (hMoeUpIdeal := hMoeUpIdeal) (hMoeUpReferenceIdeal := hMoeUpReferenceIdeal) (hPre_dispatched := hPre_dispatched) (hOn_routed := hOn_routed)
    ∧ preserves_MoeDown_MoeDownIdeal
    ∧ algebraic_MoeDownIdeal_MoeDownReferenceIdeal_on_routed_down (hMoeDownIdeal := hMoeDownIdeal) (hMoeDownReferenceIdeal := hMoeDownReferenceIdeal) (hPre_dispatched_down := hPre_dispatched_down) (hOn_routed_down := hOn_routed_down)
    ∧ preserves_SsmDt_SsmDtIdeal
    ∧ algebraic_SsmDtIdeal_SsmDtReferenceIdeal (hSsmDtIdeal := hSsmDtIdeal) (hSsmDtReferenceIdeal := hSsmDtReferenceIdeal)
    ∧ preserves_GateNorm_GateNormIdeal
    ∧ algebraic_GateNormIdeal_GateNormReferenceIdeal (hGateNormIdeal := hGateNormIdeal) (hGateNormReferenceIdeal := hGateNormReferenceIdeal)
    ∧ preserves_Caches_CachesIdeal
    ∧ algebraic_CachesIdeal_CachesReferenceIdeal (hCachesIdeal := hCachesIdeal) (hCachesReferenceIdeal := hCachesReferenceIdeal)
    ∧ preserves_Modulate_ModulateIdeal
    ∧ algebraic_ModulateIdeal_ModulateReferenceIdeal (hModulateIdeal := hModulateIdeal) (hModulateReferenceIdeal := hModulateReferenceIdeal)
    ∧ preserves_Mixed_MixedIdeal
    ∧ algebraic_MixedIdeal_MixedReferenceIdeal (hMixedIdeal := hMixedIdeal) (hMixedReferenceIdeal := hMixedReferenceIdeal)
    ∧ preserves_Adapt_AdaptIdeal
    ∧ algebraic_AdaptIdeal_AdaptReferenceIdeal (hAdaptIdeal := hAdaptIdeal) (hAdaptReferenceIdeal := hAdaptReferenceIdeal)
    ∧ preserves_Last_LastIdeal
    ∧ algebraic_LastIdeal_LastReferenceIdeal (hLastIdeal := hLastIdeal) (hLastReferenceIdeal := hLastReferenceIdeal)
-- ==== On_routed.lean ====
abbrev S128 : Shape := ⟨1, ![128]⟩
abbrev S16384x2048 : Shape := ⟨2, ![16384, 2048]⟩
abbrev S2x8x2048x4096 : Shape := ⟨4, ![2, 8, 2048, 4096]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S_ : Shape := ⟨0, ![]⟩
abbrev S1x128 : Shape := ⟨2, ![1, 128]⟩
abbrev S16384x128 : Shape := ⟨2, ![16384, 128]⟩
abbrev S4096x128 : Shape := ⟨2, ![4096, 128]⟩
abbrev S16384x1x128 : Shape := ⟨3, ![16384, 1, 128]⟩
abbrev S1x4096x128 : Shape := ⟨3, ![1, 4096, 128]⟩
abbrev S16384x4096x128 : Shape := ⟨3, ![16384, 4096, 128]⟩
abbrev S16384x4096 : Shape := ⟨2, ![16384, 4096]⟩

class Facts : Prop where
  bcast_S16384_S16384x1_0 : S16384.BroadcastsInDim S16384x1 (![0] : Fin 1 → Fin S16384x1.rank)
  bcast_S4096_S4096x1_0 : S4096.BroadcastsInDim S4096x1 (![0] : Fin 1 → Fin S4096x1.rank)
  bcast_S_S128 : S_.BroadcastsInDim S128 (![] : Fin 0 → Fin S128.rank)
  bcast_S_S16384x1 : S_.BroadcastsInDim S16384x1 (![] : Fin 0 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x1_S16384x128_0_1 : S16384x1.BroadcastsInDim S16384x128 (![0, 1] : Fin 2 → Fin S16384x128.rank)
  bcast_S_S4096x1 : S_.BroadcastsInDim S4096x1 (![] : Fin 0 → Fin S4096x1.rank)
  bcast_S1x128_S4096x128_0_1 : S1x128.BroadcastsInDim S4096x128 (![0, 1] : Fin 2 → Fin S4096x128.rank)
  bcast_S4096x1_S4096x128_0_1 : S4096x1.BroadcastsInDim S4096x128 (![0, 1] : Fin 2 → Fin S4096x128.rank)
  bcast_S16384x128_S16384x1x128_0_2 : S16384x128.BroadcastsInDim S16384x1x128 (![0, 2] : Fin 2 → Fin S16384x1x128.rank)
  bcast_S4096x128_S1x4096x128_1_2 : S4096x128.BroadcastsInDim S1x4096x128 (![1, 2] : Fin 2 → Fin S1x4096x128.rank)
  bcast_S16384x1x128_S16384x4096x128_0_1_2 : S16384x1x128.BroadcastsInDim S16384x4096x128 (![0, 1, 2] : Fin 3 → Fin S16384x4096x128.rank)
  bcast_S1x4096x128_S16384x4096x128_0_1_2 : S1x4096x128.BroadcastsInDim S16384x4096x128 (![0, 1, 2] : Fin 3 → Fin S16384x4096x128.rank)
  reducesTo_S16384x4096x128_S16384x4096_d2 : S16384x4096x128.ReducesTo [2] S16384x4096
  h_S_ : 0 < S_.numel

variable [Facts]

def fn_part2 {F : FTy → Type} [FloatOps F] (main_v39 : IVec S16384x4096x128 1) (main_c_6 : IVec S_ 1) : IVec S16384x4096 1 :=
  let main_v40 : IVec S16384x4096 1 := (fun x v => Host.reduce IntOp.ori x v reducesTo_S16384x4096x128_S16384x4096_d2 h_S_) main_v39 main_c_6
  main_v40

def fn_part1 {F : FTy → Type} [FloatOps F] (main_arg1 : IVec S128 32) (main_v3 : IVec S4096x1 32) (main_v8 : IVec S128 1) (main_v14 : IVec S16384x128 1) (main_v16 : IVec S128 1) (main_v18 : IVec S16384x1 32) : IVec S16384x4096 1 :=
  let main_c_4 : IVec S_ 32 := constantI S_ 32 256#32
  let main_v19 : IVec S16384x1 32 := broadcastInDim S16384x1 ![] bcast_S_S16384x1 main_c_4
  let main_v20 : IVec S16384x1 1 := cmpi .slt main_v18 main_v19
  let main_v21 : IVec S1x128 1 := broadcastInDim S1x128 ![1] bcast_S128_S1x128_1 main_v16
  let main_v22 : IVec S16384x128 1 := broadcastInDim S16384x128 ![0, 1] bcast_S1x128_S16384x128_0_1 main_v21
  let main_v23 : IVec S16384x128 1 := broadcastInDim S16384x128 ![0, 1] bcast_S16384x1_S16384x128_0_1 main_v20
  let main_v24 : IVec S16384x128 1 := andi main_v22 main_v23
  let main_v25 : IVec S1x128 1 := broadcastInDim S1x128 ![1] bcast_S128_S1x128_1 main_v8
  let main_v26 : IVec S16384x128 1 := broadcastInDim S16384x128 ![0, 1] bcast_S1x128_S16384x128_0_1 main_v25
  let main_v27 : IVec S16384x128 1 := ori main_v26 main_v24
  let main_v28 : IVec S16384x128 1 := andi main_v14 main_v27
  let main_c_5 : IVec S_ 32 := constantI S_ 32 1024#32
  let main_v29 : IVec S4096x1 32 := broadcastInDim S4096x1 ![] bcast_S_S4096x1 main_c_5
  let main_v30 : IVec S4096x1 32 := Host.divsi main_v3 main_v29
  let main_v31 : IVec S1x128 32 := broadcastInDim S1x128 ![1] bcast_S128_S1x128_1 main_arg1
  let main_v32 : IVec S4096x128 32 := broadcastInDim S4096x128 ![0, 1] bcast_S1x128_S4096x128_0_1 main_v31
  let main_v33 : IVec S4096x128 32 := broadcastInDim S4096x128 ![0, 1] bcast_S4096x1_S4096x128_0_1 main_v30
  let main_v34 : IVec S4096x128 1 := cmpi .eq main_v32 main_v33
  let main_v35 : IVec S16384x1x128 1 := broadcastInDim S16384x1x128 ![0, 2] bcast_S16384x128_S16384x1x128_0_2 main_v28
  let main_v36 : IVec S1x4096x128 1 := broadcastInDim S1x4096x128 ![1, 2] bcast_S4096x128_S1x4096x128_1_2 main_v34
  let main_v37 : IVec S16384x4096x128 1 := broadcastInDim S16384x4096x128 ![0, 1, 2] bcast_S16384x1x128_S16384x4096x128_0_1_2 main_v35
  let main_v38 : IVec S16384x4096x128 1 := broadcastInDim S16384x4096x128 ![0, 1, 2] bcast_S1x4096x128_S16384x4096x128_0_1_2 main_v36
  let main_v39 : IVec S16384x4096x128 1 := andi main_v37 main_v38
  let main_c_6 : IVec S_ 1 := constantI S_ 1 0#1
  fn_part2 (F := F) main_v39 main_c_6

def fn {F : FTy → Type} [FloatOps F] (main_arg0 : IVec S128 32) (main_arg1 : IVec S128 32) (main_arg2 : IVec S128 32) (main_arg3 : IVec S128 32) (main_arg4 : IVec S128 32) (main_arg5 : FVec F S16384x2048 .bf16) (main_arg6 : FVec F S2x8x2048x4096 .f32) (main_arg7 : FVec F S2x8x2048x4096 .f32) : IVec S16384x4096 1 :=
  let main_v0 : IVec S16384 32 := iotaInDim S16384 32 0
  let main_v1 : IVec S16384x1 32 := broadcastInDim S16384x1 ![0] bcast_S16384_S16384x1_0 main_v0
  let main_v2 : IVec S4096 32 := iotaInDim S4096 32 0
  let main_v3 : IVec S4096x1 32 := broadcastInDim S4096x1 ![0] bcast_S4096_S4096x1_0 main_v2
  let main_c : IVec S_ 32 := constantI S_ 32 1#32
  let main_v4 : IVec S128 32 := broadcastInDim S128 ![] bcast_S_S128 main_c
  let main_v5 : IVec S128 1 := cmpi .eq main_arg3 main_v4
  let main_c_0 : IVec S_ 32 := constantI S_ 32 1#32
  let main_v6 : IVec S128 32 := broadcastInDim S128 ![] bcast_S_S128 main_c_0
  let main_v7 : IVec S128 1 := cmpi .eq main_arg4 main_v6
  let main_v8 : IVec S128 1 := ori main_v5 main_v7
  let main_c_1 : IVec S_ 32 := constantI S_ 32 512#32
  let main_v9 : IVec S16384x1 32 := broadcastInDim S16384x1 ![] bcast_S_S16384x1 main_c_1
  let main_v10 : IVec S16384x1 32 := Host.divsi main_v1 main_v9
  let main_v11 : IVec S1x128 32 := broadcastInDim S1x128 ![1] bcast_S128_S1x128_1 main_arg2
  let main_v12 : IVec S16384x128 32 := broadcastInDim S16384x128 ![0, 1] bcast_S1x128_S16384x128_0_1 main_v11
  let main_v13 : IVec S16384x128 32 := broadcastInDim S16384x128 ![0, 1] bcast_S16384x1_S16384x128_0_1 main_v10
  let main_v14 : IVec S16384x128 1 := cmpi .eq main_v12 main_v13
  let main_c_2 : IVec S_ 32 := constantI S_ 32 2#32
  let main_v15 : IVec S128 32 := broadcastInDim S128 ![] bcast_S_S128 main_c_2
  let main_v16 : IVec S128 1 := cmpi .eq main_arg4 main_v15
  let main_c_3 : IVec S_ 32 := constantI S_ 32 512#32
  let main_v17 : IVec S16384x1 32 := broadcastInDim S16384x1 ![] bcast_S_S16384x1 main_c_3
  let main_v18 : IVec S16384x1 32 := Host.remsi main_v1 main_v17
  fn_part1 (F := F) main_arg1 main_v3 main_v8 main_v14 main_v16 main_v18
-- ==== On_routed_down.lean ====
abbrev S64 : Shape := ⟨1, ![64]⟩
abbrev S16384x4096 : Shape := ⟨2, ![16384, 4096]⟩
abbrev S2x8x4096x2048 : Shape := ⟨4, ![2, 8, 4096, 2048]⟩
abbrev S16384 : Shape := ⟨1, ![16384]⟩
abbrev S16384x1 : Shape := ⟨2, ![16384, 1]⟩
abbrev S2048 : Shape := ⟨1, ![2048]⟩
abbrev S2048x1 : Shape := ⟨2, ![2048, 1]⟩
abbrev S_ : Shape := ⟨0, ![]⟩
abbrev S1x64 : Shape := ⟨2, ![1, 64]⟩
abbrev S16384x64 : Shape := ⟨2, ![16384, 64]⟩
abbrev S2048x64 : Shape := ⟨2, ![2048, 64]⟩
abbrev S16384x1x64 : Shape := ⟨3, ![16384, 1, 64]⟩
abbrev S1x2048x64 : Shape := ⟨3, ![1, 2048, 64]⟩
abbrev S16384x2048x64 : Shape := ⟨3, ![16384, 2048, 64]⟩
abbrev S16384x2048 : Shape := ⟨2, ![16384, 2048]⟩

class Facts : Prop where
  bcast_S16384_S16384x1_0 : S16384.BroadcastsInDim S16384x1 (![0] : Fin 1 → Fin S16384x1.rank)
  bcast_S2048_S2048x1_0 : S2048.BroadcastsInDim S2048x1 (![0] : Fin 1 → Fin S2048x1.rank)
  bcast_S_S64 : S_.BroadcastsInDim S64 (![] : Fin 0 → Fin S64.rank)
  bcast_S_S16384x1 : S_.BroadcastsInDim S16384x1 (![] : Fin 0 → Fin S16384x1.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S16384x1_S16384x64_0_1 : S16384x1.BroadcastsInDim S16384x64 (![0, 1] : Fin 2 → Fin S16384x64.rank)
  bcast_S_S2048x1 : S_.BroadcastsInDim S2048x1 (![] : Fin 0 → Fin S2048x1.rank)
  bcast_S1x64_S2048x64_0_1 : S1x64.BroadcastsInDim S2048x64 (![0, 1] : Fin 2 → Fin S2048x64.rank)
  bcast_S2048x1_S2048x64_0_1 : S2048x1.BroadcastsInDim S2048x64 (![0, 1] : Fin 2 → Fin S2048x64.rank)
  bcast_S16384x64_S16384x1x64_0_2 : S16384x64.BroadcastsInDim S16384x1x64 (![0, 2] : Fin 2 → Fin S16384x1x64.rank)
  bcast_S2048x64_S1x2048x64_1_2 : S2048x64.BroadcastsInDim S1x2048x64 (![1, 2] : Fin 2 → Fin S1x2048x64.rank)
  bcast_S16384x1x64_S16384x2048x64_0_1_2 : S16384x1x64.BroadcastsInDim S16384x2048x64 (![0, 1, 2] : Fin 3 → Fin S16384x2048x64.rank)
  bcast_S1x2048x64_S16384x2048x64_0_1_2 : S1x2048x64.BroadcastsInDim S16384x2048x64 (![0, 1, 2] : Fin 3 → Fin S16384x2048x64.rank)
  reducesTo_S16384x2048x64_S16384x2048_d2 : S16384x2048x64.ReducesTo [2] S16384x2048
  h_S_ : 0 < S_.numel

variable [Facts]

def fn_part2 {F : FTy → Type} [FloatOps F] (main_v39 : IVec S16384x2048x64 1) (main_c_6 : IVec S_ 1) : IVec S16384x2048 1 :=
  let main_v40 : IVec S16384x2048 1 := (fun x v => Host.reduce IntOp.ori x v reducesTo_S16384x2048x64_S16384x2048_d2 h_S_) main_v39 main_c_6
  main_v40

def fn_part1 {F : FTy → Type} [FloatOps F] (main_arg1 : IVec S64 32) (main_v3 : IVec S2048x1 32) (main_v8 : IVec S64 1) (main_v14 : IVec S16384x64 1) (main_v16 : IVec S64 1) (main_v18 : IVec S16384x1 32) : IVec S16384x2048 1 :=
  let main_c_4 : IVec S_ 32 := constantI S_ 32 256#32
  let main_v19 : IVec S16384x1 32 := broadcastInDim S16384x1 ![] bcast_S_S16384x1 main_c_4
  let main_v20 : IVec S16384x1 1 := cmpi .slt main_v18 main_v19
  let main_v21 : IVec S1x64 1 := broadcastInDim S1x64 ![1] bcast_S64_S1x64_1 main_v16
  let main_v22 : IVec S16384x64 1 := broadcastInDim S16384x64 ![0, 1] bcast_S1x64_S16384x64_0_1 main_v21
  let main_v23 : IVec S16384x64 1 := broadcastInDim S16384x64 ![0, 1] bcast_S16384x1_S16384x64_0_1 main_v20
  let main_v24 : IVec S16384x64 1 := andi main_v22 main_v23
  let main_v25 : IVec S1x64 1 := broadcastInDim S1x64 ![1] bcast_S64_S1x64_1 main_v8
  let main_v26 : IVec S16384x64 1 := broadcastInDim S16384x64 ![0, 1] bcast_S1x64_S16384x64_0_1 main_v25
  let main_v27 : IVec S16384x64 1 := ori main_v26 main_v24
  let main_v28 : IVec S16384x64 1 := andi main_v14 main_v27
  let main_c_5 : IVec S_ 32 := constantI S_ 32 1024#32
  let main_v29 : IVec S2048x1 32 := broadcastInDim S2048x1 ![] bcast_S_S2048x1 main_c_5
  let main_v30 : IVec S2048x1 32 := Host.divsi main_v3 main_v29
  let main_v31 : IVec S1x64 32 := broadcastInDim S1x64 ![1] bcast_S64_S1x64_1 main_arg1
  let main_v32 : IVec S2048x64 32 := broadcastInDim S2048x64 ![0, 1] bcast_S1x64_S2048x64_0_1 main_v31
  let main_v33 : IVec S2048x64 32 := broadcastInDim S2048x64 ![0, 1] bcast_S2048x1_S2048x64_0_1 main_v30
  let main_v34 : IVec S2048x64 1 := cmpi .eq main_v32 main_v33
  let main_v35 : IVec S16384x1x64 1 := broadcastInDim S16384x1x64 ![0, 2] bcast_S16384x64_S16384x1x64_0_2 main_v28
  let main_v36 : IVec S1x2048x64 1 := broadcastInDim S1x2048x64 ![1, 2] bcast_S2048x64_S1x2048x64_1_2 main_v34
  let main_v37 : IVec S16384x2048x64 1 := broadcastInDim S16384x2048x64 ![0, 1, 2] bcast_S16384x1x64_S16384x2048x64_0_1_2 main_v35
  let main_v38 : IVec S16384x2048x64 1 := broadcastInDim S16384x2048x64 ![0, 1, 2] bcast_S1x2048x64_S16384x2048x64_0_1_2 main_v36
  let main_v39 : IVec S16384x2048x64 1 := andi main_v37 main_v38
  let main_c_6 : IVec S_ 1 := constantI S_ 1 0#1
  fn_part2 (F := F) main_v39 main_c_6

def fn {F : FTy → Type} [FloatOps F] (main_arg0 : IVec S64 32) (main_arg1 : IVec S64 32) (main_arg2 : IVec S64 32) (main_arg3 : IVec S64 32) (main_arg4 : IVec S64 32) (main_arg5 : FVec F S16384x4096 .bf16) (main_arg6 : FVec F S2x8x4096x2048 .f32) : IVec S16384x2048 1 :=
  let main_v0 : IVec S16384 32 := iotaInDim S16384 32 0
  let main_v1 : IVec S16384x1 32 := broadcastInDim S16384x1 ![0] bcast_S16384_S16384x1_0 main_v0
  let main_v2 : IVec S2048 32 := iotaInDim S2048 32 0
  let main_v3 : IVec S2048x1 32 := broadcastInDim S2048x1 ![0] bcast_S2048_S2048x1_0 main_v2
  let main_c : IVec S_ 32 := constantI S_ 32 1#32
  let main_v4 : IVec S64 32 := broadcastInDim S64 ![] bcast_S_S64 main_c
  let main_v5 : IVec S64 1 := cmpi .eq main_arg3 main_v4
  let main_c_0 : IVec S_ 32 := constantI S_ 32 1#32
  let main_v6 : IVec S64 32 := broadcastInDim S64 ![] bcast_S_S64 main_c_0
  let main_v7 : IVec S64 1 := cmpi .eq main_arg4 main_v6
  let main_v8 : IVec S64 1 := ori main_v5 main_v7
  let main_c_1 : IVec S_ 32 := constantI S_ 32 512#32
  let main_v9 : IVec S16384x1 32 := broadcastInDim S16384x1 ![] bcast_S_S16384x1 main_c_1
  let main_v10 : IVec S16384x1 32 := Host.divsi main_v1 main_v9
  let main_v11 : IVec S1x64 32 := broadcastInDim S1x64 ![1] bcast_S64_S1x64_1 main_arg2
  let main_v12 : IVec S16384x64 32 := broadcastInDim S16384x64 ![0, 1] bcast_S1x64_S16384x64_0_1 main_v11
  let main_v13 : IVec S16384x64 32 := broadcastInDim S16384x64 ![0, 1] bcast_S16384x1_S16384x64_0_1 main_v10
  let main_v14 : IVec S16384x64 1 := cmpi .eq main_v12 main_v13
  let main_c_2 : IVec S_ 32 := constantI S_ 32 2#32
  let main_v15 : IVec S64 32 := broadcastInDim S64 ![] bcast_S_S64 main_c_2
  let main_v16 : IVec S64 1 := cmpi .eq main_arg4 main_v15
  let main_c_3 : IVec S_ 32 := constantI S_ 32 512#32
  let main_v17 : IVec S16384x1 32 := broadcastInDim S16384x1 ![] bcast_S_S16384x1 main_c_3
  let main_v18 : IVec S16384x1 32 := Host.remsi main_v1 main_v17
  fn_part1 (F := F) main_arg1 main_v3 main_v8 main_v14 main_v16 main_v18
-- ==== Pre_dispatched.lean ====
abbrev S128 : Shape := ⟨1, ![128]⟩
abbrev S16384x2048 : Shape := ⟨2, ![16384, 2048]⟩
abbrev S2x8x2048x4096 : Shape := ⟨4, ![2, 8, 2048, 4096]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1 : Shape := ⟨1, ![1]⟩
abbrev S127 : Shape := ⟨1, ![127]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  slices_S128_S1_0 : S128.Slices ![0] S1
  slices_S128_S127_0 : S128.Slices ![0] S127
  concatenates_S1_S127_S128_d0 : Shape.Concatenates [S1, S127] S128 0

variable [Facts]

def fn_where {F : FTy → Type} [FloatOps F] (arg0 : IVec S128 1) (arg1 : IVec S128 1) (arg2 : IVec S128 1) : IVec S128 1 :=
  let v0 : IVec S128 1 := select arg0 arg1 arg2
  v0

def fn_part4 {F : FTy → Type} [FloatOps F] (main_arg0 : IVec S128 32) (main_v26 : IVec S128 1) (main_v31 : IVec S128 1) (main_v36 : IVec S128 1) (main_v41 : IVec S128 1) (main_v46 : IVec S128 1) (main_v63 : IVec S128 1) (main_v73 : IVec S128 1) (main_v78 : IVec S128x128 1) (main_v79 : IVec S128x1 32) (main_v80 : IVec S1x128 32) : IVec S128 1 × IVec S128 1 × IVec S128 1 × IVec S128 1 × IVec S128 1 × IVec S128 1 × IVec S128 1 × IVec S128x128 1 × IVec S128x128 1 :=
  let main_v81 : IVec S128x128 32 := broadcastInDim S128x128 ![0, 1] bcast_S128x1_S128x128_0_1 main_v79
  let main_v82 : IVec S128x128 32 := broadcastInDim S128x128 ![0, 1] bcast_S1x128_S128x128_0_1 main_v80
  let main_v83 : IVec S128x128 1 := cmpi .ne main_v81 main_v82
  let main_v84 : IVec S128x1 32 := broadcastInDim S128x1 ![0] bcast_S128_S128x1_0 main_arg0
  let main_v85 : IVec S1x128 32 := broadcastInDim S1x128 ![1] bcast_S128_S1x128_1 main_arg0
  let main_v86 : IVec S128x128 32 := broadcastInDim S128x128 ![0, 1] bcast_S128x1_S128x128_0_1 main_v84
  let main_v87 : IVec S128x128 32 := broadcastInDim S128x128 ![0, 1] bcast_S1x128_S128x128_0_1 main_v85
  let main_v88 : IVec S128x128 1 := cmpi .eq main_v86 main_v87
  let main_v89 : IVec S128x128 1 := ori main_v83 main_v88
  (main_v26, main_v31, main_v36, main_v41, main_v46, main_v63, main_v73, main_v78, main_v89)

def fn_part3 {F : FTy → Type} [FloatOps F] (main_arg0 : IVec S128 32) (main_arg1 : IVec S128 32) (main_arg2 : IVec S128 32) (main_v5 : IVec S128 1) (main_v16 : IVec S128x128 1) (main_v21 : IVec S128x128 1) (main_v26 : IVec S128 1) (main_v31 : IVec S128 1) (main_v36 : IVec S128 1) (main_v41 : IVec S128 1) (main_v46 : IVec S128 1) (main_v48 : IVec S128 1) (main_v50 : IVec S128 1) (main_v52 : IVec S128 1) (main_v56 : IVec S128 1) : IVec S128 1 × IVec S128 1 × IVec S128 1 × IVec S128 1 × IVec S128 1 × IVec S128 1 × IVec S128 1 × IVec S128x128 1 × IVec S128x128 1 :=
  let main_v57 : IVec S1 32 := (extractStridedSlice S1 ![0] · slices_S128_S1_0) main_arg1
  let main_v58 : IVec S127 32 := (extractStridedSlice S127 ![0] · slices_S128_S127_0) main_arg1
  let main_v59 : IVec S128 32 := (fun a b => concatenate S128 0 [⟨S1, a⟩, ⟨S127, b⟩] concatenates_S1_S127_S128_d0) main_v57 main_v58
  let main_v60 : IVec S128 1 := cmpi .eq main_arg1 main_v59
  let main_v61 : IVec S128 1 := andi main_v56 main_v60
  let main_v62 : IVec S128 1 := ori main_v52 main_v61
  let main_v63 : IVec S128 1 := fn_where (F := F) main_v48 main_v50 main_v62
  let main_v64 : IVec S1 32 := (extractStridedSlice S1 ![0] · slices_S128_S1_0) main_arg2
  let main_v65 : IVec S127 32 := (extractStridedSlice S127 ![0] · slices_S128_S127_0) main_arg2
  let main_v66 : IVec S128 32 := (fun a b => concatenate S128 0 [⟨S1, a⟩, ⟨S127, b⟩] concatenates_S1_S127_S128_d0) main_v64 main_v65
  let main_v67 : IVec S128 1 := cmpi .eq main_arg2 main_v66
  let main_v68 : IVec S1 32 := (extractStridedSlice S1 ![0] · slices_S128_S1_0) main_arg1
  let main_v69 : IVec S127 32 := (extractStridedSlice S127 ![0] · slices_S128_S127_0) main_arg1
  let main_v70 : IVec S128 32 := (fun a b => concatenate S128 0 [⟨S1, a⟩, ⟨S127, b⟩] concatenates_S1_S127_S128_d0) main_v68 main_v69
  let main_v71 : IVec S128 1 := cmpi .eq main_arg1 main_v70
  let main_v72 : IVec S128 1 := andi main_v67 main_v71
  let main_v73 : IVec S128 1 := ori main_v5 main_v72
  let main_v74 : IVec S128x1 1 := broadcastInDim S128x1 ![0] bcast_S128_S128x1_0 main_v5
  let main_v75 : IVec S128x128 1 := broadcastInDim S128x128 ![0, 1] bcast_S128x1_S128x128_0_1 main_v74
  let main_v76 : IVec S128x128 1 := andi main_v75 main_v21
  let main_v77 : IVec S128x128 1 := andi main_v76 main_v16
  let main_v78 : IVec S128x128 1 := noti main_v77
  let main_v79 : IVec S128x1 32 := broadcastInDim S128x1 ![0] bcast_S128_S128x1_0 main_arg2
  let main_v80 : IVec S1x128 32 := broadcastInDim S1x128 ![1] bcast_S128_S1x128_1 main_arg2
  fn_part4 (F := F) main_arg0 main_v26 main_v31 main_v36 main_v41 main_v46 main_v63 main_v73 main_v78 main_v79 main_v80

def fn_part2 {F : FTy → Type} [FloatOps F] (main_arg0 : IVec S128 32) (main_arg1 : IVec S128 32) (main_arg2 : IVec S128 32) (main_arg3 : IVec S128 32) (main_arg4 : IVec S128 32) (main_v0 : IVec S128 32) (main_v5 : IVec S128 1) (main_v16 : IVec S128x128 1) (main_v21 : IVec S128x128 1) (main_v26 : IVec S128 1) (main_v31 : IVec S128 1) (main_v36 : IVec S128 1) (main_v38 : IVec S128 1) : IVec S128 1 × IVec S128 1 × IVec S128 1 × IVec S128 1 × IVec S128 1 × IVec S128 1 × IVec S128 1 × IVec S128x128 1 × IVec S128x128 1 :=
  let main_c_8 : IVec S_ 32 := constantI S_ 32 1#32
  let main_v39 : IVec S128 32 := broadcastInDim S128 ![] bcast_S_S128 main_c_8
  let main_v40 : IVec S128 1 := cmpi .sle main_arg3 main_v39
  let main_v41 : IVec S128 1 := andi main_v38 main_v40
  let main_c_9 : IVec S_ 32 := constantI S_ 32 0#32
  let main_v42 : IVec S128 32 := broadcastInDim S128 ![] bcast_S_S128 main_c_9
  let main_v43 : IVec S128 1 := cmpi .sge main_arg4 main_v42
  let main_c_10 : IVec S_ 32 := constantI S_ 32 2#32
  let main_v44 : IVec S128 32 := broadcastInDim S128 ![] bcast_S_S128 main_c_10
  let main_v45 : IVec S128 1 := cmpi .sle main_arg4 main_v44
  let main_v46 : IVec S128 1 := andi main_v43 main_v45
  let main_c_11 : IVec S_ 32 := constantI S_ 32 0#32
  let main_v47 : IVec S128 32 := broadcastInDim S128 ![] bcast_S_S128 main_c_11
  let main_v48 : IVec S128 1 := cmpi .eq main_v0 main_v47
  let main_c_12 : IVec S_ 32 := constantI S_ 32 1#32
  let main_v49 : IVec S128 32 := broadcastInDim S128 ![] bcast_S_S128 main_c_12
  let main_v50 : IVec S128 1 := cmpi .eq main_arg3 main_v49
  let main_c_13 : IVec S_ 32 := constantI S_ 32 1#32
  let main_v51 : IVec S128 32 := broadcastInDim S128 ![] bcast_S_S128 main_c_13
  let main_v52 : IVec S128 1 := cmpi .eq main_arg3 main_v51
  let main_v53 : IVec S1 32 := (extractStridedSlice S1 ![0] · slices_S128_S1_0) main_arg0
  let main_v54 : IVec S127 32 := (extractStridedSlice S127 ![0] · slices_S128_S127_0) main_arg0
  let main_v55 : IVec S128 32 := (fun a b => concatenate S128 0 [⟨S1, a⟩, ⟨S127, b⟩] concatenates_S1_S127_S128_d0) main_v53 main_v54
  let main_v56 : IVec S128 1 := cmpi .eq main_arg0 main_v55
  fn_part3 (F := F) main_arg0 main_arg1 main_arg2 main_v5 main_v16 main_v21 main_v26 main_v31 main_v36 main_v41 main_v46 main_v48 main_v50 main_v52 main_v56

def fn_part1 {F : FTy → Type} [FloatOps F] (main_arg0 : IVec S128 32) (main_arg1 : IVec S128 32) (main_arg2 : IVec S128 32) (main_arg3 : IVec S128 32) (main_arg4 : IVec S128 32) (main_v0 : IVec S128 32) (main_v5 : IVec S128 1) (main_v16 : IVec S128x128 1) (main_v21 : IVec S128x128 1) : IVec S128 1 × IVec S128 1 × IVec S128 1 × IVec S128 1 × IVec S128 1 × IVec S128 1 × IVec S128 1 × IVec S128x128 1 × IVec S128x128 1 :=
  let main_c_1 : IVec S_ 32 := constantI S_ 32 0#32
  let main_v22 : IVec S128 32 := broadcastInDim S128 ![] bcast_S_S128 main_c_1
  let main_v23 : IVec S128 1 := cmpi .sge main_arg0 main_v22
  let main_c_2 : IVec S_ 32 := constantI S_ 32 8#32
  let main_v24 : IVec S128 32 := broadcastInDim S128 ![] bcast_S_S128 main_c_2
  let main_v25 : IVec S128 1 := cmpi .slt main_arg0 main_v24
  let main_v26 : IVec S128 1 := andi main_v23 main_v25
  let main_c_3 : IVec S_ 32 := constantI S_ 32 0#32
  let main_v27 : IVec S128 32 := broadcastInDim S128 ![] bcast_S_S128 main_c_3
  let main_v28 : IVec S128 1 := cmpi .sge main_arg1 main_v27
  let main_c_4 : IVec S_ 32 := constantI S_ 32 4#32
  let main_v29 : IVec S128 32 := broadcastInDim S128 ![] bcast_S_S128 main_c_4
  let main_v30 : IVec S128 1 := cmpi .slt main_arg1 main_v29
  let main_v31 : IVec S128 1 := andi main_v28 main_v30
  let main_c_5 : IVec S_ 32 := constantI S_ 32 0#32
  let main_v32 : IVec S128 32 := broadcastInDim S128 ![] bcast_S_S128 main_c_5
  let main_v33 : IVec S128 1 := cmpi .sge main_arg2 main_v32
  let main_c_6 : IVec S_ 32 := constantI S_ 32 32#32
  let main_v34 : IVec S128 32 := broadcastInDim S128 ![] bcast_S_S128 main_c_6
  let main_v35 : IVec S128 1 := cmpi .slt main_arg2 main_v34
  let main_v36 : IVec S128 1 := andi main_v33 main_v35
  let main_c_7 : IVec S_ 32 := constantI S_ 32 0#32
  let main_v37 : IVec S128 32 := broadcastInDim S128 ![] bcast_S_S128 main_c_7
  let main_v38 : IVec S128 1 := cmpi .sge main_arg3 main_v37
  fn_part2 (F := F) main_arg0 main_arg1 main_arg2 main_arg3 main_arg4 main_v0 main_v5 main_v16 main_v21 main_v26 main_v31 main_v36 main_v38

def fn {F : FTy → Type} [FloatOps F] (main_arg0 : IVec S128 32) (main_arg1 : IVec S128 32) (main_arg2 : IVec S128 32) (main_arg3 : IVec S128 32) (main_arg4 : IVec S128 32) (main_arg5 : FVec F S16384x2048 .bf16) (main_arg6 : FVec F S2x8x2048x4096 .f32) (main_arg7 : FVec F S2x8x2048x4096 .f32) : IVec S128 1 × IVec S128 1 × IVec S128 1 × IVec S128 1 × IVec S128 1 × IVec S128 1 × IVec S128 1 × IVec S128x128 1 × IVec S128x128 1 :=
  let main_v0 : IVec S128 32 := iotaInDim S128 32 0
  let main_c : IVec S_ 32 := constantI S_ 32 1#32
  let main_v1 : IVec S128 32 := broadcastInDim S128 ![] bcast_S_S128 main_c
  let main_v2 : IVec S128 1 := cmpi .eq main_arg3 main_v1
  let main_c_0 : IVec S_ 32 := constantI S_ 32 0#32
  let main_v3 : IVec S128 32 := broadcastInDim S128 ![] bcast_S_S128 main_c_0
  let main_v4 : IVec S128 1 := cmpi .ne main_arg4 main_v3
  let main_v5 : IVec S128 1 := ori main_v2 main_v4
  let main_v6 : IVec S128x1 32 := broadcastInDim S128x1 ![0] bcast_S128_S128x1_0 main_arg2
  let main_v7 : IVec S1x128 32 := broadcastInDim S1x128 ![1] bcast_S128_S1x128_1 main_arg2
  let main_v8 : IVec S128x128 32 := broadcastInDim S128x128 ![0, 1] bcast_S128x1_S128x128_0_1 main_v6
  let main_v9 : IVec S128x128 32 := broadcastInDim S128x128 ![0, 1] bcast_S1x128_S128x128_0_1 main_v7
  let main_v10 : IVec S128x128 1 := cmpi .eq main_v8 main_v9
  let main_v11 : IVec S128x1 32 := broadcastInDim S128x1 ![0] bcast_S128_S128x1_0 main_arg1
  let main_v12 : IVec S1x128 32 := broadcastInDim S1x128 ![1] bcast_S128_S1x128_1 main_arg1
  let main_v13 : IVec S128x128 32 := broadcastInDim S128x128 ![0, 1] bcast_S128x1_S128x128_0_1 main_v11
  let main_v14 : IVec S128x128 32 := broadcastInDim S128x128 ![0, 1] bcast_S1x128_S128x128_0_1 main_v12
  let main_v15 : IVec S128x128 1 := cmpi .eq main_v13 main_v14
  let main_v16 : IVec S128x128 1 := andi main_v10 main_v15
  let main_v17 : IVec S1x128 32 := broadcastInDim S1x128 ![1] bcast_S128_S1x128_1 main_v0
  let main_v18 : IVec S128x1 32 := broadcastInDim S128x1 ![0] bcast_S128_S128x1_0 main_v0
  let main_v19 : IVec S128x128 32 := broadcastInDim S128x128 ![0, 1] bcast_S1x128_S128x128_0_1 main_v17
  let main_v20 : IVec S128x128 32 := broadcastInDim S128x128 ![0, 1] bcast_S128x1_S128x128_0_1 main_v18
  let main_v21 : IVec S128x128 1 := cmpi .slt main_v19 main_v20
  fn_part1 (F := F) main_arg0 main_arg1 main_arg2 main_arg3 main_arg4 main_v0 main_v5 main_v16 main_v21
-- ==== Pre_dispatched_down.lean ====
abbrev S64 : Shape := ⟨1, ![64]⟩
abbrev S16384x4096 : Shape := ⟨2, ![16384, 4096]⟩
abbrev S2x8x4096x2048 : Shape := ⟨4, ![2, 8, 4096, 2048]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S1 : Shape := ⟨1, ![1]⟩
abbrev S63 : Shape := ⟨1, ![63]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  slices_S64_S1_0 : S64.Slices ![0] S1
  slices_S64_S63_0 : S64.Slices ![0] S63
  concatenates_S1_S63_S64_d0 : Shape.Concatenates [S1, S63] S64 0

variable [Facts]

def fn_where {F : FTy → Type} [FloatOps F] (arg0 : IVec S64 1) (arg1 : IVec S64 1) (arg2 : IVec S64 1) : IVec S64 1 :=
  let v0 : IVec S64 1 := select arg0 arg1 arg2
  v0

def fn_part4 {F : FTy → Type} [FloatOps F] (main_arg0 : IVec S64 32) (main_v26 : IVec S64 1) (main_v31 : IVec S64 1) (main_v36 : IVec S64 1) (main_v41 : IVec S64 1) (main_v46 : IVec S64 1) (main_v63 : IVec S64 1) (main_v73 : IVec S64 1) (main_v78 : IVec S64x64 1) (main_v79 : IVec S64x1 32) (main_v80 : IVec S1x64 32) : IVec S64 1 × IVec S64 1 × IVec S64 1 × IVec S64 1 × IVec S64 1 × IVec S64 1 × IVec S64 1 × IVec S64x64 1 × IVec S64x64 1 :=
  let main_v81 : IVec S64x64 32 := broadcastInDim S64x64 ![0, 1] bcast_S64x1_S64x64_0_1 main_v79
  let main_v82 : IVec S64x64 32 := broadcastInDim S64x64 ![0, 1] bcast_S1x64_S64x64_0_1 main_v80
  let main_v83 : IVec S64x64 1 := cmpi .ne main_v81 main_v82
  let main_v84 : IVec S64x1 32 := broadcastInDim S64x1 ![0] bcast_S64_S64x1_0 main_arg0
  let main_v85 : IVec S1x64 32 := broadcastInDim S1x64 ![1] bcast_S64_S1x64_1 main_arg0
  let main_v86 : IVec S64x64 32 := broadcastInDim S64x64 ![0, 1] bcast_S64x1_S64x64_0_1 main_v84
  let main_v87 : IVec S64x64 32 := broadcastInDim S64x64 ![0, 1] bcast_S1x64_S64x64_0_1 main_v85
  let main_v88 : IVec S64x64 1 := cmpi .eq main_v86 main_v87
  let main_v89 : IVec S64x64 1 := ori main_v83 main_v88
  (main_v26, main_v31, main_v36, main_v41, main_v46, main_v63, main_v73, main_v78, main_v89)

def fn_part3 {F : FTy → Type} [FloatOps F] (main_arg0 : IVec S64 32) (main_arg1 : IVec S64 32) (main_arg2 : IVec S64 32) (main_v5 : IVec S64 1) (main_v16 : IVec S64x64 1) (main_v21 : IVec S64x64 1) (main_v26 : IVec S64 1) (main_v31 : IVec S64 1) (main_v36 : IVec S64 1) (main_v41 : IVec S64 1) (main_v46 : IVec S64 1) (main_v48 : IVec S64 1) (main_v50 : IVec S64 1) (main_v52 : IVec S64 1) (main_v56 : IVec S64 1) : IVec S64 1 × IVec S64 1 × IVec S64 1 × IVec S64 1 × IVec S64 1 × IVec S64 1 × IVec S64 1 × IVec S64x64 1 × IVec S64x64 1 :=
  let main_v57 : IVec S1 32 := (extractStridedSlice S1 ![0] · slices_S64_S1_0) main_arg1
  let main_v58 : IVec S63 32 := (extractStridedSlice S63 ![0] · slices_S64_S63_0) main_arg1
  let main_v59 : IVec S64 32 := (fun a b => concatenate S64 0 [⟨S1, a⟩, ⟨S63, b⟩] concatenates_S1_S63_S64_d0) main_v57 main_v58
  let main_v60 : IVec S64 1 := cmpi .eq main_arg1 main_v59
  let main_v61 : IVec S64 1 := andi main_v56 main_v60
  let main_v62 : IVec S64 1 := ori main_v52 main_v61
  let main_v63 : IVec S64 1 := fn_where (F := F) main_v48 main_v50 main_v62
  let main_v64 : IVec S1 32 := (extractStridedSlice S1 ![0] · slices_S64_S1_0) main_arg2
  let main_v65 : IVec S63 32 := (extractStridedSlice S63 ![0] · slices_S64_S63_0) main_arg2
  let main_v66 : IVec S64 32 := (fun a b => concatenate S64 0 [⟨S1, a⟩, ⟨S63, b⟩] concatenates_S1_S63_S64_d0) main_v64 main_v65
  let main_v67 : IVec S64 1 := cmpi .eq main_arg2 main_v66
  let main_v68 : IVec S1 32 := (extractStridedSlice S1 ![0] · slices_S64_S1_0) main_arg1
  let main_v69 : IVec S63 32 := (extractStridedSlice S63 ![0] · slices_S64_S63_0) main_arg1
  let main_v70 : IVec S64 32 := (fun a b => concatenate S64 0 [⟨S1, a⟩, ⟨S63, b⟩] concatenates_S1_S63_S64_d0) main_v68 main_v69
  let main_v71 : IVec S64 1 := cmpi .eq main_arg1 main_v70
  let main_v72 : IVec S64 1 := andi main_v67 main_v71
  let main_v73 : IVec S64 1 := ori main_v5 main_v72
  let main_v74 : IVec S64x1 1 := broadcastInDim S64x1 ![0] bcast_S64_S64x1_0 main_v5
  let main_v75 : IVec S64x64 1 := broadcastInDim S64x64 ![0, 1] bcast_S64x1_S64x64_0_1 main_v74
  let main_v76 : IVec S64x64 1 := andi main_v75 main_v21
  let main_v77 : IVec S64x64 1 := andi main_v76 main_v16
  let main_v78 : IVec S64x64 1 := noti main_v77
  let main_v79 : IVec S64x1 32 := broadcastInDim S64x1 ![0] bcast_S64_S64x1_0 main_arg2
  let main_v80 : IVec S1x64 32 := broadcastInDim S1x64 ![1] bcast_S64_S1x64_1 main_arg2
  fn_part4 (F := F) main_arg0 main_v26 main_v31 main_v36 main_v41 main_v46 main_v63 main_v73 main_v78 main_v79 main_v80

def fn_part2 {F : FTy → Type} [FloatOps F] (main_arg0 : IVec S64 32) (main_arg1 : IVec S64 32) (main_arg2 : IVec S64 32) (main_arg3 : IVec S64 32) (main_arg4 : IVec S64 32) (main_v0 : IVec S64 32) (main_v5 : IVec S64 1) (main_v16 : IVec S64x64 1) (main_v21 : IVec S64x64 1) (main_v26 : IVec S64 1) (main_v31 : IVec S64 1) (main_v36 : IVec S64 1) (main_v38 : IVec S64 1) : IVec S64 1 × IVec S64 1 × IVec S64 1 × IVec S64 1 × IVec S64 1 × IVec S64 1 × IVec S64 1 × IVec S64x64 1 × IVec S64x64 1 :=
  let main_c_8 : IVec S_ 32 := constantI S_ 32 1#32
  let main_v39 : IVec S64 32 := broadcastInDim S64 ![] bcast_S_S64 main_c_8
  let main_v40 : IVec S64 1 := cmpi .sle main_arg3 main_v39
  let main_v41 : IVec S64 1 := andi main_v38 main_v40
  let main_c_9 : IVec S_ 32 := constantI S_ 32 0#32
  let main_v42 : IVec S64 32 := broadcastInDim S64 ![] bcast_S_S64 main_c_9
  let main_v43 : IVec S64 1 := cmpi .sge main_arg4 main_v42
  let main_c_10 : IVec S_ 32 := constantI S_ 32 2#32
  let main_v44 : IVec S64 32 := broadcastInDim S64 ![] bcast_S_S64 main_c_10
  let main_v45 : IVec S64 1 := cmpi .sle main_arg4 main_v44
  let main_v46 : IVec S64 1 := andi main_v43 main_v45
  let main_c_11 : IVec S_ 32 := constantI S_ 32 0#32
  let main_v47 : IVec S64 32 := broadcastInDim S64 ![] bcast_S_S64 main_c_11
  let main_v48 : IVec S64 1 := cmpi .eq main_v0 main_v47
  let main_c_12 : IVec S_ 32 := constantI S_ 32 1#32
  let main_v49 : IVec S64 32 := broadcastInDim S64 ![] bcast_S_S64 main_c_12
  let main_v50 : IVec S64 1 := cmpi .eq main_arg3 main_v49
  let main_c_13 : IVec S_ 32 := constantI S_ 32 1#32
  let main_v51 : IVec S64 32 := broadcastInDim S64 ![] bcast_S_S64 main_c_13
  let main_v52 : IVec S64 1 := cmpi .eq main_arg3 main_v51
  let main_v53 : IVec S1 32 := (extractStridedSlice S1 ![0] · slices_S64_S1_0) main_arg0
  let main_v54 : IVec S63 32 := (extractStridedSlice S63 ![0] · slices_S64_S63_0) main_arg0
  let main_v55 : IVec S64 32 := (fun a b => concatenate S64 0 [⟨S1, a⟩, ⟨S63, b⟩] concatenates_S1_S63_S64_d0) main_v53 main_v54
  let main_v56 : IVec S64 1 := cmpi .eq main_arg0 main_v55
  fn_part3 (F := F) main_arg0 main_arg1 main_arg2 main_v5 main_v16 main_v21 main_v26 main_v31 main_v36 main_v41 main_v46 main_v48 main_v50 main_v52 main_v56

def fn_part1 {F : FTy → Type} [FloatOps F] (main_arg0 : IVec S64 32) (main_arg1 : IVec S64 32) (main_arg2 : IVec S64 32) (main_arg3 : IVec S64 32) (main_arg4 : IVec S64 32) (main_v0 : IVec S64 32) (main_v5 : IVec S64 1) (main_v16 : IVec S64x64 1) (main_v21 : IVec S64x64 1) : IVec S64 1 × IVec S64 1 × IVec S64 1 × IVec S64 1 × IVec S64 1 × IVec S64 1 × IVec S64 1 × IVec S64x64 1 × IVec S64x64 1 :=
  let main_c_1 : IVec S_ 32 := constantI S_ 32 0#32
  let main_v22 : IVec S64 32 := broadcastInDim S64 ![] bcast_S_S64 main_c_1
  let main_v23 : IVec S64 1 := cmpi .sge main_arg0 main_v22
  let main_c_2 : IVec S_ 32 := constantI S_ 32 8#32
  let main_v24 : IVec S64 32 := broadcastInDim S64 ![] bcast_S_S64 main_c_2
  let main_v25 : IVec S64 1 := cmpi .slt main_arg0 main_v24
  let main_v26 : IVec S64 1 := andi main_v23 main_v25
  let main_c_3 : IVec S_ 32 := constantI S_ 32 0#32
  let main_v27 : IVec S64 32 := broadcastInDim S64 ![] bcast_S_S64 main_c_3
  let main_v28 : IVec S64 1 := cmpi .sge main_arg1 main_v27
  let main_c_4 : IVec S_ 32 := constantI S_ 32 2#32
  let main_v29 : IVec S64 32 := broadcastInDim S64 ![] bcast_S_S64 main_c_4
  let main_v30 : IVec S64 1 := cmpi .slt main_arg1 main_v29
  let main_v31 : IVec S64 1 := andi main_v28 main_v30
  let main_c_5 : IVec S_ 32 := constantI S_ 32 0#32
  let main_v32 : IVec S64 32 := broadcastInDim S64 ![] bcast_S_S64 main_c_5
  let main_v33 : IVec S64 1 := cmpi .sge main_arg2 main_v32
  let main_c_6 : IVec S_ 32 := constantI S_ 32 32#32
  let main_v34 : IVec S64 32 := broadcastInDim S64 ![] bcast_S_S64 main_c_6
  let main_v35 : IVec S64 1 := cmpi .slt main_arg2 main_v34
  let main_v36 : IVec S64 1 := andi main_v33 main_v35
  let main_c_7 : IVec S_ 32 := constantI S_ 32 0#32
  let main_v37 : IVec S64 32 := broadcastInDim S64 ![] bcast_S_S64 main_c_7
  let main_v38 : IVec S64 1 := cmpi .sge main_arg3 main_v37
  fn_part2 (F := F) main_arg0 main_arg1 main_arg2 main_arg3 main_arg4 main_v0 main_v5 main_v16 main_v21 main_v26 main_v31 main_v36 main_v38

def fn {F : FTy → Type} [FloatOps F] (main_arg0 : IVec S64 32) (main_arg1 : IVec S64 32) (main_arg2 : IVec S64 32) (main_arg3 : IVec S64 32) (main_arg4 : IVec S64 32) (main_arg5 : FVec F S16384x4096 .bf16) (main_arg6 : FVec F S2x8x4096x2048 .f32) : IVec S64 1 × IVec S64 1 × IVec S64 1 × IVec S64 1 × IVec S64 1 × IVec S64 1 × IVec S64 1 × IVec S64x64 1 × IVec S64x64 1 :=
  let main_v0 : IVec S64 32 := iotaInDim S64 32 0
  let main_c : IVec S_ 32 := constantI S_ 32 1#32
  let main_v1 : IVec S64 32 := broadcastInDim S64 ![] bcast_S_S64 main_c
  let main_v2 : IVec S64 1 := cmpi .eq main_arg3 main_v1
  let main_c_0 : IVec S_ 32 := constantI S_ 32 0#32
  let main_v3 : IVec S64 32 := broadcastInDim S64 ![] bcast_S_S64 main_c_0
  let main_v4 : IVec S64 1 := cmpi .ne main_arg4 main_v3
  let main_v5 : IVec S64 1 := ori main_v2 main_v4
  let main_v6 : IVec S64x1 32 := broadcastInDim S64x1 ![0] bcast_S64_S64x1_0 main_arg2
  let main_v7 : IVec S1x64 32 := broadcastInDim S1x64 ![1] bcast_S64_S1x64_1 main_arg2
  let main_v8 : IVec S64x64 32 := broadcastInDim S64x64 ![0, 1] bcast_S64x1_S64x64_0_1 main_v6
  let main_v9 : IVec S64x64 32 := broadcastInDim S64x64 ![0, 1] bcast_S1x64_S64x64_0_1 main_v7
  let main_v10 : IVec S64x64 1 := cmpi .eq main_v8 main_v9
  let main_v11 : IVec S64x1 32 := broadcastInDim S64x1 ![0] bcast_S64_S64x1_0 main_arg1
  let main_v12 : IVec S1x64 32 := broadcastInDim S1x64 ![1] bcast_S64_S1x64_1 main_arg1
  let main_v13 : IVec S64x64 32 := broadcastInDim S64x64 ![0, 1] bcast_S64x1_S64x64_0_1 main_v11
  let main_v14 : IVec S64x64 32 := broadcastInDim S64x64 ![0, 1] bcast_S1x64_S64x64_0_1 main_v12
  let main_v15 : IVec S64x64 1 := cmpi .eq main_v13 main_v14
  let main_v16 : IVec S64x64 1 := andi main_v10 main_v15
  let main_v17 : IVec S1x64 32 := broadcastInDim S1x64 ![1] bcast_S64_S1x64_1 main_v0
  let main_v18 : IVec S64x1 32 := broadcastInDim S64x1 ![0] bcast_S64_S64x1_0 main_v0
  let main_v19 : IVec S64x64 32 := broadcastInDim S64x64 ![0, 1] bcast_S1x64_S64x64_0_1 main_v17
  let main_v20 : IVec S64x64 32 := broadcastInDim S64x64 ![0, 1] bcast_S64x1_S64x64_0_1 main_v18
  let main_v21 : IVec S64x64 1 := cmpi .slt main_v19 main_v20
  fn_part1 (F := F) main_arg0 main_arg1 main_arg2 main_arg3 main_arg4 main_v0 main_v5 main_v16 main_v21
-- ==== Pre_finite_scores.lean ====
abbrev S6144x2304 : Shape := ⟨2, ![6144, 2304]⟩
abbrev S7168x3072 : Shape := ⟨2, ![7168, 3072]⟩
abbrev S6144x64 : Shape := ⟨2, ![6144, 64]⟩
abbrev S1024x2x16 : Shape := ⟨3, ![1024, 2, 16]⟩
abbrev S2x512x64 : Shape := ⟨3, ![2, 512, 64]⟩
abbrev S6144x1536 : Shape := ⟨2, ![6144, 1536]⟩
abbrev S3072x3072 : Shape := ⟨2, ![3072, 3072]⟩
abbrev S3072x12x256 : Shape := ⟨3, ![3072, 12, 256]⟩
abbrev S3072x12x128 : Shape := ⟨3, ![3072, 12, 128]⟩
abbrev S2048x2304 : Shape := ⟨2, ![2048, 2304]⟩
abbrev S2048x64 : Shape := ⟨2, ![2048, 64]⟩
abbrev S_ : Shape := ⟨0, ![]⟩

class Facts : Prop where
  slices_S7168x3072_S3072x3072_4096_0 : S7168x3072.Slices ![4096, 0] S3072x3072
  shapeCasts_S3072x3072_S3072x12x256 : S3072x3072.ShapeCasts S3072x12x256
  slices_S3072x12x256_S3072x12x128_0_0_0 : S3072x12x256.Slices ![0, 0, 0] S3072x12x128
  slices_S6144x2304_S2048x2304_4096_0 : S6144x2304.Slices ![4096, 0] S2048x2304
  slices_S6144x64_S2048x64_4096_0 : S6144x64.Slices ![4096, 0] S2048x64
  bcast_S_S2048x2304 : S_.BroadcastsInDim S2048x2304 (![] : Fin 0 → Fin S2048x2304.rank)
  bcast_S_S3072x12x128 : S_.BroadcastsInDim S3072x12x128 (![] : Fin 0 → Fin S3072x12x128.rank)
  bcast_S_S2048x64 : S_.BroadcastsInDim S2048x64 (![] : Fin 0 → Fin S2048x64.rank)
  bcast_S_S1024x2x16 : S_.BroadcastsInDim S1024x2x16 (![] : Fin 0 → Fin S1024x2x16.rank)
  bcast_S_S2x512x64 : S_.BroadcastsInDim S2x512x64 (![] : Fin 0 → Fin S2x512x64.rank)

variable [Facts]

def fn_part1 {F : FTy → Type} [FloatOps F] (main_v7 : IVec S2048x2304 1) (main_v10 : IVec S3072x12x128 1) (main_v13 : IVec S2048x64 1) (main_v16 : IVec S1024x2x16 1) (main_v17 : FVec F S2x512x64 .f32) (main_v18 : FVec F S2x512x64 .f32) : IVec S2048x2304 1 × IVec S3072x12x128 1 × IVec S2048x64 1 × IVec S1024x2x16 1 × IVec S2x512x64 1 :=
  let main_v19 : IVec S2x512x64 1 := cmpf .olt main_v17 main_v18
  (main_v7, main_v10, main_v13, main_v16, main_v19)

def fn {F : FTy → Type} [FloatOps F] (main_arg0 : FVec F S6144x2304 .f32) (main_arg1 : FVec F S7168x3072 .bf16) (main_arg2 : FVec F S6144x64 .f32) (main_arg3 : FVec F S1024x2x16 .f32) (main_arg4 : FVec F S2x512x64 .f32) (main_arg5 : FVec F S6144x1536 .bf16) : IVec S2048x2304 1 × IVec S3072x12x128 1 × IVec S2048x64 1 × IVec S1024x2x16 1 × IVec S2x512x64 1 :=
  let main_v0 : FVec F S3072x3072 .bf16 := (extractStridedSlice S3072x3072 ![4096, 0] · slices_S7168x3072_S3072x3072_4096_0) main_arg1
  let main_v1 : FVec F S3072x12x256 .bf16 := shapeCast S3072x12x256 main_v0 shapeCasts_S3072x3072_S3072x12x256
  let main_v2 : FVec F S3072x12x128 .bf16 := (extractStridedSlice S3072x12x128 ![0, 0, 0] · slices_S3072x12x256_S3072x12x128_0_0_0) main_v1
  let main_v3 : FVec F S2048x2304 .f32 := (extractStridedSlice S2048x2304 ![4096, 0] · slices_S6144x2304_S2048x2304_4096_0) main_arg0
  let main_v4 : FVec F S2048x64 .f32 := (extractStridedSlice S2048x64 ![4096, 0] · slices_S6144x64_S2048x64_4096_0) main_arg2
  let main_v5 : FVec F S2048x2304 .f32 := Host.absf main_v3
  let main_cst : FVec F S_ .f32 := constant S_ .f32 0x7F800000#32
  let main_v6 : FVec F S2048x2304 .f32 := broadcastInDim S2048x2304 ![] bcast_S_S2048x2304 main_cst
  let main_v7 : IVec S2048x2304 1 := cmpf .olt main_v5 main_v6
  let main_v8 : FVec F S3072x12x128 .bf16 := Host.absf main_v2
  let main_cst_0 : FVec F S_ .bf16 := constant S_ .bf16 0x7F80#16
  let main_v9 : FVec F S3072x12x128 .bf16 := broadcastInDim S3072x12x128 ![] bcast_S_S3072x12x128 main_cst_0
  let main_v10 : IVec S3072x12x128 1 := cmpf .olt main_v8 main_v9
  let main_v11 : FVec F S2048x64 .f32 := Host.absf main_v4
  let main_cst_1 : FVec F S_ .f32 := constant S_ .f32 0x7F800000#32
  let main_v12 : FVec F S2048x64 .f32 := broadcastInDim S2048x64 ![] bcast_S_S2048x64 main_cst_1
  let main_v13 : IVec S2048x64 1 := cmpf .olt main_v11 main_v12
  let main_v14 : FVec F S1024x2x16 .f32 := Host.absf main_arg3
  let main_cst_2 : FVec F S_ .f32 := constant S_ .f32 0x7F800000#32
  let main_v15 : FVec F S1024x2x16 .f32 := broadcastInDim S1024x2x16 ![] bcast_S_S1024x2x16 main_cst_2
  let main_v16 : IVec S1024x2x16 1 := cmpf .olt main_v14 main_v15
  let main_v17 : FVec F S2x512x64 .f32 := Host.absf main_arg4
  let main_cst_3 : FVec F S_ .f32 := constant S_ .f32 0x7F800000#32
  let main_v18 : FVec F S2x512x64 .f32 := broadcastInDim S2x512x64 ![] bcast_S_S2x512x64 main_cst_3
  fn_part1 (F := F) main_v7 main_v10 main_v13 main_v16 main_v17 main_v18
-- ==== Kernel.lean ====
abbrev S6144x2304 : Shape := ⟨2, ![6144, 2304]⟩
abbrev S7168x3072 : Shape := ⟨2, ![7168, 3072]⟩
abbrev S6144x64 : Shape := ⟨2, ![6144, 64]⟩
abbrev S1024x2x16 : Shape := ⟨3, ![1024, 2, 16]⟩
abbrev S2x512x64 : Shape := ⟨3, ![2, 512, 64]⟩
abbrev S6144x1536 : Shape := ⟨2, ![6144, 1536]⟩
abbrev S1024x2x1x16 : Shape := ⟨4, ![1024, 2, 1, 16]⟩
abbrev S1024x2x2x16 : Shape := ⟨4, ![1024, 2, 2, 16]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S256x2304 : Shape := ⟨2, ![256, 2304]⟩
abbrev S1024x3072 : Shape := ⟨2, ![1024, 3072]⟩
abbrev S256x128 : Shape := ⟨2, ![256, 128]⟩
abbrev S512x3072 : Shape := ⟨2, ![512, 3072]⟩
abbrev S1x512x64 : Shape := ⟨3, ![1, 512, 64]⟩
abbrev S256x1536 : Shape := ⟨2, ![256, 1536]⟩
abbrev S512x64 : Shape := ⟨2, ![512, 64]⟩
abbrev S512x128 : Shape := ⟨2, ![512, 128]⟩
abbrev S256x256 : Shape := ⟨2, ![256, 256]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S256x512 : Shape := ⟨2, ![256, 512]⟩

abbrev nBuf : Space → Nat
  | .hbm => 24
  | .vmem => 18
  | .smem => 0
  | _ => 0

abbrev bufTy : (tb : Table) → Fin (tcTables nBuf tb) → BufTy
  | .hbm, ⟨0, _⟩ => ⟨S6144x2304, .f32⟩
  | .hbm, ⟨1, _⟩ => ⟨S7168x3072, .bf16⟩
  | .hbm, ⟨2, _⟩ => ⟨S6144x64, .f32⟩
  | .hbm, ⟨3, _⟩ => ⟨S1024x2x16, .f32⟩
  | .hbm, ⟨4, _⟩ => ⟨S2x512x64, .f32⟩
  | .hbm, ⟨5, _⟩ => ⟨S6144x1536, .bf16⟩
  | .hbm, ⟨6, _⟩ => ⟨S1024x2x16, .f32⟩
  | .hbm, ⟨7, _⟩ => ⟨S1024x2x16, .f32⟩
  | .hbm, ⟨8, _⟩ => ⟨S1024x2x1x16, .f32⟩
  | .hbm, ⟨9, _⟩ => ⟨S1024x2x1x16, .f32⟩
  | .hbm, ⟨10, _⟩ => ⟨S1024x2x2x16, .f32⟩
  | .hbm, ⟨11, _⟩ => ⟨S1024x64, .f32⟩
  | .hbm, ⟨12, _⟩ => ⟨S1024x2x16, .f32⟩
  | .hbm, ⟨13, _⟩ => ⟨S1024x2x1x16, .f32⟩
  | .hbm, ⟨14, _⟩ => ⟨S1024x2x1x16, .f32⟩
  | .hbm, ⟨15, _⟩ => ⟨S1024x2x2x16, .f32⟩
  | .hbm, ⟨16, _⟩ => ⟨S1024x64, .f32⟩
  | .hbm, ⟨17, _⟩ => ⟨S1x1024x1x64, .f32⟩
  | .hbm, ⟨18, _⟩ => ⟨S1x1024x2x64, .f32⟩
  | .hbm, ⟨19, _⟩ => ⟨S1024x128, .f32⟩
  | .hbm, ⟨20, _⟩ => ⟨S1x1024x1x64, .f32⟩
  | .hbm, ⟨21, _⟩ => ⟨S1x1024x2x64, .f32⟩
  | .hbm, ⟨22, _⟩ => ⟨S1024x128, .f32⟩
  | .hbm, ⟨23, _⟩ => ⟨S6144x1536, .bf16⟩
  | .local _ .vmem, ⟨0, _⟩ => ⟨S256x2304, .f32⟩
  | .local _ .vmem, ⟨1, _⟩ => ⟨S256x2304, .f32⟩
  | .local _ .vmem, ⟨2, _⟩ => ⟨S1024x3072, .bf16⟩
  | .local _ .vmem, ⟨3, _⟩ => ⟨S1024x3072, .bf16⟩
  | .local _ .vmem, ⟨4, _⟩ => ⟨S1024x64, .f32⟩
  | .local _ .vmem, ⟨5, _⟩ => ⟨S1024x64, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x128, .f32⟩
  | .local _ .vmem, ⟨11, _⟩ => ⟨S1024x128, .f32⟩
  | .local _ .vmem, ⟨12, _⟩ => ⟨S512x3072, .bf16⟩
  | .local _ .vmem, ⟨13, _⟩ => ⟨S512x3072, .bf16⟩
  | .local _ .vmem, ⟨14, _⟩ => ⟨S1x512x64, .f32⟩
  | .local _ .vmem, ⟨15, _⟩ => ⟨S1x512x64, .f32⟩
  | .local _ .vmem, ⟨16, _⟩ => ⟨S256x1536, .bf16⟩
  | .local _ .vmem, ⟨17, _⟩ => ⟨S256x1536, .bf16⟩
  | _, _ => ⟨S6144x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  ![v2.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S6144x2304 : Shape := ⟨2, ![6144, 2304]⟩
abbrev S7168x3072 : Shape := ⟨2, ![7168, 3072]⟩
abbrev S6144x64 : Shape := ⟨2, ![6144, 64]⟩
abbrev S1024x2x16 : Shape := ⟨3, ![1024, 2, 16]⟩
abbrev S2x512x64 : Shape := ⟨3, ![2, 512, 64]⟩
abbrev S6144x1536 : Shape := ⟨2, ![6144, 1536]⟩
abbrev S2048x1536 : Shape := ⟨2, ![2048, 1536]⟩
abbrev S2x1024x12x128 : Shape := ⟨4, ![2, 1024, 12, 128]⟩
abbrev S2048x768 : Shape := ⟨2, ![2048, 768]⟩
abbrev S2x1024x12x64 : Shape := ⟨4, ![2, 1024, 12, 64]⟩
abbrev S2x1024x12x2x2x16 : Shape := ⟨6, ![2, 1024, 12, 2, 2, 16]⟩
abbrev S2x1024x12x2x1x16 : Shape := ⟨6, ![2, 1024, 12, 2, 1, 16]⟩
abbrev S2x1024x12x2x16 : Shape := ⟨5, ![2, 1024, 12, 2, 16]⟩
abbrev S1024x1x2x16 : Shape := ⟨4, ![1024, 1, 2, 16]⟩
abbrev S1x1024x1x2x16 : Shape := ⟨5, ![1, 1024, 1, 2, 16]⟩
abbrev S2048x64 : Shape := ⟨2, ![2048, 64]⟩
abbrev S2x1024x64 : Shape := ⟨3, ![2, 1024, 64]⟩
abbrev S2x1024x2x2x16 : Shape := ⟨5, ![2, 1024, 2, 2, 16]⟩
abbrev S2x1024x2x1x16 : Shape := ⟨5, ![2, 1024, 2, 1, 16]⟩
abbrev S2x1024x2x16 : Shape := ⟨4, ![2, 1024, 2, 16]⟩
abbrev S1x1024x2x16 : Shape := ⟨4, ![1, 1024, 2, 16]⟩
abbrev S2048x3072 : Shape := ⟨2, ![2048, 3072]⟩
abbrev S2x1024x12x256 : Shape := ⟨4, ![2, 1024, 12, 256]⟩
abbrev S1024x3072 : Shape := ⟨2, ![1024, 3072]⟩
abbrev S2x512x12x256 : Shape := ⟨4, ![2, 512, 12, 256]⟩
abbrev S2x512x12x128 : Shape := ⟨4, ![2, 512, 12, 128]⟩
abbrev S2x1536x12x128 : Shape := ⟨4, ![2, 1536, 12, 128]⟩
abbrev S2x1536x64 : Shape := ⟨3, ![2, 1536, 64]⟩
abbrev S2x12x1024x1536 : Shape := ⟨4, ![2, 12, 1024, 1536]⟩
abbrev S2x1536x1024x12 : Shape := ⟨4, ![2, 1536, 1024, 12]⟩
abbrev S_ : Shape := ⟨0, ![]⟩
abbrev S2x12x1024 : Shape := ⟨3, ![2, 12, 1024]⟩
abbrev S2x12x1024x1 : Shape := ⟨4, ![2, 12, 1024, 1]⟩
abbrev S2x12x128x1024 : Shape := ⟨4, ![2, 12, 128, 1024]⟩
abbrev S2x1024x1536 : Shape := ⟨3, ![2, 1024, 1536]⟩
abbrev S4096x1536 : Shape := ⟨2, ![4096, 1536]⟩

abbrev nBuf : Space → Nat
  | .hbm => 104
  | .vmem => 0
  | .smem => 0
  | _ => 0

abbrev bufTy : (tb : Table) → Fin (tcTables nBuf tb) → BufTy
  | .hbm, ⟨0, _⟩ => ⟨S6144x2304, .f32⟩
  | .hbm, ⟨1, _⟩ => ⟨S7168x3072, .bf16⟩
  | .hbm, ⟨2, _⟩ => ⟨S6144x64, .f32⟩
  | .hbm, ⟨3, _⟩ => ⟨S1024x2x16, .f32⟩
  | .hbm, ⟨4, _⟩ => ⟨S2x512x64, .f32⟩
  | .hbm, ⟨5, _⟩ => ⟨S6144x1536, .bf16⟩
  | .hbm, ⟨6, _⟩ => ⟨S7168x3072, .f32⟩
  | .hbm, ⟨7, _⟩ => ⟨S2048x1536, .f32⟩
  | .hbm, ⟨8, _⟩ => ⟨S2x1024x12x128, .f32⟩
  | .hbm, ⟨9, _⟩ => ⟨S2048x768, .f32⟩
  | .hbm, ⟨10, _⟩ => ⟨S2x1024x12x64, .f32⟩
  | .hbm, ⟨11, _⟩ => ⟨S2x1024x12x2x2x16, .f32⟩
  | .hbm, ⟨12, _⟩ => ⟨S2x1024x12x2x1x16, .f32⟩
  | .hbm, ⟨13, _⟩ => ⟨S2x1024x12x2x16, .f32⟩
  | .hbm, ⟨14, _⟩ => ⟨S2x1024x12x2x1x16, .f32⟩
  | .hbm, ⟨15, _⟩ => ⟨S2x1024x12x2x16, .f32⟩
  | .hbm, ⟨16, _⟩ => ⟨S1024x2x16, .f32⟩
  | .hbm, ⟨17, _⟩ => ⟨S1024x2x16, .f32⟩
  | .hbm, ⟨18, _⟩ => ⟨S1024x1x2x16, .f32⟩
  | .hbm, ⟨19, _⟩ => ⟨S1024x1x2x16, .f32⟩
  | .hbm, ⟨20, _⟩ => ⟨S1x1024x1x2x16, .f32⟩
  | .hbm, ⟨21, _⟩ => ⟨S2x1024x12x2x16, .f32⟩
  | .hbm, ⟨22, _⟩ => ⟨S2x1024x12x2x16, .f32⟩
  | .hbm, ⟨23, _⟩ => ⟨S1x1024x1x2x16, .f32⟩
  | .hbm, ⟨24, _⟩ => ⟨S2x1024x12x2x16, .f32⟩
  | .hbm, ⟨25, _⟩ => ⟨S2x1024x12x2x16, .f32⟩
  | .hbm, ⟨26, _⟩ => ⟨S2x1024x12x2x16, .f32⟩
  | .hbm, ⟨27, _⟩ => ⟨S1x1024x1x2x16, .f32⟩
  | .hbm, ⟨28, _⟩ => ⟨S2x1024x12x2x16, .f32⟩
  | .hbm, ⟨29, _⟩ => ⟨S2x1024x12x2x16, .f32⟩
  | .hbm, ⟨30, _⟩ => ⟨S1x1024x1x2x16, .f32⟩
  | .hbm, ⟨31, _⟩ => ⟨S2x1024x12x2x16, .f32⟩
  | .hbm, ⟨32, _⟩ => ⟨S2x1024x12x2x16, .f32⟩
  | .hbm, ⟨33, _⟩ => ⟨S2x1024x12x2x16, .f32⟩
  | .hbm, ⟨34, _⟩ => ⟨S2x1024x12x2x1x16, .f32⟩
  | .hbm, ⟨35, _⟩ => ⟨S2x1024x12x2x1x16, .f32⟩
  | .hbm, ⟨36, _⟩ => ⟨S2x1024x12x2x2x16, .f32⟩
  | .hbm, ⟨37, _⟩ => ⟨S2x1024x12x64, .f32⟩
  | .hbm, ⟨38, _⟩ => ⟨S2048x64, .f32⟩
  | .hbm, ⟨39, _⟩ => ⟨S2x1024x64, .f32⟩
  | .hbm, ⟨40, _⟩ => ⟨S2x1024x2x2x16, .f32⟩
  | .hbm, ⟨41, _⟩ => ⟨S2x1024x2x1x16, .f32⟩
  | .hbm, ⟨42, _⟩ => ⟨S2x1024x2x16, .f32⟩
  | .hbm, ⟨43, _⟩ => ⟨S2x1024x2x1x16, .f32⟩
  | .hbm, ⟨44, _⟩ => ⟨S2x1024x2x16, .f32⟩
  | .hbm, ⟨45, _⟩ => ⟨S1024x2x16, .f32⟩
  | .hbm, ⟨46, _⟩ => ⟨S1024x2x16, .f32⟩
  | .hbm, ⟨47, _⟩ => ⟨S1x1024x2x16, .f32⟩
  | .hbm, ⟨48, _⟩ => ⟨S2x1024x2x16, .f32⟩
  | .hbm, ⟨49, _⟩ => ⟨S2x1024x2x16, .f32⟩
  | .hbm, ⟨50, _⟩ => ⟨S1x1024x2x16, .f32⟩
  | .hbm, ⟨51, _⟩ => ⟨S2x1024x2x16, .f32⟩
  | .hbm, ⟨52, _⟩ => ⟨S2x1024x2x16, .f32⟩
  | .hbm, ⟨53, _⟩ => ⟨S2x1024x2x16, .f32⟩
  | .hbm, ⟨54, _⟩ => ⟨S1x1024x2x16, .f32⟩
  | .hbm, ⟨55, _⟩ => ⟨S2x1024x2x16, .f32⟩
  | .hbm, ⟨56, _⟩ => ⟨S2x1024x2x16, .f32⟩
  | .hbm, ⟨57, _⟩ => ⟨S1x1024x2x16, .f32⟩
  | .hbm, ⟨58, _⟩ => ⟨S2x1024x2x16, .f32⟩
  | .hbm, ⟨59, _⟩ => ⟨S2x1024x2x16, .f32⟩
  | .hbm, ⟨60, _⟩ => ⟨S2x1024x2x16, .f32⟩
  | .hbm, ⟨61, _⟩ => ⟨S2x1024x2x1x16, .f32⟩
  | .hbm, ⟨62, _⟩ => ⟨S2x1024x2x1x16, .f32⟩
  | .hbm, ⟨63, _⟩ => ⟨S2x1024x2x2x16, .f32⟩
  | .hbm, ⟨64, _⟩ => ⟨S2x1024x64, .f32⟩
  | .hbm, ⟨65, _⟩ => ⟨S2048x3072, .f32⟩
  | .hbm, ⟨66, _⟩ => ⟨S2x1024x12x256, .f32⟩
  | .hbm, ⟨67, _⟩ => ⟨S1024x3072, .f32⟩
  | .hbm, ⟨68, _⟩ => ⟨S2x512x12x256, .f32⟩
  | .hbm, ⟨69, _⟩ => ⟨S2x512x12x128, .f32⟩
  | .hbm, ⟨70, _⟩ => ⟨S2x1024x12x128, .f32⟩
  | .hbm, ⟨71, _⟩ => ⟨S2x1536x12x128, .f32⟩
  | .hbm, ⟨72, _⟩ => ⟨S2x512x12x128, .f32⟩
  | .hbm, ⟨73, _⟩ => ⟨S2x1024x12x128, .f32⟩
  | .hbm, ⟨74, _⟩ => ⟨S2x1536x12x128, .f32⟩
  | .hbm, ⟨75, _⟩ => ⟨S2x1536x64, .f32⟩
  | .hbm, ⟨76, _⟩ => ⟨S2x12x1024x1536, .f32⟩
  | .hbm, ⟨77, _⟩ => ⟨S2x1536x1024x12, .f32⟩
  | .hbm, ⟨78, _⟩ => ⟨S2x12x1024x1536, .f32⟩
  | .hbm, ⟨79, _⟩ => ⟨S2x12x1024x1536, .f32⟩
  | .hbm, ⟨80, _⟩ => ⟨S_, .f32⟩
  | .hbm, ⟨81, _⟩ => ⟨S2x12x1024x1536, .f32⟩
  | .hbm, ⟨82, _⟩ => ⟨S2x12x1024x1536, .f32⟩
  | .hbm, ⟨83, _⟩ => ⟨S_, .f32⟩
  | .hbm, ⟨84, _⟩ => ⟨S2x12x1024, .f32⟩
  | .hbm, ⟨85, _⟩ => ⟨S_, .f32⟩
  | .hbm, ⟨86, _⟩ => ⟨S2x12x1024, .f32⟩
  | .hbm, ⟨87, _⟩ => ⟨S2x12x1024, .f32⟩
  | .hbm, ⟨88, _⟩ => ⟨S2x12x1024x1, .f32⟩
  | .hbm, ⟨89, _⟩ => ⟨S2x12x1024x1536, .f32⟩
  | .hbm, ⟨90, _⟩ => ⟨S2x12x1024x1536, .f32⟩
  | .hbm, ⟨91, _⟩ => ⟨S2x12x1024x1536, .f32⟩
  | .hbm, ⟨92, _⟩ => ⟨S_, .f32⟩
  | .hbm, ⟨93, _⟩ => ⟨S2x12x1024, .f32⟩
  | .hbm, ⟨94, _⟩ => ⟨S2x12x1024x1, .f32⟩
  | .hbm, ⟨95, _⟩ => ⟨S2x12x1024x1536, .f32⟩
  | .hbm, ⟨96, _⟩ => ⟨S2x12x1024x1536, .f32⟩
  | .hbm, ⟨97, _⟩ => ⟨S2x12x128x1024, .f32⟩
  | .hbm, ⟨98, _⟩ => ⟨S2x1024x12x128, .f32⟩
  | .hbm, ⟨99, _⟩ => ⟨S2x1024x1536, .f32⟩
  | .hbm, ⟨100, _⟩ => ⟨S4096x1536, .bf16⟩
  | .hbm, ⟨101, _⟩ => ⟨S2048x1536, .f32⟩
  | .hbm, ⟨102, _⟩ => ⟨S2048x1536, .bf16⟩
  | .hbm, ⟨103, _⟩ => ⟨S6144x1536, .bf16⟩
  | _, _ => ⟨S6144x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst : Ref sig .tc := ⟨.hbm, 80, rfl⟩
abbrev main_v74 : Ref sig .tc := ⟨.hbm, 81, rfl⟩
abbrev main_v75 : Ref sig .tc := ⟨.hbm, 82, rfl⟩
abbrev main_cst_0 : Ref sig .tc := ⟨.hbm, 83, rfl⟩
abbrev main_v76 : Ref sig .tc := ⟨.hbm, 84, rfl⟩
abbrev main_cst_1 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_2 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩

abbrev nD : Nat := 1
abbrev τ : Topo := Topo.v7x

variable {F : FTy → Type} [FloatOps F]
-- ==== FfnUp.lean ====
abbrev S6144x2048 : Shape := ⟨2, ![6144, 2048]⟩
abbrev S2x2048x5632 : Shape := ⟨3, ![2, 2048, 5632]⟩
abbrev S6144x5632 : Shape := ⟨2, ![6144, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S6144x2048, .bf16⟩
  | .hbm, ⟨1, _⟩ => ⟨S2x2048x5632, .f32⟩
  | .hbm, ⟨2, _⟩ => ⟨S2x2048x5632, .f32⟩
  | .hbm, ⟨3, _⟩ => ⟨S6144x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S6144x2048 : Shape := ⟨2, ![6144, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S6144x5632 : Shape := ⟨2, ![6144, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x5632, .f32⟩
  | .hbm, ⟨2, _⟩ => ⟨S2x2048x5632, .f32⟩
  | .hbm, ⟨3, _⟩ => ⟨S6144x2048, .f32⟩
  | .hbm, ⟨4, _⟩ => ⟨S1x2048x5632, .f32⟩
  | .hbm, ⟨5, _⟩ => ⟨S2048x5632, .f32⟩
  | .hbm, ⟨6, _⟩ => ⟨S6144x5632, .f32⟩
  | .hbm, ⟨7, _⟩ => ⟨S6144x5632, .f32⟩
  | .hbm, ⟨8, _⟩ => ⟨S6144x5632, .f32⟩
  | .hbm, ⟨9, _⟩ => ⟨S_, .f32⟩
  | .hbm, ⟨10, _⟩ => ⟨S6144x5632, .f32⟩
  | .hbm, ⟨11, _⟩ => ⟨S6144x5632, .f32⟩
  | .hbm, ⟨12, _⟩ => ⟨S_, .f32⟩
  | .hbm, ⟨13, _⟩ => ⟨S6144x5632, .f32⟩
  | .hbm, ⟨14, _⟩ => ⟨S6144x5632, .f32⟩
  | .hbm, ⟨15, _⟩ => ⟨S6144x5632, .f32⟩
  | .hbm, ⟨16, _⟩ => ⟨S6144x2048, .f32⟩
  | .hbm, ⟨17, _⟩ => ⟨S1x2048x5632, .f32⟩
  | .hbm, ⟨18, _⟩ => ⟨S2048x5632, .f32⟩
  | .hbm, ⟨19, _⟩ => ⟨S6144x5632, .f32⟩
  | .hbm, ⟨20, _⟩ => ⟨S6144x5632, .f32⟩
  | .hbm, ⟨21, _⟩ => ⟨S6144x5632, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== FfnDown.lean ====
abbrev S6144x5632 : Shape := ⟨2, ![6144, 5632]⟩
abbrev S2x5632x2048 : Shape := ⟨3, ![2, 5632, 2048]⟩
abbrev S6144x2048 : Shape := ⟨2, ![6144, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S6144x5632, .bf16⟩
  | .hbm, ⟨1, _⟩ => ⟨S2x5632x2048, .f32⟩
  | .hbm, ⟨2, _⟩ => ⟨S6144x2048, .bf16⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .bf16⟩
  | .local _ .vmem, ⟨5, _⟩ => ⟨S512x512, .bf16⟩
  | .local _ .vmem, ⟨6, _⟩ => ⟨S5632x512, .bf16⟩
  | _, _ => ⟨S6144x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownReferenceIdeal.lean ====
abbrev S6144x5632 : Shape := ⟨2, ![6144, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S6144x2048 : Shape := ⟨2, ![6144, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x5632, .bf16⟩
  | .hbm, ⟨1, _⟩ => ⟨S2x5632x2048, .f32⟩
  | .hbm, ⟨2, _⟩ => ⟨S6144x5632, .f32⟩
  | .hbm, ⟨3, _⟩ => ⟨S1x5632x2048, .f32⟩
  | .hbm, ⟨4, _⟩ => ⟨S5632x2048, .f32⟩
  | .hbm, ⟨5, _⟩ => ⟨S6144x2048, .f32⟩
  | .hbm, ⟨6, _⟩ => ⟨S6144x2048, .bf16⟩
  | _, _ => ⟨S6144x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmInZ.lean ====
abbrev S6144x2048 : Shape := ⟨2, ![6144, 2048]⟩
abbrev S2x2048x10368 : Shape := ⟨3, ![2, 2048, 10368]⟩
abbrev S6144x4096 : Shape := ⟨2, ![6144, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInZReferenceIdeal.lean ====
abbrev S6144x2048 : Shape := ⟨2, ![6144, 2048]⟩
abbrev S2x2048x10368 : Shape := ⟨3, ![2, 2048, 10368]⟩
abbrev S1x2048x10368 : Shape := ⟨3, ![1, 2048, 10368]⟩
abbrev S2048x10368 : Shape := ⟨2, ![2048, 10368]⟩
abbrev S6144x10368 : Shape := ⟨2, ![6144, 10368]⟩
abbrev S6144x4096 : Shape := ⟨2, ![6144, 4096]⟩

abbrev nBuf : Space → Nat
  | .hbm => 8
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x2048, .f32⟩
  | .hbm, ⟨3, _⟩ => ⟨S1x2048x10368, .f32⟩
  | .hbm, ⟨4, _⟩ => ⟨S2048x10368, .f32⟩
  | .hbm, ⟨5, _⟩ => ⟨S6144x10368, .f32⟩
  | .hbm, ⟨6, _⟩ => ⟨S6144x4096, .f32⟩
  | .hbm, ⟨7, _⟩ => ⟨S6144x4096, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SsmInXbc.lean ====
abbrev S6144x2048 : Shape := ⟨2, ![6144, 2048]⟩
abbrev S2x2048x10368 : Shape := ⟨3, ![2, 2048, 10368]⟩
abbrev S6144x6144 : Shape := ⟨2, ![6144, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInXbcReferenceIdeal.lean ====
abbrev S6144x2048 : Shape := ⟨2, ![6144, 2048]⟩
abbrev S2x2048x10368 : Shape := ⟨3, ![2, 2048, 10368]⟩
abbrev S1x2048x10368 : Shape := ⟨3, ![1, 2048, 10368]⟩
abbrev S2048x10368 : Shape := ⟨2, ![2048, 10368]⟩
abbrev S6144x10368 : Shape := ⟨2, ![6144, 10368]⟩
abbrev S6144x6144 : Shape := ⟨2, ![6144, 6144]⟩

abbrev nBuf : Space → Nat
  | .hbm => 8
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x2048, .f32⟩
  | .hbm, ⟨3, _⟩ => ⟨S1x2048x10368, .f32⟩
  | .hbm, ⟨4, _⟩ => ⟨S2048x10368, .f32⟩
  | .hbm, ⟨5, _⟩ => ⟨S6144x10368, .f32⟩
  | .hbm, ⟨6, _⟩ => ⟨S6144x6144, .f32⟩
  | .hbm, ⟨7, _⟩ => ⟨S6144x6144, .bf16⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SsmOut.lean ====
abbrev S6144x4096 : Shape := ⟨2, ![6144, 4096]⟩
abbrev S2x4096x2048 : Shape := ⟨3, ![2, 4096, 2048]⟩
abbrev S6144x2048 : Shape := ⟨2, ![6144, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S6144x4096, .bf16⟩
  | .hbm, ⟨1, _⟩ => ⟨S2x4096x2048, .f32⟩
  | .hbm, ⟨2, _⟩ => ⟨S6144x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmOutReferenceIdeal.lean ====
abbrev S6144x4096 : Shape := ⟨2, ![6144, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S6144x2048 : Shape := ⟨2, ![6144, 2048]⟩

abbrev nBuf : Space → Nat
  | .hbm => 7
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S2x4096x2048, .f32⟩
  | .hbm, ⟨2, _⟩ => ⟨S6144x4096, .f32⟩
  | .hbm, ⟨3, _⟩ => ⟨S1x4096x2048, .f32⟩
  | .hbm, ⟨4, _⟩ => ⟨S4096x2048, .f32⟩
  | .hbm, ⟨5, _⟩ => ⟨S6144x2048, .f32⟩
  | .hbm, ⟨6, _⟩ => ⟨S6144x2048, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixIn.lean ====
abbrev S6144x2048 : Shape := ⟨2, ![6144, 2048]⟩
abbrev S2x2048x1600 : Shape := ⟨3, ![2, 2048, 1600]⟩
abbrev S6144x1600 : Shape := ⟨2, ![6144, 1600]⟩
abbrev S512x2048 : Shape := ⟨2, ![512, 2048]⟩
abbrev S1x2048x1600 : Shape := ⟨3, ![1, 2048, 1600]⟩
abbrev S512x1600 : Shape := ⟨2, ![512, 1600]⟩
abbrev S2048x1600 : Shape := ⟨2, ![2048, 1600]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2x2048x1600, .f32⟩
  | .hbm, ⟨2, _⟩ => ⟨S6144x1600, .f32⟩
  | .local _ .vmem, ⟨0, _⟩ => ⟨S512x2048, .bf16⟩
  | .local _ .vmem, ⟨1, _⟩ => ⟨S512x2048, .bf16⟩
  | .local _ .vmem, ⟨2, _⟩ => ⟨S1x2048x1600, .f32⟩
  | .local _ .vmem, ⟨3, _⟩ => ⟨S512x1600, .f32⟩
  | .local _ .vmem, ⟨4, _⟩ => ⟨S512x1600, .f32⟩
  | .local _ .vmem, ⟨5, _⟩ => ⟨S2048x1600, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInReferenceIdeal.lean ====
abbrev S6144x2048 : Shape := ⟨2, ![6144, 2048]⟩
abbrev S2x2048x1600 : Shape := ⟨3, ![2, 2048, 1600]⟩
abbrev S1x2048x1600 : Shape := ⟨3, ![1, 2048, 1600]⟩
abbrev S2048x1600 : Shape := ⟨2, ![2048, 1600]⟩
abbrev S6144x1600 : Shape := ⟨2, ![6144, 1600]⟩

abbrev nBuf : Space → Nat
  | .hbm => 6
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x1600, .f32⟩
  | .hbm, ⟨2, _⟩ => ⟨S6144x2048, .f32⟩
  | .hbm, ⟨3, _⟩ => ⟨S1x2048x1600, .f32⟩
  | .hbm, ⟨4, _⟩ => ⟨S2048x1600, .f32⟩
  | .hbm, ⟨5, _⟩ => ⟨S6144x1600, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S6144x512 : Shape := ⟨2, ![6144, 512]⟩
abbrev S6144x1536 : Shape := ⟨2, ![6144, 1536]⟩
abbrev S2x2048x2048 : Shape := ⟨3, ![2, 2048, 2048]⟩
abbrev S6144x2048 : Shape := ⟨2, ![6144, 2048]⟩
abbrev S1024x512 : Shape := ⟨2, ![1024, 512]⟩
abbrev S1024x1536 : Shape := ⟨2, ![1024, 1536]⟩
abbrev S1x2048x1024 : Shape := ⟨3, ![1, 2048, 1024]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S6144x512, .bf16⟩
  | .hbm, ⟨1, _⟩ => ⟨S6144x1536, .bf16⟩
  | .hbm, ⟨2, _⟩ => ⟨S2x2048x2048, .f32⟩
  | .hbm, ⟨3, _⟩ => ⟨S6144x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1536, .bf16⟩
  | .local _ .vmem, ⟨3, _⟩ => ⟨S1024x1536, .bf16⟩
  | .local _ .vmem, ⟨4, _⟩ => ⟨S1x2048x1024, .f32⟩
  | .local _ .vmem, ⟨5, _⟩ => ⟨S1x2048x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S6144x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixOutReferenceIdeal.lean ====
abbrev S6144x512 : Shape := ⟨2, ![6144, 512]⟩
abbrev S6144x1536 : Shape := ⟨2, ![6144, 1536]⟩
abbrev S2x2048x2048 : Shape := ⟨3, ![2, 2048, 2048]⟩
abbrev S6144x2048 : Shape := ⟨2, ![6144, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S6144x512, .bf16⟩
  | .hbm, ⟨1, _⟩ => ⟨S6144x1536, .bf16⟩
  | .hbm, ⟨2, _⟩ => ⟨S2x2048x2048, .f32⟩
  | .hbm, ⟨3, _⟩ => ⟨S6144x2048, .bf16⟩
  | .hbm, ⟨4, _⟩ => ⟨S6144x2048, .f32⟩
  | .hbm, ⟨5, _⟩ => ⟨S1x2048x2048, .f32⟩
  | .hbm, ⟨6, _⟩ => ⟨S2048x2048, .f32⟩
  | .hbm, ⟨7, _⟩ => ⟨S6144x2048, .f32⟩
  | .hbm, ⟨8, _⟩ => ⟨S6144x2048, .bf16⟩
  | _, _ => ⟨S6144x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QProj.lean ====
abbrev S6144x768 : Shape := ⟨2, ![6144, 768]⟩
abbrev S2x768x2304 : Shape := ⟨3, ![2, 768, 2304]⟩
abbrev S6144x2304 : Shape := ⟨2, ![6144, 2304]⟩
abbrev S1024x768 : Shape := ⟨2, ![1024, 768]⟩
abbrev S1x768x2304 : Shape := ⟨3, ![1, 768, 2304]⟩
abbrev S1024x2304 : Shape := ⟨2, ![1024, 2304]⟩
abbrev S768x2304 : Shape := ⟨2, ![768, 2304]⟩

abbrev nBuf : Space → Nat
  | .hbm => 3
  | .vmem => 6
  | .smem => 0
  | _ => 0

abbrev bufTy : (tb : Table) → Fin (tcTables nBuf tb) → BufTy
  | .hbm, ⟨0, _⟩ => ⟨S6144x768, .bf16⟩
  | .hbm, ⟨1, _⟩ => ⟨S2x768x2304, .f32⟩
  | .hbm, ⟨2, _⟩ => ⟨S6144x2304, .f32⟩
  | .local _ .vmem, ⟨0, _⟩ => ⟨S1024x768, .bf16⟩
  | .local _ .vmem, ⟨1, _⟩ => ⟨S1024x768, .bf16⟩
  | .local _ .vmem, ⟨2, _⟩ => ⟨S1x768x2304, .f32⟩
  | .local _ .vmem, ⟨3, _⟩ => ⟨S1024x2304, .f32⟩
  | .local _ .vmem, ⟨4, _⟩ => ⟨S1024x2304, .f32⟩
  | .local _ .vmem, ⟨5, _⟩ => ⟨S768x2304, .bf16⟩
  | _, _ => ⟨S6144x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QProjReferenceIdeal.lean ====
abbrev S6144x768 : Shape := ⟨2, ![6144, 768]⟩
abbrev S2x768x2304 : Shape := ⟨3, ![2, 768, 2304]⟩
abbrev S1x768x2304 : Shape := ⟨3, ![1, 768, 2304]⟩
abbrev S768x2304 : Shape := ⟨2, ![768, 2304]⟩
abbrev S6144x2304 : Shape := ⟨2, ![6144, 2304]⟩

abbrev nBuf : Space → Nat
  | .hbm => 6
  | .vmem => 0
  | .smem => 0
  | _ => 0

abbrev bufTy : (tb : Table) → Fin (tcTables nBuf tb) → BufTy
  | .hbm, ⟨0, _⟩ => ⟨S6144x768, .bf16⟩
  | .hbm, ⟨1, _⟩ => ⟨S2x768x2304, .f32⟩
  | .hbm, ⟨2, _⟩ => ⟨S6144x768, .f32⟩
  | .hbm, ⟨3, _⟩ => ⟨S1x768x2304, .f32⟩
  | .hbm, ⟨4, _⟩ => ⟨S768x2304, .f32⟩
  | .hbm, ⟨5, _⟩ => ⟨S6144x2304, .f32⟩
  | _, _ => ⟨S6144x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvProj.lean ====
abbrev S7168x256 : Shape := ⟨2, ![7168, 256]⟩
abbrev S2x256x3072 : Shape := ⟨3, ![2, 256, 3072]⟩
abbrev S7168x3072 : Shape := ⟨2, ![7168, 3072]⟩
abbrev S1024x256 : Shape := ⟨2, ![1024, 256]⟩
abbrev S1x256x3072 : Shape := ⟨3, ![1, 256, 3072]⟩
abbrev S1024x3072 : Shape := ⟨2, ![1024, 3072]⟩
abbrev S256x3072 : Shape := ⟨2, ![256, 3072]⟩

abbrev nBuf : Space → Nat
  | .hbm => 3
  | .vmem => 6
  | .smem => 0
  | _ => 0

abbrev bufTy : (tb : Table) → Fin (tcTables nBuf tb) → BufTy
  | .hbm, ⟨0, _⟩ => ⟨S7168x256, .bf16⟩
  | .hbm, ⟨1, _⟩ => ⟨S2x256x3072, .f32⟩
  | .hbm, ⟨2, _⟩ => ⟨S7168x3072, .bf16⟩
  | .local _ .vmem, ⟨0, _⟩ => ⟨S1024x256, .bf16⟩
  | .local _ .vmem, ⟨1, _⟩ => ⟨S1024x256, .bf16⟩
  | .local _ .vmem, ⟨2, _⟩ => ⟨S1x256x3072, .f32⟩
  | .local _ .vmem, ⟨3, _⟩ => ⟨S1024x3072, .bf16⟩
  | .local _ .vmem, ⟨4, _⟩ => ⟨S1024x3072, .bf16⟩
  | .local _ .vmem, ⟨5, _⟩ => ⟨S256x3072, .bf16⟩
  | _, _ => ⟨S7168x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x256x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvProjReferenceIdeal.lean ====
abbrev S7168x256 : Shape := ⟨2, ![7168, 256]⟩
abbrev S2x256x3072 : Shape := ⟨3, ![2, 256, 3072]⟩
abbrev S1x256x3072 : Shape := ⟨3, ![1, 256, 3072]⟩
abbrev S256x3072 : Shape := ⟨2, ![256, 3072]⟩
abbrev S7168x3072 : Shape := ⟨2, ![7168, 3072]⟩

abbrev nBuf : Space → Nat
  | .hbm => 7
  | .vmem => 0
  | .smem => 0
  | _ => 0

abbrev bufTy : (tb : Table) → Fin (tcTables nBuf tb) → BufTy
  | .hbm, ⟨0, _⟩ => ⟨S7168x256, .bf16⟩
  | .hbm, ⟨1, _⟩ => ⟨S2x256x3072, .f32⟩
  | .hbm, ⟨2, _⟩ => ⟨S7168x256, .f32⟩
  | .hbm, ⟨3, _⟩ => ⟨S1x256x3072, .f32⟩
  | .hbm, ⟨4, _⟩ => ⟨S256x3072, .f32⟩
  | .hbm, ⟨5, _⟩ => ⟨S7168x3072, .f32⟩
  | .hbm, ⟨6, _⟩ => ⟨S7168x3072, .bf16⟩
  | _, _ => ⟨S7168x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MoeUp.lean ====
abbrev S128 : Shape := ⟨1, ![128]⟩
abbrev S16384x2048 : Shape := ⟨2, ![16384, 2048]⟩
abbrev S2x8x2048x4096 : Shape := ⟨4, ![2, 8, 2048, 4096]⟩
abbrev S16384x4096 : Shape := ⟨2, ![16384, 4096]⟩
abbrev S512x2048 : Shape := ⟨2, ![512, 2048]⟩
abbrev S1 : Shape := ⟨1, ![1]⟩
abbrev S1x1x2048x1024 : Shape := ⟨4, ![1, 1, 2048, 1024]⟩
abbrev S512x1024 : Shape := ⟨2, ![512, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 4
  | .vmem => 10
  | .smem => 5
  | _ => 0

abbrev bufTy : (tb : Table) → Fin (tcTables nBuf tb) → BufTy
  | .hbm, ⟨0, _⟩ => ⟨S16384x2048, .bf16⟩
  | .hbm, ⟨1, _⟩ => ⟨S2x8x2048x4096, .f32⟩
  | .hbm, ⟨2, _⟩ => ⟨S2x8x2048x4096, .f32⟩
  | .hbm, ⟨3, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x2048x1024, .f32⟩
  | .local _ .vmem, ⟨5, _⟩ => ⟨S1x1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | .local _ .smem, ⟨4, _⟩ => ⟨S128, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v14 : Index := Scalar.indexCast arg0
  ![v14.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) (v9 : BitVec 32) : BitVec 1 :=
  let c0_i32_0 : BitVec 32 := 0#32
  let v7 : BitVec 1 := Scalar.cmpi .eq v6 c0_i32_0
  let c1_i32_1 : BitVec 32 := 1#32
  let v10 : BitVec 1 := Scalar.cmpi .eq v9 c1_i32_1
  let v11 : BitVec 1 := Scalar.andi v7 v10
  let v12 : BitVec 32 := Scalar.extui v11
  let c0_i32_2 : BitVec 32 := 0#32
  let v13 : BitVec 1 := Scalar.cmpi .ne v12 c0_i32_2
  v13

def k0_cond3 (v15 : BitVec 32) (v18 : BitVec 32) : BitVec 1 :=
  let c0_i32_3 : BitVec 32 := 0#32
  let v16 : BitVec 1 := Scalar.cmpi .eq v15 c0_i32_3
  let c2_i32 : BitVec 32 := 2#32
  let v19 : BitVec 1 := Scalar.cmpi .eq v18 c2_i32
  let v20 : BitVec 1 := Scalar.andi v16 v19
  let v21 : BitVec 32 := Scalar.extui v20
  let c0_i32_4 : BitVec 32 := 0#32
  let v22 : BitVec 1 := Scalar.cmpi .ne v21 c0_i32_4
  v22

def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S128) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let v2 : Index := Scalar.indexCast arg0
  let v3 : BitVec 32 := pf.at 1 (Rect.unit (s := S128) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let v2 : Index := Scalar.indexCast arg0
  let v3 : BitVec 32 := pf.at 1 (Rect.unit (s := S128) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S128) ![v0.toNat] S1.size (k0_off1_inb i)) numel1_S1
  let v2 : Index := Scalar.indexCast arg0
  let v3 : BitVec 32 := pf.at 1 (Rect.unit (s := S128) ![v2.toNat] S1.size (k0_off1_inb i)) numel1_S1
  let c0_i32 : BitVec 32 := 0#32
  ![v1.toNat, v3.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MoeUpReferenceIdeal.lean ====
abbrev S128 : Shape := ⟨1, ![128]⟩
abbrev S16384x2048 : Shape := ⟨2, ![16384, 2048]⟩
abbrev S2x8x2048x4096 : Shape := ⟨4, ![2, 8, 2048, 4096]⟩
abbrev S1x8x2048x4096 : Shape := ⟨4, ![1, 8, 2048, 4096]⟩
abbrev S8x2048x4096 : Shape := ⟨3, ![8, 2048, 4096]⟩
abbrev S8x4096x16384 : Shape := ⟨3, ![8, 4096, 16384]⟩
abbrev S8x16384x4096 : Shape := ⟨3, ![8, 16384, 4096]⟩
abbrev S_ : Shape := ⟨0, ![]⟩
abbrev S16384 : Shape := ⟨1, ![16384]⟩
abbrev S8 : Shape := ⟨1, ![8]⟩
abbrev S8x1x1 : Shape := ⟨3, ![8, 1, 1]⟩
abbrev S1x1x128 : Shape := ⟨3, ![1, 1, 128]⟩
abbrev S8x1x128 : Shape := ⟨3, ![8, 1, 128]⟩
abbrev S16384x1 : Shape := ⟨2, ![16384, 1]⟩
abbrev S1x128 : Shape := ⟨2, ![1, 128]⟩
abbrev S16384x128 : Shape := ⟨2, ![16384, 128]⟩
abbrev S1x16384x128 : Shape := ⟨3, ![1, 16384, 128]⟩
abbrev S8x16384x128 : Shape := ⟨3, ![8, 16384, 128]⟩
abbrev S8x16384 : Shape := ⟨2, ![8, 16384]⟩
abbrev S8x16384x1 : Shape := ⟨3, ![8, 16384, 1]⟩
abbrev S16384x4096 : Shape := ⟨2, ![16384, 4096]⟩

abbrev nBuf : Space → Nat
  | .hbm => 57
  | .vmem => 0
  | .smem => 0
  | _ => 0

abbrev bufTy : (tb : Table) → Fin (tcTables nBuf tb) → BufTy
  | .hbm, ⟨0, _⟩ => ⟨S128, .i32⟩
  | .hbm, ⟨1, _⟩ => ⟨S128, .i32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S16384x2048, .bf16⟩
  | .hbm, ⟨6, _⟩ => ⟨S2x8x2048x4096, .f32⟩
  | .hbm, ⟨7, _⟩ => ⟨S2x8x2048x4096, .f32⟩
  | .hbm, ⟨8, _⟩ => ⟨S16384x2048, .f32⟩
  | .hbm, ⟨9, _⟩ => ⟨S1x8x2048x4096, .f32⟩
  | .hbm, ⟨10, _⟩ => ⟨S8x2048x4096, .f32⟩
  | .hbm, ⟨11, _⟩ => ⟨S8x4096x16384, .f32⟩
  | .hbm, ⟨12, _⟩ => ⟨S8x16384x4096, .f32⟩
  | .hbm, ⟨13, _⟩ => ⟨S8x16384x4096, .f32⟩
  | .hbm, ⟨14, _⟩ => ⟨S8x16384x4096, .f32⟩
  | .hbm, ⟨15, _⟩ => ⟨S_, .f32⟩
  | .hbm, ⟨16, _⟩ => ⟨S8x16384x4096, .f32⟩
  | .hbm, ⟨17, _⟩ => ⟨S8x16384x4096, .f32⟩
  | .hbm, ⟨18, _⟩ => ⟨S_, .f32⟩
  | .hbm, ⟨19, _⟩ => ⟨S8x16384x4096, .f32⟩
  | .hbm, ⟨20, _⟩ => ⟨S8x16384x4096, .f32⟩
  | .hbm, ⟨21, _⟩ => ⟨S8x16384x4096, .f32⟩
  | .hbm, ⟨22, _⟩ => ⟨S1x8x2048x4096, .f32⟩
  | .hbm, ⟨23, _⟩ => ⟨S8x2048x4096, .f32⟩
  | .hbm, ⟨24, _⟩ => ⟨S8x4096x16384, .f32⟩
  | .hbm, ⟨25, _⟩ => ⟨S8x16384x4096, .f32⟩
  | .hbm, ⟨26, _⟩ => ⟨S8x16384x4096, .f32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S8, .i32⟩
  | .hbm, ⟨32, _⟩ => ⟨S8x1x1, .i32⟩
  | .hbm, ⟨33, _⟩ => ⟨S1x1x128, .i32⟩
  | .hbm, ⟨34, _⟩ => ⟨S8x1x128, .i32⟩
  | .hbm, ⟨35, _⟩ => ⟨S8x1x128, .i32⟩
  | .hbm, ⟨36, _⟩ => ⟨S8x1x128, .i1⟩
  | .hbm, ⟨37, _⟩ => ⟨S16384x1, .i32⟩
  | .hbm, ⟨38, _⟩ => ⟨S1x128, .i32⟩
  | .hbm, ⟨39, _⟩ => ⟨S16384x128, .i32⟩
  | .hbm, ⟨40, _⟩ => ⟨S16384x128, .i32⟩
  | .hbm, ⟨41, _⟩ => ⟨S16384x128, .i1⟩
  | .hbm, ⟨42, _⟩ => ⟨S1x16384x128, .i1⟩
  | .hbm, ⟨43, _⟩ => ⟨S8x16384x128, .i1⟩
  | .hbm, ⟨44, _⟩ => ⟨S8x16384x128, .i1⟩
  | .hbm, ⟨45, _⟩ => ⟨S8x16384x128, .i1⟩
  | .hbm, ⟨46, _⟩ => ⟨S_, .i1⟩
  | .hbm, ⟨47, _⟩ => ⟨S8x16384, .i1⟩
  | .hbm, ⟨48, _⟩ => ⟨S8x16384x1, .i1⟩
  | .hbm, ⟨49, _⟩ => ⟨S_, .f32⟩
  | .hbm, ⟨50, _⟩ => ⟨S_, .f32⟩
  | .hbm, ⟨51, _⟩ => ⟨S8x16384x4096, .i1⟩
  | .hbm, ⟨52, _⟩ => ⟨S8x16384x4096, .f32⟩
  | .hbm, ⟨53, _⟩ => ⟨S8x16384x4096, .f32⟩
  | .hbm, ⟨54, _⟩ => ⟨S_, .f32⟩
  | .hbm, ⟨55, _⟩ => ⟨S16384x4096, .f32⟩
  | .hbm, ⟨56, _⟩ => ⟨S16384x4096, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_0 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]
-- ==== MoeDown.lean ====
abbrev S64 : Shape := ⟨1, ![64]⟩
abbrev S16384x4096 : Shape := ⟨2, ![16384, 4096]⟩
abbrev S2x8x4096x2048 : Shape := ⟨4, ![2, 8, 4096, 2048]⟩
abbrev S16384x2048 : Shape := ⟨2, ![16384, 2048]⟩
abbrev S512x4096 : Shape := ⟨2, ![512, 4096]⟩
abbrev S1 : Shape := ⟨1, ![1]⟩
abbrev S1x1x4096x1024 : Shape := ⟨4, ![1, 1, 4096, 1024]⟩
abbrev S512x1024 : Shape := ⟨2, ![512, 1024]⟩
abbrev S4096x1024 : Shape := ⟨2, ![4096, 1024]⟩
abbrev S256x4096 : Shape := ⟨2, ![256, 4096]⟩
abbrev S256x1024 : Shape := ⟨2, ![256, 1024]⟩

abbrev nBuf : Space → Nat
  | .hbm => 3
  | .vmem => 7
  | .smem => 5
  | _ => 0

abbrev bufTy : (tb : Table) → Fin (tcTables nBuf tb) → BufTy
  | .hbm, ⟨0, _⟩ => ⟨S16384x4096, .bf16⟩
  | .hbm, ⟨1, _⟩ => ⟨S2x8x4096x2048, .f32⟩
  | .hbm, ⟨2, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x1024, .f32⟩
  | .local _ .vmem, ⟨3, _⟩ => ⟨S1x1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | .local _ .smem, ⟨4, _⟩ => ⟨S64, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v14 : Index := Scalar.indexCast arg0
  ![v14.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) (v9 : BitVec 32) : BitVec 1 :=
  let c0_i32_0 : BitVec 32 := 0#32
  let v7 : BitVec 1 := Scalar.cmpi .eq v6 c0_i32_0
  let c1_i32_1 : BitVec 32 := 1#32
  let v10 : BitVec 1 := Scalar.cmpi .eq v9 c1_i32_1
  let v11 : BitVec 1 := Scalar.andi v7 v10
  let v12 : BitVec 32 := Scalar.extui v11
  let c0_i32_2 : BitVec 32 := 0#32
  let v13 : BitVec 1 := Scalar.cmpi .ne v12 c0_i32_2
  v13

def k0_cond3 (v15 : BitVec 32) (v18 : BitVec 32) : BitVec 1 :=
  let c0_i32_3 : BitVec 32 := 0#32
  let v16 : BitVec 1 := Scalar.cmpi .eq v15 c0_i32_3
  let c2_i32 : BitVec 32 := 2#32
  let v19 : BitVec 1 := Scalar.cmpi .eq v18 c2_i32
  let v20 : BitVec 1 := Scalar.andi v16 v19
  let v21 : BitVec 32 := Scalar.extui v20
  let c0_i32_4 : BitVec 32 := 0#32
  let v22 : BitVec 1 := Scalar.cmpi .ne v21 c0_i32_4
  v22

def cc0_transform_0 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S64) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let c0_i32 : BitVec 32 := 0#32
  ![v1.toNat, v3.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MoeDownReferenceIdeal.lean ====
abbrev S64 : Shape := ⟨1, ![64]⟩
abbrev S16384x4096 : Shape := ⟨2, ![16384, 4096]⟩
abbrev S2x8x4096x2048 : Shape := ⟨4, ![2, 8, 4096, 2048]⟩
abbrev S1x8x4096x2048 : Shape := ⟨4, ![1, 8, 4096, 2048]⟩
abbrev S8x4096x2048 : Shape := ⟨3, ![8, 4096, 2048]⟩
abbrev S8x2048x16384 : Shape := ⟨3, ![8, 2048, 16384]⟩
abbrev S8x16384x2048 : Shape := ⟨3, ![8, 16384, 2048]⟩
abbrev S16384 : Shape := ⟨1, ![16384]⟩
abbrev S_ : Shape := ⟨0, ![]⟩
abbrev S8 : Shape := ⟨1, ![8]⟩
abbrev S8x1x1 : Shape := ⟨3, ![8, 1, 1]⟩
abbrev S1x1x64 : Shape := ⟨3, ![1, 1, 64]⟩
abbrev S8x1x64 : Shape := ⟨3, ![8, 1, 64]⟩
abbrev S16384x1 : Shape := ⟨2, ![16384, 1]⟩
abbrev S1x64 : Shape := ⟨2, ![1, 64]⟩
abbrev S16384x64 : Shape := ⟨2, ![16384, 64]⟩
abbrev S1x16384x64 : Shape := ⟨3, ![1, 16384, 64]⟩
abbrev S8x16384x64 : Shape := ⟨3, ![8, 16384, 64]⟩
abbrev S8x16384 : Shape := ⟨2, ![8, 16384]⟩
abbrev S8x16384x1 : Shape := ⟨3, ![8, 16384, 1]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S64, .i32⟩
  | .hbm, ⟨5, _⟩ => ⟨S16384x4096, .bf16⟩
  | .hbm, ⟨6, _⟩ => ⟨S2x8x4096x2048, .f32⟩
  | .hbm, ⟨7, _⟩ => ⟨S16384x4096, .f32⟩
  | .hbm, ⟨8, _⟩ => ⟨S1x8x4096x2048, .f32⟩
  | .hbm, ⟨9, _⟩ => ⟨S8x4096x2048, .f32⟩
  | .hbm, ⟨10, _⟩ => ⟨S8x2048x16384, .f32⟩
  | .hbm, ⟨11, _⟩ => ⟨S8x16384x2048, .f32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S8, .i32⟩
  | .hbm, ⟨17, _⟩ => ⟨S8x1x1, .i32⟩
  | .hbm, ⟨18, _⟩ => ⟨S1x1x64, .i32⟩
  | .hbm, ⟨19, _⟩ => ⟨S8x1x64, .i32⟩
  | .hbm, ⟨20, _⟩ => ⟨S8x1x64, .i32⟩
  | .hbm, ⟨21, _⟩ => ⟨S8x1x64, .i1⟩
  | .hbm, ⟨22, _⟩ => ⟨S16384x1, .i32⟩
  | .hbm, ⟨23, _⟩ => ⟨S1x64, .i32⟩
  | .hbm, ⟨24, _⟩ => ⟨S16384x64, .i32⟩
  | .hbm, ⟨25, _⟩ => ⟨S16384x64, .i32⟩
  | .hbm, ⟨26, _⟩ => ⟨S16384x64, .i1⟩
  | .hbm, ⟨27, _⟩ => ⟨S1x16384x64, .i1⟩
  | .hbm, ⟨28, _⟩ => ⟨S8x16384x64, .i1⟩
  | .hbm, ⟨29, _⟩ => ⟨S8x16384x64, .i1⟩
  | .hbm, ⟨30, _⟩ => ⟨S8x16384x64, .i1⟩
  | .hbm, ⟨31, _⟩ => ⟨S_, .i1⟩
  | .hbm, ⟨32, _⟩ => ⟨S8x16384, .i1⟩
  | .hbm, ⟨33, _⟩ => ⟨S8x16384x1, .i1⟩
  | .hbm, ⟨34, _⟩ => ⟨S_, .f32⟩
  | .hbm, ⟨35, _⟩ => ⟨S_, .f32⟩
  | .hbm, ⟨36, _⟩ => ⟨S8x16384x2048, .i1⟩
  | .hbm, ⟨37, _⟩ => ⟨S8x16384x2048, .f32⟩
  | .hbm, ⟨38, _⟩ => ⟨S8x16384x2048, .f32⟩
  | .hbm, ⟨39, _⟩ => ⟨S_, .f32⟩
  | .hbm, ⟨40, _⟩ => ⟨S16384x2048, .f32⟩
  | .hbm, ⟨41, _⟩ => ⟨S16384x2048, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== SsmDt.lean ====
abbrev S6144x2048 : Shape := ⟨2, ![6144, 2048]⟩
abbrev S2x2048x10368 : Shape := ⟨3, ![2, 2048, 10368]⟩
abbrev S6144x128 : Shape := ⟨2, ![6144, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmDtReferenceIdeal.lean ====
abbrev S6144x2048 : Shape := ⟨2, ![6144, 2048]⟩
abbrev S2x2048x10368 : Shape := ⟨3, ![2, 2048, 10368]⟩
abbrev S1x2048x10368 : Shape := ⟨3, ![1, 2048, 10368]⟩
abbrev S2048x10368 : Shape := ⟨2, ![2048, 10368]⟩
abbrev S6144x10368 : Shape := ⟨2, ![6144, 10368]⟩
abbrev S6144x128 : Shape := ⟨2, ![6144, 128]⟩

abbrev nBuf : Space → Nat
  | .hbm => 7
  | .vmem => 0
  | .smem => 0
  | _ => 0

abbrev bufTy : (tb : Table) → Fin (tcTables nBuf tb) → BufTy
  | .hbm, ⟨0, _⟩ => ⟨S6144x2048, .bf16⟩
  | .hbm, ⟨1, _⟩ => ⟨S2x2048x10368, .f32⟩
  | .hbm, ⟨2, _⟩ => ⟨S6144x2048, .f32⟩
  | .hbm, ⟨3, _⟩ => ⟨S1x2048x10368, .f32⟩
  | .hbm, ⟨4, _⟩ => ⟨S2048x10368, .f32⟩
  | .hbm, ⟨5, _⟩ => ⟨S6144x10368, .f32⟩
  | .hbm, ⟨6, _⟩ => ⟨S6144x128, .f32⟩
  | _, _ => ⟨S6144x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GateNorm.lean ====
abbrev S6144x4096 : Shape := ⟨2, ![6144, 4096]⟩
abbrev S2x4096 : Shape := ⟨2, ![2, 4096]⟩
abbrev S2x1x4096 : Shape := ⟨3, ![2, 1, 4096]⟩
abbrev S512x4096 : Shape := ⟨2, ![512, 4096]⟩
abbrev S1x1x4096 : Shape := ⟨3, ![1, 1, 4096]⟩
abbrev S1x4096 : Shape := ⟨2, ![1, 4096]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .bf16⟩
  | .hbm, ⟨2, _⟩ => ⟨S2x4096, .f32⟩
  | .hbm, ⟨3, _⟩ => ⟨S2x1x4096, .f32⟩
  | .hbm, ⟨4, _⟩ => ⟨S6144x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x1x4096, .f32⟩
  | .local _ .vmem, ⟨5, _⟩ => ⟨S512x4096, .bf16⟩
  | .local _ .vmem, ⟨6, _⟩ => ⟨S512x4096, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateNormReferenceIdeal.lean ====
abbrev S6144x4096 : Shape := ⟨2, ![6144, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩
abbrev S6144 : Shape := ⟨1, ![6144]⟩
abbrev S6144x1 : Shape := ⟨2, ![6144, 1]⟩

abbrev nBuf : Space → Nat
  | .hbm => 34
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .bf16⟩
  | .hbm, ⟨2, _⟩ => ⟨S2x4096, .f32⟩
  | .hbm, ⟨3, _⟩ => ⟨S6144x4096, .f32⟩
  | .hbm, ⟨4, _⟩ => ⟨S6144x4096, .f32⟩
  | .hbm, ⟨5, _⟩ => ⟨S6144x4096, .f32⟩
  | .hbm, ⟨6, _⟩ => ⟨S6144x4096, .f32⟩
  | .hbm, ⟨7, _⟩ => ⟨S_, .f32⟩
  | .hbm, ⟨8, _⟩ => ⟨S6144x4096, .f32⟩
  | .hbm, ⟨9, _⟩ => ⟨S6144x4096, .f32⟩
  | .hbm, ⟨10, _⟩ => ⟨S_, .f32⟩
  | .hbm, ⟨11, _⟩ => ⟨S6144x4096, .f32⟩
  | .hbm, ⟨12, _⟩ => ⟨S6144x4096, .f32⟩
  | .hbm, ⟨13, _⟩ => ⟨S6144x4096, .f32⟩
  | .hbm, ⟨14, _⟩ => ⟨S6144x4096, .f32⟩
  | .hbm, ⟨15, _⟩ => ⟨S1x4096, .f32⟩
  | .hbm, ⟨16, _⟩ => ⟨S4096, .f32⟩
  | .hbm, ⟨17, _⟩ => ⟨S6144x4096, .f32⟩
  | .hbm, ⟨18, _⟩ => ⟨S_, .f32⟩
  | .hbm, ⟨19, _⟩ => ⟨S6144, .f32⟩
  | .hbm, ⟨20, _⟩ => ⟨S6144x1, .f32⟩
  | .hbm, ⟨21, _⟩ => ⟨S_, .f32⟩
  | .hbm, ⟨22, _⟩ => ⟨S6144x1, .f32⟩
  | .hbm, ⟨23, _⟩ => ⟨S6144x1, .f32⟩
  | .hbm, ⟨24, _⟩ => ⟨S_, .f32⟩
  | .hbm, ⟨25, _⟩ => ⟨S6144x1, .f32⟩
  | .hbm, ⟨26, _⟩ => ⟨S6144x1, .f32⟩
  | .hbm, ⟨27, _⟩ => ⟨S6144x1, .f32⟩
  | .hbm, ⟨28, _⟩ => ⟨S6144x4096, .f32⟩
  | .hbm, ⟨29, _⟩ => ⟨S6144x4096, .f32⟩
  | .hbm, ⟨30, _⟩ => ⟨S1x4096, .f32⟩
  | .hbm, ⟨31, _⟩ => ⟨S6144x4096, .f32⟩
  | .hbm, ⟨32, _⟩ => ⟨S6144x4096, .f32⟩
  | .hbm, ⟨33, _⟩ => ⟨S6144x4096, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Caches.lean ====
abbrev S6144x1600 : Shape := ⟨2, ![6144, 1600]⟩
abbrev S2x768 : Shape := ⟨2, ![2, 768]⟩
abbrev S2x256 : Shape := ⟨2, ![2, 256]⟩
abbrev S2x1x768 : Shape := ⟨3, ![2, 1, 768]⟩
abbrev S2x1x256 : Shape := ⟨3, ![2, 1, 256]⟩
abbrev S6144x768 : Shape := ⟨2, ![6144, 768]⟩
abbrev S6144x256 : Shape := ⟨2, ![6144, 256]⟩
abbrev S6144x64 : Shape := ⟨2, ![6144, 64]⟩
abbrev S512x1600 : Shape := ⟨2, ![512, 1600]⟩
abbrev S1x1x768 : Shape := ⟨3, ![1, 1, 768]⟩
abbrev S1x1x256 : Shape := ⟨3, ![1, 1, 256]⟩
abbrev S512x768 : Shape := ⟨2, ![512, 768]⟩
abbrev S512x256 : Shape := ⟨2, ![512, 256]⟩
abbrev S512x64 : Shape := ⟨2, ![512, 64]⟩
abbrev S1x768 : Shape := ⟨2, ![1, 768]⟩
abbrev S512 : Shape := ⟨1, ![512]⟩
abbrev S512x1 : Shape := ⟨2, ![512, 1]⟩
abbrev S1x256 : Shape := ⟨2, ![1, 256]⟩
abbrev S4096x256 : Shape := ⟨2, ![4096, 256]⟩
abbrev S16x256x256 : Shape := ⟨3, ![16, 256, 256]⟩
abbrev S4096x64 : Shape := ⟨2, ![4096, 64]⟩
abbrev S16x256x64 : Shape := ⟨3, ![16, 256, 64]⟩
abbrev S16x1x256x256 : Shape := ⟨4, ![16, 1, 256, 256]⟩
abbrev S16x2x256x256 : Shape := ⟨4, ![16, 2, 256, 256]⟩
abbrev S16x1x256x64 : Shape := ⟨4, ![16, 1, 256, 64]⟩
abbrev S16x2x256x64 : Shape := ⟨4, ![16, 2, 256, 64]⟩

abbrev nBuf : Space → Nat
  | .hbm => 28
  | .vmem => 20
  | .smem => 0
  | _ => 0

abbrev bufTy : (tb : Table) → Fin (tcTables nBuf tb) → BufTy
  | .hbm, ⟨0, _⟩ => ⟨S6144x1600, .f32⟩
  | .hbm, ⟨1, _⟩ => ⟨S6144x1600, .f32⟩
  | .hbm, ⟨2, _⟩ => ⟨S2x768, .f32⟩
  | .hbm, ⟨3, _⟩ => ⟨S2x256, .f32⟩
  | .hbm, ⟨4, _⟩ => ⟨S2x1x768, .f32⟩
  | .hbm, ⟨5, _⟩ => ⟨S2x1x256, .f32⟩
  | .hbm, ⟨6, _⟩ => ⟨S6144x768, .bf16⟩
  | .hbm, ⟨7, _⟩ => ⟨S6144x256, .f32⟩
  | .hbm, ⟨8, _⟩ => ⟨S6144x64, .f32⟩
  | .hbm, ⟨9, _⟩ => ⟨S2x1x768, .f32⟩
  | .hbm, ⟨10, _⟩ => ⟨S2x1x256, .f32⟩
  | .hbm, ⟨11, _⟩ => ⟨S6144x768, .bf16⟩
  | .hbm, ⟨12, _⟩ => ⟨S6144x256, .f32⟩
  | .hbm, ⟨13, _⟩ => ⟨S6144x64, .f32⟩
  | .hbm, ⟨14, _⟩ => ⟨S4096x256, .f32⟩
  | .hbm, ⟨15, _⟩ => ⟨S16x256x256, .f32⟩
  | .hbm, ⟨16, _⟩ => ⟨S4096x256, .f32⟩
  | .hbm, ⟨17, _⟩ => ⟨S16x256x256, .f32⟩
  | .hbm, ⟨18, _⟩ => ⟨S4096x64, .f32⟩
  | .hbm, ⟨19, _⟩ => ⟨S16x256x64, .f32⟩
  | .hbm, ⟨20, _⟩ => ⟨S4096x64, .f32⟩
  | .hbm, ⟨21, _⟩ => ⟨S16x256x64, .f32⟩
  | .hbm, ⟨22, _⟩ => ⟨S16x1x256x256, .f32⟩
  | .hbm, ⟨23, _⟩ => ⟨S16x1x256x256, .f32⟩
  | .hbm, ⟨24, _⟩ => ⟨S16x2x256x256, .f32⟩
  | .hbm, ⟨25, _⟩ => ⟨S16x1x256x64, .f32⟩
  | .hbm, ⟨26, _⟩ => ⟨S16x1x256x64, .f32⟩
  | .hbm, ⟨27, _⟩ => ⟨S16x2x256x64, .f32⟩
  | .local _ .vmem, ⟨0, _⟩ => ⟨S512x1600, .f32⟩
  | .local _ .vmem, ⟨1, _⟩ => ⟨S512x1600, .f32⟩
  | .local _ .vmem, ⟨2, _⟩ => ⟨S1x1x768, .f32⟩
  | .local _ .vmem, ⟨3, _⟩ => ⟨S1x1x256, .f32⟩
  | .local _ .vmem, ⟨4, _⟩ => ⟨S512x768, .bf16⟩
  | .local _ .vmem, ⟨5, _⟩ => ⟨S512x768, .bf16⟩
  | .local _ .vmem, ⟨6, _⟩ => ⟨S512x256, .f32⟩
  | .local _ .vmem, ⟨7, _⟩ => ⟨S512x256, .f32⟩
  | .local _ .vmem, ⟨8, _⟩ => ⟨S512x64, .f32⟩
  | .local _ .vmem, ⟨9, _⟩ => ⟨S512x64, .f32⟩
  | .local _ .vmem, ⟨10, _⟩ => ⟨S512x1600, .f32⟩
  | .local _ .vmem, ⟨11, _⟩ => ⟨S512x1600, .f32⟩
  | .local _ .vmem, ⟨12, _⟩ => ⟨S1x1x768, .f32⟩
  | .local _ .vmem, ⟨13, _⟩ => ⟨S1x1x256, .f32⟩
  | .local _ .vmem, ⟨14, _⟩ => ⟨S512x768, .bf16⟩
  | .local _ .vmem, ⟨15, _⟩ => ⟨S512x768, .bf16⟩
  | .local _ .vmem, ⟨16, _⟩ => ⟨S512x256, .f32⟩
  | .local _ .vmem, ⟨17, _⟩ => ⟨S512x256, .f32⟩
  | .local _ .vmem, ⟨18, _⟩ => ⟨S512x64, .f32⟩
  | .local _ .vmem, ⟨19, _⟩ => ⟨S512x64, .f32⟩
  | _, _ => ⟨S6144x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== CachesReferenceIdeal.lean ====
abbrev S6144x1600 : Shape := ⟨2, ![6144, 1600]⟩
abbrev S2x768 : Shape := ⟨2, ![2, 768]⟩
abbrev S2x256 : Shape := ⟨2, ![2, 256]⟩
abbrev S1x768 : Shape := ⟨2, ![1, 768]⟩
abbrev S768 : Shape := ⟨1, ![768]⟩
abbrev S1x256 : Shape := ⟨2, ![1, 256]⟩
abbrev S256 : Shape := ⟨1, ![256]⟩
abbrev S6144x512 : Shape := ⟨2, ![6144, 512]⟩
abbrev S6144x768 : Shape := ⟨2, ![6144, 768]⟩
abbrev S6144x256 : Shape := ⟨2, ![6144, 256]⟩
abbrev S6144x64 : Shape := ⟨2, ![6144, 64]⟩
abbrev S_ : Shape := ⟨0, ![]⟩
abbrev S6144 : Shape := ⟨1, ![6144]⟩
abbrev S6144x1 : Shape := ⟨2, ![6144, 1]⟩
abbrev S4096x256 : Shape := ⟨2, ![4096, 256]⟩
abbrev S16x256x256 : Shape := ⟨3, ![16, 256, 256]⟩
abbrev S16x1x256x256 : Shape := ⟨4, ![16, 1, 256, 256]⟩
abbrev S16x2x256x256 : Shape := ⟨4, ![16, 2, 256, 256]⟩
abbrev S4096x64 : Shape := ⟨2, ![4096, 64]⟩
abbrev S16x256x64 : Shape := ⟨3, ![16, 256, 64]⟩
abbrev S16x1x256x64 : Shape := ⟨4, ![16, 1, 256, 64]⟩
abbrev S16x2x256x64 : Shape := ⟨4, ![16, 2, 256, 64]⟩

abbrev nBuf : Space → Nat
  | .hbm => 100
  | .vmem => 0
  | .smem => 0
  | _ => 0

abbrev bufTy : (tb : Table) → Fin (tcTables nBuf tb) → BufTy
  | .hbm, ⟨0, _⟩ => ⟨S6144x1600, .f32⟩
  | .hbm, ⟨1, _⟩ => ⟨S6144x1600, .f32⟩
  | .hbm, ⟨2, _⟩ => ⟨S2x768, .f32⟩
  | .hbm, ⟨3, _⟩ => ⟨S2x256, .f32⟩
  | .hbm, ⟨4, _⟩ => ⟨S1x768, .f32⟩
  | .hbm, ⟨5, _⟩ => ⟨S768, .f32⟩
  | .hbm, ⟨6, _⟩ => ⟨S1x256, .f32⟩
  | .hbm, ⟨7, _⟩ => ⟨S256, .f32⟩
  | .hbm, ⟨8, _⟩ => ⟨S6144x512, .f32⟩
  | .hbm, ⟨9, _⟩ => ⟨S6144x768, .f32⟩
  | .hbm, ⟨10, _⟩ => ⟨S6144x256, .f32⟩
  | .hbm, ⟨11, _⟩ => ⟨S6144x64, .f32⟩
  | .hbm, ⟨12, _⟩ => ⟨S6144x768, .f32⟩
  | .hbm, ⟨13, _⟩ => ⟨S_, .f32⟩
  | .hbm, ⟨14, _⟩ => ⟨S6144, .f32⟩
  | .hbm, ⟨15, _⟩ => ⟨S6144x1, .f32⟩
  | .hbm, ⟨16, _⟩ => ⟨S_, .f32⟩
  | .hbm, ⟨17, _⟩ => ⟨S6144x1, .f32⟩
  | .hbm, ⟨18, _⟩ => ⟨S6144x1, .f32⟩
  | .hbm, ⟨19, _⟩ => ⟨S_, .f32⟩
  | .hbm, ⟨20, _⟩ => ⟨S6144x1, .f32⟩
  | .hbm, ⟨21, _⟩ => ⟨S6144x1, .f32⟩
  | .hbm, ⟨22, _⟩ => ⟨S6144x1, .f32⟩
  | .hbm, ⟨23, _⟩ => ⟨S6144x768, .f32⟩
  | .hbm, ⟨24, _⟩ => ⟨S6144x768, .f32⟩
  | .hbm, ⟨25, _⟩ => ⟨S1x768, .f32⟩
  | .hbm, ⟨26, _⟩ => ⟨S6144x768, .f32⟩
  | .hbm, ⟨27, _⟩ => ⟨S6144x768, .f32⟩
  | .hbm, ⟨28, _⟩ => ⟨S6144x768, .bf16⟩
  | .hbm, ⟨29, _⟩ => ⟨S6144x256, .f32⟩
  | .hbm, ⟨30, _⟩ => ⟨S_, .f32⟩
  | .hbm, ⟨31, _⟩ => ⟨S6144, .f32⟩
  | .hbm, ⟨32, _⟩ => ⟨S6144x1, .f32⟩
  | .hbm, ⟨33, _⟩ => ⟨S_, .f32⟩
  | .hbm, ⟨34, _⟩ => ⟨S6144x1, .f32⟩
  | .hbm, ⟨35, _⟩ => ⟨S6144x1, .f32⟩
  | .hbm, ⟨36, _⟩ => ⟨S_, .f32⟩
  | .hbm, ⟨37, _⟩ => ⟨S6144x1, .f32⟩
  | .hbm, ⟨38, _⟩ => ⟨S6144x1, .f32⟩
  | .hbm, ⟨39, _⟩ => ⟨S6144x1, .f32⟩
  | .hbm, ⟨40, _⟩ => ⟨S6144x256, .f32⟩
  | .hbm, ⟨41, _⟩ => ⟨S6144x256, .f32⟩
  | .hbm, ⟨42, _⟩ => ⟨S1x256, .f32⟩
  | .hbm, ⟨43, _⟩ => ⟨S6144x256, .f32⟩
  | .hbm, ⟨44, _⟩ => ⟨S6144x256, .f32⟩
  | .hbm, ⟨45, _⟩ => ⟨S1x768, .f32⟩
  | .hbm, ⟨46, _⟩ => ⟨S768, .f32⟩
  | .hbm, ⟨47, _⟩ => ⟨S1x256, .f32⟩
  | .hbm, ⟨48, _⟩ => ⟨S256, .f32⟩
  | .hbm, ⟨49, _⟩ => ⟨S6144x512, .f32⟩
  | .hbm, ⟨50, _⟩ => ⟨S6144x768, .f32⟩
  | .hbm, ⟨51, _⟩ => ⟨S6144x256, .f32⟩
  | .hbm, ⟨52, _⟩ => ⟨S6144x64, .f32⟩
  | .hbm, ⟨53, _⟩ => ⟨S6144x768, .f32⟩
  | .hbm, ⟨54, _⟩ => ⟨S_, .f32⟩
  | .hbm, ⟨55, _⟩ => ⟨S6144, .f32⟩
  | .hbm, ⟨56, _⟩ => ⟨S6144x1, .f32⟩
  | .hbm, ⟨57, _⟩ => ⟨S_, .f32⟩
  | .hbm, ⟨58, _⟩ => ⟨S6144x1, .f32⟩
  | .hbm, ⟨59, _⟩ => ⟨S6144x1, .f32⟩
  | .hbm, ⟨60, _⟩ => ⟨S_, .f32⟩
  | .hbm, ⟨61, _⟩ => ⟨S6144x1, .f32⟩
  | .hbm, ⟨62, _⟩ => ⟨S6144x1, .f32⟩
  | .hbm, ⟨63, _⟩ => ⟨S6144x1, .f32⟩
  | .hbm, ⟨64, _⟩ => ⟨S6144x768, .f32⟩
  | .hbm, ⟨65, _⟩ => ⟨S6144x768, .f32⟩
  | .hbm, ⟨66, _⟩ => ⟨S1x768, .f32⟩
  | .hbm, ⟨67, _⟩ => ⟨S6144x768, .f32⟩
  | .hbm, ⟨68, _⟩ => ⟨S6144x768, .f32⟩
  | .hbm, ⟨69, _⟩ => ⟨S6144x768, .bf16⟩
  | .hbm, ⟨70, _⟩ => ⟨S6144x256, .f32⟩
  | .hbm, ⟨71, _⟩ => ⟨S_, .f32⟩
  | .hbm, ⟨72, _⟩ => ⟨S6144, .f32⟩
  | .hbm, ⟨73, _⟩ => ⟨S6144x1, .f32⟩
  | .hbm, ⟨74, _⟩ => ⟨S_, .f32⟩
  | .hbm, ⟨75, _⟩ => ⟨S6144x1, .f32⟩
  | .hbm, ⟨76, _⟩ => ⟨S6144x1, .f32⟩
  | .hbm, ⟨77, _⟩ => ⟨S_, .f32⟩
  | .hbm, ⟨78, _⟩ => ⟨S6144x1, .f32⟩
  | .hbm, ⟨79, _⟩ => ⟨S6144x1, .f32⟩
  | .hbm, ⟨80, _⟩ => ⟨S6144x1, .f32⟩
  | .hbm, ⟨81, _⟩ => ⟨S6144x256, .f32⟩
  | .hbm, ⟨82, _⟩ => ⟨S6144x256, .f32⟩
  | .hbm, ⟨83, _⟩ => ⟨S1x256, .f32⟩
  | .hbm, ⟨84, _⟩ => ⟨S6144x256, .f32⟩
  | .hbm, ⟨85, _⟩ => ⟨S6144x256, .f32⟩
  | .hbm, ⟨86, _⟩ => ⟨S4096x256, .f32⟩
  | .hbm, ⟨87, _⟩ => ⟨S16x256x256, .f32⟩
  | .hbm, ⟨88, _⟩ => ⟨S4096x256, .f32⟩
  | .hbm, ⟨89, _⟩ => ⟨S16x256x256, .f32⟩
  | .hbm, ⟨90, _⟩ => ⟨S16x1x256x256, .f32⟩
  | .hbm, ⟨91, _⟩ => ⟨S16x1x256x256, .f32⟩
  | .hbm, ⟨92, _⟩ => ⟨S16x2x256x256, .f32⟩
  | .hbm, ⟨93, _⟩ => ⟨S4096x64, .f32⟩
  | .hbm, ⟨94, _⟩ => ⟨S16x256x64, .f32⟩
  | .hbm, ⟨95, _⟩ => ⟨S4096x64, .f32⟩
  | .hbm, ⟨96, _⟩ => ⟨S16x256x64, .f32⟩
  | .hbm, ⟨97, _⟩ => ⟨S16x1x256x64, .f32⟩
  | .hbm, ⟨98, _⟩ => ⟨S16x1x256x64, .f32⟩
  | .hbm, ⟨99, _⟩ => ⟨S16x2x256x64, .f32⟩
  | _, _ => ⟨S6144x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Modulate.lean ====
abbrev S16x256x2048 : Shape := ⟨3, ![16, 256, 2048]⟩
abbrev S2x1024x2048 : Shape := ⟨3, ![2, 1024, 2048]⟩
abbrev S4x3x6x1x2048 : Shape := ⟨5, ![4, 3, 6, 1, 2048]⟩
abbrev S4096x2048 : Shape := ⟨2, ![4096, 2048]⟩
abbrev S2048x2048 : Shape := ⟨2, ![2048, 2048]⟩
abbrev S6144x2048 : Shape := ⟨2, ![6144, 2048]⟩
abbrev S512x2048 : Shape := ⟨2, ![512, 2048]⟩
abbrev S1x1x1x1x2048 : Shape := ⟨5, ![1, 1, 1, 1, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S16x256x2048, .f32⟩
  | .hbm, ⟨1, _⟩ => ⟨S2x1024x2048, .f32⟩
  | .hbm, ⟨2, _⟩ => ⟨S4x3x6x1x2048, .f32⟩
  | .hbm, ⟨3, _⟩ => ⟨S4096x2048, .f32⟩
  | .hbm, ⟨4, _⟩ => ⟨S2048x2048, .f32⟩
  | .hbm, ⟨5, _⟩ => ⟨S6144x2048, .f32⟩
  | .hbm, ⟨6, _⟩ => ⟨S6144x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c1_i32_8 : BitVec 32 := 1#32
  let c0_i32_9 : BitVec 32 := 0#32
  let c0_i32_10 : BitVec 32 := 0#32
  let c0_i32_11 : BitVec 32 := 0#32
  ![c0_i32_7.toNat, v20.toNat, c1_i32_8.toNat, c0_i32_9.toNat, c0_i32_10.toNat]

def cc0_transform_3 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  let c0_i32_11 : BitVec 32 := 0#32
  ![c0_i32_7.toNat, v20.toNat, c0_i32_8.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModulateReferenceIdeal.lean ====
abbrev S16x256x2048 : Shape := ⟨3, ![16, 256, 2048]⟩
abbrev S2x1024x2048 : Shape := ⟨3, ![2, 1024, 2048]⟩
abbrev S4x3x6x1x2048 : Shape := ⟨5, ![4, 3, 6, 1, 2048]⟩
abbrev S4096x2048 : Shape := ⟨2, ![4096, 2048]⟩
abbrev S2048x2048 : Shape := ⟨2, ![2048, 2048]⟩
abbrev S6144x2048 : Shape := ⟨2, ![6144, 2048]⟩
abbrev S1x3x1x1x2048 : Shape := ⟨5, ![1, 3, 1, 1, 2048]⟩
abbrev S3x1x2048 : Shape := ⟨3, ![3, 1, 2048]⟩
abbrev S1x1x2048 : Shape := ⟨3, ![1, 1, 2048]⟩
abbrev S1x2048 : Shape := ⟨2, ![1, 2048]⟩
abbrev S1024x2048 : Shape := ⟨2, ![1024, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2x1024x2048, .f32⟩
  | .hbm, ⟨2, _⟩ => ⟨S4x3x6x1x2048, .f32⟩
  | .hbm, ⟨3, _⟩ => ⟨S4096x2048, .f32⟩
  | .hbm, ⟨4, _⟩ => ⟨S2048x2048, .f32⟩
  | .hbm, ⟨5, _⟩ => ⟨S6144x2048, .f32⟩
  | .hbm, ⟨6, _⟩ => ⟨S1x3x1x1x2048, .f32⟩
  | .hbm, ⟨7, _⟩ => ⟨S3x1x2048, .f32⟩
  | .hbm, ⟨8, _⟩ => ⟨S1x1x2048, .f32⟩
  | .hbm, ⟨9, _⟩ => ⟨S1x2048, .f32⟩
  | .hbm, ⟨10, _⟩ => ⟨S4096x2048, .f32⟩
  | .hbm, ⟨11, _⟩ => ⟨S1x1x2048, .f32⟩
  | .hbm, ⟨12, _⟩ => ⟨S1x2048, .f32⟩
  | .hbm, ⟨13, _⟩ => ⟨S1024x2048, .f32⟩
  | .hbm, ⟨14, _⟩ => ⟨S1x1x2048, .f32⟩
  | .hbm, ⟨15, _⟩ => ⟨S1x2048, .f32⟩
  | .hbm, ⟨16, _⟩ => ⟨S1024x2048, .f32⟩
  | .hbm, ⟨17, _⟩ => ⟨S6144x2048, .f32⟩
  | .hbm, ⟨18, _⟩ => ⟨S_, .f32⟩
  | .hbm, ⟨19, _⟩ => ⟨S6144x2048, .f32⟩
  | .hbm, ⟨20, _⟩ => ⟨S6144x2048, .f32⟩
  | .hbm, ⟨21, _⟩ => ⟨S6144x2048, .f32⟩
  | .hbm, ⟨22, _⟩ => ⟨S1x3x1x1x2048, .f32⟩
  | .hbm, ⟨23, _⟩ => ⟨S3x1x2048, .f32⟩
  | .hbm, ⟨24, _⟩ => ⟨S1x1x2048, .f32⟩
  | .hbm, ⟨25, _⟩ => ⟨S1x2048, .f32⟩
  | .hbm, ⟨26, _⟩ => ⟨S4096x2048, .f32⟩
  | .hbm, ⟨27, _⟩ => ⟨S1x1x2048, .f32⟩
  | .hbm, ⟨28, _⟩ => ⟨S1x2048, .f32⟩
  | .hbm, ⟨29, _⟩ => ⟨S1024x2048, .f32⟩
  | .hbm, ⟨30, _⟩ => ⟨S1x1x2048, .f32⟩
  | .hbm, ⟨31, _⟩ => ⟨S1x2048, .f32⟩
  | .hbm, ⟨32, _⟩ => ⟨S1024x2048, .f32⟩
  | .hbm, ⟨33, _⟩ => ⟨S6144x2048, .f32⟩
  | .hbm, ⟨34, _⟩ => ⟨S6144x2048, .f32⟩
  | .hbm, ⟨35, _⟩ => ⟨S6144x2048, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Mixed.lean ====
abbrev S6144x2048 : Shape := ⟨2, ![6144, 2048]⟩
abbrev S4x3x6x1x2048 : Shape := ⟨5, ![4, 3, 6, 1, 2048]⟩
abbrev S4x2048 : Shape := ⟨2, ![4, 2048]⟩
abbrev S4x1x2048 : Shape := ⟨3, ![4, 1, 2048]⟩
abbrev S512x2048 : Shape := ⟨2, ![512, 2048]⟩
abbrev S1x1x1x1x2048 : Shape := ⟨5, ![1, 1, 1, 1, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S6144x2048, .f32⟩
  | .hbm, ⟨1, _⟩ => ⟨S6144x2048, .bf16⟩
  | .hbm, ⟨2, _⟩ => ⟨S4x3x6x1x2048, .f32⟩
  | .hbm, ⟨3, _⟩ => ⟨S4x2048, .f32⟩
  | .hbm, ⟨4, _⟩ => ⟨S4x2048, .f32⟩
  | .hbm, ⟨5, _⟩ => ⟨S4x1x2048, .f32⟩
  | .hbm, ⟨6, _⟩ => ⟨S4x1x2048, .f32⟩
  | .hbm, ⟨7, _⟩ => ⟨S6144x2048, .f32⟩
  | .hbm, ⟨8, _⟩ => ⟨S6144x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x1x1x2048, .f32⟩
  | .local _ .vmem, ⟨11, _⟩ => ⟨S1x1x1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c2_i32_8 : BitVec 32 := 2#32
  let c0_i32_9 : BitVec 32 := 0#32
  let c0_i32_10 : BitVec 32 := 0#32
  let c0_i32_11 : BitVec 32 := 0#32
  ![c0_i32_7.toNat, v20.toNat, c2_i32_8.toNat, c0_i32_9.toNat, c0_i32_10.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c4_i32 : BitVec 32 := 4#32
  let c0_i32_8 : BitVec 32 := 0#32
  let c0_i32_9 : BitVec 32 := 0#32
  let c0_i32_10 : BitVec 32 := 0#32
  ![c0_i32_7.toNat, v20.toNat, c4_i32.toNat, c0_i32_8.toNat, c0_i32_9.toNat]

def cc0_transform_6 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c3_i32 : BitVec 32 := 3#32
  let c0_i32_8 : BitVec 32 := 0#32
  let c0_i32_9 : BitVec 32 := 0#32
  let c0_i32_10 : BitVec 32 := 0#32
  ![c0_i32_7.toNat, v20.toNat, c3_i32.toNat, c0_i32_8.toNat, c0_i32_9.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixedReferenceIdeal.lean ====
abbrev S6144x2048 : Shape := ⟨2, ![6144, 2048]⟩
abbrev S4x3x6x1x2048 : Shape := ⟨5, ![4, 3, 6, 1, 2048]⟩
abbrev S4x2048 : Shape := ⟨2, ![4, 2048]⟩
abbrev S_ : Shape := ⟨0, ![]⟩
abbrev S1x3x1x1x2048 : Shape := ⟨5, ![1, 3, 1, 1, 2048]⟩
abbrev S3x1x2048 : Shape := ⟨3, ![3, 1, 2048]⟩
abbrev S1x1x2048 : Shape := ⟨3, ![1, 1, 2048]⟩
abbrev S1x2048 : Shape := ⟨2, ![1, 2048]⟩
abbrev S4096x2048 : Shape := ⟨2, ![4096, 2048]⟩
abbrev S1024x2048 : Shape := ⟨2, ![1024, 2048]⟩
abbrev S2048 : Shape := ⟨1, ![2048]⟩
abbrev S6144 : Shape := ⟨1, ![6144]⟩
abbrev S6144x1 : Shape := ⟨2, ![6144, 1]⟩

abbrev nBuf : Space → Nat
  | .hbm => 86
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .bf16⟩
  | .hbm, ⟨2, _⟩ => ⟨S4x3x6x1x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S6144x2048, .f32⟩
  | .hbm, ⟨7, _⟩ => ⟨S6144x2048, .f32⟩
  | .hbm, ⟨8, _⟩ => ⟨S1x3x1x1x2048, .f32⟩
  | .hbm, ⟨9, _⟩ => ⟨S3x1x2048, .f32⟩
  | .hbm, ⟨10, _⟩ => ⟨S1x1x2048, .f32⟩
  | .hbm, ⟨11, _⟩ => ⟨S1x2048, .f32⟩
  | .hbm, ⟨12, _⟩ => ⟨S4096x2048, .f32⟩
  | .hbm, ⟨13, _⟩ => ⟨S1x1x2048, .f32⟩
  | .hbm, ⟨14, _⟩ => ⟨S1x2048, .f32⟩
  | .hbm, ⟨15, _⟩ => ⟨S1024x2048, .f32⟩
  | .hbm, ⟨16, _⟩ => ⟨S1x1x2048, .f32⟩
  | .hbm, ⟨17, _⟩ => ⟨S1x2048, .f32⟩
  | .hbm, ⟨18, _⟩ => ⟨S1024x2048, .f32⟩
  | .hbm, ⟨19, _⟩ => ⟨S6144x2048, .f32⟩
  | .hbm, ⟨20, _⟩ => ⟨S6144x2048, .f32⟩
  | .hbm, ⟨21, _⟩ => ⟨S6144x2048, .f32⟩
  | .hbm, ⟨22, _⟩ => ⟨S6144x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S_, .f32⟩
  | .hbm, ⟨28, _⟩ => ⟨S6144, .f32⟩
  | .hbm, ⟨29, _⟩ => ⟨S6144x1, .f32⟩
  | .hbm, ⟨30, _⟩ => ⟨S_, .f32⟩
  | .hbm, ⟨31, _⟩ => ⟨S6144x1, .f32⟩
  | .hbm, ⟨32, _⟩ => ⟨S6144x1, .f32⟩
  | .hbm, ⟨33, _⟩ => ⟨S6144x2048, .f32⟩
  | .hbm, ⟨34, _⟩ => ⟨S6144x2048, .f32⟩
  | .hbm, ⟨35, _⟩ => ⟨S6144x2048, .f32⟩
  | .hbm, ⟨36, _⟩ => ⟨S_, .f32⟩
  | .hbm, ⟨37, _⟩ => ⟨S6144, .f32⟩
  | .hbm, ⟨38, _⟩ => ⟨S6144x1, .f32⟩
  | .hbm, ⟨39, _⟩ => ⟨S_, .f32⟩
  | .hbm, ⟨40, _⟩ => ⟨S6144x1, .f32⟩
  | .hbm, ⟨41, _⟩ => ⟨S6144x1, .f32⟩
  | .hbm, ⟨42, _⟩ => ⟨S6144x2048, .f32⟩
  | .hbm, ⟨43, _⟩ => ⟨S6144x2048, .f32⟩
  | .hbm, ⟨44, _⟩ => ⟨S_, .f32⟩
  | .hbm, ⟨45, _⟩ => ⟨S6144x1, .f32⟩
  | .hbm, ⟨46, _⟩ => ⟨S6144x1, .f32⟩
  | .hbm, ⟨47, _⟩ => ⟨S6144x1, .f32⟩
  | .hbm, ⟨48, _⟩ => ⟨S6144x2048, .f32⟩
  | .hbm, ⟨49, _⟩ => ⟨S6144x2048, .f32⟩
  | .hbm, ⟨50, _⟩ => ⟨S1x2048, .f32⟩
  | .hbm, ⟨51, _⟩ => ⟨S6144x2048, .f32⟩
  | .hbm, ⟨52, _⟩ => ⟨S6144x2048, .f32⟩
  | .hbm, ⟨53, _⟩ => ⟨S1x2048, .f32⟩
  | .hbm, ⟨54, _⟩ => ⟨S6144x2048, .f32⟩
  | .hbm, ⟨55, _⟩ => ⟨S6144x2048, .f32⟩
  | .hbm, ⟨56, _⟩ => ⟨S1x3x1x1x2048, .f32⟩
  | .hbm, ⟨57, _⟩ => ⟨S3x1x2048, .f32⟩
  | .hbm, ⟨58, _⟩ => ⟨S1x1x2048, .f32⟩
  | .hbm, ⟨59, _⟩ => ⟨S1x2048, .f32⟩
  | .hbm, ⟨60, _⟩ => ⟨S4096x2048, .f32⟩
  | .hbm, ⟨61, _⟩ => ⟨S1x1x2048, .f32⟩
  | .hbm, ⟨62, _⟩ => ⟨S1x2048, .f32⟩
  | .hbm, ⟨63, _⟩ => ⟨S1024x2048, .f32⟩
  | .hbm, ⟨64, _⟩ => ⟨S1x1x2048, .f32⟩
  | .hbm, ⟨65, _⟩ => ⟨S1x2048, .f32⟩
  | .hbm, ⟨66, _⟩ => ⟨S1024x2048, .f32⟩
  | .hbm, ⟨67, _⟩ => ⟨S6144x2048, .f32⟩
  | .hbm, ⟨68, _⟩ => ⟨S_, .f32⟩
  | .hbm, ⟨69, _⟩ => ⟨S6144x2048, .f32⟩
  | .hbm, ⟨70, _⟩ => ⟨S6144x2048, .f32⟩
  | .hbm, ⟨71, _⟩ => ⟨S6144x2048, .f32⟩
  | .hbm, ⟨72, _⟩ => ⟨S1x3x1x1x2048, .f32⟩
  | .hbm, ⟨73, _⟩ => ⟨S3x1x2048, .f32⟩
  | .hbm, ⟨74, _⟩ => ⟨S1x1x2048, .f32⟩
  | .hbm, ⟨75, _⟩ => ⟨S1x2048, .f32⟩
  | .hbm, ⟨76, _⟩ => ⟨S4096x2048, .f32⟩
  | .hbm, ⟨77, _⟩ => ⟨S1x1x2048, .f32⟩
  | .hbm, ⟨78, _⟩ => ⟨S1x2048, .f32⟩
  | .hbm, ⟨79, _⟩ => ⟨S1024x2048, .f32⟩
  | .hbm, ⟨80, _⟩ => ⟨S1x1x2048, .f32⟩
  | .hbm, ⟨81, _⟩ => ⟨S1x2048, .f32⟩
  | .hbm, ⟨82, _⟩ => ⟨S1024x2048, .f32⟩
  | .hbm, ⟨83, _⟩ => ⟨S6144x2048, .f32⟩
  | .hbm, ⟨84, _⟩ => ⟨S6144x2048, .f32⟩
  | .hbm, ⟨85, _⟩ => ⟨S6144x2048, .bf16⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Adapt.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaptReferenceIdeal.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Last.lean ====
abbrev S6144x2048 : Shape := ⟨2, ![6144, 2048]⟩
abbrev S6144x128 : Shape := ⟨2, ![6144, 128]⟩
abbrev S4x3x6x1x2048 : Shape := ⟨5, ![4, 3, 6, 1, 2048]⟩
abbrev S4x2048 : Shape := ⟨2, ![4, 2048]⟩
abbrev S4x1x2048 : Shape := ⟨3, ![4, 1, 2048]⟩
abbrev S4096x2048 : Shape := ⟨2, ![4096, 2048]⟩
abbrev S2048x2048 : Shape := ⟨2, ![2048, 2048]⟩
abbrev S512x2048 : Shape := ⟨2, ![512, 2048]⟩
abbrev S512x128 : Shape := ⟨2, ![512, 128]⟩
abbrev S1x1x1x1x2048 : Shape := ⟨5, ![1, 1, 1, 1, 2048]⟩
abbrev S1x1x2048 : Shape := ⟨3, ![1, 1, 2048]⟩
abbrev S512x1 : Shape := ⟨2, ![512, 1]⟩
abbrev S1x2048 : Shape := ⟨2, ![1, 2048]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S6144x2048, .f32⟩
  | .hbm, ⟨1, _⟩ => ⟨S6144x2048, .bf16⟩
  | .hbm, ⟨2, _⟩ => ⟨S6144x2048, .bf16⟩
  | .hbm, ⟨3, _⟩ => ⟨S6144x128, .f32⟩
  | .hbm, ⟨4, _⟩ => ⟨S4x3x6x1x2048, .f32⟩
  | .hbm, ⟨5, _⟩ => ⟨S4x2048, .f32⟩
  | .hbm, ⟨6, _⟩ => ⟨S4x2048, .f32⟩
  | .hbm, ⟨7, _⟩ => ⟨S4x1x2048, .f32⟩
  | .hbm, ⟨8, _⟩ => ⟨S4x1x2048, .f32⟩
  | .hbm, ⟨9, _⟩ => ⟨S4096x2048, .f32⟩
  | .hbm, ⟨10, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S1x1x1x1x2048, .f32⟩
  | .local _ .vmem, ⟨9, _⟩ => ⟨S1x1x1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c8_i32 : BitVec 32 := 8#32
  let v44 : BitVec 1 := Scalar.cmpi .slt arg0 c8_i32
  let v45 : BitVec 32 := Scalar.extui v44
  let c0_i32 : BitVec 32 := 0#32
  let v46 : BitVec 1 := Scalar.cmpi .ne v45 c0_i32
  v46

def k0_cond2 (i : grid0.Coords) : BitVec 1 :=
  let arg0 : BitVec 32 := BitVec.ofNat 32 (i 0).val
  let c8_i32_23 : BitVec 32 := 8#32
  let v47 : BitVec 1 := Scalar.cmpi .sge arg0 c8_i32_23
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c3_i32 : BitVec 32 := 3#32
  let c5_i32 : BitVec 32 := 5#32
  let c0_i32_7 : BitVec 32 := 0#32
  let c0_i32_8 : BitVec 32 := 0#32
  let c0_i32_9 : BitVec 32 := 0#32
  ![c3_i32.toNat, v20.toNat, c5_i32.toNat, c0_i32_7.toNat, c0_i32_8.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastReferenceIdeal.lean ====
abbrev S6144x2048 : Shape := ⟨2, ![6144, 2048]⟩
abbrev S6144x128 : Shape := ⟨2, ![6144, 128]⟩
abbrev S4x3x6x1x2048 : Shape := ⟨5, ![4, 3, 6, 1, 2048]⟩
abbrev S4x2048 : Shape := ⟨2, ![4, 2048]⟩
abbrev S6144x1 : Shape := ⟨2, ![6144, 1]⟩
abbrev S_ : Shape := ⟨0, ![]⟩
abbrev S1x3x1x1x2048 : Shape := ⟨5, ![1, 3, 1, 1, 2048]⟩
abbrev S3x1x2048 : Shape := ⟨3, ![3, 1, 2048]⟩
abbrev S1x1x2048 : Shape := ⟨3, ![1, 1, 2048]⟩
abbrev S1x2048 : Shape := ⟨2, ![1, 2048]⟩
abbrev S4096x2048 : Shape := ⟨2, ![4096, 2048]⟩
abbrev S1024x2048 : Shape := ⟨2, ![1024, 2048]⟩
abbrev S2048 : Shape := ⟨1, ![2048]⟩
abbrev S6144 : Shape := ⟨1, ![6144]⟩
abbrev S2048x2048 : Shape := ⟨2, ![2048, 2048]⟩

abbrev nBuf : Space → Nat
  | .hbm => 68
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .bf16⟩
  | .hbm, ⟨2, _⟩ => ⟨S6144x2048, .bf16⟩
  | .hbm, ⟨3, _⟩ => ⟨S6144x128, .f32⟩
  | .hbm, ⟨4, _⟩ => ⟨S4x3x6x1x2048, .f32⟩
  | .hbm, ⟨5, _⟩ => ⟨S4x2048, .f32⟩
  | .hbm, ⟨6, _⟩ => ⟨S4x2048, .f32⟩
  | .hbm, ⟨7, _⟩ => ⟨S6144x2048, .f32⟩
  | .hbm, ⟨8, _⟩ => ⟨S6144x1, .f32⟩
  | .hbm, ⟨9, _⟩ => ⟨S6144x2048, .f32⟩
  | .hbm, ⟨10, _⟩ => ⟨S6144x2048, .f32⟩
  | .hbm, ⟨11, _⟩ => ⟨S6144x2048, .f32⟩
  | .hbm, ⟨12, _⟩ => ⟨S6144x1, .f32⟩
  | .hbm, ⟨13, _⟩ => ⟨S6144x2048, .f32⟩
  | .hbm, ⟨14, _⟩ => ⟨S6144x2048, .f32⟩
  | .hbm, ⟨15, _⟩ => ⟨S6144x2048, .f32⟩
  | .hbm, ⟨16, _⟩ => ⟨S_, .f32⟩
  | .hbm, ⟨17, _⟩ => ⟨S6144x2048, .f32⟩
  | .hbm, ⟨18, _⟩ => ⟨S6144x2048, .f32⟩
  | .hbm, ⟨19, _⟩ => ⟨S1x3x1x1x2048, .f32⟩
  | .hbm, ⟨20, _⟩ => ⟨S3x1x2048, .f32⟩
  | .hbm, ⟨21, _⟩ => ⟨S1x1x2048, .f32⟩
  | .hbm, ⟨22, _⟩ => ⟨S1x2048, .f32⟩
  | .hbm, ⟨23, _⟩ => ⟨S4096x2048, .f32⟩
  | .hbm, ⟨24, _⟩ => ⟨S1x1x2048, .f32⟩
  | .hbm, ⟨25, _⟩ => ⟨S1x2048, .f32⟩
  | .hbm, ⟨26, _⟩ => ⟨S1024x2048, .f32⟩
  | .hbm, ⟨27, _⟩ => ⟨S1x1x2048, .f32⟩
  | .hbm, ⟨28, _⟩ => ⟨S1x2048, .f32⟩
  | .hbm, ⟨29, _⟩ => ⟨S1024x2048, .f32⟩
  | .hbm, ⟨30, _⟩ => ⟨S6144x2048, .f32⟩
  | .hbm, ⟨31, _⟩ => ⟨S6144x2048, .f32⟩
  | .hbm, ⟨32, _⟩ => ⟨S6144x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S2048, .f32⟩
  | .hbm, ⟨37, _⟩ => ⟨S_, .f32⟩
  | .hbm, ⟨38, _⟩ => ⟨S6144, .f32⟩
  | .hbm, ⟨39, _⟩ => ⟨S6144x1, .f32⟩
  | .hbm, ⟨40, _⟩ => ⟨S_, .f32⟩
  | .hbm, ⟨41, _⟩ => ⟨S6144x1, .f32⟩
  | .hbm, ⟨42, _⟩ => ⟨S6144x1, .f32⟩
  | .hbm, ⟨43, _⟩ => ⟨S6144x2048, .f32⟩
  | .hbm, ⟨44, _⟩ => ⟨S6144x2048, .f32⟩
  | .hbm, ⟨45, _⟩ => ⟨S6144x2048, .f32⟩
  | .hbm, ⟨46, _⟩ => ⟨S_, .f32⟩
  | .hbm, ⟨47, _⟩ => ⟨S6144, .f32⟩
  | .hbm, ⟨48, _⟩ => ⟨S6144x1, .f32⟩
  | .hbm, ⟨49, _⟩ => ⟨S_, .f32⟩
  | .hbm, ⟨50, _⟩ => ⟨S6144x1, .f32⟩
  | .hbm, ⟨51, _⟩ => ⟨S6144x1, .f32⟩
  | .hbm, ⟨52, _⟩ => ⟨S6144x2048, .f32⟩
  | .hbm, ⟨53, _⟩ => ⟨S6144x2048, .f32⟩
  | .hbm, ⟨54, _⟩ => ⟨S_, .f32⟩
  | .hbm, ⟨55, _⟩ => ⟨S6144x1, .f32⟩
  | .hbm, ⟨56, _⟩ => ⟨S6144x1, .f32⟩
  | .hbm, ⟨57, _⟩ => ⟨S6144x1, .f32⟩
  | .hbm, ⟨58, _⟩ => ⟨S6144x2048, .f32⟩
  | .hbm, ⟨59, _⟩ => ⟨S6144x2048, .f32⟩
  | .hbm, ⟨60, _⟩ => ⟨S1x2048, .f32⟩
  | .hbm, ⟨61, _⟩ => ⟨S6144x2048, .f32⟩
  | .hbm, ⟨62, _⟩ => ⟨S6144x2048, .f32⟩
  | .hbm, ⟨63, _⟩ => ⟨S1x2048, .f32⟩
  | .hbm, ⟨64, _⟩ => ⟨S6144x2048, .f32⟩
  | .hbm, ⟨65, _⟩ => ⟨S6144x2048, .f32⟩
  | .hbm, ⟨66, _⟩ => ⟨S4096x2048, .f32⟩
  | .hbm, ⟨67, _⟩ => ⟨S2048x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Proof.Soft.lean ====
/- The softmax of a row of scores cut in two parts, computed with one shared maximum and divided at the end,
   is the softmax of the whole row divided entry by entry. Over the extended reals, for real scores; the
   values that the weights multiply may be infinite. -/
module

public import Idealize.ShloMosaic.PureOps.Ideal.Laws
public import Idealize.ShloMosaic.Lib.Pointwise

@[expose] public section

noncomputable section

open Idealize.ShloMosaic
open scoped BigOperators

namespace Cert.Soft

/-- An extended real that is a real number. -/
def IsReal (x : EReal) : Prop := ∃ r : ℝ, x = (r : EReal)

namespace IsReal

theorem of_ne {x : EReal} (hb : x ≠ ⊥) (ht : x ≠ ⊤) : IsReal x :=
  ⟨x.toReal, (EReal.coe_toReal ht hb).symm⟩

theorem zero : IsReal 0 := ⟨0, rfl⟩

theorem add {x y : EReal} : IsReal x → IsReal y → IsReal (x + y) := by
  rintro ⟨a, rfl⟩ ⟨b, rfl⟩; exact ⟨a + b, (EReal.coe_add a b).symm⟩

theorem sub {x y : EReal} : IsReal x → IsReal y → IsReal (x - y) := by
  rintro ⟨a, rfl⟩ ⟨b, rfl⟩; exact ⟨a - b, (EReal.coe_sub a b).symm⟩

theorem mul {x y : EReal} : IsReal x → IsReal y → IsReal (x * y) := by
  rintro ⟨a, rfl⟩ ⟨b, rfl⟩; exact ⟨a * b, (EReal.coe_mul a b).symm⟩

theorem cos {x : EReal} : IsReal x → IsReal (Ideal.cos x) := by
  rintro ⟨a, rfl⟩; exact ⟨Real.cos a, rfl⟩

theorem sin {x : EReal} : IsReal x → IsReal (Ideal.sin x) := by
  rintro ⟨a, rfl⟩; exact ⟨Real.sin a, rfl⟩

theorem sum {ι : Type} {s : Finset ι} {f : ι → EReal} (h : ∀ i ∈ s, IsReal (f i)) : IsReal (∑ i ∈ s, f i) :=
  Finset.sum_induction f IsReal (fun _ _ => add) zero h

end IsReal

/-- The maximum of a row, from ⊥. -/
def rowMax {n : ℕ} (s : Fin n → EReal) : EReal := Finset.univ.fold max ⊥ s

theorem rowMax_eq_sup {n : ℕ} (s : Fin n → EReal) : rowMax s = Finset.univ.sup s := rfl

theorem rowMax_real {n : ℕ} (hn : 0 < n) (s : Fin n → EReal) (h : ∀ j, IsReal (s j)) : IsReal (rowMax s) := by
  rw [rowMax_eq_sup]
  obtain ⟨i, -, hi⟩ := Finset.exists_mem_eq_sup Finset.univ ⟨⟨0, hn⟩, Finset.mem_univ _⟩ s
  rw [hi]; exact h i

/-- The maximum of a row cut in two. -/
theorem rowMax_append {a b : ℕ} (t : Fin (a + b) → EReal) :
    rowMax t = max (rowMax fun j => t (Fin.natAdd a j)) (rowMax fun j => t (Fin.castAdd b j)) := by
  simp only [rowMax_eq_sup]
  apply le_antisymm
  · refine Finset.sup_le fun j _ => ?_
    refine Fin.addCases (fun i => ?_) (fun i => ?_) j
    · exact (Finset.le_sup (f := fun j => t (Fin.castAdd b j)) (Finset.mem_univ i)).trans (le_max_right _ _)
    · exact (Finset.le_sup (f := fun j => t (Fin.natAdd a j)) (Finset.mem_univ i)).trans (le_max_left _ _)
  · exact max_le (Finset.sup_le fun j _ => Finset.le_sup (Finset.mem_univ _)) (Finset.sup_le fun j _ => Finset.le_sup (Finset.mem_univ _))

/-- The weight of a score under a maximum. -/
def weight (M s : EReal) : EReal := Ideal.exp (s - M)

theorem weight_pos {M s : EReal} (hM : IsReal M) (hs : IsReal s) : ∃ r : ℝ, 0 < r ∧ weight M s = (r : EReal) := by
  obtain ⟨m, rfl⟩ := hM
  obtain ⟨x, rfl⟩ := hs
  exact ⟨Real.exp (x - m), Real.exp_pos _, by rw [weight, ← EReal.coe_sub]; rfl⟩

/-- The weights of a nonempty row of real scores sum to a positive real. -/
theorem sum_weight_pos {n : ℕ} (hn : 0 < n) {M : EReal} (hM : IsReal M) (s : Fin n → EReal) (h : ∀ j, IsReal (s j)) :
    ∃ r : ℝ, 0 < r ∧ ∑ j, weight M (s j) = (r : EReal) := by
  choose w hw he using fun j => weight_pos hM (h j)
  refine ⟨∑ j, w j, Finset.sum_pos (fun j _ => hw j) ⟨⟨0, hn⟩, Finset.mem_univ _⟩, ?_⟩
  rw [Finset.sum_congr rfl fun j _ => he j]
  exact (map_sum (⟨⟨Real.toEReal, EReal.coe_zero⟩, EReal.coe_add⟩ : ℝ →+ EReal) w Finset.univ).symm

/-- A nonnegative real factor goes into a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

theorem div_real (x : EReal) {l : ℝ} (hl : 0 < l) : Ideal.div x (l : EReal) = x * ((l⁻¹ : ℝ) : EReal) := by
  unfold Ideal.div
  rw [if_neg (by exact_mod_cast hl.ne'), EReal.coe_inv]

/-- The row computed in two parts: the second part of the keys first, one maximum, one division at the end. -/
def twoPart {a b : ℕ} (s : Fin b → EReal) (sc : Fin a → EReal) (v : Fin b → EReal) (vc : Fin a → EReal) : EReal :=
  Ideal.div
    (∑ j, weight (max (rowMax s) (rowMax sc)) (s j) * v j + ∑ j, weight (max (rowMax s) (rowMax sc)) (sc j) * vc j)
    (∑ j, weight (max (rowMax s) (rowMax sc)) (s j) + ∑ j, weight (max (rowMax s) (rowMax sc)) (sc j))

/-- The row computed whole: every weight divided by the weights' sum. -/
def whole {n : ℕ} (t : Fin n → EReal) (v : Fin n → EReal) : EReal :=
  ∑ j, v j * Ideal.div (weight (rowMax t) (t j)) (∑ k, weight (rowMax t) (t k))

theorem whole_eq_twoPart {a b : ℕ} (hab : 0 < a + b) (t v : Fin (a + b) → EReal) (h : ∀ j, IsReal (t j)) :
    whole t v = twoPart (fun j => t (Fin.natAdd a j)) (fun j => t (Fin.castAdd b j))
      (fun j => v (Fin.natAdd a j)) (fun j => v (Fin.castAdd b j)) := by
  unfold whole twoPart
  rw [← rowMax_append]
  obtain ⟨l, hl, he⟩ := sum_weight_pos hab (rowMax_real hab t h) t h
  have hs : ∑ j, weight (rowMax t) (t (Fin.natAdd a j)) + ∑ j, weight (rowMax t) (t (Fin.castAdd b j)) = (l : EReal) := by
    rw [← he, Fin.sum_univ_add, add_comm]
  have hsv : ∑ j, weight (rowMax t) (t (Fin.natAdd a j)) * v (Fin.natAdd a j)
      + ∑ j, weight (rowMax t) (t (Fin.castAdd b j)) * v (Fin.castAdd b j) = ∑ j, weight (rowMax t) (t j) * v j := by
    rw [Fin.sum_univ_add, add_comm]
  rw [hs, hsv, he, div_real _ hl, sum_mul_real _ _ (inv_nonneg.mpr hl.le)]
  refine Finset.sum_congr rfl fun j _ => ?_
  rw [div_real _ hl, ← mul_assoc, mul_comm (v j)]

end Cert.Soft

end
-- ==== Proof.Spec.lean ====
/- The attention of the sampled rows as one formula of the call's arguments: per batch row, head, query position and
   lane, a softmax over the request's own 1024 keys and the 512 keys of its context. -/
module

public import proofs.«01_k».proof.Proof.Soft

@[expose] public section

noncomputable section

open Idealize.ShloMosaic
open scoped BigOperators

namespace Cert.Spec

open Cert.Soft

/-- A matrix of extended reals. -/
abbrev Mat (a b : ℕ) : Type := (⟨2, ![a, b]⟩ : Shape).Idx → EReal
/-- A three-axis array of extended reals. -/
abbrev Cube (a b c : ℕ) : Type := (⟨3, ![a, b, c]⟩ : Shape).Idx → EReal

/-- The rotary embedding of 64 lanes: two axes of 32 lanes, each a pair of halves of 16. -/
def rot (x : Fin 64 → EReal) (th : Fin 2 → Fin 16 → EReal) (r : Fin 64) : EReal :=
  if r.val % 32 < 16 then
    x r * Ideal.cos (th ⟨r.val / 32, by omega⟩ ⟨r.val % 16, by omega⟩)
      - x ⟨(r.val + 16) % 64, by omega⟩ * Ideal.sin (th ⟨r.val / 32, by omega⟩ ⟨r.val % 16, by omega⟩)
  else
    x ⟨r.val - 16, by omega⟩ * Ideal.sin (th ⟨r.val / 32, by omega⟩ ⟨r.val % 16, by omega⟩)
      + x r * Ideal.cos (th ⟨r.val / 32, by omega⟩ ⟨r.val % 16, by omega⟩)

theorem rot_lo (x : Fin 64 → EReal) (th : Fin 2 → Fin 16 → EReal) (r : Fin 64) (h : r.val % 32 < 16) :
    rot x th r = x r * Ideal.cos (th ⟨r.val / 32, by omega⟩ ⟨r.val % 16, by omega⟩)
      - x ⟨(r.val + 16) % 64, by omega⟩ * Ideal.sin (th ⟨r.val / 32, by omega⟩ ⟨r.val % 16, by omega⟩) :=
  if_pos h

theorem rot_hi (x : Fin 64 → EReal) (th : Fin 2 → Fin 16 → EReal) (r : Fin 64) (h : ¬ r.val % 32 < 16) :
    rot x th r = x ⟨r.val - 16, by omega⟩ * Ideal.sin (th ⟨r.val / 32, by omega⟩ ⟨r.val % 16, by omega⟩)
      + x r * Ideal.cos (th ⟨r.val / 32, by omega⟩ ⟨r.val % 16, by omega⟩) :=
  if_neg h

/-- The scores' scale: the literal of both programs. -/
def scale : EReal := Ideal.ofBits .f32 1033096506#32

/-- One score. -/
def score (qn kn : Fin 128 → EReal) (qr kr : Fin 64 → EReal) : EReal :=
  (∑ d, qn d * kn d + ∑ r, kr r * qr r) * scale

variable (q : Mat 6144 2304) (kv : Mat 7168 3072) (kr : Mat 6144 64) (ang : Cube 1024 2 16) (krc : Cube 2 512 64)

def qNope (b : Fin 2) (h : Fin 12) (i : Fin 1024) (d : Fin 128) : EReal :=
  q (ix2 ⟨4096 + b.val * 1024 + i.val, by omega⟩ ⟨h.val * 128 + d.val, by omega⟩)

def qRope (b : Fin 2) (h : Fin 12) (i : Fin 1024) : Fin 64 → EReal :=
  rot (fun r => q (ix2 ⟨4096 + b.val * 1024 + i.val, by omega⟩ ⟨1536 + h.val * 64 + r.val, by omega⟩)) fun a w => ang (ix3 i a w)

/-- Lane `e` of head `h` of the request's own key and value at position `j`. -/
def kvNew (b : Fin 2) (h : Fin 12) (j : Fin 1024) (e : Fin 256) : EReal :=
  kv (ix2 ⟨4096 + b.val * 1024 + j.val, by omega⟩ ⟨h.val * 256 + e.val, by omega⟩)

/-- The same of the context. -/
def kvOld (b : Fin 2) (h : Fin 12) (j : Fin 512) (e : Fin 256) : EReal :=
  kv (ix2 ⟨6144 + b.val * 512 + j.val, by omega⟩ ⟨h.val * 256 + e.val, by omega⟩)

def krNew (b : Fin 2) (j : Fin 1024) : Fin 64 → EReal :=
  rot (fun r => kr (ix2 ⟨4096 + b.val * 1024 + j.val, by omega⟩ r)) fun a w => ang (ix3 j a w)

def sNew (b : Fin 2) (h : Fin 12) (i j : Fin 1024) : EReal :=
  score (qNope q b h i) (fun d => kvNew kv b h j ⟨d.val, by omega⟩) (qRope q ang b h i) (krNew kr ang b j)

def sOld (b : Fin 2) (h : Fin 12) (i : Fin 1024) (j : Fin 512) : EReal :=
  score (qNope q b h i) (fun d => kvOld kv b h j ⟨d.val, by omega⟩) (qRope q ang b h i) (fun r => krc (ix3 b j r))

/-- The attention's result. -/
def att (b : Fin 2) (h : Fin 12) (i : Fin 1024) (d : Fin 128) : EReal :=
  twoPart (sNew q kv kr ang b h i) (sOld q kv ang krc b h i)
    (fun j => kvNew kv b h j ⟨128 + d.val, by omega⟩) (fun j => kvOld kv b h j ⟨128 + d.val, by omega⟩)

/-- The attention written into the buffer's rows from 4096 on; the rows before are kept. -/
def out (prev : Mat 6144 1536) : Mat 6144 1536 := fun i =>
  if 4096 ≤ (i 0 : ℕ) then
    att q kv kr ang krc ⟨((i 0 : ℕ) - 4096) / 1024, by have := (i 0).isLt; change (i 0 : ℕ) < 6144 at this; omega⟩
      ⟨(i 1 : ℕ) / 128, by have := (i 1).isLt; change (i 1 : ℕ) < 1536 at this; omega⟩
      ⟨((i 0 : ℕ) - 4096) % 1024, by omega⟩ ⟨(i 1 : ℕ) % 128, by omega⟩
  else prev i

/-- The result at an index of the written rows, by its coordinates. -/
theorem out_at (prev : Mat 6144 1536) (i : (⟨2, ![6144, 1536]⟩ : Shape).Idx) (b : Fin 2) (h : Fin 12) (p : Fin 1024) (d : Fin 128)
    (h0 : (i 0 : ℕ) = 4096 + b.val * 1024 + p.val) (h1 : (i 1 : ℕ) = h.val * 128 + d.val) :
    out q kv kr ang krc prev i = att q kv kr ang krc b h p d := by
  have e : ∀ b' h' p' d', b' = b → h' = h → p' = p → d' = d → att q kv kr ang krc b' h' p' d' = att q kv kr ang krc b h p d := by
    rintro _ _ _ _ rfl rfl rfl rfl; rfl
  exact (if_pos (by omega : 4096 ≤ (i 0 : ℕ))).trans (e _ _ _ _ (Fin.ext (by show ((i 0 : ℕ) - 4096) / 1024 = b.val; omega))
    (Fin.ext (by show (i 1 : ℕ) / 128 = h.val; omega)) (Fin.ext (by show ((i 0 : ℕ) - 4096) % 1024 = p.val; omega))
    (Fin.ext (by show (i 1 : ℕ) % 128 = d.val; omega)))

theorem out_kept (prev : Mat 6144 1536) (r : Fin 6144) (d : Fin 1536) (h : r.val < 4096) :
    out q kv kr ang krc prev (ix2 r d) = prev (ix2 r d) :=
  if_neg (not_le.mpr h)

theorem out_written (prev : Mat 6144 1536) (r : Fin 6144) (d : Fin 1536) (h : 4096 ≤ r.val) :
    out q kv kr ang krc prev (ix2 r d) = att q kv kr ang krc ⟨(r.val - 4096) / 1024, by omega⟩ ⟨d.val / 128, by omega⟩
      ⟨(r.val - 4096) % 1024, by omega⟩ ⟨d.val % 128, by omega⟩ :=
  if_pos h

end Cert.Spec

end
-- ==== Proof.Head.lean ====
/- One head of the kernel's body at an index: the row's maximum, the weights and the two sums, from the slices that
   the body loads. The body keeps two heads' rotary lanes in one tile of 128 lanes and masks the other head's half. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem
open scoped BigOperators

namespace Cert.KernelIdeal.Att

open Cert.KernelIdeal Cert.KernelIdeal.Gen Cert.Soft Cert.Spec

/-! ## Lane masks -/

/-- The half of a 128-lane tile that head `e` of a pair owns. -/
def mine (e : Fin 2) (l : ℕ) : Prop := 64 * e.val ≤ l ∧ l < 64 * e.val + 64

instance (e : Fin 2) (l : ℕ) : Decidable (mine e l) := instDecidableAnd

theorem lane_lt : ∀ l : Fin 128, IntOp.cmpi .slt (BitVec.ofNat 32 l.val) 64#32 = if mine 0 l.val then 1#1 else 0#1 := by
  decide +kernel
theorem lane_ge : ∀ l : Fin 128, IntOp.cmpi .sge (BitVec.ofNat 32 l.val) 64#32 = if mine 1 l.val then 1#1 else 0#1 := by
  decide +kernel
theorem lane_half : ∀ l : Fin 128, IntOp.cmpi .slt (IntOp.andi (BitVec.ofNat 32 l.val) 31#32) 16#32 = if l.val % 32 < 16 then 1#1 else 0#1 := by
  decide +kernel

theorem select_ite {p : Prop} [Decidable p] (a b : EReal) :
    Scalar.select (if p then 1#1 else 0#1) a b = if p then a else b := by
  split <;> simp [Scalar.select]

/-- A sum over 128 lanes of two masked factors is the sum over the 64 lanes of the mask. -/
theorem sum_mine (e : Fin 2) (A B : Fin 128 → EReal) :
    ∑ l : Fin 128, (if mine e l.val then A l else 0) * (if mine e l.val then B l else 0)
      = ∑ r : Fin 64, A ⟨64 * e.val + r.val, by omega⟩ * B ⟨64 * e.val + r.val, by omega⟩ := by
  rw [show (∑ l : Fin 128, (if mine e l.val then A l else 0) * (if mine e l.val then B l else 0))
    = ∑ l : Fin (64 + 64), (if mine e l.val then A l else 0) * (if mine e l.val then B l else 0) from rfl, Fin.sum_univ_add]
  obtain rfl | rfl : e = 0 ∨ e = 1 := by omega
  · rw [show (∑ i : Fin 64, (if mine 0 (Fin.natAdd 64 i).val then A (Fin.natAdd 64 i) else 0) * (if mine 0 (Fin.natAdd 64 i).val then B (Fin.natAdd 64 i) else 0)) = 0 from
      Finset.sum_eq_zero fun i _ => by rw [if_neg (by simp [mine]), zero_mul], add_zero]
    refine Finset.sum_congr rfl fun i _ => ?_
    rw [if_pos (by simp [mine]; try omega), if_pos (by simp [mine]; try omega)]
    congr 2 <;> exact Fin.ext (by simp)
  · rw [show (∑ i : Fin 64, (if mine 1 (Fin.castAdd 64 i).val then A (Fin.castAdd 64 i) else 0) * (if mine 1 (Fin.castAdd 64 i).val then B (Fin.castAdd 64 i) else 0)) = 0 from
      Finset.sum_eq_zero fun i _ => by rw [if_neg (by simp [mine]), zero_mul], zero_add]
    refine Finset.sum_congr rfl fun i _ => ?_
    rw [if_pos (by simp [mine]; try omega), if_pos (by simp [mine]; try omega)]
    congr 2 <;> exact Fin.ext (by simp)

/-! ## The rotary embedding of a tile -/

/-- The body's rotary embedding of one row of 128 lanes: each lane times its cosine, plus its partner 16 lanes away times a signed sine. -/
def tile (x co si : Fin 128 → EReal) (l : Fin 128) : EReal :=
  x l * co l + (if l.val % 32 < 16 then x ⟨(l.val + 128 - 112) % 128, by omega⟩ else x ⟨(l.val + 128 - 16) % 128, by omega⟩) * si l

/-- On a head's half of the tile it is the rotary embedding of the head's 64 lanes. -/
theorem tile_eq_rot (e : Fin 2) (x co si : Fin 128 → EReal) (X : Fin 64 → EReal) (th : Fin 2 → Fin 16 → EReal)
    (hx : ∀ r : Fin 64, x ⟨64 * e.val + r.val, by omega⟩ = X r)
    (hc : ∀ r : Fin 64, co ⟨64 * e.val + r.val, by omega⟩ = Ideal.cos (th ⟨r.val / 32, by omega⟩ ⟨r.val % 16, by omega⟩))
    (hs : ∀ r : Fin 64, si ⟨64 * e.val + r.val, by omega⟩ = if r.val % 32 < 16 then
      -Ideal.sin (th ⟨r.val / 32, by omega⟩ ⟨r.val % 16, by omega⟩) else Ideal.sin (th ⟨r.val / 32, by omega⟩ ⟨r.val % 16, by omega⟩))
    (r : Fin 64) : tile x co si ⟨64 * e.val + r.val, by omega⟩ = rot X th r := by
  unfold tile rot
  rw [hx, hc, hs]
  by_cases hr : r.val % 32 < 16
  · rw [if_pos (by show (64 * e.val + r.val) % 32 < 16; omega), if_pos hr, if_pos hr, mul_neg, sub_eq_add_neg]
    congr 3; refine (congrArg x (Fin.ext ?_)).trans (hx _); show (64 * e.val + r.val + 128 - 112) % 128 = 64 * e.val + (r.val + 16) % 64; omega
  · rw [if_neg (by show ¬ (64 * e.val + r.val) % 32 < 16; omega), if_neg hr, if_neg hr, add_comm]
    congr 2; refine (congrArg x (Fin.ext ?_)).trans (hx _); show (64 * e.val + r.val + 128 - 16) % 128 = 64 * e.val + (r.val - 16); omega

/-! ## The body's pieces at an index -/

/-- A row of 64 lanes repeated to 128. -/
def twice (x : Fin 64 → EReal) (l : Fin 128) : EReal := if h : l.val < 64 then x ⟨l.val, h⟩ else x ⟨l.val - 64, by omega⟩

variable (x2 : FVec Ideal S1024x64 .f32) (x5 x6 : FVec Ideal S1024x128 .f32) (x8 : FVec Ideal S1x512x64 .f32)
  (ro x3 x4 qs : FVec Ideal S256x128 .f32) (k v : FVec Ideal S1024x128 .bf16) (kc vc : FVec Ideal S512x128 .bf16)

/-- A row of the rotated keys of the request itself. -/
def krow (j : Fin 1024) : Fin 128 → EReal :=
  tile (twice fun r => x2 (ix2 j r)) (fun l => x5 (ix2 j l)) (fun l => x6 (ix2 j l))

/-- A row of the rotated queries of a pair of heads. -/
def qrow (r : Fin 256) : Fin 128 → EReal :=
  tile (fun l => ro (ix2 r l)) (fun l => x3 (ix2 r l)) (fun l => x4 (ix2 r l))

theorem keys0 (j : Fin 1024) (l : Fin 128) :
    k0_pay3 (F := Ideal) x2 x5 x6 (ix2 j l) = if mine 0 l.val then krow x2 x5 x6 j l else 0 := by
  pointwise [k0_pay3, k0_pay2]
  rw [lane_lt, lane_half, select_ite, select_ite]
  rfl

theorem keys1 (j : Fin 1024) (l : Fin 128) :
    k0_pay4 (F := Ideal) x2 x5 x6 (ix2 j l) = if mine 1 l.val then krow x2 x5 x6 j l else 0 := by
  pointwise [k0_pay4, k0_pay2]
  rw [lane_ge, lane_half, select_ite, select_ite]
  rfl

theorem context0 (j : Fin 512) (l : Fin 128) :
    k0_pay6 (F := Ideal) x8 (ix2 j l) = if mine 0 l.val then twice (fun r => x8 (ix3 0 j r)) l else 0 := by
  pointwise [k0_pay6, k0_pay5]
  rw [lane_lt, select_ite]
  rfl

theorem context1 (j : Fin 512) (l : Fin 128) :
    k0_pay8 (F := Ideal) (k0_pay5 x8) (iota Kind.tc S512x128 32 [1] iota_S512x128_d1_w32) k0_pay7 (ix2 j l)
      = if mine 1 l.val then twice (fun r => x8 (ix3 0 j r)) l else 0 := by
  pointwise [k0_pay8, k0_pay7, k0_pay5]
  rw [lane_ge, select_ite]
  rfl

theorem queries0_nope (r : Fin 256) (l : Fin 128) :
    k0_pay11 (F := Ideal) ro x3 x4 qs (ix2 r ⟨l.val, by omega⟩) = qs (ix2 r l) * scale := by
  pointwise [k0_pay11, k0_pay9]
  rfl

theorem queries1_nope (r : Fin 256) (l : Fin 128) :
    k0_pay13 (F := Ideal) (k0_pay10 ro x3 x4) qs (ix2 r ⟨l.val, by omega⟩) = qs (ix2 r l) * scale := by
  pointwise [k0_pay13, k0_pay10, k0_pay9]
  rfl

theorem queries0_rope (r : Fin 256) (l : Fin 128) :
    k0_pay11 (F := Ideal) ro x3 x4 qs (ix2 r ⟨128 + l.val, by omega⟩) = if mine 0 l.val then qrow ro x3 x4 r l * scale else 0 := by
  pointwise [k0_pay11, k0_pay9]
  rw [lane_lt, lane_half, select_ite, select_ite]
  rfl

theorem queries1_rope (r : Fin 256) (l : Fin 128) :
    k0_pay13 (F := Ideal) (k0_pay10 ro x3 x4) qs (ix2 r ⟨128 + l.val, by omega⟩)
      = if mine 1 l.val then qrow ro x3 x4 r l * scale else 0 := by
  pointwise [k0_pay13, k0_pay10, k0_pay9]
  rw [lane_ge, lane_half, select_ite, select_ite]
  rfl

/-! ## A head -/

theorem scale_eq : ∃ c : ℝ, 0 ≤ c ∧ scale = (c : EReal) := by
  unfold scale
  simp [Ideal.ofBits, Ideal.ieee]
  exact ⟨9686330 * (2 ^ 27)⁻¹, by positivity, by push_cast; rfl⟩

/-- A score of the body, from scaled queries and masked rotary lanes. -/
theorem score_eq (e : Fin 2) (qn kn : Fin 128 → EReal) (Q K : Fin 128 → EReal) (qc : Fin 128 → EReal) (qm km : Fin 128 → EReal)
    (hq : ∀ l, qc l = qn l * scale) (hm : ∀ l : Fin 128, qm l = if mine e l.val then Q l * scale else 0)
    (hk : ∀ l : Fin 128, km l = if mine e l.val then K l else 0) :
    ∑ l, qc l * kn l + ∑ l, qm l * km l
      = score qn kn (fun r => Q ⟨64 * e.val + r.val, by omega⟩) (fun r => K ⟨64 * e.val + r.val, by omega⟩) := by
  simp only [hq, hm, hk]
  rw [sum_mine e (fun l => Q l * scale) K]
  obtain ⟨c, hc, h⟩ := scale_eq
  unfold score
  rw [h, EReal.right_distrib_of_nonneg_of_ne_top (EReal.coe_nonneg.mpr hc) (EReal.coe_ne_top c), sum_mul_real _ _ hc, sum_mul_real _ _ hc]
  refine congrArg₂ _ (Finset.sum_congr rfl fun l _ => ?_) (Finset.sum_congr rfl fun r _ => ?_)
  · rw [mul_assoc, mul_assoc, mul_comm (kn l)]
  · rw [mul_right_comm, mul_comm (Q _)]

theorem head_apply (krh : FVec Ideal S1024x128 .bf16) (krch : FVec Ideal S512x128 .bf16) (qc : FVec Ideal S256x256 .bf16)
    (r : Fin 256) (d : Fin 128) :
    k0_pay12 (F := Ideal) krh krch qc k v kc vc (ix2 r d) = twoPart
      (fun j => ∑ l : Fin 128, qc (ix2 r ⟨l.val, by omega⟩) * k (ix2 j l) + ∑ l : Fin 128, qc (ix2 r ⟨128 + l.val, by omega⟩) * krh (ix2 j l))
      (fun j => ∑ l : Fin 128, qc (ix2 r ⟨l.val, by omega⟩) * kc (ix2 j l) + ∑ l : Fin 128, qc (ix2 r ⟨128 + l.val, by omega⟩) * krch (ix2 j l))
      (fun j => v (ix2 j d)) (fun j => vc (ix2 j d)) := by
  pointwise [k0_pay12]
  rw [show Ideal.ofBits .f32 4286578688#32 = ⊥ from by simp [Ideal.ofBits, Ideal.ieee]]
  rfl

/-- Head 0 of a pair. -/
def head0 : FVec Ideal S256x128 .bf16 :=
  k0_pay12 (k0_pay3 x2 x5 x6) (k0_pay6 x8) (k0_pay11 ro x3 x4 qs) k v kc vc

/-- Head 1 of a pair. -/
def head1 : FVec Ideal S256x128 .bf16 :=
  k0_pay12 (k0_pay4 x2 x5 x6) (k0_pay8 (k0_pay5 x8) (iota Kind.tc S512x128 32 [1] iota_S512x128_d1_w32) k0_pay7)
    (k0_pay13 (k0_pay10 ro x3 x4) qs) k v kc vc

/-- A head's row from the loaded slices. -/
def headRow (e : Fin 2) (r : Fin 256) (d : Fin 128) : EReal := twoPart
  (fun j => score (fun l => qs (ix2 r l)) (fun l => k (ix2 j l)) (fun y => qrow ro x3 x4 r ⟨64 * e.val + y.val, by omega⟩)
    (fun y => krow x2 x5 x6 j ⟨64 * e.val + y.val, by omega⟩))
  (fun j => score (fun l => qs (ix2 r l)) (fun l => kc (ix2 j l)) (fun y => qrow ro x3 x4 r ⟨64 * e.val + y.val, by omega⟩)
    (fun y => x8 (ix3 0 j y)))
  (fun j => v (ix2 j d)) (fun j => vc (ix2 j d))

theorem twice_mine (e : Fin 2) (x : Fin 64 → EReal) (y : Fin 64) : twice x ⟨64 * e.val + y.val, by omega⟩ = x y := by
  unfold twice
  obtain rfl | rfl : e = 0 ∨ e = 1 := by omega
  · rw [dif_pos (by simp)]; congr 1; exact Fin.ext (by simp)
  · rw [dif_neg (by simp)]; congr 1; exact Fin.ext (by simp)

theorem head0_apply (r : Fin 256) (d : Fin 128) :
    head0 x2 x5 x6 x8 ro x3 x4 qs k v kc vc (ix2 r d) = headRow x2 x5 x6 x8 ro x3 x4 qs k v kc vc 0 r d := by
  unfold head0 headRow
  rw [head_apply]
  congr 1
  · funext j
    exact score_eq 0 (fun l => qs (ix2 r l)) (fun l => k (ix2 j l)) (qrow ro x3 x4 r) (krow x2 x5 x6 j) _ _ _
      (queries0_nope ro x3 x4 qs r) (queries0_rope ro x3 x4 qs r) (keys0 x2 x5 x6 j)
  · funext j
    rw [score_eq 0 (fun l => qs (ix2 r l)) (fun l => kc (ix2 j l)) (qrow ro x3 x4 r) (twice fun y => x8 (ix3 0 j y)) _ _ _
      (queries0_nope ro x3 x4 qs r) (queries0_rope ro x3 x4 qs r) (context0 x8 j)]
    simp only [twice_mine]

theorem head1_apply (r : Fin 256) (d : Fin 128) :
    head1 x2 x5 x6 x8 ro x3 x4 qs k v kc vc (ix2 r d) = headRow x2 x5 x6 x8 ro x3 x4 qs k v kc vc 1 r d := by
  unfold head1 headRow
  rw [head_apply]
  congr 1
  · funext j
    exact score_eq 1 (fun l => qs (ix2 r l)) (fun l => k (ix2 j l)) (qrow ro x3 x4 r) (krow x2 x5 x6 j) _ _ _
      (queries1_nope ro x3 x4 qs r) (queries1_rope ro x3 x4 qs r) (keys1 x2 x5 x6 j)
  · funext j
    rw [score_eq 1 (fun l => qs (ix2 r l)) (fun l => kc (ix2 j l)) (qrow ro x3 x4 r) (twice fun y => x8 (ix3 0 j y)) _ _ _
      (queries1_nope ro x3 x4 qs r) (queries1_rope ro x3 x4 qs r) (context1 x8 j)]
    simp only [twice_mine]

end Cert.KernelIdeal.Att

end
-- ==== Proof.Block.lean ====
/- The kernel's result array: at every grid point the body's twelve stores are the twelve heads of the attention formula
   of `Spec.lean`, and the eight points' blocks are the rows from 4096 on. -/
module

public import proofs.«01_k».proof.Proof.Gen.KernelIdeal.Value
public import proofs.«01_k».proof.Proof.Head
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen Cert.Soft Cert.Spec

variable (m : (ℓ : Loc nD τ sig) → Buf (Elt Ideal) ℓ)

/-! ## The arguments -/

abbrev aq (c : Dev nD) : Mat 6144 2304 := m ((c : Thread nD τ).loc main_arg0)
abbrev akv (c : Dev nD) : Mat 7168 3072 := m ((c : Thread nD τ).loc main_arg1)
abbrev akr (c : Dev nD) : Mat 6144 64 := m ((c : Thread nD τ).loc main_arg2)
abbrev aang (c : Dev nD) : Cube 1024 2 16 := m ((c : Thread nD τ).loc main_arg3)
abbrev akrc (c : Dev nD) : Cube 2 512 64 := m ((c : Thread nD τ).loc main_arg4)
abbrev aprev (c : Dev nD) : Mat 6144 1536 := m ((c : Thread nD τ).loc main_arg5)

/-! ## The tables that the host computes from the angles -/

theorem cos_tab (c : Dev nD) (i : Fin 1024) (l : Fin 128) :
    (V m c main_v13 (ix2 i l) : EReal) = Ideal.cos (aang m c (ix3 i ⟨l.val % 64 / 32, by omega⟩ ⟨l.val % 64 % 16, by omega⟩)) := by
  entry_read
  pointwise
  split <;> rfl

theorem sin_tab (c : Dev nD) (i : Fin 1024) (l : Fin 128) :
    (V m c main_v16 (ix2 i l) : EReal) = if l.val % 64 / 16 % 2 < 1 then
      -Ideal.sin (aang m c (ix3 i ⟨l.val % 64 / 32, by omega⟩ ⟨l.val % 64 % 16, by omega⟩))
      else Ideal.sin (aang m c (ix3 i ⟨l.val % 64 / 32, by omega⟩ ⟨l.val % 64 % 16, by omega⟩)) := by
  entry_read
  pointwise
  rfl

theorem prev_entry (c : Dev nD) : V m c main_v17 = aprev m c := by
  unfold V; after_results; try rfl

/-! ## The blocks of a grid point -/

theorem idx : ∀ t : Fin cfg0.N, win0_0.index t = ![16 + t.val, 0] ∧ win0_1.index t = ![4 + t.val / 4, 0]
    ∧ win0_2.index t = ![4 + t.val / 4, 0] ∧ win0_3.index t = ![t.val % 4, 0] ∧ win0_4.index t = ![t.val % 4, 0]
    ∧ win0_5.index t = ![0, 0] ∧ win0_6.index t = ![0, 0] ∧ win0_7.index t = ![12 + t.val / 4, 0]
    ∧ win0_8.index t = ![t.val / 4, 0, 0] ∧ win0_9.index t = ![16 + t.val, 0] :=
  (by decide +kernel : ∀ t : Fin grid0.N, _)

theorem t_lt (t : Fin cfg0.N) : t.val < 8 := t.isLt

/-- The request and the query position of row `r` of point `t`'s block. -/
abbrev req (t : Fin cfg0.N) : Fin 2 := ⟨t.val / 4, by have := t_lt t; omega⟩
abbrev pos (t : Fin cfg0.N) (r : Fin 256) : Fin 1024 := ⟨t.val % 4 * 256 + r.val, by omega⟩

theorem cols_le {n k w o : ℕ} (h : o + w ≤ k) : ∀ a, (![0, o] : Fin 2 → ℕ) a + (⟨2, ![n, w]⟩ : Shape).size a ≤ (⟨2, ![n, k]⟩ : Shape).size a := by
  intro a
  match a with
  | ⟨0, _⟩ => exact (Nat.zero_add n).le
  | ⟨1, _⟩ => exact h

/-- 128 columns of a block, from column `o`. -/
abbrev cut {n k : ℕ} {φ : FTy} (X : FVec Ideal ⟨2, ![n, k]⟩ φ) (o : ℕ) (h : o + 128 ≤ k) : FVec Ideal ⟨2, ![n, 128]⟩ φ :=
  fun y => X ((Rect.unit (s := ⟨2, ![n, k]⟩) ![0, o] (⟨2, ![n, 128]⟩ : Shape).size (cols_le h)).idx y)

theorem cut_apply {n k : ℕ} {φ : FTy} (X : FVec Ideal ⟨2, ![n, k]⟩ φ) (o : ℕ) (h : o + 128 ≤ k) (r : Fin n) (l : Fin 128) :
    cut X o h (ix2 r l) = X (ix2 r ⟨o + l.val, by omega⟩) := by
  refine congrArg X ?_
  funext a
  match a with
  | ⟨0, _⟩ => exact Fin.ext (by show 0 + 1 * r.val = r.val; omega)
  | ⟨1, _⟩ => exact Fin.ext (by show o + 1 * l.val = o + l.val; omega)

variable (c : Dev nD) (t : Fin cfg0.N)

theorem q_block (r : Fin 256) (l : Fin 2304) :
    (iblk m c 0 t (ix2 r l) : EReal) = aq m c (ix2 ⟨4096 + (req t).val * 1024 + (pos t r).val, by omega⟩ l) := by
  have := t_lt t
  blk_ext [iblk, V, idx t]

theorem kv_block (j : Fin 1024) (l : Fin 3072) :
    (iblk m c 1 t (ix2 j l) : EReal) = akv m c (ix2 ⟨4096 + (req t).val * 1024 + j.val, by omega⟩ l) := by
  have := t_lt t
  blk_ext [iblk, V, idx t]

theorem kr_block (j : Fin 1024) (l : Fin 64) :
    (iblk m c 2 t (ix2 j l) : EReal) = akr m c (ix2 ⟨4096 + (req t).val * 1024 + j.val, by omega⟩ l) := by
  have := t_lt t
  blk_ext [iblk, V, idx t]

theorem cosq_block (r : Fin 256) (l : Fin 128) : (iblk m c 3 t (ix2 r l) : EReal) = V m c main_v13 (ix2 (pos t r) l) := by
  have := t_lt t
  blk_ext [iblk, idx t]

theorem sinq_block (r : Fin 256) (l : Fin 128) : (iblk m c 4 t (ix2 r l) : EReal) = V m c main_v16 (ix2 (pos t r) l) := by
  have := t_lt t
  blk_ext [iblk, idx t]

theorem cosk_block (j : Fin 1024) (l : Fin 128) : (iblk m c 5 t (ix2 j l) : EReal) = V m c main_v13 (ix2 j l) := by
  blk_ext [iblk, idx t]

theorem sink_block (j : Fin 1024) (l : Fin 128) : (iblk m c 6 t (ix2 j l) : EReal) = V m c main_v16 (ix2 j l) := by
  blk_ext [iblk, idx t]

theorem kvc_block (j : Fin 512) (l : Fin 3072) :
    (iblk m c 7 t (ix2 j l) : EReal) = akv m c (ix2 ⟨6144 + (req t).val * 512 + j.val, by omega⟩ l) := by
  have := t_lt t
  blk_ext [iblk, V, idx t]

theorem krc_block (j : Fin 512) (l : Fin 64) : (iblk m c 8 t (ix3 0 j l) : EReal) = akrc m c (ix3 (req t) j l) := by
  have := t_lt t
  blk_ext [iblk, V, idx t]

/-! ## A head of a grid point -/

/-- Head `2 p + e` of a grid point, from the slices that the body loads for it. -/
theorem head_point (e : Fin 2) (p : Fin 6) (r : Fin 256) (d : Fin 128) :
    headRow (iblk m c 2 t) (iblk m c 5 t) (iblk m c 6 t) (iblk m c 8 t) (cut (k := 2304) (φ := .f32) (iblk m c 0 t) (1536 + 128 * p.val) (by omega))
        (iblk m c 3 t) (iblk m c 4 t) (cut (k := 2304) (φ := .f32) (iblk m c 0 t) (256 * p.val + 128 * e.val) (by omega))
        (cut (k := 3072) (φ := .bf16) (iblk m c 1 t) (512 * p.val + 256 * e.val) (by omega)) (cut (k := 3072) (φ := .bf16) (iblk m c 1 t) (512 * p.val + 256 * e.val + 128) (by omega))
        (cut (k := 3072) (φ := .bf16) (iblk m c 7 t) (512 * p.val + 256 * e.val) (by omega)) (cut (k := 3072) (φ := .bf16) (iblk m c 7 t) (512 * p.val + 256 * e.val + 128) (by omega)) e r d
      = att (aq m c) (akv m c) (akr m c) (aang m c) (akrc m c) (req t) ⟨2 * p.val + e.val, by omega⟩ (pos t r) d := by
  have hl : ∀ y : Fin 64, (64 * e.val + y.val) % 64 = y.val := fun y => by omega
  have hq : ∀ y : Fin 64, qrow (cut (k := 2304) (φ := .f32) (iblk m c 0 t) (1536 + 128 * p.val) (by omega)) (iblk m c 3 t) (iblk m c 4 t) r ⟨64 * e.val + y.val, by omega⟩
      = qRope (aq m c) (aang m c) (req t) ⟨2 * p.val + e.val, by omega⟩ (pos t r) y := fun y => by
    unfold qrow qRope
    refine tile_eq_rot e _ _ _ _ _ (fun y => ?_) (fun y => ?_) (fun y => ?_) y
    · rw [cut_apply, q_block]
      congr 2; exact Fin.ext (by show 1536 + 128 * p.val + (64 * e.val + y.val) = 1536 + (2 * p.val + e.val) * 64 + y.val; omega)
    · rw [cosq_block, cos_tab]
      simp only [hl]
    · rw [sinq_block, sin_tab]
      simp only [hl]
      by_cases h : y.val % 32 < 16
      · rw [if_pos h, if_pos (by omega)]
      · rw [if_neg h, if_neg (by omega)]
  have hk : ∀ (j : Fin 1024) (y : Fin 64), krow (iblk m c 2 t) (iblk m c 5 t) (iblk m c 6 t) j ⟨64 * e.val + y.val, by omega⟩
      = krNew (akr m c) (aang m c) (req t) j y := fun j y => by
    unfold krow krNew
    refine tile_eq_rot e _ _ _ _ _ (fun y => ?_) (fun y => ?_) (fun y => ?_) y
    · rw [twice_mine, kr_block]
    · rw [cosk_block, cos_tab]
      simp only [hl]
    · rw [sink_block, sin_tab]
      simp only [hl]
      by_cases h : y.val % 32 < 16
      · rw [if_pos h, if_pos (by omega)]
      · rw [if_neg h, if_neg (by omega)]
  have hn : ∀ l : Fin 128, cut (k := 2304) (φ := .f32) (iblk m c 0 t) (256 * p.val + 128 * e.val) (by omega) (ix2 r l)
      = qNope (aq m c) (req t) ⟨2 * p.val + e.val, by omega⟩ (pos t r) l := fun l => by
    rw [cut_apply, q_block]
    unfold qNope
    congr 2; exact Fin.ext (by show 256 * p.val + 128 * e.val + l.val = (2 * p.val + e.val) * 128 + l.val; omega)
  have hnew : ∀ (o : ℕ) (ho : o + 128 ≤ 256) (hb : 512 * p.val + 256 * e.val + o + 128 ≤ 3072) (j : Fin 1024) (l : Fin 128),
      cut (k := 3072) (φ := .bf16) (iblk m c 1 t) (512 * p.val + 256 * e.val + o) hb (ix2 j l)
        = kvNew (akv m c) (req t) ⟨2 * p.val + e.val, by omega⟩ j ⟨o + l.val, by omega⟩ := fun o ho hb j l => by
    rw [cut_apply, kv_block]
    unfold kvNew
    congr 2; exact Fin.ext (by show 512 * p.val + 256 * e.val + o + l.val = (2 * p.val + e.val) * 256 + (o + l.val); omega)
  have hold : ∀ (o : ℕ) (ho : o + 128 ≤ 256) (hb : 512 * p.val + 256 * e.val + o + 128 ≤ 3072) (j : Fin 512) (l : Fin 128),
      cut (k := 3072) (φ := .bf16) (iblk m c 7 t) (512 * p.val + 256 * e.val + o) hb (ix2 j l)
        = kvOld (akv m c) (req t) ⟨2 * p.val + e.val, by omega⟩ j ⟨o + l.val, by omega⟩ := fun o ho hb j l => by
    rw [cut_apply, kvc_block]
    unfold kvOld
    congr 2; exact Fin.ext (by show 512 * p.val + 256 * e.val + o + l.val = (2 * p.val + e.val) * 256 + (o + l.val); omega)
  have h0 := hnew 0 (by omega) (by omega)
  have h0' := hold 0 (by omega) (by omega)
  simp only [Nat.add_zero, Nat.zero_add] at h0 h0'
  unfold headRow att sNew sOld
  simp only [hq, hk, hn, h0, h0', hnew 128 (by omega) (by omega), hold 128 (by omega) (by omega), krc_block]

/-- Head `2 p` at an index of its stored tile. -/
theorem store0 (p : Fin 6) (x : S256x128.Idx) :
    head0 (iblk m c 2 t) (iblk m c 5 t) (iblk m c 6 t) (iblk m c 8 t) (cut (k := 2304) (φ := .f32) (iblk m c 0 t) (1536 + 128 * p.val) (by omega))
        (iblk m c 3 t) (iblk m c 4 t) (cut (k := 2304) (φ := .f32) (iblk m c 0 t) (256 * p.val) (by omega))
        (cut (k := 3072) (φ := .bf16) (iblk m c 1 t) (512 * p.val) (by omega)) (cut (k := 3072) (φ := .bf16) (iblk m c 1 t) (512 * p.val + 128) (by omega))
        (cut (k := 3072) (φ := .bf16) (iblk m c 7 t) (512 * p.val) (by omega)) (cut (k := 3072) (φ := .bf16) (iblk m c 7 t) (512 * p.val + 128) (by omega)) x
      = att (aq m c) (akv m c) (akr m c) (aang m c) (akrc m c) (req t) ⟨2 * p.val, by omega⟩ (pos t (x 0)) (x 1) := by
  obtain ⟨r, d, rfl⟩ : ∃ (r : Fin 256) (d : Fin 128), x = ix2 r d :=
    ⟨x 0, x 1, by funext a; match a with | ⟨0, _⟩ => rfl | ⟨1, _⟩ => rfl⟩
  rw [head0_apply]
  exact head_point m c t 0 p r d

/-- Head `2 p + 1` at an index of its stored tile. -/
theorem store1 (p : Fin 6) (x : S256x128.Idx) :
    head1 (iblk m c 2 t) (iblk m c 5 t) (iblk m c 6 t) (iblk m c 8 t) (cut (k := 2304) (φ := .f32) (iblk m c 0 t) (1536 + 128 * p.val) (by omega))
        (iblk m c 3 t) (iblk m c 4 t) (cut (k := 2304) (φ := .f32) (iblk m c 0 t) (256 * p.val + 128) (by omega))
        (cut (k := 3072) (φ := .bf16) (iblk m c 1 t) (512 * p.val + 256) (by omega)) (cut (k := 3072) (φ := .bf16) (iblk m c 1 t) (512 * p.val + 256 + 128) (by omega))
        (cut (k := 3072) (φ := .bf16) (iblk m c 7 t) (512 * p.val + 256) (by omega)) (cut (k := 3072) (φ := .bf16) (iblk m c 7 t) (512 * p.val + 256 + 128) (by omega)) x
      = att (aq m c) (akv m c) (akr m c) (aang m c) (akrc m c) (req t) ⟨2 * p.val + 1, by omega⟩ (pos t (x 0)) (x 1) := by
  obtain ⟨r, d, rfl⟩ : ∃ (r : Fin 256) (d : Fin 128), x = ix2 r d :=
    ⟨x 0, x 1, by funext a; match a with | ⟨0, _⟩ => rfl | ⟨1, _⟩ => rfl⟩
  rw [head1_apply]
  exact head_point m c t 1 p r d

/-! ## The result array -/

abbrev result (c : Dev nD) : Mat 6144 1536 := out (aq m c) (akv m c) (akr m c) (aang m c) (akrc m c) (aprev m c)

/-- The formula at block index `y` of point `t`, by the head that owns the column. -/
theorem result_at (y : S256x1536.Idx) (i : S6144x1536.Idx) (h0 : (i 0 : ℕ) = 4096 + t.val * 256 + (y 0 : ℕ)) (h1 : (i 1 : ℕ) = (y 1 : ℕ))
    (n : ℕ) (hn : n < 12) (x : S256x128.Idx) (hx0 : (y 0 : ℕ) = (x 0 : ℕ)) (hx1 : (y 1 : ℕ) = n * 128 + (x 1 : ℕ)) :
    result m c i = att (aq m c) (akv m c) (akr m c) (aang m c) (akrc m c) (req t) ⟨n, hn⟩ (pos t (x 0)) (x 1) := by
  have := t_lt t
  have hr : (x 0 : ℕ) < 256 := (x 0).isLt
  have hd : (x 1 : ℕ) < 128 := (x 1).isLt
  exact out_at _ _ _ _ _ _ i (req t) ⟨n, hn⟩ (pos t (x 0)) (x 1)
    (by show (i 0 : ℕ) = 4096 + t.val / 4 * 1024 + (t.val % 4 * 256 + (x 0 : ℕ)); omega)
    (by show (i 1 : ℕ) = n * 128 + (x 1 : ℕ); omega)

theorem point (y : S256x1536.Idx) (i : S6144x1536.Idx) (hi0 : (i 0 : ℕ) = 4096 + t.val * 256 + (y 0 : ℕ)) (hi1 : (i 1 : ℕ) = (y 1 : ℕ)) :
    outsAt0 m c t y = result m c i := by
  unfold outsAt0
  frame_out
  canon_tiles x h
  · exact (store1 m c t 5 x).trans (result_at m c t y i hi0 hi1 11 (by omega) x h0 h1).symm
  · exact (store0 m c t 5 x).trans (result_at m c t y i hi0 hi1 10 (by omega) x h0 h1).symm
  · exact (store1 m c t 4 x).trans (result_at m c t y i hi0 hi1 9 (by omega) x h0 h1).symm
  · exact (store0 m c t 4 x).trans (result_at m c t y i hi0 hi1 8 (by omega) x h0 h1).symm
  · exact (store1 m c t 3 x).trans (result_at m c t y i hi0 hi1 7 (by omega) x h0 h1).symm
  · exact (store0 m c t 3 x).trans (result_at m c t y i hi0 hi1 6 (by omega) x h0 h1).symm
  · exact (store1 m c t 2 x).trans (result_at m c t y i hi0 hi1 5 (by omega) x h0 h1).symm
  · exact (store0 m c t 2 x).trans (result_at m c t y i hi0 hi1 4 (by omega) x h0 h1).symm
  · exact (store1 m c t 1 x).trans (result_at m c t y i hi0 hi1 3 (by omega) x h0 h1).symm
  · exact (store0 m c t 1 x).trans (result_at m c t y i hi0 hi1 2 (by omega) x h0 h1).symm
  · exact (store1 m c t 0 x).trans (result_at m c t y i hi0 hi1 1 (by omega) x h0 h1).symm
  · exact (store0 m c t 0 x).trans (result_at m c t y i hi0 hi1 0 (by omega) x h0 (by omega)).symm

/-- The kernel's result array after the run. -/
theorem final (c : Dev nD) : (dats m 0 c).arrAt 9 cfg0.N = result m c := by
  have h : (dats m 0 c).arrAt 9 cfg0.N = fun i => if 4096 ≤ ((i : S6144x1536.Idx) 0 : ℕ) then result m c i else V m c main_v17 i := by
    refine (dats m 0 c).arrAt_eq_of_coversWhere 9 _ (fun β => 16 ≤ β 0) (by decide +kernel) (fun t hf y => ?_)
      (fun j => by blk_simp [Pipeline.Window.cell_apply]; omega)
    blk_simp
    rw [after0_9]
    refine point m c t _ _ ?_ ?_ <;> blk_simp [idx t] <;> omega
  rw [h, prev_entry]
  funext i
  by_cases hi : 4096 ≤ ((i : S6144x1536.Idx) 0 : ℕ)
  · exact if_pos hi
  · exact (if_neg hi).trans (if_neg hi).symm

end Cert.KernelIdeal.Att

end
-- ==== Proof.RefValue.lean ====
/- The reference's result at an index: the attention formula of `Spec.lean`, for real scores. -/
module

public import proofs.«01_k».proof.Proof.Gen.ReferenceIdeal.Read
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.RefValue

open Cert.ReferenceIdeal Cert.ReferenceIdeal.Read Cert.Soft Cert.Spec

variable (x0 : FVec Ideal S6144x2304 .f32) (x1 : FVec Ideal S7168x3072 .bf16) (x2 : FVec Ideal S6144x64 .f32)
  (x3 : FVec Ideal S1024x2x16 .f32) (x4 : FVec Ideal S2x512x64 .f32) (x5 : FVec Ideal S6144x1536 .bf16)

/-! ## The operands of the scores -/

theorem query_nope (b : Fin 2) (i : Fin 1024) (h : Fin 12) (d : Fin 128) :
    val_main_v2 (F := Ideal) x0 (ix4 b i h d) = qNope x0 b h i d := by
  pointwise [val_main_v2, val_main_v1]
  unfold qNope
  blk_ext []

theorem query_rope (b : Fin 2) (i : Fin 1024) (h : Fin 12) (r : Fin 64) :
    val_main_v31 (F := Ideal) x0 x3 (ix4 b i h r) = qRope x0 x3 b h i r := by
  pointwise [val_main_v31, val_main_v30, val_main_v28, val_main_v29, val_main_v20, val_main_v16, val_main_v19, val_main_v7, val_main_v6, val_main_v5, val_main_v4, val_main_v3, val_main_v1, val_main_v9, val_main_v8, val_main_v15, val_main_v14, val_main_v12, val_main_v10, val_main_v18, val_main_v17, val_main_v13, val_main_v11, val_main_v27, val_main_v23, val_main_v26, val_main_v22, val_main_v25, val_main_v21, val_main_v24]
  unfold qRope
  have e0 : 4096 + (b.val * 1024 + i.val) = 4096 + b.val * 1024 + i.val := by omega
  by_cases hr : r.val % 32 < 16
  · have e1 : 1536 + (h.val * 64 + r.val / 32 * 32 + r.val % 16) = 1536 + h.val * 64 + r.val := by omega
    have e2 : 1536 + (h.val * 64 + r.val / 32 * 32 + 16 + r.val % 16) = 1536 + h.val * 64 + (r.val + 16) % 64 := by omega
    have hh : r.val / 16 % 2 < 1 := by omega
    simp only [hh, ↓reduceDIte, e0, e1, e2]
    exact (rot_lo (fun r => x0 (ix2 ⟨4096 + b.val * 1024 + i.val, by omega⟩ ⟨1536 + h.val * 64 + r.val, by omega⟩)) (fun a w => x3 (ix3 i a w)) r hr).symm
  · have e1 : 1536 + (h.val * 64 + r.val / 32 * 32 + r.val % 16) = 1536 + h.val * 64 + (r.val - 16) := by omega
    have e2 : 1536 + (h.val * 64 + r.val / 32 * 32 + 16 + r.val % 16) = 1536 + h.val * 64 + r.val := by omega
    have hh : ¬ r.val / 16 % 2 < 1 := by omega
    simp only [hh, ↓reduceDIte, e0, e1, e2]
    exact (rot_hi (fun r => x0 (ix2 ⟨4096 + b.val * 1024 + i.val, by omega⟩ ⟨1536 + h.val * 64 + r.val, by omega⟩)) (fun a w => x3 (ix3 i a w)) r hr).symm

theorem key_rope (b : Fin 2) (j : Fin 1024) (r : Fin 64) :
    val_main_v58 (F := Ideal) x2 x3 (ix3 b j r) = krNew x2 x3 b j r := by
  pointwise [val_main_v58, val_main_v57, val_main_v55, val_main_v56, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32]
  unfold krNew
  have e0 : 4096 + (b.val * 1024 + j.val) = 4096 + b.val * 1024 + j.val := by omega
  by_cases hr : r.val % 32 < 16
  · have e1 : r.val / 32 * 32 + r.val % 16 = r.val := by omega
    have e2 : r.val / 32 * 32 + 16 + r.val % 16 = (r.val + 16) % 64 := by omega
    have hh : r.val / 16 % 2 < 1 := by omega
    simp only [hh, ↓reduceDIte, e0, e1, e2]
    exact (rot_lo (fun r => x2 (ix2 ⟨4096 + b.val * 1024 + j.val, by omega⟩ r)) (fun a w => x3 (ix3 j a w)) r hr).symm
  · have e1 : r.val / 32 * 32 + r.val % 16 = r.val - 16 := by omega
    have e2 : r.val / 32 * 32 + 16 + r.val % 16 = r.val := by omega
    have hh : ¬ r.val / 16 % 2 < 1 := by omega
    simp only [hh, ↓reduceDIte, e0, e1, e2]
    exact (rot_hi (fun r => x2 (ix2 ⟨4096 + b.val * 1024 + j.val, by omega⟩ r)) (fun a w => x3 (ix3 j a w)) r hr).symm

theorem key_old (b : Fin 2) (j : Fin 512) (h : Fin 12) (d : Fin 128) :
    val_main_v65 (F := Ideal) x1 (ix4 b (Fin.castAdd 1024 j) h d) = kvOld x1 b h j ⟨d.val, by omega⟩ := by
  pointwise [val_main_v65, val_main_v63, val_main_v62, val_main_v61, val_main_v0]
  unfold kvOld
  rw [dif_pos (show (Fin.castAdd 1024 j).val < 512 from j.isLt)]
  simp only [Fin.val_castAdd]
  blk_ext []

theorem key_new (b : Fin 2) (j : Fin 1024) (h : Fin 12) (d : Fin 128) :
    val_main_v65 (F := Ideal) x1 (ix4 b (Fin.natAdd 512 j) h d) = kvNew x1 b h j ⟨d.val, by omega⟩ := by
  pointwise [val_main_v65, val_main_v64, val_main_v60, val_main_v59, val_main_v0]
  unfold kvNew
  rw [dif_neg (show ¬ (Fin.natAdd 512 j).val < 512 by simp)]
  simp only [Fin.val_natAdd, Nat.add_sub_cancel_left]
  blk_ext []

theorem value_old (b : Fin 2) (j : Fin 512) (h : Fin 12) (d : Fin 128) :
    val_main_v68 (F := Ideal) x1 (ix4 b (Fin.castAdd 1024 j) h d) = kvOld x1 b h j ⟨128 + d.val, by omega⟩ := by
  pointwise [val_main_v68, val_main_v66, val_main_v62, val_main_v61, val_main_v0]
  unfold kvOld
  rw [dif_pos (show (Fin.castAdd 1024 j).val < 512 from j.isLt)]
  simp only [Fin.val_castAdd]
  blk_ext []

theorem value_new (b : Fin 2) (j : Fin 1024) (h : Fin 12) (d : Fin 128) :
    val_main_v68 (F := Ideal) x1 (ix4 b (Fin.natAdd 512 j) h d) = kvNew x1 b h j ⟨128 + d.val, by omega⟩ := by
  pointwise [val_main_v68, val_main_v67, val_main_v60, val_main_v59, val_main_v0]
  unfold kvNew
  rw [dif_neg (show ¬ (Fin.natAdd 512 j).val < 512 by simp)]
  simp only [Fin.val_natAdd, Nat.add_sub_cancel_left]
  blk_ext []

theorem rope_old (b : Fin 2) (j : Fin 512) (r : Fin 64) :
    val_main_v69 (F := Ideal) x2 x3 x4 (ix3 b (Fin.castAdd 1024 j) r) = x4 (ix3 b j r) := by
  pointwise [val_main_v69]
  rw [dif_pos (show (Fin.castAdd 1024 j).val < 512 from j.isLt)]
  simp only [Fin.val_castAdd]
  blk_ext []

theorem rope_new (b : Fin 2) (j : Fin 1024) (r : Fin 64) :
    val_main_v69 (F := Ideal) x2 x3 x4 (ix3 b (Fin.natAdd 512 j) r) = krNew x2 x3 b j r := by
  rw [← key_rope]
  pointwise [val_main_v69]
  rw [dif_neg (show ¬ (Fin.natAdd 512 j).val < 512 by simp)]
  simp only [Fin.val_natAdd, Nat.add_sub_cancel_left]
  blk_ext []

/-! ## The scores -/

theorem score_read (b : Fin 2) (j : Fin 1536) (h : Fin 12) (i : Fin 1024) :
    val_main_v75 (F := Ideal) x0 x1 x2 x3 x4 (ix4 b h i j)
      = score (qNope x0 b h i) (fun d => val_main_v65 (F := Ideal) x1 (ix4 b j h d)) (qRope x0 x3 b h i)
          (fun r => val_main_v69 (F := Ideal) x2 x3 x4 (ix3 b j r)) := by
  pointwise [val_main_v75, val_main_v73, val_main_v74, val_main_cst, val_main_v72, val_main_v70, val_main_v71]
  simp only [query_nope, query_rope]
  rfl

/-- The reference's row of scores: the context's keys first. -/
def row (b : Fin 2) (h : Fin 12) (i : Fin 1024) (j : Fin (512 + 1024)) : EReal :=
  val_main_v75 (F := Ideal) x0 x1 x2 x3 x4 (ix4 b h i j)

theorem row_old (b : Fin 2) (h : Fin 12) (i : Fin 1024) (j : Fin 512) :
    row x0 x1 x2 x3 x4 b h i (Fin.castAdd 1024 j) = sOld x0 x1 x3 x4 b h i j := by
  unfold row sOld
  rw [score_read]
  simp only [key_old, rope_old]

theorem row_new (b : Fin 2) (h : Fin 12) (i : Fin 1024) (j : Fin 1024) :
    row x0 x1 x2 x3 x4 b h i (Fin.natAdd 512 j) = sNew x0 x1 x2 x3 b h i j := by
  unfold row sNew
  rw [score_read]
  simp only [key_new, rope_new]

/-! ## The softmax -/

theorem max_read (T : FVec Ideal S2x12x1024x1536 .f32) (b : Fin 2) (h : Fin 12) (i : Fin 1024) :
    Host.reduce FloatOps.maximumf T (val_main_cst_0 (F := Ideal)) Gen.reducesTo_S2x12x1024x1536_S2x12x1024_d3 Gen.h_S_ (ix3 b h i)
      = rowMax fun j => T (ix4 b h i j) := by
  pointwise [val_main_cst_0]
  rw [show Ideal.ofBits .f32 4286578688#32 = ⊥ from by simp [Ideal.ofBits, Ideal.ieee]]
  rfl

theorem weight_read (b : Fin 2) (j : Fin 1536) (h : Fin 12) (i : Fin 1024) :
    val_main_v82 (F := Ideal) x0 x1 x2 x3 x4 (ix4 b h i j)
      = weight (rowMax (row x0 x1 x2 x3 x4 b h i)) (row x0 x1 x2 x3 x4 b h i j) := by
  unfold row
  rw [val_main_v82_apply, val_main_v81_apply, val_main_v80_apply, val_main_v79_apply, val_main_v78_apply]
  rw [show idx_main_v79 (idx_main_v80 (ix4 b h i j)) = ix3 b h i from by
    funext a; match a with | ⟨0, _⟩ => rfl | ⟨1, _⟩ => rfl | ⟨2, _⟩ => rfl]
  unfold val_main_v76
  generalize val_main_v75 (F := Ideal) x0 x1 x2 x3 x4 = T
  rw [max_read, show val_main_v77 (F := Ideal) (ix3 b h i) = (⊥ : EReal) from by
    pointwise [val_main_v77, val_main_cst_1]; simp [Ideal.ofBits, Ideal.ieee]]
  exact congrArg (weight · (T (ix4 b h i j))) (max_eq_right bot_le)

theorem quotient_read (b : Fin 2) (j : Fin 1536) (h : Fin 12) (i : Fin 1024) :
    val_main_v86 (F := Ideal) x0 x1 x2 x3 x4 (ix4 b h i j)
      = Ideal.div (weight (rowMax (row x0 x1 x2 x3 x4 b h i)) (row x0 x1 x2 x3 x4 b h i j))
          (∑ k, weight (rowMax (row x0 x1 x2 x3 x4 b h i)) (row x0 x1 x2 x3 x4 b h i k)) := by
  pointwise [val_main_v86, val_main_v85, val_main_v84, val_main_v83]
  simp only [weight_read]
  rw [show val_main_cst_2 (F := Ideal) (Shape.Idx.first Gen.h_S_) = (0 : EReal) from by
    pointwise [val_main_cst_2], zero_add]

theorem product_read (b : Fin 2) (i : Fin 1024) (h : Fin 12) (d : Fin 128) :
    val_main_v87 (F := Ideal) x0 x1 x2 x3 x4 (ix4 b h d i)
      = whole (row x0 x1 x2 x3 x4 b h i) (fun j => val_main_v68 (F := Ideal) x1 (ix4 b j h d)) := by
  pointwise [val_main_v87]
  simp only [quotient_read]
  rfl

theorem att_read (b : Fin 2) (i : Fin 1024) (h : Fin 12) (d : Fin 128)
    (hn : ∀ j, IsReal (sNew x0 x1 x2 x3 b h i j)) (ho : ∀ j, IsReal (sOld x0 x1 x3 x4 b h i j)) :
    val_main_v87 (F := Ideal) x0 x1 x2 x3 x4 (ix4 b h d i) = att x0 x1 x2 x3 x4 b h i d := by
  rw [product_read]
  refine (whole_eq_twoPart (a := 512) (b := 1024) (by norm_num) _ _ fun j => ?_).trans ?_
  · refine Fin.addCases (fun k => ?_) (fun k => ?_) j
    · rw [row_old]; exact ho k
    · rw [row_new]; exact hn k
  · unfold att
    simp only [row_old, row_new, value_old, value_new]

theorem rows_read (r : Fin 2048) (d : Fin 1536) :
    val_main_v92 (F := Ideal) x0 x1 x2 x3 x4 (ix2 r d) = val_main_v87 (F := Ideal) x0 x1 x2 x3 x4
      (ix4 ⟨r.val / 1024, by omega⟩ ⟨d.val / 128, by omega⟩ ⟨d.val % 128, by omega⟩ ⟨r.val % 1024, by omega⟩) := by
  pointwise [val_main_v92, val_main_v91, val_main_v89, val_main_v88]

/-- The reference's result. -/
theorem result (hn : ∀ b h i j, IsReal (sNew x0 x1 x2 x3 b h i j)) (ho : ∀ b h i j, IsReal (sOld x0 x1 x3 x4 b h i j)) :
    val_main_v93 (F := Ideal) x0 x1 x2 x3 x4 x5 = out x0 x1 x2 x3 x4 x5 := by
  funext y
  obtain ⟨r, d, rfl⟩ : ∃ (r : Fin 6144) (d : Fin 1536), y = ix2 r d :=
    ⟨y 0, y 1, by funext a; match a with | ⟨0, _⟩ => rfl | ⟨1, _⟩ => rfl⟩
  pointwise [val_main_v93]
  by_cases hr : r.val < 4096
  · rw [dif_pos hr, out_kept _ _ _ _ _ _ _ _ hr]
    pointwise [val_main_v90]
  · rw [dif_neg hr, out_written _ _ _ _ _ _ _ _ (not_lt.mp hr)]
    rw [rows_read, att_read _ _ _ _ _ _ _ _ _ (hn _ _ _) (ho _ _ _)]

end Cert.ReferenceIdeal.RefValue

end
-- ==== Proof.Finite.lean ====
/- The precondition read: the entries that the scores depend on are real numbers. -/
module

public import proofs.«01_k».proof.Pre_finite_scores
public import proofs.«01_k».proof.Proof.Spec
public import proofs.«01_k».proof.Proof.Head
public import Idealize.ShloMosaic.Lib.Pointwise

@[expose] public section

set_option maxRecDepth 16384

noncomputable section

open Idealize.ShloMosaic

namespace Cert.Finite

open Cert.Pre_finite_scores Cert.Soft Cert.Spec

theorem facts : Cert.Pre_finite_scores.Facts where
  slices_S7168x3072_S3072x3072_4096_0 := by decide
  shapeCasts_S3072x3072_S3072x12x256 := by decide
  slices_S3072x12x256_S3072x12x128_0_0_0 := by decide
  slices_S6144x2304_S2048x2304_4096_0 := by decide
  slices_S6144x64_S2048x64_4096_0 := by decide
  bcast_S_S2048x2304 := by decide
  bcast_S_S3072x12x128 := by decide
  bcast_S_S2048x64 := by decide
  bcast_S_S1024x2x16 := by decide
  bcast_S_S2x512x64 := by decide

attribute [local instance] facts

/-- An entry whose absolute value lies under infinity is a real number. -/
theorem real_of_bit (t : EReal) (ht : t = ⊤) (x : EReal)
    (h : BitVec.ofBool (decide (max x (-x) < t)) = 1#1) : IsReal x := by
  have h : max x (-x) < ⊤ := by
    by_contra hn
    rw [ht, decide_eq_false hn] at h
    exact absurd h (by decide)
  rw [max_lt_iff] at h
  refine IsReal.of_ne (fun e => ?_) (fun e => ?_)
  · simp [e] at h
  · simp [e] at h

theorem inf32 : Ideal.ofBits .f32 0x7F800000#32 = ⊤ := by simp [Ideal.ofBits, Ideal.ieee]

theorem inf16 : Ideal.ofBits .bf16 0x7F80#16 = ⊤ := by simp [Ideal.ofBits, Ideal.ieee]

variable {x0 : FVec Ideal S6144x2304 .f32} {x1 : FVec Ideal S7168x3072 .bf16} {x2 : FVec Ideal S6144x64 .f32}
  {x3 : FVec Ideal S1024x2x16 .f32} {x4 : FVec Ideal S2x512x64 .f32} {x5 : FVec Ideal S6144x1536 .bf16}

theorem q_real (h : (fn (F := Ideal) x0 x1 x2 x3 x4 x5).1 = fun _ => 1#1) (r : Fin 2048) (l : Fin 2304) :
    IsReal (x0 (ix2 ⟨4096 + r.val, by omega⟩ l)) := by
  refine real_of_bit _ inf32 _ (.trans (.symm ?_) (congrFun h (ix2 r l)))
  pointwise [fn, fn_part1]
  rfl

theorem k_real (h : (fn (F := Ideal) x0 x1 x2 x3 x4 x5).2.1 = fun _ => 1#1) (j : Fin 3072) (hd : Fin 12)
    (l : Fin 128) :
    IsReal (x1 (ix2 ⟨4096 + j.val, by omega⟩ ⟨hd.val * 256 + l.val, by omega⟩)) := by
  refine real_of_bit _ inf16 _ (.trans (.symm ?_) (congrFun h (ix3 j hd l)))
  pointwise [fn, fn_part1]
  rfl

theorem r_real (h : (fn (F := Ideal) x0 x1 x2 x3 x4 x5).2.2.1 = fun _ => 1#1) (r : Fin 2048) (l : Fin 64) :
    IsReal (x2 (ix2 ⟨4096 + r.val, by omega⟩ l)) := by
  refine real_of_bit _ inf32 _ (.trans (.symm ?_) (congrFun h (ix2 r l)))
  pointwise [fn, fn_part1]
  rfl

theorem a_real (h : (fn (F := Ideal) x0 x1 x2 x3 x4 x5).2.2.2.1 = fun _ => 1#1) (j : Fin 1024) (s : Fin 2)
    (l : Fin 16) : IsReal (x3 (ix3 j s l)) := by
  refine real_of_bit _ inf32 _ (.trans (.symm ?_) (congrFun h (ix3 j s l)))
  pointwise [fn, fn_part1]
  rfl

theorem c_real (h : (fn (F := Ideal) x0 x1 x2 x3 x4 x5).2.2.2.2 = fun _ => 1#1) (b : Fin 2) (j : Fin 512)
    (l : Fin 64) : IsReal (x4 (ix3 b j l)) := by
  refine real_of_bit _ inf32 _ (.trans (.symm ?_) (congrFun h (ix3 b j l)))
  pointwise [fn, fn_part1]
  rfl

/-- Turned parts of real numbers by real angles are real. -/
theorem rot_real (x : Fin 64 → EReal) (th : Fin 2 → Fin 16 → EReal) (hx : ∀ r, IsReal (x r)) (ht : ∀ s w, IsReal (th s w))
    (r : Fin 64) : IsReal (rot x th r) := by
  by_cases h : r.val % 32 < 16
  · rw [rot_lo x th r h]
    exact ((hx _).mul (ht _ _).cos).sub ((hx _).mul (ht _ _).sin)
  · rw [rot_hi x th r h]
    exact ((hx _).mul (ht _ _).sin).add ((hx _).mul (ht _ _).cos)

theorem score_real {qn kn : Fin 128 → EReal} {qr kr : Fin 64 → EReal} (a : ∀ d, IsReal (qn d)) (b : ∀ d, IsReal (kn d))
    (c : ∀ r, IsReal (qr r)) (d : ∀ r, IsReal (kr r)) : IsReal (score qn kn qr kr) := by
  obtain ⟨k, -, hk⟩ := Cert.KernelIdeal.Att.scale_eq
  exact (IsReal.add (.sum fun i _ => (a i).mul (b i)) (.sum fun i _ => (d i).mul (c i))).mul ⟨k, hk⟩

/-- `q_real` at a row known by its number, and likewise below. -/
theorem q_at (h : (fn (F := Ideal) x0 x1 x2 x3 x4 x5).1 = fun _ => 1#1) (r : Fin 6144) (l : Fin 2304)
    (hr : 4096 ≤ r.val) : IsReal (x0 (ix2 r l)) := by
  have e : (⟨4096 + (r.val - 4096), by omega⟩ : Fin 6144) = r := Fin.ext (by show 4096 + (r.val - 4096) = r.val; omega)
  exact e ▸ q_real h ⟨r.val - 4096, by omega⟩ l

theorem r_at (h : (fn (F := Ideal) x0 x1 x2 x3 x4 x5).2.2.1 = fun _ => 1#1) (r : Fin 6144) (l : Fin 64)
    (hr : 4096 ≤ r.val) : IsReal (x2 (ix2 r l)) := by
  have e : (⟨4096 + (r.val - 4096), by omega⟩ : Fin 6144) = r := Fin.ext (by show 4096 + (r.val - 4096) = r.val; omega)
  exact e ▸ r_real h ⟨r.val - 4096, by omega⟩ l

theorem k_at (h : (fn (F := Ideal) x0 x1 x2 x3 x4 x5).2.1 = fun _ => 1#1) (r : Fin 7168) (l : Fin 3072)
    (hr : 4096 ≤ r.val) (hl : l.val % 256 < 128) : IsReal (x1 (ix2 r l)) := by
  have e : (⟨4096 + (r.val - 4096), by omega⟩ : Fin 7168) = r := Fin.ext (by show 4096 + (r.val - 4096) = r.val; omega)
  have f : (⟨l.val / 256 * 256 + l.val % 256, by omega⟩ : Fin 3072) = l :=
    Fin.ext (by show l.val / 256 * 256 + l.val % 256 = l.val; omega)
  exact e ▸ f ▸ k_real h ⟨r.val - 4096, by omega⟩ ⟨l.val / 256, by omega⟩ ⟨l.val % 256, by omega⟩

/-- The five bits of the precondition. -/
abbrev AllFinite (x0 : FVec Ideal S6144x2304 .f32) (x1 : FVec Ideal S7168x3072 .bf16) (x2 : FVec Ideal S6144x64 .f32)
    (x3 : FVec Ideal S1024x2x16 .f32) (x4 : FVec Ideal S2x512x64 .f32) (x5 : FVec Ideal S6144x1536 .bf16) : Prop :=
  (fn (F := Ideal) x0 x1 x2 x3 x4 x5).1 = (fun _ => 1#1)
    ∧ (fn (F := Ideal) x0 x1 x2 x3 x4 x5).2.1 = (fun _ => 1#1)
    ∧ (fn (F := Ideal) x0 x1 x2 x3 x4 x5).2.2.1 = (fun _ => 1#1)
    ∧ (fn (F := Ideal) x0 x1 x2 x3 x4 x5).2.2.2.1 = (fun _ => 1#1)
    ∧ (fn (F := Ideal) x0 x1 x2 x3 x4 x5).2.2.2.2 = (fun _ => 1#1)

theorem qRope_real (h : AllFinite x0 x1 x2 x3 x4 x5) (b : Fin 2) (g : Fin 12) (i : Fin 1024) (r : Fin 64) :
    IsReal (qRope x0 x3 b g i r) :=
  rot_real _ _ (fun _ => q_at h.1 _ _ (by show 4096 ≤ 4096 + b.val * 1024 + i.val; omega)) (fun _ _ => a_real h.2.2.2.1 _ _ _) r

theorem qNope_real (h : AllFinite x0 x1 x2 x3 x4 x5) (b : Fin 2) (g : Fin 12) (i : Fin 1024) (d : Fin 128) :
    IsReal (qNope x0 b g i d) :=
  q_at h.1 _ _ (by show 4096 ≤ 4096 + b.val * 1024 + i.val; omega)

theorem sNew_real (h : AllFinite x0 x1 x2 x3 x4 x5) (b : Fin 2) (g : Fin 12) (i j : Fin 1024) :
    IsReal (sNew x0 x1 x2 x3 b g i j) :=
  score_real (qNope_real h b g i)
    (fun d => k_at h.2.1 _ _ (by show 4096 ≤ 4096 + b.val * 1024 + j.val; omega) (by show (g.val * 256 + d.val) % 256 < 128; omega))
    (qRope_real h b g i)
    (rot_real _ _ (fun _ => r_at h.2.2.1 _ _ (by show 4096 ≤ 4096 + b.val * 1024 + j.val; omega)) fun _ _ => a_real h.2.2.2.1 _ _ _)

theorem sOld_real (h : AllFinite x0 x1 x2 x3 x4 x5) (b : Fin 2) (g : Fin 12) (i : Fin 1024) (j : Fin 512) :
    IsReal (sOld x0 x1 x3 x4 b g i j) :=
  score_real (qNope_real h b g i)
    (fun d => k_at h.2.1 _ _ (by show 4096 ≤ 6144 + b.val * 512 + j.val; omega) (by show (g.val * 256 + d.val) % 256 < 128; omega))
    (qRope_real h b g i)
    (fun r => c_real h.2.2.2.2 b j r)

end Cert.Finite

end
-- ==== Proof.Attention.lean ====
/- The attention's claim of value: the kernel and the reference leave the same result. -/
module

public import proofs.«01_k».proof.Defs
public import proofs.«01_k».proof.Proof.Block
public import proofs.«01_k».proof.Proof.RefValue
public import proofs.«01_k».proof.Proof.Finite

@[expose] public section

set_option maxRecDepth 16384

noncomputable section

open Idealize.ShloMosaic Idealize.ShloMosaic.TcCoe Idealize.SL.Sem

namespace Cert.Attention

/-- The reference leaves its arguments as they are, and declares no semaphore. -/
theorem reference_frame : @Cert.quiescent_ReferenceIdeal Cert.ReferenceIdeal.Gen.facts := by
  intro m ρ _
  exact (θ_run Cert.ReferenceIdeal.defs _ _).mono (fun r h => ⟨fun c => (h c).2, sem_eq_zero_of_no_sems (by decide) r.2⟩)
    (Cert.ReferenceIdeal.Value.run m ρ)

theorem algebraic : @Cert.algebraic_KernelIdeal_ReferenceIdeal_pre_finite_scores Cert.KernelIdeal.Gen.facts
    Cert.ReferenceIdeal.Gen.facts Cert.Finite.facts := by
  intro m g m' g' hp he
  refine ⟨fun c => Cert.KernelIdeal.Att.result m c, ?_, ?_⟩
  · exact (θ_run _ _ _).mono (fun r h c => ⟨(h c).1.trans (Cert.KernelIdeal.Att.final m c), (h c).2⟩)
      (Cert.KernelIdeal.Value.run_blocks m g)
  · refine (θ_run _ _ _).mono (fun r h c => ⟨(h c).1.trans ?_, (h c).2⟩) (Cert.ReferenceIdeal.Value.run m' g')
    have hf : Cert.Finite.AllFinite _ _ _ _ _ _ := hp c
    obtain ⟨e0, e1, e2, e3, e4, e5⟩ := he c
    rw [Cert.ReferenceIdeal.Read.val_main_v93_eq, e0, e1, e2, e3, e4, e5]
    exact Cert.ReferenceIdeal.RefValue.result _ _ _ _ _ _ (Cert.Finite.sNew_real hf) (Cert.Finite.sOld_real hf)

end Cert.Attention

end
-- ==== Proof.Product.lean ====
/- A product of a matrix and one layer's weights: the formula that the blocks of the projections are compared with. -/
module

public import proofs.«01_k».proof.Proof.Spec
public import Idealize.ShloMosaic.Lib.Pipeline.ValueKit.Held

@[expose] public section

noncomputable section

open Idealize.ShloMosaic

namespace Cert.Product

open Cert.Spec

/-- Row `r` of `x` times column `n` of the first of the two layers' weights. -/
def dot {a k b : ℕ} (x : Mat a k) (w : Cube 2 k b) (r : Fin a) (n : Fin b) : EReal :=
  ∑ l, x (ix2 r l) * w (ix3 0 l n)

/-- The product of a block of rows and a block of columns. -/
def mul {a k b : ℕ} (x : Mat a k) (w : Mat k b) : Mat a b := fun i => ∑ l, x (ix2 (i 0) l) * w (ix2 l (i 1))

/-- One layer's weights, of a block that holds only them. -/
def layer {k b : ℕ} (w : Cube 1 k b) : Mat k b := fun i => w (ix3 0 (i 0) (i 1))

/-- Weights that are written at the first point of every run of `J` points and carried through the others: what a point
    computes from the carried ones is what it would compute from those of its run's first point. -/
theorem carried {N : ℕ} {Y W : Type} (f : (n : ℕ) → n < N → Y × W) (J : ℕ) (p : Fin N → W → Y) (w : Fin N → W)
    (h0 : ∀ t : Fin N, t.val % J = 0 → f t.val t.isLt = (p t (w t), w t))
    (hs : ∀ t : Fin N, ¬t.val % J = 0 → f t.val t.isLt
      = (p t (f (t.val - 1) (Nat.lt_of_le_of_lt (Nat.sub_le _ _) t.isLt)).2, (f (t.val - 1) (Nat.lt_of_le_of_lt (Nat.sub_le _ _) t.isLt)).2))
    (t : Fin N) : (f t.val t.isLt).1 = p t (w ⟨J * (t.val / J), Pipeline.run_start_lt t⟩) := by
  have hw := Pipeline.eq_of_write_hold (fun n h => (f n h).2) J w (fun t h => by show (f t.val t.isLt).2 = _; rw [h0 t h])
    (fun t h => by show (f t.val t.isLt).2 = _; rw [hs t h]) t
  by_cases h : t.val % J = 0
  · rw [← hw, h0 t h]
  · rw [← hw, hs t h]

/-- The product as an array. -/
def prod {a k b : ℕ} (x : Mat a k) (w : Cube 2 k b) : Mat a b := fun i => dot x w (i 0) (i 1)

/-- An index by its coordinates. -/
theorem exists_ix2 {a b : ℕ} (i : (⟨2, ![a, b]⟩ : Shape).Idx) : ∃ (r : Fin a) (n : Fin b), i = ix2 r n :=
  ⟨i 0, i 1, by funext d; match d with | ⟨0, _⟩ => rfl | ⟨1, _⟩ => rfl⟩

/-- An entry of a block's product is the entry of the whole product whose row and column the blocks hold. -/
theorem mul_eq_prod {p k q a b : ℕ} (x : Mat p k) (w : Mat k q) (X : Mat a k) (W : Cube 2 k b) (r : Fin p) (n : Fin q)
    (j : (⟨2, ![a, b]⟩ : Shape).Idx) (hx : ∀ l, x (ix2 r l) = X (ix2 (j 0) l)) (hw : ∀ l, w (ix2 l n) = W (ix3 0 l (j 1))) :
    mul x w (ix2 r n) = prod X W j :=
  Finset.sum_congr rfl fun l _ => congrArg₂ (· * ·) (hx l) (hw l)

/-- `n` columns of a matrix, from column `o`. -/
def fromCol {a b : ℕ} (o n : ℕ) (h : o + n ≤ b) (p : Mat a b) : Mat a n := fun i =>
  p (ix2 (i 0) ⟨o + (i 1).val, Nat.lt_of_lt_of_le (Nat.add_lt_add_left (i 1).isLt o) h⟩)

/-- `mul_eq_prod` where only some columns of the whole product are kept. -/
theorem mul_eq_fromCol {p k q a b o n : ℕ} (h : o + n ≤ b) (x : Mat p k) (w : Mat k q) (X : Mat a k) (W : Cube 2 k b) (r : Fin p) (e : Fin q)
    (j : (⟨2, ![a, n]⟩ : Shape).Idx) (hx : ∀ l, x (ix2 r l) = X (ix2 (j 0) l))
    (hw : ∀ l, w (ix2 l e) = W (ix3 0 l ⟨o + (j 1).val, Nat.lt_of_lt_of_le (Nat.add_lt_add_left (j 1).isLt o) h⟩)) :
    mul x w (ix2 r e) = fromCol o n h (prod X W) j :=
  Finset.sum_congr rfl fun l _ => congrArg₂ (· * ·) (hx l) (hw l)

/-- The product of two matrices side by side and a block of columns: the first takes the block's first rows. -/
def mul2 {a p q k b : ℕ} (h : p + q = k) (f : Mat a p) (o : Mat a q) (w : Mat k b) : Mat a b := fun i =>
  (∑ l : Fin p, f (ix2 (i 0) l) * w (ix2 ⟨l.val, Nat.lt_of_lt_of_le l.isLt (h ▸ Nat.le_add_right p q)⟩ (i 1)))
    + ∑ l : Fin q, o (ix2 (i 0) l) * w (ix2 ⟨p + l.val, h ▸ Nat.add_lt_add_left l.isLt p⟩ (i 1))

/-- The same of the first layer's weights, as an array. -/
def prod2 {a p q k b : ℕ} (h : p + q = k) (f : Mat a p) (o : Mat a q) (w : Cube 2 k b) : Mat a b :=
  mul2 h f o fun i => w (ix3 0 (i 0) (i 1))

/-- `mul_eq_prod` of two matrices side by side. -/
theorem mul2_eq_prod2 {p k l q n a b : ℕ} (h : k + l = n) (f : Mat p k) (o : Mat p l) (w : Mat n q) (F : Mat a k) (O : Mat a l)
    (W : Cube 2 n b) (r : Fin p) (e : Fin q) (j : (⟨2, ![a, b]⟩ : Shape).Idx) (hf : ∀ l, f (ix2 r l) = F (ix2 (j 0) l))
    (ho : ∀ l, o (ix2 r l) = O (ix2 (j 0) l)) (hw : ∀ l, w (ix2 l e) = W (ix3 0 l (j 1))) :
    mul2 h f o w (ix2 r e) = prod2 h F O W j :=
  congrArg₂ (· + ·) (Finset.sum_congr rfl fun l _ => congrArg₂ (· * ·) (hf l) (hw _))
    (Finset.sum_congr rfl fun l _ => congrArg₂ (· * ·) (ho l) (hw _))

/-- The gated unit: `g * sigmoid g * u`, at every index. -/
def gated {a b : ℕ} (g u : Mat a b) : Mat a b := fun i => g i * Ideal.logistic (g i) * u i

theorem gated_congr {a b p q : ℕ} {g u : Mat a b} {G U : Mat p q} {i : (⟨2, ![a, b]⟩ : Shape).Idx} {j : (⟨2, ![p, q]⟩ : Shape).Idx}
    (hg : g i = G j) (hu : u i = U j) : gated g u i = gated G U j := by
  show g i * Ideal.logistic (g i) * u i = G j * Ideal.logistic (G j) * U j
  rw [hg, hu]

end Cert.Product

end
-- ==== Proof.KvProj.lean ====
/- The attention's keys and values: the kernel's result and the reference's are the product of the whole matrices. -/
module

public import proofs.«01_k».proof.Defs
public import proofs.«01_k».proof.Proof.Gen.KvProjIdeal.Value
public import proofs.«01_k».proof.Proof.Gen.KvProjReferenceIdeal.Run
public import proofs.«01_k».proof.Proof.Gen.KvProjReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvProjIdeal.Mm

open Cert.KvProjIdeal Cert.KvProjIdeal.Gen Cert.Spec Cert.Product

variable (m : (ℓ : Loc nD τ sig) → Buf (Elt Ideal) ℓ)

abbrev ax (c : Dev nD) : Mat 7168 256 := m ((c : Thread nD τ).loc main_arg0)
abbrev aw (c : Dev nD) : Cube 2 256 3072 := m ((c : Thread nD τ).loc main_arg1)

theorem idx : ∀ t : Fin cfg0.N, win0_0.index t = ![t.val, 0] ∧ win0_1.index t = ![0, 0, 0]
    ∧ win0_2.index t = ![t.val, 0] :=
  (by decide +kernel : ∀ t : Fin grid0.N, _)

theorem t_lt (t : Fin cfg0.N) : t.val < 7 := t.isLt

variable (c : Dev nD) (t : Fin cfg0.N)

theorem pay_held (w : Vec Ideal S1x256x3072 .f32) : k0_pay2 (F := Ideal) w = layer w := by
  funext i
  obtain ⟨l, n, rfl⟩ := exists_ix2 i
  pointwise [k0_pay2, k0_pay1]
  rfl

theorem pay_first (w : Vec Ideal S1x256x3072 .f32) (x : Vec Ideal S1024x256 .bf16) : k0_pay3 (F := Ideal) w x = mul x (layer w) := by
  funext i
  obtain ⟨r, n, rfl⟩ := exists_ix2 i
  pointwise [k0_pay3, k0_pay1]
  rfl

theorem pay_later (w : Vec Ideal S256x3072 .bf16) (x : Vec Ideal S1024x256 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨7 * (t.val / 7), Pipeline.run_start_lt t⟩)) :=
  carried (outsAt0 m c) 7 (fun t w => mul (iblk m c 0 t) w) (fun t => layer (iblk m c 1 t))
    (fun t h => by rw [outsAt0_A m c t h (by have := t_lt t; omega)]; refine Prod.ext ?_ ?_ <;> funext i <;> frame_out <;> simp only [pay_first, pay_held])
    (fun t h => by rw [outsAt0_B m c t h (by have := t_lt t; omega)]; refine Prod.ext ?_ ?_ <;> funext i <;> frame_out <;> (try simp only [read_unread_whole, pay_later]) <;> rfl) t

/-- The kernel's result array after the run. -/
theorem final : (dats m 0 c).arrAt 2 cfg0.N = prod (ax m c) (aw m c) := by
  refine (dats m 0 c).arrAt_eq_of_covers 2 _ (by decide +kernel) fun t hf y => ?_
  have ht := t_lt t
  blk_simp
  rw [after0_2, block]
  obtain ⟨r, n, rfl⟩ : ∃ (r : Fin 1024) (n : Fin 3072), y = ix2 r n := exists_ix2 y
  refine mul_eq_prod _ _ _ _ r n _ (fun l => ?_) (fun l => ?_)
  · blk_ext [iblk, V, idx t]
  · unfold layer
    blk_ext [iblk, V, idx t, idx ⟨7 * (t.val / 7), Pipeline.run_start_lt t⟩]

end Cert.KvProjIdeal.Mm

namespace Cert.KvProjReferenceIdeal.Mm

open Cert.KvProjReferenceIdeal Cert.KvProjReferenceIdeal.Read Cert.Spec Cert.Product

theorem result (x : Mat 7168 256) (w : Cube 2 256 3072) :
    val_main_v4 (F := Ideal) x w = prod x w := by
  funext i
  obtain ⟨r, n, rfl⟩ := exists_ix2 i
  pointwise [val_main_v4, val_main_v3, val_main_v2, val_main_v1, val_main_v0]
  rfl

/-- The reference leaves its arguments as they are, and declares no semaphore. -/
theorem frame : @Cert.quiescent_KvProjReferenceIdeal Cert.KvProjReferenceIdeal.Gen.facts := by
  intro m ρ _
  exact (θ_run Cert.KvProjReferenceIdeal.defs _ _).mono (fun r h => ⟨fun c => (h c).2, sem_eq_zero_of_no_sems (by decide) r.2⟩)
    (Cert.KvProjReferenceIdeal.Value.run m ρ)

theorem algebraic : @Cert.algebraic_KvProjIdeal_KvProjReferenceIdeal Cert.KvProjIdeal.Gen.facts Cert.KvProjReferenceIdeal.Gen.facts := by
  intro m g m' g' _ he
  refine ⟨fun c => _, (θ_run _ _ _).mono (fun r h c => ⟨(h c).1.trans (Cert.KvProjIdeal.Mm.final m c), (h c).2⟩)
    (Cert.KvProjIdeal.Value.run_blocks m g), ?_⟩
  refine (θ_run _ _ _).mono (fun r h c => ⟨((h c).1.trans (val_main_v4_eq _ _)).trans ?_, (h c).2⟩) (Cert.KvProjReferenceIdeal.Value.run m' g')
  obtain ⟨e0, e1⟩ := he c
  rw [e0, e1]
  exact result _ _

end Cert.KvProjReferenceIdeal.Mm

end
-- ==== Proof.QProj.lean ====
/- The attention's queries: the kernel's result and the reference's are the product of the whole matrices. -/
module

public import proofs.«01_k».proof.Defs
public import proofs.«01_k».proof.Proof.Gen.QProjIdeal.Value
public import proofs.«01_k».proof.Proof.Gen.QProjReferenceIdeal.Run
public import proofs.«01_k».proof.Proof.Gen.QProjReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QProjIdeal.Mm

open Cert.QProjIdeal Cert.QProjIdeal.Gen Cert.Spec Cert.Product

variable (m : (ℓ : Loc nD τ sig) → Buf (Elt Ideal) ℓ)

abbrev ax (c : Dev nD) : Mat 6144 768 := m ((c : Thread nD τ).loc main_arg0)
abbrev aw (c : Dev nD) : Cube 2 768 2304 := m ((c : Thread nD τ).loc main_arg1)

theorem idx : ∀ t : Fin cfg0.N, win0_0.index t = ![t.val, 0] ∧ win0_1.index t = ![0, 0, 0]
    ∧ win0_2.index t = ![t.val, 0] :=
  (by decide +kernel : ∀ t : Fin grid0.N, _)

theorem t_lt (t : Fin cfg0.N) : t.val < 6 := t.isLt

variable (c : Dev nD) (t : Fin cfg0.N)

theorem pay_held (w : Vec Ideal S1x768x2304 .f32) : k0_pay2 (F := Ideal) w = layer w := by
  funext i
  obtain ⟨l, n, rfl⟩ := exists_ix2 i
  pointwise [k0_pay2, k0_pay1]
  rfl

theorem pay_first (w : Vec Ideal S1x768x2304 .f32) (x : Vec Ideal S1024x768 .bf16) : k0_pay3 (F := Ideal) w x = mul x (layer w) := by
  funext i
  obtain ⟨r, n, rfl⟩ := exists_ix2 i
  pointwise [k0_pay3, k0_pay1]
  rfl

theorem pay_later (w : Vec Ideal S768x2304 .bf16) (x : Vec Ideal S1024x768 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨6 * (t.val / 6), Pipeline.run_start_lt t⟩)) :=
  carried (outsAt0 m c) 6 (fun t w => mul (iblk m c 0 t) w) (fun t => layer (iblk m c 1 t))
    (fun t h => by rw [outsAt0_A m c t h (by have := t_lt t; omega)]; refine Prod.ext ?_ ?_ <;> funext i <;> frame_out <;> simp only [pay_first, pay_held])
    (fun t h => by rw [outsAt0_B m c t h (by have := t_lt t; omega)]; refine Prod.ext ?_ ?_ <;> funext i <;> frame_out <;> (try simp only [read_unread_whole, pay_later]) <;> rfl) t

/-- The kernel's result array after the run. -/
theorem final : (dats m 0 c).arrAt 2 cfg0.N = prod (ax m c) (aw m c) := by
  refine (dats m 0 c).arrAt_eq_of_covers 2 _ (by decide +kernel) fun t hf y => ?_
  have ht := t_lt t
  blk_simp
  rw [after0_2, block]
  obtain ⟨r, n, rfl⟩ : ∃ (r : Fin 1024) (n : Fin 2304), y = ix2 r n := exists_ix2 y
  refine mul_eq_prod _ _ _ _ r n _ (fun l => ?_) (fun l => ?_)
  · blk_ext [iblk, V, idx t]
  · unfold layer
    blk_ext [iblk, V, idx t, idx ⟨6 * (t.val / 6), Pipeline.run_start_lt t⟩]

end Cert.QProjIdeal.Mm

namespace Cert.QProjReferenceIdeal.Mm

open Cert.QProjReferenceIdeal Cert.QProjReferenceIdeal.Read Cert.Spec Cert.Product

theorem result (x : Mat 6144 768) (w : Cube 2 768 2304) :
    val_main_v3 (F := Ideal) x w = prod x w := by
  funext i
  obtain ⟨r, n, rfl⟩ := exists_ix2 i
  pointwise [val_main_v3, val_main_v2, val_main_v1, val_main_v0]
  rfl

/-- The reference leaves its arguments as they are, and declares no semaphore. -/
theorem frame : @Cert.quiescent_QProjReferenceIdeal Cert.QProjReferenceIdeal.Gen.facts := by
  intro m ρ _
  exact (θ_run Cert.QProjReferenceIdeal.defs _ _).mono (fun r h => ⟨fun c => (h c).2, sem_eq_zero_of_no_sems (by decide) r.2⟩)
    (Cert.QProjReferenceIdeal.Value.run m ρ)

theorem algebraic : @Cert.algebraic_QProjIdeal_QProjReferenceIdeal Cert.QProjIdeal.Gen.facts Cert.QProjReferenceIdeal.Gen.facts := by
  intro m g m' g' _ he
  refine ⟨fun c => _, (θ_run _ _ _).mono (fun r h c => ⟨(h c).1.trans (Cert.QProjIdeal.Mm.final m c), (h c).2⟩)
    (Cert.QProjIdeal.Value.run_blocks m g), ?_⟩
  refine (θ_run _ _ _).mono (fun r h c => ⟨((h c).1.trans (val_main_v3_eq _ _)).trans ?_, (h c).2⟩) (Cert.QProjReferenceIdeal.Value.run m' g')
  obtain ⟨e0, e1⟩ := he c
  rw [e0, e1]
  exact result _ _

end Cert.QProjReferenceIdeal.Mm

end
-- ==== Proof.MixOut.lean ====
/- The last product of the mixer with the attention, of two matrices side by side: the kernel's result and the reference's are the product of the whole matrices. -/
module

public import proofs.«01_k».proof.Defs
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Mm

open Cert.MixOutIdeal Cert.MixOutIdeal.Gen Cert.Spec Cert.Product

variable (m : (ℓ : Loc nD τ sig) → Buf (Elt Ideal) ℓ)

abbrev af (c : Dev nD) : Mat 6144 512 := m ((c : Thread nD τ).loc main_arg0)
abbrev ao (c : Dev nD) : Mat 6144 1536 := m ((c : Thread nD τ).loc main_arg1)
abbrev aw (c : Dev nD) : Cube 2 2048 2048 := m ((c : Thread nD τ).loc main_arg2)

theorem idx : ∀ t : Fin cfg0.N, win0_0.index t = ![t.val % 6, 0] ∧ win0_1.index t = ![t.val % 6, 0]
    ∧ win0_2.index t = ![0, 0, t.val / 6] ∧ win0_3.index t = ![t.val % 6, t.val / 6] :=
  (by decide +kernel : ∀ t : Fin grid0.N, _)

theorem t_lt (t : Fin cfg0.N) : t.val < 12 := t.isLt

variable (c : Dev nD) (t : Fin cfg0.N)

theorem pay_held (w : Vec Ideal S1x2048x1024 .f32) : k0_pay2 (F := Ideal) w = layer w := by
  funext i
  obtain ⟨l, n, rfl⟩ := exists_ix2 i
  pointwise [k0_pay2, k0_pay1]
  rfl

theorem pay_first (w : Vec Ideal S1x2048x1024 .f32) (f : Vec Ideal S1024x512 .bf16) (o : Vec Ideal S1024x1536 .bf16) :
    k0_pay3 (F := Ideal) w f o = mul2 (by decide : 512 + 1536 = 2048) f o (layer w) := by
  funext i
  obtain ⟨r, n, rfl⟩ := exists_ix2 i
  pointwise [k0_pay3, k0_pay1]
  rfl

theorem pay_later (w : Vec Ideal S2048x1024 .bf16) (f : Vec Ideal S1024x512 .bf16) (o : Vec Ideal S1024x1536 .bf16) :
    k0_pay4 (F := Ideal) w f o = mul2 (by decide : 512 + 1536 = 2048) f o w := by
  funext i
  obtain ⟨r, n, rfl⟩ := exists_ix2 i
  pointwise [k0_pay4]
  rfl

theorem block : (outsAt0 m c t.val t.isLt).1 = mul2 (by decide : 512 + 1536 = 2048) (iblk m c 0 t) (iblk m c 1 t)
    (layer (iblk m c 2 ⟨6 * (t.val / 6), Pipeline.run_start_lt t⟩)) :=
  carried (outsAt0 m c) 6 (fun t w => mul2 (by decide : 512 + 1536 = 2048) (iblk m c 0 t) (iblk m c 1 t) w)
    (fun t => layer (iblk m c 2 t))
    (fun t h => by rw [outsAt0_A m c t h (by omega)]; refine Prod.ext ?_ ?_ <;> funext i <;> frame_out <;> simp only [pay_first, pay_held])
    (fun t h => by rw [outsAt0_B m c t h (by omega)]; refine Prod.ext ?_ ?_ <;> funext i <;> frame_out <;> (try simp only [read_unread_whole, pay_later]) <;> rfl) t

/-- The kernel's result array after the run. -/
theorem final : (dats m 0 c).arrAt 3 cfg0.N = prod2 (by decide : 512 + 1536 = 2048) (af m c) (ao m c) (aw m c) := by
  refine (dats m 0 c).arrAt_eq_of_covers 3 _ (by decide +kernel) fun t hf y => ?_
  have ht := t_lt t
  blk_simp
  rw [after0_3, block]
  obtain ⟨r, n, rfl⟩ : ∃ r n : Fin 1024, y = ix2 r n := exists_ix2 y
  refine mul2_eq_prod2 _ _ _ _ _ _ _ r n _ (fun l => ?_) (fun l => ?_) (fun l => ?_)
  · blk_ext [iblk, V, idx t]
  · blk_ext [iblk, V, idx t]
  · unfold layer
    blk_ext [iblk, V, idx t, idx ⟨6 * (t.val / 6), Pipeline.run_start_lt t⟩]

end Cert.MixOutIdeal.Mm

namespace Cert.MixOutReferenceIdeal.Mm

open Cert.MixOutReferenceIdeal Cert.MixOutReferenceIdeal.Read Cert.Spec Cert.Product

theorem result (f : Mat 6144 512) (o : Mat 6144 1536) (w : Cube 2 2048 2048) :
    val_main_v5 (F := Ideal) f o w = prod2 (by decide : 512 + 1536 = 2048) f o w := by
  funext i
  obtain ⟨r, n, rfl⟩ := exists_ix2 i
  pointwise [val_main_v5, val_main_v4, val_main_v3, val_main_v2, val_main_v1, val_main_v0]
  rfl

/-- The reference leaves its arguments as they are, and declares no semaphore. -/
theorem frame : @Cert.quiescent_MixOutReferenceIdeal Cert.MixOutReferenceIdeal.Gen.facts := by
  intro m ρ _
  exact (θ_run Cert.MixOutReferenceIdeal.defs _ _).mono (fun r h => ⟨fun c => (h c).2, sem_eq_zero_of_no_sems (by decide) r.2⟩)
    (Cert.MixOutReferenceIdeal.Value.run m ρ)

theorem algebraic : @Cert.algebraic_MixOutIdeal_MixOutReferenceIdeal Cert.MixOutIdeal.Gen.facts Cert.MixOutReferenceIdeal.Gen.facts := by
  intro m g m' g' _ he
  refine ⟨fun c => _, (θ_run _ _ _).mono (fun r h c => ⟨(h c).1.trans (Cert.MixOutIdeal.Mm.final m c), (h c).2⟩)
    (Cert.MixOutIdeal.Value.run_blocks m g), ?_⟩
  refine (θ_run _ _ _).mono (fun r h c => ⟨((h c).1.trans (val_main_v5_eq _ _ _)).trans ?_, (h c).2⟩) (Cert.MixOutReferenceIdeal.Value.run m' g')
  obtain ⟨e0, e1, e2⟩ := he c
  rw [e0, e1, e2]
  exact result _ _ _

end Cert.MixOutReferenceIdeal.Mm

end
-- ==== Proof.MixIn.lean ====
/- The first product of the mixer with the attention: the kernel's result and the reference's are the product of the whole matrices. -/
module

public import proofs.«01_k».proof.Defs
public import proofs.«01_k».proof.Proof.Gen.MixInIdeal.Value
public import proofs.«01_k».proof.Proof.Gen.MixInReferenceIdeal.Run
public import proofs.«01_k».proof.Proof.Gen.MixInReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixInIdeal.Mm

open Cert.MixInIdeal Cert.MixInIdeal.Gen Cert.Spec Cert.Product

variable (m : (ℓ : Loc nD τ sig) → Buf (Elt Ideal) ℓ)

abbrev ax (c : Dev nD) : Mat 6144 2048 := m ((c : Thread nD τ).loc main_arg0)
abbrev aw (c : Dev nD) : Cube 2 2048 1600 := m ((c : Thread nD τ).loc main_arg1)

theorem idx : ∀ t : Fin cfg0.N, win0_0.index t = ![t.val, 0] ∧ win0_1.index t = ![0, 0, 0]
    ∧ win0_2.index t = ![t.val, 0] :=
  (by decide +kernel : ∀ t : Fin grid0.N, _)

theorem t_lt (t : Fin cfg0.N) : t.val < 12 := t.isLt

variable (c : Dev nD) (t : Fin cfg0.N)

theorem pay_held (w : Vec Ideal S1x2048x1600 .f32) : k0_pay2 (F := Ideal) w = layer w := by
  funext i
  obtain ⟨l, n, rfl⟩ := exists_ix2 i
  pointwise [k0_pay2, k0_pay1]
  rfl

theorem pay_first (w : Vec Ideal S1x2048x1600 .f32) (x : Vec Ideal S512x2048 .bf16) : k0_pay3 (F := Ideal) w x = mul x (layer w) := by
  funext i
  obtain ⟨r, n, rfl⟩ := exists_ix2 i
  pointwise [k0_pay3, k0_pay1]
  rfl

theorem pay_later (w : Vec Ideal S2048x1600 .bf16) (x : Vec Ideal S512x2048 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨12 * (t.val / 12), Pipeline.run_start_lt t⟩)) :=
  carried (outsAt0 m c) 12 (fun t w => mul (iblk m c 0 t) w) (fun t => layer (iblk m c 1 t))
    (fun t h => by rw [outsAt0_A m c t h (by have := t_lt t; omega)]; refine Prod.ext ?_ ?_ <;> funext i <;> frame_out <;> simp only [pay_first, pay_held])
    (fun t h => by rw [outsAt0_B m c t h (by have := t_lt t; omega)]; refine Prod.ext ?_ ?_ <;> funext i <;> frame_out <;> (try simp only [read_unread_whole, pay_later]) <;> rfl) t

/-- The kernel's result array after the run. -/
theorem final : (dats m 0 c).arrAt 2 cfg0.N = prod (ax m c) (aw m c) := by
  refine (dats m 0 c).arrAt_eq_of_covers 2 _ (by decide +kernel) fun t hf y => ?_
  have ht := t_lt t
  blk_simp
  rw [after0_2, block]
  obtain ⟨r, n, rfl⟩ : ∃ (r : Fin 512) (n : Fin 1600), y = ix2 r n := exists_ix2 y
  refine mul_eq_prod _ _ _ _ r n _ (fun l => ?_) (fun l => ?_)
  · blk_ext [iblk, V, idx t]
  · unfold layer
    blk_ext [iblk, V, idx t, idx ⟨12 * (t.val / 12), Pipeline.run_start_lt t⟩]

end Cert.MixInIdeal.Mm

namespace Cert.MixInReferenceIdeal.Mm

open Cert.MixInReferenceIdeal Cert.MixInReferenceIdeal.Read Cert.Spec Cert.Product

theorem result (x : Mat 6144 2048) (w : Cube 2 2048 1600) :
    val_main_v3 (F := Ideal) x w = prod x w := by
  funext i
  obtain ⟨r, n, rfl⟩ := exists_ix2 i
  pointwise [val_main_v3, val_main_v2, val_main_v1, val_main_v0]
  rfl

/-- The reference leaves its arguments as they are, and declares no semaphore. -/
theorem frame : @Cert.quiescent_MixInReferenceIdeal Cert.MixInReferenceIdeal.Gen.facts := by
  intro m ρ _
  exact (θ_run Cert.MixInReferenceIdeal.defs _ _).mono (fun r h => ⟨fun c => (h c).2, sem_eq_zero_of_no_sems (by decide) r.2⟩)
    (Cert.MixInReferenceIdeal.Value.run m ρ)

theorem algebraic : @Cert.algebraic_MixInIdeal_MixInReferenceIdeal Cert.MixInIdeal.Gen.facts Cert.MixInReferenceIdeal.Gen.facts := by
  intro m g m' g' _ he
  refine ⟨fun c => _, (θ_run _ _ _).mono (fun r h c => ⟨(h c).1.trans (Cert.MixInIdeal.Mm.final m c), (h c).2⟩)
    (Cert.MixInIdeal.Value.run_blocks m g), ?_⟩
  refine (θ_run _ _ _).mono (fun r h c => ⟨((h c).1.trans (val_main_v3_eq _ _)).trans ?_, (h c).2⟩) (Cert.MixInReferenceIdeal.Value.run m' g')
  obtain ⟨e0, e1⟩ := he c
  rw [e0, e1]
  exact result _ _

end Cert.MixInReferenceIdeal.Mm

end
-- ==== Proof.SsmOut.lean ====
/- The recurrent mixer's last product: the kernel's result and the reference's are the product of the whole matrices. -/
module

public import proofs.«01_k».proof.Defs
public import proofs.«01_k».proof.Proof.Gen.SsmOutIdeal.Value
public import proofs.«01_k».proof.Proof.Gen.SsmOutReferenceIdeal.Run
public import proofs.«01_k».proof.Proof.Gen.SsmOutReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmOutIdeal.Mm

open Cert.SsmOutIdeal Cert.SsmOutIdeal.Gen Cert.Spec Cert.Product

variable (m : (ℓ : Loc nD τ sig) → Buf (Elt Ideal) ℓ)

abbrev ax (c : Dev nD) : Mat 6144 4096 := m ((c : Thread nD τ).loc main_arg0)
abbrev aw (c : Dev nD) : Cube 2 4096 2048 := m ((c : Thread nD τ).loc main_arg1)

theorem idx : ∀ t : Fin cfg0.N, win0_0.index t = ![t.val % 6, 0] ∧ win0_1.index t = ![0, 0, t.val / 6]
    ∧ win0_2.index t = ![t.val % 6, t.val / 6] :=
  (by decide +kernel : ∀ t : Fin grid0.N, _)

theorem t_lt (t : Fin cfg0.N) : t.val < 24 := t.isLt

variable (c : Dev nD) (t : Fin cfg0.N)

theorem pay_held (w : Vec Ideal S1x4096x512 .f32) : k0_pay2 (F := Ideal) w = layer w := by
  funext i
  obtain ⟨l, n, rfl⟩ := exists_ix2 i
  pointwise [k0_pay2, k0_pay1]
  rfl

theorem pay_first (w : Vec Ideal S1x4096x512 .f32) (x : Vec Ideal S1024x4096 .bf16) : k0_pay3 (F := Ideal) w x = mul x (layer w) := by
  funext i
  obtain ⟨r, n, rfl⟩ := exists_ix2 i
  pointwise [k0_pay3, k0_pay1]
  rfl

theorem pay_later (w : Vec Ideal S4096x512 .bf16) (x : Vec Ideal S1024x4096 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨6 * (t.val / 6), Pipeline.run_start_lt t⟩)) :=
  carried (outsAt0 m c) 6 (fun t w => mul (iblk m c 0 t) w) (fun t => layer (iblk m c 1 t))
    (fun t h => by rw [outsAt0_A m c t h (by omega)]; refine Prod.ext ?_ ?_ <;> funext i <;> frame_out <;> simp only [pay_first, pay_held])
    (fun t h => by rw [outsAt0_B m c t h (by omega)]; refine Prod.ext ?_ ?_ <;> funext i <;> frame_out <;> (try simp only [read_unread_whole, pay_later]) <;> rfl) t

/-- The kernel's result array after the run. -/
theorem final : (dats m 0 c).arrAt 2 cfg0.N = prod (ax m c) (aw m c) := by
  refine (dats m 0 c).arrAt_eq_of_covers 2 _ (by decide +kernel) fun t hf y => ?_
  have ht := t_lt t
  blk_simp
  rw [after0_2, block]
  obtain ⟨r, n, rfl⟩ : ∃ (r : Fin 1024) (n : Fin 512), y = ix2 r n := exists_ix2 y
  refine mul_eq_prod _ _ _ _ r n _ (fun l => ?_) (fun l => ?_)
  · blk_ext [iblk, V, idx t]
  · unfold layer
    blk_ext [iblk, V, idx t, idx ⟨6 * (t.val / 6), Pipeline.run_start_lt t⟩]

end Cert.SsmOutIdeal.Mm

namespace Cert.SsmOutReferenceIdeal.Mm

open Cert.SsmOutReferenceIdeal Cert.SsmOutReferenceIdeal.Read Cert.Spec Cert.Product

theorem result (x : Mat 6144 4096) (w : Cube 2 4096 2048) :
    val_main_v4 (F := Ideal) x w = prod x w := by
  funext i
  obtain ⟨r, n, rfl⟩ := exists_ix2 i
  pointwise [val_main_v4, val_main_v3, val_main_v2, val_main_v1, val_main_v0]
  rfl

/-- The reference leaves its arguments as they are, and declares no semaphore. -/
theorem frame : @Cert.quiescent_SsmOutReferenceIdeal Cert.SsmOutReferenceIdeal.Gen.facts := by
  intro m ρ _
  exact (θ_run Cert.SsmOutReferenceIdeal.defs _ _).mono (fun r h => ⟨fun c => (h c).2, sem_eq_zero_of_no_sems (by decide) r.2⟩)
    (Cert.SsmOutReferenceIdeal.Value.run m ρ)

theorem algebraic : @Cert.algebraic_SsmOutIdeal_SsmOutReferenceIdeal Cert.SsmOutIdeal.Gen.facts Cert.SsmOutReferenceIdeal.Gen.facts := by
  intro m g m' g' _ he
  refine ⟨fun c => _, (θ_run _ _ _).mono (fun r h c => ⟨(h c).1.trans (Cert.SsmOutIdeal.Mm.final m c), (h c).2⟩)
    (Cert.SsmOutIdeal.Value.run_blocks m g), ?_⟩
  refine (θ_run _ _ _).mono (fun r h c => ⟨((h c).1.trans (val_main_v4_eq _ _)).trans ?_, (h c).2⟩) (Cert.SsmOutReferenceIdeal.Value.run m' g')
  obtain ⟨e0, e1⟩ := he c
  rw [e0, e1]
  exact result _ _

end Cert.SsmOutReferenceIdeal.Mm

end
-- ==== Proof.SsmInXbc.lean ====
/- What the recurrent mixer convolves, the next columns of its first product: the kernel's result and the reference's are the product of the whole matrices. -/
module

public import proofs.«01_k».proof.Defs
public import proofs.«01_k».proof.Proof.Gen.SsmInXbcIdeal.Value
public import proofs.«01_k».proof.Proof.Gen.SsmInXbcReferenceIdeal.Run
public import proofs.«01_k».proof.Proof.Gen.SsmInXbcReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmInXbcIdeal.Mm

open Cert.SsmInXbcIdeal Cert.SsmInXbcIdeal.Gen Cert.Spec Cert.Product

variable (m : (ℓ : Loc nD τ sig) → Buf (Elt Ideal) ℓ)

abbrev ax (c : Dev nD) : Mat 6144 2048 := m ((c : Thread nD τ).loc main_arg0)
abbrev aw (c : Dev nD) : Cube 2 2048 10368 := m ((c : Thread nD τ).loc main_arg1)

theorem idx : ∀ t : Fin cfg0.N, win0_0.index t = ![t.val % 6, 0] ∧ win0_1.index t = ![0, 0, 4 + t.val / 6]
    ∧ win0_2.index t = ![t.val % 6, t.val / 6] :=
  (by decide +kernel : ∀ t : Fin grid0.N, _)

theorem t_lt (t : Fin cfg0.N) : t.val < 36 := t.isLt

variable (c : Dev nD) (t : Fin cfg0.N)

theorem pay_held (w : Vec Ideal S1x2048x1024 .f32) : k0_pay2 (F := Ideal) w = layer w := by
  funext i
  obtain ⟨l, n, rfl⟩ := exists_ix2 i
  pointwise [k0_pay2, k0_pay1]
  rfl

theorem pay_first (w : Vec Ideal S1x2048x1024 .f32) (x : Vec Ideal S1024x2048 .bf16) : k0_pay3 (F := Ideal) w x = mul x (layer w) := by
  funext i
  obtain ⟨r, n, rfl⟩ := exists_ix2 i
  pointwise [k0_pay3, k0_pay1]
  rfl

theorem pay_later (w : Vec Ideal S2048x1024 .bf16) (x : Vec Ideal S1024x2048 .bf16) : k0_pay4 (F := Ideal) w x = mul x w := by
  funext i
  obtain ⟨r, n, rfl⟩ := exists_ix2 i
  pointwise [k0_pay4]
  rfl

/-- The last block of weights would stick out of the array, but no point reads it: what is read is the array's block. -/
theorem held_at (j : S1x2048x1024.Idx) : X0_1 m c t j
    = iblk m c 1 t fun a => ⟨(j a).val, ((cfg0.win 1).moved_iff _ j).mp (moved0_1 t j) a⟩ := dif_pos (moved0_1 t j)

theorem block : (outsAt0 m c t.val t.isLt).1 = mul (iblk m c 0 t) (layer (X0_1 m c ⟨6 * (t.val / 6), Pipeline.run_start_lt t⟩)) :=
  carried (outsAt0 m c) 6 (fun t w => mul (iblk m c 0 t) w) (fun t => layer (X0_1 m c t))
    (fun t h => by rw [outsAt0_A m c t h (by omega)]; refine Prod.ext ?_ ?_ <;> funext i <;> frame_out <;> simp only [pay_first, pay_held])
    (fun t h => by rw [outsAt0_B m c t h (by omega)]; refine Prod.ext ?_ ?_ <;> funext i <;> frame_out <;> (try simp only [read_unread_whole, pay_later]) <;> rfl) t

/-- The kernel's result array after the run. -/
theorem final : (dats m 0 c).arrAt 2 cfg0.N = fromCol 4096 6144 (by decide) (prod (ax m c) (aw m c)) := by
  refine (dats m 0 c).arrAt_eq_of_covers 2 _ (by decide +kernel) fun t hf y => ?_
  have ht := t_lt t
  blk_simp
  rw [after0_2, block]
  obtain ⟨r, n, rfl⟩ : ∃ (r : Fin 1024) (n : Fin 1024), y = ix2 r n := exists_ix2 y
  refine mul_eq_fromCol _ _ _ _ _ r n _ (fun l => ?_) (fun l => ?_)
  · blk_ext [iblk, V, idx t]
  · refine (held_at m c _ (ix3 0 l n)).trans ?_
    blk_ext [iblk, V, idx t, idx ⟨6 * (t.val / 6), Pipeline.run_start_lt t⟩]

end Cert.SsmInXbcIdeal.Mm

namespace Cert.SsmInXbcReferenceIdeal.Mm

open Cert.SsmInXbcReferenceIdeal Cert.SsmInXbcReferenceIdeal.Read Cert.Spec Cert.Product

theorem result (x : Mat 6144 2048) (w : Cube 2 2048 10368) :
    val_main_v5 (F := Ideal) x w = fromCol 4096 6144 (by decide) (prod x w) := by
  funext i
  obtain ⟨r, n, rfl⟩ := exists_ix2 i
  pointwise [val_main_v5, val_main_v4, val_main_v3, val_main_v2, val_main_v1, val_main_v0]
  rfl

/-- The reference leaves its arguments as they are, and declares no semaphore. -/
theorem frame : @Cert.quiescent_SsmInXbcReferenceIdeal Cert.SsmInXbcReferenceIdeal.Gen.facts := by
  intro m ρ _
  exact (θ_run Cert.SsmInXbcReferenceIdeal.defs _ _).mono (fun r h => ⟨fun c => (h c).2, sem_eq_zero_of_no_sems (by decide) r.2⟩)
    (Cert.SsmInXbcReferenceIdeal.Value.run m ρ)

theorem algebraic : @Cert.algebraic_SsmInXbcIdeal_SsmInXbcReferenceIdeal Cert.SsmInXbcIdeal.Gen.facts Cert.SsmInXbcReferenceIdeal.Gen.facts := by
  intro m g m' g' _ he
  refine ⟨fun c => _, (θ_run _ _ _).mono (fun r h c => ⟨(h c).1.trans (Cert.SsmInXbcIdeal.Mm.final m c), (h c).2⟩)
    (Cert.SsmInXbcIdeal.Value.run_blocks m g), ?_⟩
  refine (θ_run _ _ _).mono (fun r h c => ⟨((h c).1.trans (val_main_v5_eq _ _)).trans ?_, (h c).2⟩) (Cert.SsmInXbcReferenceIdeal.Value.run m' g')
  obtain ⟨e0, e1⟩ := he c
  rw [e0, e1]
  exact result _ _

end Cert.SsmInXbcReferenceIdeal.Mm

end
-- ==== Proof.SsmInZ.lean ====
/- The recurrent mixer's gate, the first columns of its first product: the kernel's result and the reference's are the product of the whole matrices. -/
module

public import proofs.«01_k».proof.Defs
public import proofs.«01_k».proof.Proof.Gen.SsmInZIdeal.Value
public import proofs.«01_k».proof.Proof.Gen.SsmInZReferenceIdeal.Run
public import proofs.«01_k».proof.Proof.Gen.SsmInZReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmInZIdeal.Mm

open Cert.SsmInZIdeal Cert.SsmInZIdeal.Gen Cert.Spec Cert.Product

variable (m : (ℓ : Loc nD τ sig) → Buf (Elt Ideal) ℓ)

abbrev ax (c : Dev nD) : Mat 6144 2048 := m ((c : Thread nD τ).loc main_arg0)
abbrev aw (c : Dev nD) : Cube 2 2048 10368 := m ((c : Thread nD τ).loc main_arg1)

theorem idx : ∀ t : Fin cfg0.N, win0_0.index t = ![t.val % 6, 0] ∧ win0_1.index t = ![0, 0, t.val / 6]
    ∧ win0_2.index t = ![t.val % 6, t.val / 6] :=
  (by decide +kernel : ∀ t : Fin grid0.N, _)

theorem t_lt (t : Fin cfg0.N) : t.val < 24 := t.isLt

variable (c : Dev nD) (t : Fin cfg0.N)

theorem pay_held (w : Vec Ideal S1x2048x1024 .f32) : k0_pay2 (F := Ideal) w = layer w := by
  funext i
  obtain ⟨l, n, rfl⟩ := exists_ix2 i
  pointwise [k0_pay2, k0_pay1]
  rfl

theorem pay_first (w : Vec Ideal S1x2048x1024 .f32) (x : Vec Ideal S1024x2048 .bf16) : k0_pay3 (F := Ideal) w x = mul x (layer w) := by
  funext i
  obtain ⟨r, n, rfl⟩ := exists_ix2 i
  pointwise [k0_pay3, k0_pay1]
  rfl

theorem pay_later (w : Vec Ideal S2048x1024 .bf16) (x : Vec Ideal S1024x2048 .bf16) : k0_pay4 (F := Ideal) w x = mul x w := by
  funext i
  obtain ⟨r, n, rfl⟩ := exists_ix2 i
  pointwise [k0_pay4]
  rfl

/-- The last block of weights would stick out of the array, but no point reads it: what is read is the array's block. -/
theorem held_at (j : S1x2048x1024.Idx) : X0_1 m c t j
    = iblk m c 1 t fun a => ⟨(j a).val, ((cfg0.win 1).moved_iff _ j).mp (moved0_1 t j) a⟩ := dif_pos (moved0_1 t j)

theorem block : (outsAt0 m c t.val t.isLt).1 = mul (iblk m c 0 t) (layer (X0_1 m c ⟨6 * (t.val / 6), Pipeline.run_start_lt t⟩)) :=
  carried (outsAt0 m c) 6 (fun t w => mul (iblk m c 0 t) w) (fun t => layer (X0_1 m c t))
    (fun t h => by rw [outsAt0_A m c t h (by omega)]; refine Prod.ext ?_ ?_ <;> funext i <;> frame_out <;> simp only [pay_first, pay_held])
    (fun t h => by rw [outsAt0_B m c t h (by omega)]; refine Prod.ext ?_ ?_ <;> funext i <;> frame_out <;> (try simp only [read_unread_whole, pay_later]) <;> rfl) t

/-- The kernel's result array after the run. -/
theorem final : (dats m 0 c).arrAt 2 cfg0.N = fromCol 0 4096 (by decide) (prod (ax m c) (aw m c)) := by
  refine (dats m 0 c).arrAt_eq_of_covers 2 _ (by decide +kernel) fun t hf y => ?_
  have ht := t_lt t
  blk_simp
  rw [after0_2, block]
  obtain ⟨r, n, rfl⟩ : ∃ (r : Fin 1024) (n : Fin 1024), y = ix2 r n := exists_ix2 y
  refine mul_eq_fromCol _ _ _ _ _ r n _ (fun l => ?_) (fun l => ?_)
  · blk_ext [iblk, V, idx t]
  · refine (held_at m c _ (ix3 0 l n)).trans ?_
    blk_ext [iblk, V, idx t, idx ⟨6 * (t.val / 6), Pipeline.run_start_lt t⟩]

end Cert.SsmInZIdeal.Mm

namespace Cert.SsmInZReferenceIdeal.Mm

open Cert.SsmInZReferenceIdeal Cert.SsmInZReferenceIdeal.Read Cert.Spec Cert.Product

theorem result (x : Mat 6144 2048) (w : Cube 2 2048 10368) :
    val_main_v5 (F := Ideal) x w = fromCol 0 4096 (by decide) (prod x w) := by
  funext i
  obtain ⟨r, n, rfl⟩ := exists_ix2 i
  pointwise [val_main_v5, val_main_v4, val_main_v3, val_main_v2, val_main_v1, val_main_v0]
  simp only [fromCol, prod, dot, Nat.zero_add]
  rfl

/-- The reference leaves its arguments as they are, and declares no semaphore. -/
theorem frame : @Cert.quiescent_SsmInZReferenceIdeal Cert.SsmInZReferenceIdeal.Gen.facts := by
  intro m ρ _
  exact (θ_run Cert.SsmInZReferenceIdeal.defs _ _).mono (fun r h => ⟨fun c => (h c).2, sem_eq_zero_of_no_sems (by decide) r.2⟩)
    (Cert.SsmInZReferenceIdeal.Value.run m ρ)

theorem algebraic : @Cert.algebraic_SsmInZIdeal_SsmInZReferenceIdeal Cert.SsmInZIdeal.Gen.facts Cert.SsmInZReferenceIdeal.Gen.facts := by
  intro m g m' g' _ he
  refine ⟨fun c => _, (θ_run _ _ _).mono (fun r h c => ⟨(h c).1.trans (Cert.SsmInZIdeal.Mm.final m c), (h c).2⟩)
    (Cert.SsmInZIdeal.Value.run_blocks m g), ?_⟩
  refine (θ_run _ _ _).mono (fun r h c => ⟨((h c).1.trans (val_main_v5_eq _ _)).trans ?_, (h c).2⟩) (Cert.SsmInZReferenceIdeal.Value.run m' g')
  obtain ⟨e0, e1⟩ := he c
  rw [e0, e1]
  exact result _ _

end Cert.SsmInZReferenceIdeal.Mm

end
-- ==== Proof.FfnDown.lean ====
/- The feed-forward part's last product: the kernel's result and the reference's are the product of the whole matrices. -/
module

public import proofs.«01_k».proof.Defs
public import proofs.«01_k».proof.Proof.Gen.FfnDownIdeal.Value
public import proofs.«01_k».proof.Proof.Gen.FfnDownReferenceIdeal.Run
public import proofs.«01_k».proof.Proof.Gen.FfnDownReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnDownIdeal.Mm

open Cert.FfnDownIdeal Cert.FfnDownIdeal.Gen Cert.Spec Cert.Product

variable (m : (ℓ : Loc nD τ sig) → Buf (Elt Ideal) ℓ)

abbrev ax (c : Dev nD) : Mat 6144 5632 := m ((c : Thread nD τ).loc main_arg0)
abbrev aw (c : Dev nD) : Cube 2 5632 2048 := m ((c : Thread nD τ).loc main_arg1)

theorem idx : ∀ t : Fin cfg0.N, win0_0.index t = ![t.val % 12, 0] ∧ win0_1.index t = ![0, 0, t.val / 12]
    ∧ win0_2.index t = ![t.val % 12, t.val / 12] :=
  (by decide +kernel : ∀ t : Fin grid0.N, _)

theorem t_lt (t : Fin cfg0.N) : t.val < 48 := t.isLt

variable (c : Dev nD) (t : Fin cfg0.N)

theorem pay_held (w : Vec Ideal S1x5632x512 .f32) : k0_pay2 (F := Ideal) w = layer w := by
  funext i
  obtain ⟨l, n, rfl⟩ := exists_ix2 i
  pointwise [k0_pay2, k0_pay1]
  rfl

theorem pay_first (w : Vec Ideal S1x5632x512 .f32) (x : Vec Ideal S512x5632 .bf16) : k0_pay3 (F := Ideal) w x = mul x (layer w) := by
  funext i
  obtain ⟨r, n, rfl⟩ := exists_ix2 i
  pointwise [k0_pay3, k0_pay1]
  rfl

theorem pay_later (w : Vec Ideal S5632x512 .bf16) (x : Vec Ideal S512x5632 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨12 * (t.val / 12), Pipeline.run_start_lt t⟩)) :=
  carried (outsAt0 m c) 12 (fun t w => mul (iblk m c 0 t) w) (fun t => layer (iblk m c 1 t))
    (fun t h => by rw [outsAt0_A m c t h (by omega)]; refine Prod.ext ?_ ?_ <;> funext i <;> frame_out <;> simp only [pay_first, pay_held])
    (fun t h => by rw [outsAt0_B m c t h (by omega)]; refine Prod.ext ?_ ?_ <;> funext i <;> frame_out <;> (try simp only [read_unread_whole, pay_later]) <;> rfl) t

/-- The kernel's result array after the run. -/
theorem final : (dats m 0 c).arrAt 2 cfg0.N = prod (ax m c) (aw m c) := by
  refine (dats m 0 c).arrAt_eq_of_covers 2 _ (by decide +kernel) fun t hf y => ?_
  have ht := t_lt t
  blk_simp
  rw [after0_2, block]
  obtain ⟨r, n, rfl⟩ : ∃ r n : Fin 512, y = ix2 r n := exists_ix2 y
  refine mul_eq_prod _ _ _ _ r n _ (fun l => ?_) (fun l => ?_)
  · blk_ext [iblk, V, idx t]
  · unfold layer
    blk_ext [iblk, V, idx t, idx ⟨12 * (t.val / 12), Pipeline.run_start_lt t⟩]

end Cert.FfnDownIdeal.Mm

namespace Cert.FfnDownReferenceIdeal.Mm

open Cert.FfnDownReferenceIdeal Cert.FfnDownReferenceIdeal.Read Cert.Spec Cert.Product

theorem result (x : Mat 6144 5632) (w : Cube 2 5632 2048) :
    val_main_v4 (F := Ideal) x w = prod x w := by
  funext i
  obtain ⟨r, n, rfl⟩ := exists_ix2 i
  pointwise [val_main_v4, val_main_v3, val_main_v2, val_main_v1, val_main_v0]
  rfl

/-- The reference leaves its arguments as they are, and declares no semaphore. -/
theorem frame : @Cert.quiescent_FfnDownReferenceIdeal Cert.FfnDownReferenceIdeal.Gen.facts := by
  intro m ρ _
  exact (θ_run Cert.FfnDownReferenceIdeal.defs _ _).mono (fun r h => ⟨fun c => (h c).2, sem_eq_zero_of_no_sems (by decide) r.2⟩)
    (Cert.FfnDownReferenceIdeal.Value.run m ρ)

theorem algebraic : @Cert.algebraic_FfnDownIdeal_FfnDownReferenceIdeal Cert.FfnDownIdeal.Gen.facts Cert.FfnDownReferenceIdeal.Gen.facts := by
  intro m g m' g' _ he
  refine ⟨fun c => _, (θ_run _ _ _).mono (fun r h c => ⟨(h c).1.trans (Cert.FfnDownIdeal.Mm.final m c), (h c).2⟩)
    (Cert.FfnDownIdeal.Value.run_blocks m g), ?_⟩
  refine (θ_run _ _ _).mono (fun r h c => ⟨((h c).1.trans (val_main_v4_eq _ _)).trans ?_, (h c).2⟩) (Cert.FfnDownReferenceIdeal.Value.run m' g')
  obtain ⟨e0, e1⟩ := he c
  rw [e0, e1]
  exact result _ _

end Cert.FfnDownReferenceIdeal.Mm

end
-- ==== Proof.FfnUp.lean ====
/- The feed-forward part's first half: the kernel's result and the reference's are the gated product of the whole matrices. -/
module

public import proofs.«01_k».proof.Defs
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnUpIdeal.Mm

open Cert.FfnUpIdeal Cert.FfnUpIdeal.Gen Cert.Spec Cert.Product

variable (m : (ℓ : Loc nD τ sig) → Buf (Elt Ideal) ℓ)

abbrev ax (c : Dev nD) : Mat 6144 2048 := m ((c : Thread nD τ).loc main_arg0)
abbrev ag (c : Dev nD) : Cube 2 2048 5632 := m ((c : Thread nD τ).loc main_arg1)
abbrev au (c : Dev nD) : Cube 2 2048 5632 := m ((c : Thread nD τ).loc main_arg2)

theorem idx : ∀ t : Fin cfg0.N, win0_0.index t = ![t.val % 6, 0] ∧ win0_1.index t = ![0, 0, t.val / 6]
    ∧ win0_2.index t = ![0, 0, t.val / 6] ∧ win0_3.index t = ![t.val % 6, t.val / 6] :=
  (by decide +kernel : ∀ t : Fin grid0.N, _)

theorem t_lt (t : Fin cfg0.N) : t.val < 66 := t.isLt

variable (c : Dev nD) (t : Fin cfg0.N)

theorem pay_gate (w : Vec Ideal S1x2048x512 .f32) : k0_pay3 (F := Ideal) w = layer w := by
  funext i
  obtain ⟨l, n, rfl⟩ := exists_ix2 i
  pointwise [k0_pay3, k0_pay1]
  rfl

theorem pay_up (w : Vec Ideal S1x2048x512 .f32) : k0_pay4 (F := Ideal) w = layer w := by
  funext i
  obtain ⟨l, n, rfl⟩ := exists_ix2 i
  pointwise [k0_pay4, k0_pay2]
  rfl

theorem pay_first (g u : Vec Ideal S1x2048x512 .f32) (x : Vec Ideal S1024x2048 .bf16) :
    k0_pay5 (F := Ideal) g u x = gated (mul x (layer g)) (mul x (layer u)) := by
  funext i
  obtain ⟨r, n, rfl⟩ := exists_ix2 i
  pointwise [k0_pay5, k0_pay1, k0_pay2]
  rfl

theorem pay_later (g u : Vec Ideal S2048x512 .bf16) (x : Vec Ideal S1024x2048 .bf16) :
    k0_pay6 (F := Ideal) g u x = gated (mul x g) (mul x u) := by
  funext i
  obtain ⟨r, n, rfl⟩ := exists_ix2 i
  pointwise [k0_pay6]
  rfl

theorem block : (outsAt0 m c t.val t.isLt).1 = gated (mul (iblk m c 0 t) (layer (iblk m c 1 ⟨6 * (t.val / 6), Pipeline.run_start_lt t⟩)))
    (mul (iblk m c 0 t) (layer (iblk m c 2 ⟨6 * (t.val / 6), Pipeline.run_start_lt t⟩))) :=
  carried (outsAt0 m c) 6 (fun t w => gated (mul (iblk m c 0 t) w.1) (mul (iblk m c 0 t) w.2)) (fun t => (layer (iblk m c 1 t), layer (iblk m c 2 t)))
    (fun t h => by rw [outsAt0_A m c t h (by omega)]; refine Prod.ext ?_ (Prod.ext ?_ ?_) <;> funext i <;> frame_out <;> simp only [pay_first, pay_gate, pay_up])
    (fun t h => by rw [outsAt0_B m c t h (by omega)]; refine Prod.ext ?_ (Prod.ext ?_ ?_) <;> funext i <;> frame_out <;> (try simp only [read_unread_whole, pay_later]) <;> rfl) t

/-- The kernel's result array after the run. -/
theorem final : (dats m 0 c).arrAt 3 cfg0.N = gated (prod (ax m c) (ag m c)) (prod (ax m c) (au m c)) := by
  refine (dats m 0 c).arrAt_eq_of_covers 3 _ (by decide +kernel) fun t hf y => ?_
  have ht := t_lt t
  blk_simp
  rw [after0_3, block]
  obtain ⟨r, n, rfl⟩ : ∃ (r : Fin 1024) (n : Fin 512), y = ix2 r n := exists_ix2 y
  refine gated_congr (mul_eq_prod _ _ _ _ r n _ (fun l => ?_) (fun l => ?_)) (mul_eq_prod _ _ _ _ r n _ (fun l => ?_) (fun l => ?_))
  · blk_ext [iblk, V, idx t]
  · unfold layer
    blk_ext [iblk, V, idx t, idx ⟨6 * (t.val / 6), Pipeline.run_start_lt t⟩]
  · blk_ext [iblk, V, idx t]
  · unfold layer
    blk_ext [iblk, V, idx t, idx ⟨6 * (t.val / 6), Pipeline.run_start_lt t⟩]

end Cert.FfnUpIdeal.Mm

namespace Cert.FfnUpReferenceIdeal.Mm

open Cert.FfnUpReferenceIdeal Cert.FfnUpReferenceIdeal.Read Cert.Spec Cert.Product

theorem result (x : Mat 6144 2048) (g u : Cube 2 2048 5632) :
    val_main_v10 (F := Ideal) x g u = gated (prod x g) (prod x u) := by
  funext i
  obtain ⟨r, n, rfl⟩ := exists_ix2 i
  pointwise [val_main_v10, val_main_v9, val_main_v8, val_main_v7, val_main_v6, val_main_v5, val_main_v4, val_main_call0_v5,
    val_main_call0_v4, val_main_call0_v3, val_main_call0_v2, val_main_call0_v1, val_main_call0_v0, val_main_call0_cst,
    val_main_call0_cst_0, val_main_v3, val_main_v2, val_main_v1, val_main_v0]
  rfl

/-- The reference leaves its arguments as they are, and declares no semaphore. -/
theorem frame : @Cert.quiescent_FfnUpReferenceIdeal Cert.FfnUpReferenceIdeal.Gen.facts := by
  intro m ρ _
  exact (θ_run Cert.FfnUpReferenceIdeal.defs _ _).mono (fun r h => ⟨fun c => (h c).2, sem_eq_zero_of_no_sems (by decide) r.2⟩)
    (Cert.FfnUpReferenceIdeal.Value.run m ρ)

theorem algebraic : @Cert.algebraic_FfnUpIdeal_FfnUpReferenceIdeal Cert.FfnUpIdeal.Gen.facts Cert.FfnUpReferenceIdeal.Gen.facts := by
  intro m g m' g' _ he
  refine ⟨fun c => _, (θ_run _ _ _).mono (fun r h c => ⟨(h c).1.trans (Cert.FfnUpIdeal.Mm.final m c), (h c).2⟩)
    (Cert.FfnUpIdeal.Value.run_blocks m g), ?_⟩
  refine (θ_run _ _ _).mono (fun r h c => ⟨((h c).1.trans (val_main_v10_eq _ _ _)).trans ?_, (h c).2⟩) (Cert.FfnUpReferenceIdeal.Value.run m' g')
  obtain ⟨e0, e1, e2⟩ := he c
  rw [e0, e1, e2]
  exact result _ _ _

end Cert.FfnUpReferenceIdeal.Mm

end
-- ==== Proof.MoeUpRun.lean ====
module

public import proofs.«01_k».proof.Proof.Gen.MoeUpIdeal
public import proofs.«01_k».proof.Proof.Gen.MoeUpIdeal.Launch
public import proofs.«01_k».proof.Proof.Gen.MoeUpIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.DatRel
public import Idealize.ShloMosaic.Lib.Pipeline.ArrRel
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

/-! The experts' first product, one step of the grid at a time: what the body leaves in its output block and in the two
copies of the weights, on each of its four paths. -/

noncomputable section

namespace Cert.MoeUpIdeal.Step

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables that the body reads, and its two copies of the weights. -/
abbrev firstM : Memref sig .tc .smem S128 .i32 := Memref.whole main_arg3
abbrev kindM : Memref sig .tc .smem S128 .i32 := Memref.whole main_arg4
abbrev gateM : Memref sig .tc .vmem S2048x1024 .bf16 := Memref.whole cc0_scratch0
abbrev upM : Memref sig .tc .vmem S2048x1024 .bf16 := Memref.whole cc0_scratch1

/-- The word that the body reads of a table at grid point `i`. -/
abbrev word (M : Memref sig .tc .smem S128 .i32) (T : M.view.ty.Contents (Elt F)) (off : grid0.Coords → Fin 1 → Nat)
    (h : ∀ i : grid0.Coords, ∀ a, (off i) a + S1.size a ≤ S128.size a) (i : grid0.Coords) : Elt F .i32 :=
  View.readAt (Elt F) M.view (Rect.unit (s := S128) (off i) S1.size (h i)).toLoadRect T (Shape.Idx.first (numel1_S1.symm ▸ Nat.one_pos))

variable (c : Dev nD) (i : grid0.Coords)
  (arg6 : Memref sig .tc .vmem S512x2048 .bf16) (harg6 : arg6.IsWhole)
  (arg7 : Memref sig .tc .vmem S1x1x2048x1024 .f32) (harg7 : arg7.IsWhole)
  (arg8 : Memref sig .tc .vmem S1x1x2048x1024 .f32) (harg8 : arg8.IsWhole)
  (arg9 : Memref sig .tc .vmem S512x1024 .bf16) (harg9 : arg9.IsWhole)
  (T3 T4 : S128.Idx → Elt F .i32)
  (x0 : S512x2048.Idx → Elt F .bf16) (x1 x2 : S1x1x2048x1024.Idx → Elt F .f32)
  (y : S512x1024.Idx → Elt F .bf16) (a b : S2048x1024.Idx → Elt F .bf16)

/-- What a step holds: the blocks of rows and of weights, the two tables, the output block, the two copies of the weights. -/
abbrev held (y : S512x1024.Idx → Elt F .bf16) (a b : S2048x1024.Idx → Elt F .bf16) : sProp 𝕄 :=
  iprop((arg6.view.loc (c : Thread nD τ) ↦[arg6.view.set]{fullShare} arg6.view.rep x0)
    ∗ (arg7.view.loc (c : Thread nD τ) ↦[arg7.view.set]{fullShare} arg7.view.rep x1)
    ∗ (arg8.view.loc (c : Thread nD τ) ↦[arg8.view.set]{fullShare} arg8.view.rep x2)
    ∗ (firstM.view.loc (c : Thread nD τ) ↦{fullShare.right} T3)
    ∗ (kindM.view.loc (c : Thread nD τ) ↦{fullShare.right} T4)
    ∗ owns (c : Thread nD τ) arg9 fullShare y
    ∗ owns (c : Thread nD τ) gateM fullShare a
    ∗ owns (c : Thread nD τ) upM fullShare b)

/-- The body at grid point `i`. -/
abbrev body : Prog (TpuEff nD τ sig (Elt F) Λ₀ .tc) PUnit :=
  cc0_moe_up i (Memref.whole main_arg0) (Memref.isWhole_whole _) (Memref.whole main_arg1) (Memref.isWhole_whole _)
    (Memref.whole main_arg2) (Memref.isWhole_whole _) firstM (Memref.isWhole_whole _) kindM (Memref.isWhole_whole _)
    arg6 harg6 arg7 harg7 arg8 harg8 arg9 harg9 gateM (Memref.isWhole_whole _) upM (Memref.isWhole_whole _)

variable {c i T3 T4}

set_option maxHeartbeats 8000000 in
/-- The first step of a run of tiles: both copies of the weights are made, and the output block is stored whole. -/
theorem run_first
    (h1 : k0_cond1 (word firstM T3 k0_off1 k0_off1_inb i) = 1#1)
    (h2 : ¬ k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 arg9 T3 T4 x0 x1 x2 y a b
      ∗ (held c arg6 arg7 arg8 arg9 T3 T4 x0 x1 x2 (k0_pay5 x1 x2 x0) (k0_pay3 x1) (k0_pay4 x2) -∗ K ⟨⟩))
    ⊢ wp frame (wpE (defs₀ (F := F)) Variants.none c none) Set.univ (body i arg6 harg6 arg7 harg7 arg8 harg8 arg9 harg9) K := by
  unfold held owns body
  rw [cc0_moe_up_eq_skeleton]; unfold cc0_moe_up_skel
  iintro ⟨⟨H0, H1, H2, HT3, HT4, ⟨%f, %hf, HO⟩, ⟨%fa, %hfa, HA⟩, ⟨%fb, %hfb, HB⟩⟩, Hk⟩
  have hS0 : gateM.IsWhole := Memref.isWhole_whole _
  have hS1 : upM.IsWhole := Memref.isWhole_whole _
  have hT3 : firstM.IsWhole := Memref.isWhole_whole _
  have hT4 : kindM.IsWhole := Memref.isWhole_whole _
  sl_exec! (disch := first | (guard_target = k0_cond1 _ = _; exact h1) | (guard_target = ¬(k0_cond2 _ _ = _); exact h2) | (guard_target = ¬(k0_cond3 _ _ = _); exact h3))
  sl_step
  iapply Hk
  isplitl [H0]; · iexact H0
  isplitl [H1]; · iexact H1
  isplitl [H2]; · iexact H2
  isplitl [HT3]; · iexact HT3
  isplitl [HT4]; · iexact HT4
  isplitl [HO]
  · iexists _; isplitr; swap
    · iexact HO
    · ipureintro; delta run_first.sl.HO_1
      exact (View.read_writes_full arg9.view _ inb_S512x1024_S512x1024_0_0 _ _).trans
        (congr (congrArg₂ k0_pay5 (View.readAt_rep_full arg7.view x1 _) (View.readAt_rep_full arg8.view x2 _)) (View.readAt_rep_full arg6.view x0 _))
  isplitl [HA]
  · iexists _; isplitr; swap
    · iexact HA
    · ipureintro; delta run_first.sl.HA_1
      exact (View.read_writes_full gateM.view _ inb_S2048x1024_S2048x1024_0_0 _ _).trans (congrArg k0_pay3 (View.readAt_rep_full arg7.view x1 _))
  iexists _; isplitr; swap
  · iexact HB
  · ipureintro; delta run_first.sl.HB_1
    exact (View.read_writes_full upM.view _ inb_S2048x1024_S2048x1024_0_0 _ _).trans (congrArg k0_pay4 (View.readAt_rep_full arg8.view x2 _))

set_option maxHeartbeats 8000000 in
/-- A later step of a run, on a whole tile: the copies are kept, and the output block is stored whole. -/
theorem run_full
    (h1 : ¬ k0_cond1 (word firstM T3 k0_off1 k0_off1_inb i) = 1#1)
    (h2 : k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 arg9 T3 T4 x0 x1 x2 y a b
      ∗ (held c arg6 arg7 arg8 arg9 T3 T4 x0 x1 x2 (k0_pay6 a b x0) a b -∗ K ⟨⟩))
    ⊢ wp frame (wpE (defs₀ (F := F)) Variants.none c none) Set.univ (body i arg6 harg6 arg7 harg7 arg8 harg8 arg9 harg9) K := by
  unfold held owns body
  rw [cc0_moe_up_eq_skeleton]; unfold cc0_moe_up_skel
  iintro ⟨⟨H0, H1, H2, HT3, HT4, ⟨%f, %hf, HO⟩, ⟨%fa, %hfa, HA⟩, ⟨%fb, %hfb, HB⟩⟩, Hk⟩
  have hS0 : gateM.IsWhole := Memref.isWhole_whole _
  have hS1 : upM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [HT3]; · iexact HT3
  isplitl [HT4]; · iexact HT4
  isplitl [HO]
  · iexists _; isplitr; swap
    · iexact HO
    · ipureintro
      delta run_full.sl.HO_1
      exact (View.read_writes_full arg9.view _ inb_S512x1024_S512x1024_0_0 _ _).trans
        (congr (congrArg₂ k0_pay6 ((View.readAt_full gateM.view fa _).trans hfa) ((View.readAt_full upM.view fb _).trans hfb)) (View.readAt_rep_full arg6.view x0 _))
  isplitl [HA]
  · iexists _; isplitr; swap
    · iexact HA
    · ipureintro; exact hfa
  iexists _; isplitr; swap
  · iexact HB
  · ipureintro; exact hfb

set_option maxHeartbeats 8000000 in
/-- A later step of a run, on a half tile: the copies are kept, and the output block's first half is stored. -/
theorem run_half
    (h1 : ¬ k0_cond1 (word firstM T3 k0_off1 k0_off1_inb i) = 1#1)
    (h2 : ¬ k0_cond2 (word firstM T3 k0_off2 k0_off2_inb i) (word kindM T4 k0_off2 k0_off2_inb i) = 1#1)
    (h3 : k0_cond3 (word firstM T3 k0_off3 k0_off3_inb i) (word kindM T4 k0_off3 k0_off3_inb i) = 1#1)
    (K : PUnit → sProp 𝕄) :
    iprop(held c arg6 arg7 arg8 arg9 T3 T4 x0 x1 x2 y a b
      ∗ (held c arg6 arg7 arg8 arg9 T3 T4 x0 x1 x2 (VecWindow.put y ![0, 0] S256x1024.size (k0_pay7 a b (VecWindow.window x0 ![0, 0] S256x2048.size inb_S512x2048_S256x2048_0_0))) a b -∗ K ⟨⟩))
    ⊢ wp frame (wpE (defs₀ (F := F)) Variants.none c none) Set.univ (body i arg6 harg6 arg7 harg7 arg8 harg8 arg9 harg9) K := by
  unfold held owns body
  rw [cc0_moe_up_eq_skeleton]; unfold cc0_moe_up_skel
  iintro ⟨⟨H0, H1, H2, HT3, HT4, ⟨%f, %hf, HO⟩, ⟨%fa, %hfa, HA⟩, ⟨%fb, %hfb, HB⟩⟩, Hk⟩
  have hS0 : gateM.IsWhole := Memref.isWhole_whole _
  have hS1 : upM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [HT3]; · iexact HT3
  isplitl [HT4]; · iexact HT4
  isplitl [HO]
  · iexists _; isplitr; swap
    · iexact HO
    · ipureintro
      rw [View.read_writes_cons_put _ _ _ _ _ rfl, View.writes_nil, hf,
        View.readAt_rep_unit arg6.view x0 _ rfl inb_S512x2048_S256x2048_0_0]
      exact congrArg (VecWindow.put y ![0, 0] S256x1024.size) (congrArg₂ (fun a b => k0_pay7 a b _)
        ((View.readAt_full gateM.view fa _).trans hfa) ((View.readAt_full upM.view fb _).trans hfb))
  isplitl [HA]
  · iexists _; isplitr; swap
    · iexact HA
    · ipureintro; exact hfa
  iexists _; isplitr; swap
  · iexact HB
  · ipureintro; exact hfb

set_option maxHeartbeats 8000000 in
/-- A later step of a run, on an empty tile: nothing is stored. -/
theorem run_skip
    (h1 : ¬ k0_cond1 (word firstM T3 k0_off1 k0_off1_inb i) = 1#1)
    (h2 : ¬ k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 arg9 T3 T4 x0 x1 x2 y a b
      ∗ (held c arg6 arg7 arg8 arg9 T3 T4 x0 x1 x2 y a b -∗ K ⟨⟩))
    ⊢ wp frame (wpE (defs₀ (F := F)) Variants.none c none) Set.univ (body i arg6 harg6 arg7 harg7 arg8 harg8 arg9 harg9) K := by
  unfold held owns body
  rw [cc0_moe_up_eq_skeleton]; unfold cc0_moe_up_skel
  iintro ⟨⟨H0, H1, H2, HT3, HT4, ⟨%f, %hf, HO⟩, ⟨%fa, %hfa, HA⟩, ⟨%fb, %hfb, HB⟩⟩, Hk⟩
  have hS0 : gateM.IsWhole := Memref.isWhole_whole _
  have hS1 : upM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = ¬(k0_cond2 _ _ = _); exact h2) | (guard_target = ¬(k0_cond3 _ _ = _); exact h3))
  sl_step
  iapply Hk
  isplitl [H0]; · iexact H0
  isplitl [H1]; · iexact H1
  isplitl [H2]; · iexact H2
  isplitl [HT3]; · iexact HT3
  isplitl [HT4]; · iexact HT4
  isplitl [HO]
  · iexists _; isplitr; swap
    · iexact HO
    · ipureintro; exact hf
  isplitl [HA]
  · iexists _; isplitr; swap
    · iexact HA
    · ipureintro; exact hfa
  iexists _; isplitr; swap
  · iexact HB
  · ipureintro; exact hfb

end Cert.MoeUpIdeal.Step

end
-- ==== Proof.MoeUpTables.lean ====
/- The tables of a dispatch: what the preconditions say of them, entry by entry. -/
module

public import proofs.«01_k».proof.Pre_dispatched
public import proofs.«01_k».proof.Pre_dispatched_down
public import proofs.«01_k».proof.Proof.Spec
public import Idealize.ShloMosaic.Lib.Pipeline.ValueKit
public import Idealize.ShloMosaic.Lib.Pointwise
public import Idealize.ShloMosaic.Lib.WordCmp
public import Idealize.ShloMosaic.Lib.ReduceAll

@[expose] public section

set_option maxRecDepth 16384

noncomputable section

open Idealize.ShloMosaic

namespace Cert.Tables

/-- A table has an entry per step. -/
abbrev Tab (n : ℕ) : Type := (⟨1, ![n]⟩ : Shape).Idx → BitVec 32

variable {n k : ℕ} {te tn tm tf tk : Tab n}

/-- The step before (of the first, itself). -/
def before (s : Fin n) : Fin n := ⟨s.val - 1, by omega⟩

/-- The step stores into its block of the result. -/
def Stores (tf tk : Tab n) (s : Fin n) : Prop := tf (ix1 s) = 1#32 ∨ tk (ix1 s) ≠ 0#32

/-- The two steps have one block of the result. -/
def Same (tn tm : Tab n) (s t : Fin n) : Prop := tm (ix1 s) = tm (ix1 t) ∧ tn (ix1 s) = tn (ix1 t)

/-- What a dispatch's tables are, for `k` blocks of columns: the experts, the columns, the tiles, the starts of runs and the kinds. -/
structure Steps (k : ℕ) (te tn tm tf tk : Tab n) : Prop where
  expert : ∀ s, (te (ix1 s)).toNat < 8
  column : ∀ s, (tn (ix1 s)).toNat < k
  tile : ∀ s, (tm (ix1 s)).toNat < 32
  start : ∀ s, tf (ix1 s) = 0#32 ∨ tf (ix1 s) = 1#32
  kind : ∀ s, tk (ix1 s) = 0#32 ∨ tk (ix1 s) = 1#32 ∨ tk (ix1 s) = 2#32
  first : ∀ s, s.val = 0 → tf (ix1 s) = 1#32
  keep : ∀ s, s.val ≠ 0 → tf (ix1 s) ≠ 1#32 → te (ix1 s) = te (ix1 (before s)) ∧ tn (ix1 s) = tn (ix1 (before s))
  stay : ∀ s, s.val ≠ 0 → ¬ Stores tf tk s → Same tn tm s (before s)
  once : ∀ s t, Stores tf tk s → t < s → ¬ Same tn tm s t
  owner : ∀ s t, tm (ix1 s) = tm (ix1 t) → te (ix1 s) = te (ix1 t)

/-- A block is stored by one step only. -/
theorem Steps.unique (h : Steps k te tn tm tf tk) {s t : Fin n} (hs : Stores tf tk s)
    (ht : Stores tf tk t) (e : Same tn tm s t) : s = t := by
  rcases lt_trichotomy s t with l | l | l
  · exact absurd ⟨e.1.symm, e.2.symm⟩ (h.once t s ht l)
  · exact l
  · exact absurd e (h.once s t hs l)

theorem or_bit (a b : BitVec 1) : IntOp.ori a b = 1#1 ↔ a = 1#1 ∨ b = 1#1 := by
  revert a b; decide
theorem and_bit (a b : BitVec 1) : IntOp.andi a b = 1#1 ↔ a = 1#1 ∧ b = 1#1 := by
  revert a b; decide
theorem not_bit (a : BitVec 1) : ~~~a = 1#1 ↔ ¬ a = 1#1 := by
  revert a; decide
theorem bit_one (b : Bool) : BitVec.ofBool b = 1#1 ↔ b = true := by
  revert b; decide
theorem eq_bit (a b : BitVec 32) : IntOp.cmpi .eq a b = 1#1 ↔ a = b := by
  simp [IntOp.cmpi, bit_one]
theorem ne_bit (a b : BitVec 32) : IntOp.cmpi .ne a b = 1#1 ↔ a ≠ b := by
  simp [IntOp.cmpi, bit_one]
theorem pick {c a b : BitVec 1} {p : Prop} (hc : c = 1#1 ↔ p) (h : Scalar.select c a b = 1#1) :
    (p → a = 1#1) ∧ (¬ p → b = 1#1) := by
  exact ⟨fun q => (if_pos (hc.2 q)).symm.trans h, fun q => (if_neg fun e => q (hc.1 e)).symm.trans h⟩
theorem lt_bit (hn : n ≤ 128) (s t : Fin n) : IntOp.cmpi .slt (BitVec.ofNat 32 s.val) (BitVec.ofNat 32 t.val) = 1#1 ↔ s < t := by
  have : ∀ s t : Fin 128, IntOp.cmpi .slt (BitVec.ofNat 32 s.val) (BitVec.ofNat 32 t.val) = 1#1 ↔ s < t := fun s t => by word_cmp
  exact this (s.castLE hn) (t.castLE hn)
theorem zero_bit (hn : n ≤ 128) (s : Fin n) : IntOp.cmpi .eq (BitVec.ofNat 32 s.val) 0#32 = 1#1 ↔ s.val = 0 := by
  have : ∀ s : Fin 128, IntOp.cmpi .eq (BitVec.ofNat 32 s.val) 0#32 = 1#1 ↔ s.val = 0 := fun s => by word_cmp
  exact this (s.castLE hn)

/-- The bit of a word between two bounds. -/
abbrev inside (v a b : BitVec 32) : BitVec 1 := IntOp.andi (IntOp.cmpi .sge v a) (IntOp.cmpi .sle v b)
abbrev below (v b : BitVec 32) : BitVec 1 := IntOp.andi (IntOp.cmpi .sge v 0#32) (IntOp.cmpi .slt v b)
/-- The bit of a step that stores. -/
abbrev storesBit (tf tk : Tab n) (s : Fin n) : BitVec 1 := IntOp.ori (IntOp.cmpi .eq (tf (ix1 s)) 1#32) (IntOp.cmpi .ne (tk (ix1 s)) 0#32)

/-- The nine bits of a precondition, entry by entry, say that the tables are a dispatch's. Of the words of the step before it is
    only needed that they are so from the second step on. -/
theorem Steps.of_bits (hn : n ≤ 128)
    (h1 : ∀ s, below (te (ix1 s)) 8#32 = 1#1) (h2 : ∀ s, (tn (ix1 s)).toNat < k) (h3 : ∀ s, below (tm (ix1 s)) 32#32 = 1#1)
    (h4 : ∀ s, inside (tf (ix1 s)) 0#32 1#32 = 1#1) (h5 : ∀ s, inside (tk (ix1 s)) 0#32 2#32 = 1#1)
    (h6 : ∀ s : Fin n, ∃ p q, (s.val ≠ 0 → p = te (ix1 (before s)) ∧ q = tn (ix1 (before s))) ∧
      Scalar.select (IntOp.cmpi .eq (BitVec.ofNat 32 s.val) 0#32) (IntOp.cmpi .eq (tf (ix1 s)) 1#32)
        (IntOp.ori (IntOp.cmpi .eq (tf (ix1 s)) 1#32) (IntOp.andi (IntOp.cmpi .eq (te (ix1 s)) p) (IntOp.cmpi .eq (tn (ix1 s)) q))) = 1#1)
    (h7 : ∀ s : Fin n, ∃ p q, (s.val ≠ 0 → p = tm (ix1 (before s)) ∧ q = tn (ix1 (before s))) ∧
      IntOp.ori (storesBit tf tk s) (IntOp.andi (IntOp.cmpi .eq (tm (ix1 s)) p) (IntOp.cmpi .eq (tn (ix1 s)) q)) = 1#1)
    (h8 : ∀ s t : Fin n, ~~~ IntOp.andi (IntOp.andi (storesBit tf tk s) (IntOp.cmpi .slt (BitVec.ofNat 32 t.val) (BitVec.ofNat 32 s.val)))
      (IntOp.andi (IntOp.cmpi .eq (tm (ix1 s)) (tm (ix1 t))) (IntOp.cmpi .eq (tn (ix1 s)) (tn (ix1 t)))) = 1#1)
    (h9 : ∀ s t : Fin n, IntOp.ori (IntOp.cmpi .ne (tm (ix1 s)) (tm (ix1 t))) (IntOp.cmpi .eq (te (ix1 s)) (te (ix1 t))) = 1#1) :
    Steps k te tn tm tf tk := by
  refine ⟨fun s => ?_, h2, fun s => ?_, fun s => ?_, fun s => ?_, fun s e => ?_, fun s e n => ?_, fun s e n => ?_,
    fun s t a l => ?_, fun s t => ?_⟩
  · have b := h1 s
    revert b; generalize te (ix1 s) = v
    exact (by word_cmp : _ ↔ v.toNat < 8).1
  · have b := h3 s
    revert b; generalize tm (ix1 s) = v
    exact (by word_cmp : _ ↔ v.toNat < 32).1
  · have b := h4 s
    rw [and_bit, IntOp.cmpi_sge, IntOp.cmpi_sle] at b
    have b := And.intro (show (0 : ℤ) ≤ _ from b.1) (show _ ≤ (1 : ℤ) from b.2)
    rcases (by omega : (tf (ix1 s)).toInt = 0 ∨ (tf (ix1 s)).toInt = 1) with e | e
    · exact .inl (BitVec.eq_of_toInt_eq e)
    · exact .inr (BitVec.eq_of_toInt_eq e)
  · have b := h5 s
    rw [and_bit, IntOp.cmpi_sge, IntOp.cmpi_sle] at b
    have b := And.intro (show (0 : ℤ) ≤ _ from b.1) (show _ ≤ (2 : ℤ) from b.2)
    rcases (by omega : (tk (ix1 s)).toInt = 0 ∨ (tk (ix1 s)).toInt = 1 ∨ (tk (ix1 s)).toInt = 2) with e | e | e
    · exact .inl (BitVec.eq_of_toInt_eq e)
    · exact .inr (.inl (BitVec.eq_of_toInt_eq e))
    · exact .inr (.inr (BitVec.eq_of_toInt_eq e))
  · obtain ⟨p, q, -, b⟩ := h6 s
    exact (eq_bit _ _).1 ((pick (zero_bit hn s) b).1 e)
  · obtain ⟨p, q, w, b⟩ := h6 s
    replace b := (pick (zero_bit hn s) b).2 e
    rw [or_bit, and_bit, eq_bit, eq_bit, eq_bit] at b
    rcases b with b | ⟨b, b'⟩
    · exact absurd b n
    · exact ⟨b.trans (w e).1, b'.trans (w e).2⟩
  · obtain ⟨p, q, w, b⟩ := h7 s
    rw [or_bit, or_bit, and_bit, eq_bit, eq_bit, eq_bit, ne_bit] at b
    rcases b with b | ⟨b, b'⟩
    · exact absurd b n
    · exact ⟨b.trans (w e).1, b'.trans (w e).2⟩
  · have b := h8 s t
    rw [not_bit, and_bit, and_bit, and_bit, or_bit, eq_bit, eq_bit, eq_bit, ne_bit, lt_bit hn] at b
    exact fun e => b ⟨⟨a, l⟩, e⟩
  · have b := h9 s t
    rw [or_bit, eq_bit, ne_bit] at b
    exact fun e => b.resolve_left fun n => n e

end Cert.Tables

namespace Cert.Tables

section
open Cert.Pre_dispatched

theorem facts : Cert.Pre_dispatched.Facts where
  bcast_S_S128 := by decide
  bcast_S128_S128x1_0 := by decide
  bcast_S128_S1x128_1 := by decide
  bcast_S128x1_S128x128_0_1 := by decide
  bcast_S1x128_S128x128_0_1 := by decide
  slices_S128_S1_0 := by decide
  slices_S128_S127_0 := by decide
  concatenates_S1_S127_S128_d0 := by decide

attribute [local instance] facts

variable {F : FTy → Type} [FloatOps F] {te tn tm tf tk : IVec S128 32} {x : FVec F S16384x2048 .bf16}
  {g u : FVec F S2x8x2048x4096 .f32}

/-- The nine bits of the precondition. -/
abbrev Bits9 (te tn tm tf tk : IVec S128 32) (x : FVec F S16384x2048 .bf16) (g u : FVec F S2x8x2048x4096 .f32) : Prop :=
  (fn te tn tm tf tk x g u).1 = (fun _ => 1#1)
    ∧ (fn te tn tm tf tk x g u).2.1 = (fun _ => 1#1)
    ∧ (fn te tn tm tf tk x g u).2.2.1 = (fun _ => 1#1)
    ∧ (fn te tn tm tf tk x g u).2.2.2.1 = (fun _ => 1#1)
    ∧ (fn te tn tm tf tk x g u).2.2.2.2.1 = (fun _ => 1#1)
    ∧ (fn te tn tm tf tk x g u).2.2.2.2.2.1 = (fun _ => 1#1)
    ∧ (fn te tn tm tf tk x g u).2.2.2.2.2.2.1 = (fun _ => 1#1)
    ∧ (fn te tn tm tf tk x g u).2.2.2.2.2.2.2.1 = (fun _ => 1#1)
    ∧ (fn te tn tm tf tk x g u).2.2.2.2.2.2.2.2 = (fun _ => 1#1)

theorem steps (h : Bits9 te tn tm tf tk x g u) : Steps 4 te tn tm tf tk := by
  obtain ⟨h1, h2, h3, h4, h5, h6, h7, h8, h9⟩ := h
  refine Steps.of_bits (by decide) (fun s => ?_) (fun s => ?_) (fun s => ?_) (fun s => ?_) (fun s => ?_) (fun s => ?_) (fun s => ?_)
    (fun s t => ?_) (fun s t => ?_)
  · have b := congrFun h1 (ix1 s)
    pointwise [fn, fn_part1, fn_part2, fn_part3, fn_part4] at b
    exact b
  · have b := congrFun h2 (ix1 s)
    pointwise [fn, fn_part1, fn_part2, fn_part3, fn_part4] at b
    revert b; generalize tn (ix1 s) = v
    exact (by word_cmp : _ ↔ v.toNat < 4).1
  · have b := congrFun h3 (ix1 s)
    pointwise [fn, fn_part1, fn_part2, fn_part3, fn_part4] at b
    exact b
  · have b := congrFun h4 (ix1 s)
    pointwise [fn, fn_part1, fn_part2, fn_part3, fn_part4] at b
    exact b
  · have b := congrFun h5 (ix1 s)
    pointwise [fn, fn_part1, fn_part2, fn_part3, fn_part4] at b
    exact b
  · have b := congrFun h6 (ix1 s)
    pointwise [fn, fn_part1, fn_part2, fn_part3, fn_part4, fn_where] at b
    refine ⟨_, _, fun e => ⟨?_, ?_⟩, b⟩
    · exact dif_neg (by change ¬ s.val < 1; omega)
    · exact dif_neg (by change ¬ s.val < 1; omega)
  · have b := congrFun h7 (ix1 s)
    pointwise [fn, fn_part1, fn_part2, fn_part3, fn_part4] at b
    refine ⟨_, _, fun e => ⟨?_, ?_⟩, b⟩
    · exact dif_neg (by change ¬ s.val < 1; omega)
    · exact dif_neg (by change ¬ s.val < 1; omega)
  · have b := congrFun h8 (ix2 s t)
    pointwise [fn, fn_part1, fn_part2, fn_part3, fn_part4] at b
    exact b
  · have b := congrFun h9 (ix2 s t)
    pointwise [fn, fn_part1, fn_part2, fn_part3, fn_part4] at b
    exact b

end

end Cert.Tables

end
-- ==== Proof.MoeUpLaunch.lean ====
module

public import proofs.«01_k».proof.Proof.MoeUpRun
public import proofs.«01_k».proof.Proof.MoeUpTables

@[expose] public section

set_option maxRecDepth 16384
set_option Elab.async false

/-! The experts' first product as a whole: the blocks that the tables name, what is known of an output block after each
step, and the run of the grid. -/

noncomputable section

namespace Cert.MoeUpIdeal.Step

open Cert.MoeUpIdeal Cert.MoeUpIdeal.Gen Cert.Tables
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

/-! ## The words of the tables at a step -/

theorem off_eq (i : grid0.Coords) : k0_off1 i = ![(i 0).val] := by
  have h : (i 0).val < 128 := (i 0).isLt
  funext a; fin_cases a
  change (BitVec.ofNat 32 (i 0).val).toNat = _
  rw [BitVec.toNat_ofNat]; exact Nat.mod_eq_of_lt (by omega)

/-- A step's position in the tables. -/
abbrev pos (i : grid0.Coords) : Fin 128 := i 0

/-- The place that a read of one word at a step names. -/
theorem emb_eq (i : grid0.Coords) (h : ∀ a, (k0_off1 i) a + S1.size a ≤ S128.size a) (j : S1.Idx) :
    (Rect.unit (s := S128) (k0_off1 i) S1.size h).emb j = (ix1 (pos i) : S128.Idx) := by
  funext a; fin_cases a
  apply Fin.ext
  have : (j 0).val < 1 := (j 0).isLt
  have e : k0_off1 i 0 = (i 0).val := congrFun (off_eq i) 0
  change k0_off1 i 0 + 1 * (j 0).val = (i 0).val
  omega

theorem word_first (T : S128.Idx → Elt F .i32) (i : grid0.Coords) : word firstM T k0_off1 k0_off1_inb i = T (ix1 (pos i)) := by
  unfold word
  exact congrArg T (emb_eq i _ _)

theorem word_first2 (T : S128.Idx → Elt F .i32) (i : grid0.Coords) : word firstM T k0_off2 k0_off2_inb i = T (ix1 (pos i)) :=
  word_first T i
theorem word_first3 (T : S128.Idx → Elt F .i32) (i : grid0.Coords) : word firstM T k0_off3 k0_off3_inb i = T (ix1 (pos i)) :=
  word_first T i
theorem word_kind (T : S128.Idx → Elt F .i32) (i : grid0.Coords) : word kindM T k0_off2 k0_off2_inb i = T (ix1 (pos i)) :=
  congrArg T (emb_eq i _ _)
theorem word_kind3 (T : S128.Idx → Elt F .i32) (i : grid0.Coords) : word kindM T k0_off3 k0_off3_inb i = T (ix1 (pos i)) :=
  congrArg T (emb_eq i _ _)

/-- The five tables of the launch. -/
abbrev te (pf : pre0.Contents (Elt F)) : Tab 128 := pf 0
abbrev tn (pf : pre0.Contents (Elt F)) : Tab 128 := pf 1
abbrev tm (pf : pre0.Contents (Elt F)) : Tab 128 := pf 2
abbrev tf (pf : pre0.Contents (Elt F)) : Tab 128 := pf 3
abbrev tk (pf : pre0.Contents (Elt F)) : Tab 128 := pf 4

variable (pf : pre0.Contents (Elt F))

theorem rows_index (i : grid0.Coords) : cc0_transform_0 k0_off1_inb numel1_S1 pf i = ![(tm pf (ix1 (pos i))).toNat, 0] :=
  congrArg (fun v : BitVec 32 => ![v.toNat, 0]) (congrArg (tm pf) (emb_eq i (k0_off1_inb i) _))
theorem gate_index (i : grid0.Coords) :
    cc0_transform_1 k0_off1_inb numel1_S1 pf i = ![0, (te pf (ix1 (pos i))).toNat, 0, (tn pf (ix1 (pos i))).toNat] :=
  congrArg₂ (fun v w : BitVec 32 => ![0, v.toNat, 0, w.toNat]) (congrArg (te pf) (emb_eq i (k0_off1_inb i) _)) (congrArg (tn pf) (emb_eq i (k0_off1_inb i) _))
theorem up_index (i : grid0.Coords) :
    cc0_transform_2 k0_off1_inb numel1_S1 pf i = ![0, (te pf (ix1 (pos i))).toNat, 0, (tn pf (ix1 (pos i))).toNat] :=
  congrArg₂ (fun v w : BitVec 32 => ![0, v.toNat, 0, w.toNat]) (congrArg (te pf) (emb_eq i (k0_off1_inb i) _)) (congrArg (tn pf) (emb_eq i (k0_off1_inb i) _))
theorem out_index (i : grid0.Coords) :
    cc0_transform_3 k0_off1_inb numel1_S1 pf i = ![(tm pf (ix1 (pos i))).toNat, (tn pf (ix1 (pos i))).toNat] :=
  congrArg₂ (fun v w : BitVec 32 => ![v.toNat, w.toNat]) (congrArg (tm pf) (emb_eq i (k0_off1_inb i) _)) (congrArg (tn pf) (emb_eq i (k0_off1_inb i) _))

/-- The launch's tables are a dispatch's. -/
abbrev Good : Prop := Steps 4 (te pf) (tn pf) (tm pf) (tf pf) (tk pf)

variable {pf}

/-- Every block that the tables name lies in its array. -/
theorem ok (h : Good pf) : ok0 pf := by
  refine ⟨fun i => ?_, fun i => ?_, fun i => ?_, fun i => ?_⟩
  · have l := h.tile (pos i)
    have inb : ∀ a, (cc0_transform_0 k0_off1_inb numel1_S1 pf i a + 1) * S512x2048.size a ≤ S16384x2048.size a := by
      rw [rows_index]; intro a; fin_cases a
      · change ((tm pf (ix1 (pos i))).toNat + 1) * 512 ≤ 16384; omega
      · first | exact Nat.le_refl _ | (change (0 + 1) * _ ≤ _; decide)
    exact ⟨inb, .inr (Affine.block_words_dvd (s := S16384x2048) (p := EltTy.packing .bf16) (by decide) (by decide))⟩
  · have l := h.expert (pos i)
    have l' := h.column (pos i)
    have inb : ∀ a, (cc0_transform_1 k0_off1_inb numel1_S1 pf i a + 1) * S1x1x2048x1024.size a ≤ S2x8x2048x4096.size a := by
      rw [gate_index]; intro a; fin_cases a
      · first | exact Nat.le_refl _ | (change (0 + 1) * _ ≤ _; decide)
      · change ((te pf (ix1 (pos i))).toNat + 1) * 1 ≤ 8; omega
      · first | exact Nat.le_refl _ | (change (0 + 1) * _ ≤ _; decide)
      · change ((tn pf (ix1 (pos i))).toNat + 1) * 1024 ≤ 4096; omega
    exact ⟨inb, .inl rfl⟩
  · have l := h.expert (pos i)
    have l' := h.column (pos i)
    have inb : ∀ a, (cc0_transform_2 k0_off1_inb numel1_S1 pf i a + 1) * S1x1x2048x1024.size a ≤ S2x8x2048x4096.size a := by
      rw [up_index]; intro a; fin_cases a
      · first | exact Nat.le_refl _ | (change (0 + 1) * _ ≤ _; decide)
      · change ((te pf (ix1 (pos i))).toNat + 1) * 1 ≤ 8; omega
      · first | exact Nat.le_refl _ | (change (0 + 1) * _ ≤ _; decide)
      · change ((tn pf (ix1 (pos i))).toNat + 1) * 1024 ≤ 4096; omega
    exact ⟨inb, .inl rfl⟩
  · have l := h.tile (pos i)
    have l' := h.column (pos i)
    have inb : ∀ a, (cc0_transform_3 k0_off1_inb numel1_S1 pf i a + 1) * S512x1024.size a ≤ S16384x4096.size a := by
      rw [out_index]; intro a; fin_cases a
      · change ((tm pf (ix1 (pos i))).toNat + 1) * 512 ≤ 16384; omega
      · change ((tn pf (ix1 (pos i))).toNat + 1) * 1024 ≤ 4096; omega
    exact ⟨inb, .inr (Affine.block_words_dvd (s := S16384x4096) (p := EltTy.packing .bf16) (by decide) (by decide))⟩

/-! ## Which path a step takes -/

theorem cond1_eq (v : BitVec 32) : k0_cond1 v = 1#1 ↔ v = 1#32 := by
  have : k0_cond1 v = 1#1 ↔ v.toNat = 1 := by unfold k0_cond1; word_cmp
  rw [this]; exact ⟨fun h => BitVec.eq_of_toNat_eq h, fun h => h ▸ rfl⟩
theorem cond2_eq (v w : BitVec 32) : k0_cond2 v w = 1#1 ↔ v = 0#32 ∧ w = 1#32 := by
  have : k0_cond2 v w = 1#1 ↔ v.toNat = 0 ∧ w.toNat = 1 := by unfold k0_cond2; word_cmp
  rw [this]; exact ⟨fun h => ⟨BitVec.eq_of_toNat_eq h.1, BitVec.eq_of_toNat_eq h.2⟩, fun h => ⟨h.1 ▸ rfl, h.2 ▸ rfl⟩⟩
theorem cond3_eq (v w : BitVec 32) : k0_cond3 v w = 1#1 ↔ v = 0#32 ∧ w = 2#32 := by
  have : k0_cond3 v w = 1#1 ↔ v.toNat = 0 ∧ w.toNat = 2 := by unfold k0_cond3; word_cmp
  rw [this]; exact ⟨fun h => ⟨BitVec.eq_of_toNat_eq h.1, BitVec.eq_of_toNat_eq h.2⟩, fun h => ⟨h.1 ▸ rfl, h.2 ▸ rfl⟩⟩

/-! ## The launch's data -/

variable (m : (ℓ : Loc nD τ sig) → Buf (Elt F) ℓ)

/-- The tables in the memory of a launch. -/
abbrev tabs : pre0.Contents (Elt F) := fun k => m (((0 : Dev nD) : Thread nD τ).loc (pre0.ref k))

variable {m} (hg : Good (tabs m))

/-- The pipeline at those tables. -/
def adm : (pcfg0 (F := F)).Adm := ⟨tabs m, ok hg⟩
abbrev cfgA : Cfg sig Λ₀ := cfg0 (F := F) (adm hg)
abbrev crd (t : Fin (cfgA hg).N) : grid0.Coords := (cfgA hg).grid.coords t
/-- A point's position in the tables. -/
abbrev at' (t : Fin (cfgA hg).N) : Fin 128 := pos (crd hg t)

abbrev ms0 (t : Fin (cfgA hg).N) : Memref sig .tc .vmem S512x2048 .bf16 := spec0_0.stage ((cfgA hg).slots t (0 : Fin 4))
abbrev hs0 (t : Fin (cfgA hg).N) : (ms0 hg t).IsWhole := hstage0_0 (((cfgA hg).slots t (0 : Fin 4)).cast nbuf0_0)
abbrev ms1 (t : Fin (cfgA hg).N) : Memref sig .tc .vmem S1x1x2048x1024 .f32 := spec0_1.stage ((cfgA hg).slots t (1 : Fin 4))
abbrev hs1 (t : Fin (cfgA hg).N) : (ms1 hg t).IsWhole := hstage0_1 (((cfgA hg).slots t (1 : Fin 4)).cast nbuf0_1)
abbrev ms2 (t : Fin (cfgA hg).N) : Memref sig .tc .vmem S1x1x2048x1024 .f32 := spec0_2.stage ((cfgA hg).slots t (2 : Fin 4))
abbrev hs2 (t : Fin (cfgA hg).N) : (ms2 hg t).IsWhole := hstage0_2 (((cfgA hg).slots t (2 : Fin 4)).cast nbuf0_2)
abbrev ms3 (t : Fin (cfgA hg).N) : Memref sig .tc .vmem S512x1024 .bf16 := spec0_3.stage ((cfgA hg).slots t (3 : Fin 4))
abbrev hs3 (t : Fin (cfgA hg).N) : (ms3 hg t).IsWhole := hstage0_3 (((cfgA hg).slots t (3 : Fin 4)).cast nbuf0_3)

/-- Window `w`'s block at point `t`, read off its array at launch. -/
def iblk (c : Dev nD) (w : Fin (cfgA hg).W) (t : Fin (cfgA hg).N) : (((cfgA hg).win w).xblock (crd hg t)).Idx → Elt F ((cfgA hg).win w).elt :=
  (((cfgA hg).win w).blk t).view.read (Elt F) (m (((cfgA hg).win w).arr.view.loc (c : Thread nD τ)))

abbrev rows (c : Dev nD) (t : Fin (cfgA hg).N) : S512x2048.Idx → Elt F .bf16 := iblk hg c (0 : Fin 4) t
abbrev gateW (c : Dev nD) (t : Fin (cfgA hg).N) : S1x1x2048x1024.Idx → Elt F .f32 := iblk hg c (1 : Fin 4) t
abbrev upW (c : Dev nD) (t : Fin (cfgA hg).N) : S1x1x2048x1024.Idx → Elt F .f32 := iblk hg c (2 : Fin 4) t

/-- The first half of the rows of a block. -/
abbrev half (x : S512x2048.Idx → Elt F .bf16) : S256x2048.Idx → Elt F .bf16 :=
  VecWindow.window x ![0, 0] S256x2048.size inb_S512x2048_S256x2048_0_0

/-- What a step that stores leaves in its block. -/
def Wrote (c : Dev nD) (s : Fin (cfgA hg).N) (X : S512x1024.Idx → Elt F .bf16) : Prop :=
  (tf (tabs m) (ix1 (at' hg s)) = 1#32 ∧ X = k0_pay5 (gateW hg c s) (upW hg c s) (rows hg c s))
  ∨ (tk (tabs m) (ix1 (at' hg s)) = 1#32 ∧ X = k0_pay6 (k0_pay3 (gateW hg c s)) (k0_pay4 (upW hg c s)) (rows hg c s))
  ∨ (tf (tabs m) (ix1 (at' hg s)) ≠ 1#32 ∧ tk (tabs m) (ix1 (at' hg s)) = 2#32 ∧ ∃ y : S512x1024.Idx → Elt F .bf16, X = VecWindow.put y ![0, 0] S256x1024.size
      (k0_pay7 (k0_pay3 (gateW hg c s)) (k0_pay4 (upW hg c s)) (half (rows hg c s))))

/-- What is known of the result's block after a step: a step that stores into this block has left it so. -/
def Known (c : Dev nD) (t : Fin (cfgA hg).N) (X : S512x1024.Idx → Elt F .bf16) : Prop :=
  ∃ s, Stores (tf (tabs m)) (tk (tabs m)) (at' hg s) ∧ Same (tn (tabs m)) (tm (tabs m)) (at' hg s) (at' hg t) ∧ Wrote hg c s X

def Rl (c : Dev nD) (w : Fin (cfgA hg).W) (t : Fin (cfgA hg).N) : (((cfgA hg).win w).block.Idx → Elt F ((cfgA hg).win w).elt) → Prop :=
  match w with
  | ⟨0, _⟩ => fun _ => True
  | ⟨1, _⟩ => fun _ => True
  | ⟨2, _⟩ => fun _ => True
  | ⟨3, _⟩ => fun X => Known hg c t X

def fgt : Fin 4 → Bool := fun w => match w with
  | ⟨0, _⟩ => false
  | ⟨1, _⟩ => false
  | ⟨2, _⟩ => false
  | ⟨3, _⟩ => true

/-- What the core holds between steps: the copies of the weights of the step before, its halves of the tables. -/
def Phi (c : Dev nD) (t : Fin ((cfgA hg).N + 1)) : sProp 𝕄 :=
  iprop((∃ a, ⌜∀ s : Fin (cfgA hg).N, t.val = s.val + 1 → a = k0_pay3 (gateW hg c s)⌝ ∗ owns (c : Thread nD τ) gateM fullShare a)
    ∗ (∃ b, ⌜∀ s : Fin (cfgA hg).N, t.val = s.val + 1 → b = k0_pay4 (upW hg c s)⌝ ∗ owns (c : Thread nD τ) upM fullShare b)
    ∗ (((c : Thread nD τ).loc main_arg0) ↦{fullShare.right} tabs m 0) ∗ (((c : Thread nD τ).loc main_arg1) ↦{fullShare.right} tabs m 1)
    ∗ (((c : Thread nD τ).loc main_arg2) ↦{fullShare.right} tabs m 2) ∗ (((c : Thread nD τ).loc main_arg3) ↦{fullShare.right} tabs m 3)
    ∗ (((c : Thread nD τ).loc main_arg4) ↦{fullShare.right} tabs m 4) ∗ ∃ r, prngReg c r)

def dats (_ : Fin 1) (c : Dev nD) : Dat τ (Elt F) Unit ℕ (UR sig nD τ) ℕ (cfgA hg) c where
  A w := m (((cfgA hg).win w).arr.view.loc (c : Thread nD τ))
  after w t := match w with
    | ⟨0, _⟩ => iblk hg c (0 : Fin 4) t
    | ⟨1, _⟩ => iblk hg c (1 : Fin 4) t
    | ⟨2, _⟩ => iblk hg c (2 : Fin 4) t
    | ⟨3, _⟩ => default
  Φ t := Phi hg c t
  q _ := fullShare
  owed _ := 0

theorem after0 (c : Dev nD) (t : Fin (cfgA hg).N) : (dats hg 0 c).after (0 : Fin 4) t = iblk hg c (0 : Fin 4) t := rfl
theorem after1 (c : Dev nD) (t : Fin (cfgA hg).N) : (dats hg 0 c).after (1 : Fin 4) t = iblk hg c (1 : Fin 4) t := rfl
theorem after2 (c : Dev nD) (t : Fin (cfgA hg).N) : (dats hg 0 c).after (2 : Fin 4) t = iblk hg c (2 : Fin 4) t := rfl

theorem before0 (c : Dev nD) (t : Fin (cfgA hg).N) (d) : (dats hg 0 c).before (0 : Fin 4) t d = iblk hg c (0 : Fin 4) t :=
  ((dats hg 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA hg).N) (d) : (dats hg 0 c).before (1 : Fin 4) t d = iblk hg c (1 : Fin 4) t :=
  ((dats hg 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA hg).N) (d) : (dats hg 0 c).before (2 : Fin 4) t d = iblk hg c (2 : Fin 4) t :=
  ((dats hg 0 c).before_in_eq_fetched (2 : Fin 4) rfl (fun _ => rfl) (fun _ _ _ => rfl) (fun t => by rw [after2]; unfold Dat.blockOf iblk; rfl) t d).trans
    (by unfold Dat.fetched Dat.blockOf iblk; rfl)

/-! ## How a step's data follow from the step's before -/

theorem coords_pos (t : Fin grid0.N) : (pos (grid0.coords t)).val = t.val := by
  revert t; decide

theorem before_at {s t : Fin (cfgA hg).N} (h : t.val = s.val + 1) : before (at' hg t) = at' hg s := by
  apply Fin.ext
  have e1 := coords_pos t
  have e2 := coords_pos s
  change (pos (grid0.coords t)).val - 1 = (pos (grid0.coords s)).val
  omega

/-- A block of rows at coordinates. -/
theorem rows_read (c : Dev nD) (t : Fin (cfgA hg).N) (j : S512x2048.Idx) (k : S16384x2048.Idx)
    (h0 : (k 0).val = (tm (tabs m) (ix1 (at' hg t))).toNat * 512 + (j 0).val) (h1 : (k 1).val = (j 1).val) :
    rows hg c t j = m ((c : Thread nD τ).loc main_arg5) k := by
  have e : (((cfgA hg).win (0 : Fin 4)).rect t).emb j = k := by
    funext a
    apply Fin.ext
    refine (Window.rect_emb_val _ t j a rfl).trans ?_
    have i := congrFun (rows_index (tabs m) (crd hg t)) a
    fin_cases a
    · exact (congrArg (· * 512 + (j 0).val) i).trans h0.symm
    · exact (congrArg (· * 2048 + (j 1).val) i).trans (by change 0 * 2048 + (j 1).val = (k 1).val; omega)
  exact congrArg (m ((c : Thread nD τ).loc main_arg5)) e

/-- A block of the first weights at coordinates. -/
theorem gate_read (c : Dev nD) (t : Fin (cfgA hg).N) (j : S1x1x2048x1024.Idx) (k : S2x8x2048x4096.Idx)
    (h0 : (k 0).val = (j 0).val) (h1 : (k 1).val = (te (tabs m) (ix1 (at' hg t))).toNat + (j 1).val)
    (h2 : (k 2).val = (j 2).val) (h3 : (k 3).val = (tn (tabs m) (ix1 (at' hg t))).toNat * 1024 + (j 3).val) :
    gateW hg c t j = m ((c : Thread nD τ).loc main_arg6) k := by
  have e : (((cfgA hg).win (1 : Fin 4)).rect t).emb j = k := by
    funext a
    apply Fin.ext
    refine (Window.rect_emb_val _ t j a rfl).trans ?_
    have i := congrFun (gate_index (tabs m) (crd hg t)) a
    fin_cases a
    · exact (congrArg (· * 1 + (j 0).val) i).trans (by change 0 * 1 + (j 0).val = (k 0).val; omega)
    · exact (congrArg (· * 1 + (j 1).val) i).trans (by change (te (tabs m) (ix1 (at' hg t))).toNat * 1 + (j 1).val = (k 1).val; omega)
    · exact (congrArg (· * 2048 + (j 2).val) i).trans (by change 0 * 2048 + (j 2).val = (k 2).val; omega)
    · exact (congrArg (· * 1024 + (j 3).val) i).trans h3.symm
  exact congrArg (m ((c : Thread nD τ).loc main_arg6)) e

/-- A block of the second weights at coordinates. -/
theorem up_read (c : Dev nD) (t : Fin (cfgA hg).N) (j : S1x1x2048x1024.Idx) (k : S2x8x2048x4096.Idx)
    (h0 : (k 0).val = (j 0).val) (h1 : (k 1).val = (te (tabs m) (ix1 (at' hg t))).toNat + (j 1).val)
    (h2 : (k 2).val = (j 2).val) (h3 : (k 3).val = (tn (tabs m) (ix1 (at' hg t))).toNat * 1024 + (j 3).val) :
    upW hg c t j = m ((c : Thread nD τ).loc main_arg7) k := by
  have e : (((cfgA hg).win (2 : Fin 4)).rect t).emb j = k := by
    funext a
    apply Fin.ext
    refine (Window.rect_emb_val _ t j a rfl).trans ?_
    have i := congrFun (up_index (tabs m) (crd hg t)) a
    fin_cases a
    · exact (congrArg (· * 1 + (j 0).val) i).trans (by change 0 * 1 + (j 0).val = (k 0).val; omega)
    · exact (congrArg (· * 1 + (j 1).val) i).trans (by change (te (tabs m) (ix1 (at' hg t))).toNat * 1 + (j 1).val = (k 1).val; omega)
    · exact (congrArg (· * 2048 + (j 2).val) i).trans (by change 0 * 2048 + (j 2).val = (k 2).val; omega)
    · exact (congrArg (· * 1024 + (j 3).val) i).trans h3.symm
  exact congrArg (m ((c : Thread nD τ).loc main_arg7)) e

/-- Where an entry of a weight block lies. -/
def weightIx (t : Fin (cfgA hg).N) (j : S1x1x2048x1024.Idx) : S2x8x2048x4096.Idx :=
  ix4 ⟨(j 0).val, by have : (j 0).val < 1 := (j 0).isLt; omega⟩
    ⟨(te (tabs m) (ix1 (at' hg t))).toNat, hg.expert _⟩ ⟨(j 2).val, (j 2).isLt⟩
    ⟨(tn (tabs m) (ix1 (at' hg t))).toNat * 1024 + (j 3).val, by
      have := hg.column (at' hg t); have : (j 3).val < 1024 := (j 3).isLt; omega⟩

theorem gate_at (c : Dev nD) (t : Fin (cfgA hg).N) (j : S1x1x2048x1024.Idx) :
    gateW hg c t j = m ((c : Thread nD τ).loc main_arg6) (weightIx hg t j) :=
  gate_read hg c t j _ rfl (by have : (j 1).val < 1 := (j 1).isLt; change _ = _ + (j 1).val; rw [show (j 1).val = 0 by omega]; rfl) rfl rfl
theorem up_at (c : Dev nD) (t : Fin (cfgA hg).N) (j : S1x1x2048x1024.Idx) :
    upW hg c t j = m ((c : Thread nD τ).loc main_arg7) (weightIx hg t j) :=
  up_read hg c t j _ rfl (by have : (j 1).val < 1 := (j 1).isLt; change _ = _ + (j 1).val; rw [show (j 1).val = 0 by omega]; rfl) rfl rfl

/-- A step that starts no run has the weights of the step before. -/
theorem same_gate (c : Dev nD) {s t : Fin (cfgA hg).N} (h : t.val = s.val + 1) (n : tf (tabs m) (ix1 (at' hg t)) ≠ 1#32) :
    gateW hg c s = gateW hg c t ∧ upW hg c s = upW hg c t := by
  have e := coords_pos t
  obtain ⟨k1, k2⟩ := hg.keep (at' hg t) (by change (pos (grid0.coords t)).val ≠ 0; omega) n
  rw [before_at hg h] at k1 k2
  have w : weightIx hg s = weightIx hg t := by unfold weightIx; simp only [k1, k2]
  exact ⟨funext fun j => (gate_at hg c s j).trans ((congrArg (m ((c : Thread nD τ).loc main_arg6)) (congrFun w j)).trans (gate_at hg c t j).symm),
    funext fun j => (up_at hg c s j).trans ((congrArg (m ((c : Thread nD τ).loc main_arg7)) (congrFun w j)).trans (up_at hg c t j).symm)⟩

/-- A step that stores nothing has the block of the step before, and nothing was written back between. -/
theorem known_of_finds (c : Dev nD) (t : Fin (cfgA hg).N) (n : ¬ Stores (tf (tabs m)) (tk (tabs m)) (at' hg t))
    (Y : S512x1024.Idx → Elt F .bf16) (h : ((dats hg 0 c).toRRel fgt (Rl hg c)).Finds (3 : Fin 4) t Y) : Known hg c t Y := by
  have e := coords_pos t
  have ht : t.val ≠ 0 := fun h0 => n (.inl (hg.first _ (by change (pos (grid0.coords t)).val = 0; omega)))
  have st := hg.stay (at' hg t) (by change (pos (grid0.coords t)).val ≠ 0; omega) n
  obtain ⟨p, hp⟩ : ∃ p : Fin (cfgA hg).N, t.val = p.val + 1 := ⟨⟨t.val - 1, lt_of_le_of_lt (Nat.sub_le _ _) t.isLt⟩, by change _ = t.val - 1 + 1; omega⟩
  rw [before_at hg hp] at st
  have ie : ((cfgA hg).win (3 : Fin 4)).indexMap (crd hg t) = ((cfgA hg).win (3 : Fin 4)).indexMap (crd hg p) :=
    (out_index (tabs m) (crd hg t)).trans ((congrArg₂ (fun v w : BitVec 32 => ![v.toNat, w.toNat]) st.1 st.2).trans (out_index (tabs m) (crd hg p)).symm)
  have hp' : (⟨t.val - 1, by omega⟩ : Fin (cfgA hg).N) = p := Fin.ext (by change t.val - 1 = p.val; omega)
  have hf : ((cfgA hg).win (3 : Fin 4)).flush p = false := by
    rw [Window.flush_eq_flushOf]
    unfold Window.flushOf
    have a1 : ¬ p.val + 1 = (cfgA hg).grid.N := by have := t.isLt; change t.val < (cfgA hg).grid.N at this; omega
    have a2 : ¬ ∃ h : p.val + 1 < (cfgA hg).grid.N, ((cfgA hg).win (3 : Fin 4)).indexMap ((cfgA hg).grid.coords ⟨p.val + 1, h⟩) ≠ ((cfgA hg).win (3 : Fin 4)).indexMap ((cfgA hg).grid.coords p) := by
      rintro ⟨h, hh⟩
      apply hh
      have : (⟨p.val + 1, h⟩ : Fin (cfgA hg).grid.N) = t := Fin.ext hp.symm
      rw [this]; exact ie
    rw [decide_eq_false a1, decide_eq_false a2]; simp only [Bool.or_self, Bool.and_false]
  have := (RDat.finds_of_pos (rd := (dats hg 0 c).toRRel fgt (Rl hg c)) (w := (3 : Fin 4)) rfl ht Y).mp h
  rw [hp'] at this
  rcases this with f | l
  · rw [hf] at f; exact absurd f Bool.false_ne_true
  · obtain ⟨s, hs, hsame, hw⟩ := Dat.toRRel_leaves (dats hg 0 c) (w := (3 : Fin 4)) rfl l
    exact ⟨s, hs, ⟨hsame.1.trans st.1.symm, hsame.2.trans st.2.symm⟩, hw⟩

/-! ## One step -/

/-- A step of the launch: what it finds in the copies is what the step before left, unless it makes them anew; what it leaves in the
    result's block is known. -/
theorem step (c : Dev nD) (t : Fin (cfgA hg).N) (y : S512x1024.Idx → Elt F .bf16) (a b : S2048x1024.Idx → Elt F .bf16)
    (hy : ¬ Stores (tf (tabs m)) (tk (tabs m)) (at' hg t) → Known hg c t y)
    (hab : tf (tabs m) (ix1 (at' hg t)) ≠ 1#32 → a = k0_pay3 (gateW hg c t) ∧ b = k0_pay4 (upW hg c t)) :
    ∃ y', Known hg c t y' ∧ ∀ K : PUnit → sProp 𝕄,
      iprop(held c (ms0 hg t) (ms1 hg t) (ms2 hg t) (ms3 hg t) (tabs m 3) (tabs m 4) (rows hg c t) (gateW hg c t) (upW hg c t) y a b
        ∗ (held c (ms0 hg t) (ms1 hg t) (ms2 hg t) (ms3 hg t) (tabs m 3) (tabs m 4) (rows hg c t) (gateW hg c t) (upW hg c t) y'
            (k0_pay3 (gateW hg c t)) (k0_pay4 (upW hg c t)) -∗ K ⟨⟩))
      ⊢ wp frame (wpE (defs₀ (F := F)) Variants.none c none) Set.univ
          (body (crd hg t) (ms0 hg t) (hs0 hg t) (ms1 hg t) (hs1 hg t) (ms2 hg t) (hs2 hg t) (ms3 hg t) (hs3 hg t)) K := by
  have w1 : word firstM (tabs m 3) k0_off1 k0_off1_inb (crd hg t) = tf (tabs m) (ix1 (at' hg t)) := word_first _ _
  have w2 : word firstM (tabs m 3) k0_off2 k0_off2_inb (crd hg t) = tf (tabs m) (ix1 (at' hg t)) := word_first2 _ _
  have w3 : word firstM (tabs m 3) k0_off3 k0_off3_inb (crd hg t) = tf (tabs m) (ix1 (at' hg t)) := word_first3 _ _
  have v2 : word kindM (tabs m 4) k0_off2 k0_off2_inb (crd hg t) = tk (tabs m) (ix1 (at' hg t)) := word_kind _ _
  have v3 : word kindM (tabs m 4) k0_off3 k0_off3_inb (crd hg t) = tk (tabs m) (ix1 (at' hg t)) := word_kind3 _ _
  by_cases f : tf (tabs m) (ix1 (at' hg t)) = 1#32
  · have h1 : k0_cond1 (word firstM (tabs m 3) k0_off1 k0_off1_inb (crd hg t)) = 1#1 := by rw [w1, cond1_eq]; exact f
    have h2 : ¬ k0_cond2 (word firstM (tabs m 3) k0_off2 k0_off2_inb (crd hg t)) (word kindM (tabs m 4) k0_off2 k0_off2_inb (crd hg t)) = 1#1 := by
      rw [w2, v2, cond2_eq, f]; exact fun h => absurd h.1 (by decide)
    have h3 : ¬ k0_cond3 (word firstM (tabs m 3) k0_off3 k0_off3_inb (crd hg t)) (word kindM (tabs m 4) k0_off3 k0_off3_inb (crd hg t)) = 1#1 := by
      rw [w3, v3, cond3_eq, f]; exact fun h => absurd h.1 (by decide)
    exact ⟨_, ⟨t, .inl f, ⟨rfl, rfl⟩, .inl ⟨f, rfl⟩⟩, fun K => run_first _ _ _ _ _ _ _ _ _ _ _ _ _ _ h1 h2 h3 K⟩
  obtain ⟨rfl, rfl⟩ := hab f
  have z := (hg.start (at' hg t)).resolve_right f
  have h1 : ¬ k0_cond1 (word firstM (tabs m 3) k0_off1 k0_off1_inb (crd hg t)) = 1#1 := by rw [w1, cond1_eq]; exact f
  rcases hg.kind (at' hg t) with k | k | k
  · have h2 : ¬ k0_cond2 (word firstM (tabs m 3) k0_off2 k0_off2_inb (crd hg t)) (word kindM (tabs m 4) k0_off2 k0_off2_inb (crd hg t)) = 1#1 := by
      rw [w2, v2, cond2_eq, k]; exact fun h => absurd h.2 (by decide)
    have h3 : ¬ k0_cond3 (word firstM (tabs m 3) k0_off3 k0_off3_inb (crd hg t)) (word kindM (tabs m 4) k0_off3 k0_off3_inb (crd hg t)) = 1#1 := by
      rw [w3, v3, cond3_eq, k]; exact fun h => absurd h.2 (by decide)
    exact ⟨y, hy (fun h => h.elim f (fun h => h k)), fun K => run_skip _ _ _ _ _ _ _ _ _ _ _ _ _ _ h1 h2 h3 K⟩
  · have h2 : k0_cond2 (word firstM (tabs m 3) k0_off2 k0_off2_inb (crd hg t)) (word kindM (tabs m 4) k0_off2 k0_off2_inb (crd hg t)) = 1#1 := by
      rw [w2, v2, cond2_eq]; exact ⟨z, k⟩
    have h3 : ¬ k0_cond3 (word firstM (tabs m 3) k0_off3 k0_off3_inb (crd hg t)) (word kindM (tabs m 4) k0_off3 k0_off3_inb (crd hg t)) = 1#1 := by
      rw [w3, v3, cond3_eq, k]; exact fun h => absurd h.2 (by decide)
    exact ⟨_, ⟨t, .inr (by rw [k]; decide), ⟨rfl, rfl⟩, .inr (.inl ⟨k, rfl⟩)⟩, fun K => run_full _ _ _ _ _ _ _ _ _ _ _ _ _ _ h1 h2 h3 K⟩
  · have h2 : ¬ k0_cond2 (word firstM (tabs m 3) k0_off2 k0_off2_inb (crd hg t)) (word kindM (tabs m 4) k0_off2 k0_off2_inb (crd hg t)) = 1#1 := by
      rw [w2, v2, cond2_eq, k]; exact fun h => absurd h.2 (by decide)
    have h3 : k0_cond3 (word firstM (tabs m 3) k0_off3 k0_off3_inb (crd hg t)) (word kindM (tabs m 4) k0_off3 k0_off3_inb (crd hg t)) = 1#1 := by
      rw [w3, v3, cond3_eq]; exact ⟨z, k⟩
    exact ⟨_, ⟨t, .inr (by rw [k]; decide), ⟨rfl, rfl⟩, .inr (.inr ⟨f, k, y, rfl⟩)⟩, fun K => run_half _ _ _ _ _ _ _ _ _ _ _ _ _ _ h1 h2 h3 K⟩

set_option maxHeartbeats 4000000 in
/-- The launch's step on what the pipeline hands it. -/
theorem sound_body (c : Dev nD) (t : Fin (cfgA hg).N) :
    iprop((dats hg 0 c).Φ t.castSucc ∗ (dats hg 0 c).owesAt () t.castSucc
        ∗ (∃ d, owns (c : Thread nD τ) (ms0 hg t) fullShare ((dats hg 0 c).before (0 : Fin 4) t d))
        ∗ (∃ d, owns (c : Thread nD τ) (ms1 hg t) fullShare ((dats hg 0 c).before (1 : Fin 4) t d))
        ∗ (∃ d, owns (c : Thread nD τ) (ms2 hg t) fullShare ((dats hg 0 c).before (2 : Fin 4) t d))
        ∗ (∃ Y, ⌜((dats hg 0 c).toRRel fgt (Rl hg c)).Finds (3 : Fin 4) t Y⌝ ∗ owns (c : Thread nD τ) (ms3 hg t) fullShare Y))
      ⊢ wp frame (wpE (defs₀ (F := F)) Variants.none c none) Set.univ
          (body (crd hg t) (ms0 hg t) (hs0 hg t) (ms1 hg t) (hs1 hg t) (ms2 hg t) (hs2 hg t) (ms3 hg t) (hs3 hg t)) fun _ =>
          iprop((dats hg 0 c).Φ t.succ ∗ (dats hg 0 c).owesAt () t.succ
            ∗ owns (c : Thread nD τ) (ms0 hg t) fullShare (rows hg c t)
            ∗ owns (c : Thread nD τ) (ms1 hg t) fullShare (gateW hg c t)
            ∗ owns (c : Thread nD τ) (ms2 hg t) fullShare (upW hg c t)
            ∗ (∃ X, ⌜Known hg c t X⌝ ∗ owns (c : Thread nD τ) (ms3 hg t) fullShare X)) := by
  simp only [before0, before1, before2]
  rewrite [show (dats hg 0 c).Φ t.succ = Phi hg c t.succ from rfl, show (dats hg 0 c).Φ t.castSucc = Phi hg c t.castSucc from rfl,
    show (dats hg 0 c).owesAt () t.succ = (dats hg 0 c).owesAt () t.castSucc from rfl]
  unfold Phi
  iintro ⟨⟨⟨%a, %ha, HA⟩, ⟨%b, %hb, HB⟩, HT0, HT1, HT2, HT3, HT4, HP⟩, Ho, ⟨%d0, H0⟩, ⟨%d1, H1⟩, ⟨%d2, H2⟩, ⟨%Y, %hY, H3⟩⟩
  obtain ⟨y', hk, hrun⟩ := step hg c t Y a b (fun n => known_of_finds hg c t n Y hY) (fun n => by
    have ht : t.val ≠ 0 := fun h0 => n (hg.first _ ((coords_pos t).trans h0))
    have hs : t.val = (⟨t.val - 1, by omega⟩ : Fin (cfgA hg).N).val + 1 := by change _ = t.val - 1 + 1; omega
    obtain ⟨g, u⟩ := same_gate hg c hs n
    exact ⟨(ha _ hs).trans (congrArg _ g), (hb _ hs).trans (congrArg _ u)⟩)
  iapply hrun
  isplitl [H0 H1 H2 HT3 HT4 H3 HA HB]
  · unfold held
    isplitl [H0]; · iapply rep_of_owns; iexact H0
    isplitl [H1]; · iapply rep_of_owns; iexact H1
    isplitl [H2]; · iapply rep_of_owns; iexact H2
    isplitl [HT3]; · iexact HT3
    isplitl [HT4]; · iexact HT4
    isplitl [H3]; · iexact H3
    isplitl [HA]; · iexact HA
    iexact HB
  unfold held
  iintro ⟨H0, H1, H2, HT3, HT4, H3, HA, HB⟩
  isplitl [HA HB HT0 HT1 HT2 HT3 HT4 HP]
  · isplitl [HA]
    · iexists _; isplitr; swap
      · iexact HA
      · ipureintro; intro s hs
        have : t = s := Fin.ext (by have : t.val + 1 = s.val + 1 := hs; omega)
        rw [this]
    isplitl [HB]
    · iexists _; isplitr; swap
      · iexact HB
      · ipureintro; intro s hs
        have : t = s := Fin.ext (by have : t.val + 1 = s.val + 1 := hs; omega)
        rw [this]
    isplitl [HT0]; · iexact HT0
    isplitl [HT1]; · iexact HT1
    isplitl [HT2]; · iexact HT2
    isplitl [HT3]; · iexact HT3
    isplitl [HT4]; · iexact HT4
    iexact HP
  isplitl [Ho]; · iexact Ho
  isplitl [H0]; · iapply owns_of_rep; iexact H0
  isplitl [H1]; · iapply owns_of_rep; iexact H1
  isplitl [H2]; · iapply owns_of_rep; iexact H2
  iexists y'; isplitr; swap
  · iexact H3
  · ipureintro; exact hk

set_option maxHeartbeats 4000000 in
theorem body_obligation (c : Dev nD) : BodyObligationRel (dats hg 0 c) (defs₀ (F := F)) Variants.none () Set.univ fgt (Rl hg c) :=
  fun t => by rw [bigSep_W0, bigSep_W0]; exact sound_body hg c t

/-! ## The launch -/

abbrev rdat (c : Dev nD) : RDat τ (Elt F) Unit ℕ (UR sig nD τ) ℕ (cfgA hg) c := (dats hg 0 c).toRRel fgt (Rl hg c)

/-- The arrays at the launch. -/
abbrev V (c : Dev nD) (b : Ref sig .tc) : Buf (Elt F) ((c.tc : Thread nD τ).loc b) := m ((c.tc : Thread nD τ).loc b)

theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)
        ∗ (((c : Thread nD τ).loc main_arg3) ↦{q 3} v 3) ∗ (((c : Thread nD τ).loc main_arg4) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem owns_gate (c : Dev nD) (f : Buf (Elt F) (gateM.view.loc (c : Thread nD τ))) :
    ((gateM.view.loc (c : Thread nD τ) ↦{fullShare} f) : sProp 𝕄) ⊢ owns (c : Thread nD τ) gateM fullShare (gateM.view.read (Elt F) f) := by
  unfold owns
  rw [(Memref.isWhole_whole _ : gateM.IsWhole).set_eq_univ]
  iintro H; iexists f; isplitr; swap
  · iexact H
  · ipureintro; exact Eq.refl _
theorem owns_up (c : Dev nD) (f : Buf (Elt F) (upM.view.loc (c : Thread nD τ))) :
    ((upM.view.loc (c : Thread nD τ) ↦{fullShare} f) : sProp 𝕄) ⊢ owns (c : Thread nD τ) upM fullShare (upM.view.read (Elt F) f) := by
  unfold owns
  rw [(Memref.isWhole_whole _ : upM.IsWhole).set_eq_univ]
  iintro H; iexists f; isplitr; swap
  · iexact H
  · ipureintro; exact Eq.refl _

theorem phi_start (c : Dev nD) :
    iprop(Pipeline.ΦA (cfgA hg).spec c ∗ Pipeline.ΦT pre0 (adm hg).1 c) ⊢ (rdat hg c).Φ 0 := by
  change iprop(Pipeline.ΦA (cfgA hg).spec c ∗ Pipeline.ΦT pre0 (adm hg).1 c) ⊢ Phi hg c 0
  unfold Pipeline.ΦA Pipeline.ΦT
  rw [prefHeld_eq, show (Pipeline.scopedRest (cfgA hg).spec c : sProp 𝕄) = Pipeline.scopedRest spec0 c from rfl, scopedRest0_eq]
  unfold Phi
  iintro ⟨⟨⟨⟨%a, HA⟩, ⟨%b, HB⟩⟩, HP⟩, HT0, HT1, HT2, HT3, HT4⟩
  isplitl [HA]
  · iexists (gateM.view.read (Elt F) a); isplitr; swap
    · iapply owns_gate; iexact HA
    · ipureintro; intro s hs; exact absurd (show 0 = s.val + 1 from hs) (by omega)
  isplitl [HB]
  · iexists (upM.view.read (Elt F) b); isplitr; swap
    · iapply owns_up; iexact HB
    · ipureintro; intro s hs; exact absurd (show 0 = s.val + 1 from hs) (by omega)
  isplitl [HT0]; · iexact HT0
  isplitl [HT1]; · iexact HT1
  isplitl [HT2]; · iexact HT2
  isplitl [HT3]; · iexact HT3
  isplitl [HT4]; · iexact HT4
  iexact HP

theorem phi_end (c : Dev nD) : (rdat hg c).Φ (Fin.last (cfgA hg).N) ⊢ Pipeline.ΦA (cfgA hg).spec c := by
  change Phi hg c (Fin.last (cfgA hg).N) ⊢ Pipeline.ΦA (cfgA hg).spec c
  unfold Pipeline.ΦA
  rw [show (Pipeline.scopedRest (cfgA hg).spec c : sProp 𝕄) = Pipeline.scopedRest spec0 c from rfl, scopedRest0_eq]
  unfold Phi owns
  rw [(Memref.isWhole_whole _ : gateM.IsWhole).set_eq_univ, (Memref.isWhole_whole _ : upM.IsWhole).set_eq_univ]
  iintro ⟨⟨%a, -, %f, -, HA⟩, ⟨%b, -, %g, -, HB⟩, -, -, -, -, -, HP⟩
  isplitr [HP]
  · isplitl [HA]
    · iexists f; iexact HA
    iexists g; iexact HB
  iexact HP

variable (g : Dev nD → PrngReg)

set_option backward.isDefEq.respectTransparency.types false in
set_option maxHeartbeats 4000000 in
/-- The launch: every array ends at what the steps may leave, every counter at zero. -/
theorem run : θ_run (defs (F := F)) (onTc (τ := τ) (main (F := F))) ⟨m, fun _ => 0, g⟩
    (fun r => RDat.FramePost (cfgA hg) (rdat hg) (V (m := m)) r ∧ r.2.sem = fun _ => 0) :=
  RDat.θ_run_frameP_track pcfgs (fun _ => adm hg) (0 : Fin 1) launch0 defs₀ Variants.none (rdat hg) m g main
    (hbody := fun c => (body_obligation hg c).toRRel) (hshare := fun c w => by change (dats hg 0 c).share w = _; unfold Dat.share; split <;> rfl)
    (howed := fun _ _ => rfl) (V := V (m := m))
    (hmain := Pipeline.hmainP_region pcfgs 0 defs₀ Variants.none m main (fun c => (main_chain c).trans rfl))
    (hA := fun _ _ => rfl) (hpf := fun c k => by fin_cases c; rfl) (hin := phi_start hg) (hout := phi_end hg) (Q' := _)

end Cert.MoeUpIdeal.Step

end
-- ==== Proof.MoeUpValue.lean ====
/- What the run of the experts' first product leaves: its arguments as they were, and each block as the step that stores it left it. -/
module

public import proofs.«01_k».proof.Proof.MoeUpLaunch
public import Idealize.ShloMosaic.Lib.Pipeline.ValueKit
public import Idealize.ShloMosaic.Lib.Pipeline.ArrRel

@[expose] public section

set_option maxRecDepth 16384
set_option Elab.async false

noncomputable section

namespace Cert.MoeUpIdeal.Step

open Cert.MoeUpIdeal Cert.MoeUpIdeal.Gen Cert.Tables
open Idealize.ShloMosaic
open Idealize.ShloMosaic.TcCoe
open Idealize.SL.Sem
open Idealize.ShloMosaic.Pipeline (Dat RDat Cfg Window)

variable {F : FTy → Type} [FloatOps F] {m : (ℓ : Loc nD τ sig) → Buf (Elt F) ℓ} (hg : Good (tabs m))

/-- The arguments end as they were. -/
theorem kept {r : PUnit × MemSt nD τ sig (Elt F)} (h : RDat.FramePost (cfgA hg) (rdat hg) (V (m := m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have k : ∀ b ∈ Pipeline.restRefs sig spec0, r.2.mem ((c.tc : Thread nD τ).loc b) = m ((c.tc : Thread nD τ).loc b) := fun b hb => (h c).2 b hb
  exact ⟨k _ (by decide), k _ (by decide), k _ (by decide), k _ (by decide), k _ (by decide),
    RDat.FramePost.arr_in h c (0 : Fin 4) rfl, RDat.FramePost.arr_in h c (1 : Fin 4) rfl, RDat.FramePost.arr_in h c (2 : Fin 4) rfl⟩

include hg in
theorem run_kept (g : Dev nD → PrngReg) : θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => kept hg h.1 c, h.2⟩) (run hg g)

/-- Where an entry of a step's block lies. -/
def place (s : Fin (cfgA hg).N) (j : S512x1024.Idx) : S16384x4096.Idx :=
  ix2 ⟨(tm (tabs m) (ix1 (at' hg s))).toNat * 512 + (j 0).val, by have := hg.tile (at' hg s); have : (j 0).val < 512 := (j 0).isLt; omega⟩
    ⟨(tn (tabs m) (ix1 (at' hg s))).toNat * 1024 + (j 1).val, by have := hg.column (at' hg s); have : (j 1).val < 1024 := (j 1).isLt; omega⟩

theorem place_emb (t : Fin (cfgA hg).N) (y : S512x1024.Idx) : (((cfgA hg).win (3 : Fin 4)).rect t).emb y = place hg t y := by
  funext a
  apply Fin.ext
  refine (Window.rect_emb_val _ t y a rfl).trans ?_
  have i := congrFun (out_index (tabs m) (crd hg t)) a
  fin_cases a
  · exact congrArg (· * 512 + (y 0).val) i
  · exact congrArg (· * 1024 + (y 1).val) i

/-- Two entries at one place are one entry of two steps that have one block. -/
theorem place_inj {s t : Fin (cfgA hg).N} {j y : S512x1024.Idx} (e : place hg t y = place hg s j) :
    Same (tn (tabs m)) (tm (tabs m)) (at' hg t) (at' hg s) ∧ y = j := by
  have e0 : (tm (tabs m) (ix1 (at' hg t))).toNat * 512 + (y 0).val = (tm (tabs m) (ix1 (at' hg s))).toNat * 512 + (j 0).val :=
    congrArg (fun i : S16384x4096.Idx => (i 0).val) e
  have e1 : (tn (tabs m) (ix1 (at' hg t))).toNat * 1024 + (y 1).val = (tn (tabs m) (ix1 (at' hg s))).toNat * 1024 + (j 1).val :=
    congrArg (fun i : S16384x4096.Idx => (i 1).val) e
  have y0 : (y 0).val < 512 := (y 0).isLt
  have j0 : (j 0).val < 512 := (j 0).isLt
  have y1 : (y 1).val < 1024 := (y 1).isLt
  have j1 : (j 1).val < 1024 := (j 1).isLt
  refine ⟨⟨BitVec.eq_of_toNat_eq (by omega), BitVec.eq_of_toNat_eq (by omega)⟩, ?_⟩
  funext a
  fin_cases a
  · exact Fin.ext (by change (y 0).val = (j 0).val; omega)
  · exact Fin.ext (by change (y 1).val = (j 1).val; omega)

theorem at_inj {s t : Fin (cfgA hg).N} (e : at' hg s = at' hg t) : s = t :=
  Fin.ext ((coords_pos s).symm.trans ((congrArg Fin.val e).trans (coords_pos t)))

/-- A step's block is written back at the last step that has it. -/
theorem last (s : Fin (cfgA hg).N) :
    ∃ u, ((cfgA hg).win (3 : Fin 4)).flush u = true ∧ Same (tn (tabs m)) (tm (tabs m)) (at' hg u) (at' hg s) := by
  classical
  obtain ⟨u, hu, hmax⟩ := Finset.exists_max_image
    (Finset.univ.filter fun u : Fin (cfgA hg).N => Same (tn (tabs m)) (tm (tabs m)) (at' hg u) (at' hg s)) (fun u => u.val)
    ⟨s, Finset.mem_filter.2 ⟨Finset.mem_univ _, rfl, rfl⟩⟩
  have hu := (Finset.mem_filter.1 hu).2
  refine ⟨u, ?_, hu⟩
  rw [Window.flush_eq_flushOf]
  unfold Window.flushOf
  by_cases hn : u.val + 1 = (cfgA hg).grid.N
  · rw [decide_eq_true hn, Bool.true_or, Bool.and_true]
  have hlt : u.val + 1 < (cfgA hg).grid.N := by have := u.isLt; change u.val < (cfgA hg).grid.N at this; omega
  have : ∃ h : u.val + 1 < (cfgA hg).grid.N, ((cfgA hg).win (3 : Fin 4)).indexMap ((cfgA hg).grid.coords ⟨u.val + 1, h⟩)
      ≠ ((cfgA hg).win (3 : Fin 4)).indexMap ((cfgA hg).grid.coords u) := by
    refine ⟨hlt, fun e => ?_⟩
    have e' : (![(tm (tabs m) (ix1 (at' hg ⟨u.val + 1, hlt⟩))).toNat, (tn (tabs m) (ix1 (at' hg ⟨u.val + 1, hlt⟩))).toNat] : Fin 2 → ℕ)
        = ![(tm (tabs m) (ix1 (at' hg u))).toNat, (tn (tabs m) (ix1 (at' hg u))).toNat] :=
      (out_index (tabs m) (crd hg ⟨u.val + 1, hlt⟩)).symm.trans (e.trans (out_index (tabs m) (crd hg u)))
    have := hmax ⟨u.val + 1, hlt⟩ (Finset.mem_filter.2 ⟨Finset.mem_univ _,
      (BitVec.eq_of_toNat_eq (congrFun e' 0)).trans hu.1, (BitVec.eq_of_toNat_eq (congrFun e' 1)).trans hu.2⟩)
    exact absurd this (by change ¬ u.val + 1 ≤ u.val; omega)
  rw [decide_eq_true this, Bool.or_true, Bool.and_true]

/-- Every entry of a block that a step stores ends as that step left it. -/
theorem read {r : PUnit × MemSt nD τ sig (Elt F)} (h : RDat.FramePost (cfgA hg) (rdat hg) (V (m := m)) r) (c : Dev nD)
    (s : Fin (cfgA hg).N) (hs : Stores (tf (tabs m)) (tk (tabs m)) (at' hg s)) (j : S512x1024.Idx) :
    ∃ X, Wrote hg c s X ∧ r.2.mem ((c.tc : Thread nD τ).loc main_v0) (place hg s j) = X j := by
  obtain ⟨after, hL, hA⟩ := RDat.FramePost.exists_exact h c
  obtain ⟨u, hu, hsame⟩ := last hg s
  have eu : place hg u j = place hg s j := by unfold place; simp only [hsame.1, hsame.2]
  have key := Dat.arrAt_forall_of_flushed ((rdat hg c).withAfter after) (3 : Fin 4)
    (fun i v => ∀ j : S512x1024.Idx, i = place hg s j → ∃ X, Wrote hg c s X ∧ v = X j) (fun t hf y j hj => by
      obtain ⟨hst, rfl⟩ := place_inj hg ((place_emb hg t y).symm.trans hj)
      obtain ⟨s', hs', hsame', hw⟩ := Dat.toRRel_leaves (dats hg 0 c) (w := (3 : Fin 4)) rfl (hL (3 : Fin 4) t hf)
      have : s' = s := at_inj hg (hg.unique hs' hs ⟨hsame'.1.trans hst.1, hsame'.2.trans hst.2⟩)
      subst this
      exact ⟨_, hw, rfl⟩)
    (cfgA hg).N u (place hg s j) u.isLt hu (by
      rw [← eu, ← place_emb]
      exact (((cfgA hg).win (3 : Fin 4)).blk u).view.emb_mem_set j) j rfl
  obtain ⟨X, hX, e⟩ := key
  exact ⟨X, hX, (congrFun (hA (3 : Fin 4)) _).trans e⟩

end Cert.MoeUpIdeal.Step

end
-- ==== Proof.MoeUpMask.lean ====
/- Where the result of the experts' first product is claimed: what the mask says, and whose rows the reference picks. -/
module

public import proofs.«01_k».proof.On_routed
public import proofs.«01_k».proof.On_routed_down
public import proofs.«01_k».proof.Proof.MoeUpTables

@[expose] public section

set_option maxRecDepth 16384

noncomputable section

open Idealize.ShloMosaic

namespace Cert.Tables

/-- A fold by `or` over bits is one just when it starts at one or meets a one. -/
theorem or_fold {ι : Type} (f : ι → BitVec 1) (l : List ι) (b : BitVec 1) :
    l.foldl (fun r n => IntOp.ori r (f n)) b = 1#1 ↔ b = 1#1 ∨ ∃ n ∈ l, f n = 1#1 := by
  induction l generalizing b with
  | nil => simp
  | cons a l ih =>
    rw [List.foldl_cons, ih, or_bit]
    simp [or_assoc]

/-- Some entry of those that a reduction by `or` gathers is one. -/
theorem or_reduce {s t u : Shape} {axes : List (Fin s.rank)} (x : s.Idx → BitVec 1) (init : u.Idx → BitVec 1)
    (h : s.ReducesTo axes t) (hu : 0 < u.numel) (hi : init (Shape.Idx.first hu) = 0#1) (j : t.Idx) :
    Host.reduce IntOp.ori x init h hu j = 1#1 ↔ ∃ i, h.drop i = j ∧ x i = 1#1 := by
  rw [Host.reduce_eq_foldl, or_fold, hi]
  constructor
  · rintro (e | ⟨i, hl, hx⟩)
    · exact absurd e (by decide)
    · exact ⟨i, by simpa using (List.mem_filter.1 hl).2, hx⟩
  · rintro ⟨i, hd, hx⟩
    exact .inr ⟨i, List.mem_filter.2 ⟨List.mem_map.2 ⟨s.rowMajor i, List.mem_finRange _, Equiv.symm_apply_apply _ _⟩, by simp [hd]⟩, hx⟩

/-- The same over the last of three axes. -/
theorem or_last {a b n : ℕ} {u : Shape} (x : (⟨3, ![a, b, n]⟩ : Shape).Idx → BitVec 1) (init : u.Idx → BitVec 1)
    (h : (⟨3, ![a, b, n]⟩ : Shape).ReducesTo [2] ⟨2, ![a, b]⟩) (hu : 0 < u.numel) (hi : init (Shape.Idx.first hu) = 0#1)
    (r : Fin a) (c : Fin b) :
    Host.reduce IntOp.ori x init h hu (ix2 r c) = 1#1 ↔ ∃ s : Fin n, x (ix3 r c s) = 1#1 := by
  rw [or_reduce x init h hu hi]
  have d0 : ∀ i, (h.drop i 0).val = (i 0).val := fun i => h.drop_apply_val_of_eq i 0 0 (show 0 < 2 by decide) rfl
  have d1 : ∀ i, (h.drop i 1).val = (i 1).val := fun i => h.drop_apply_val_of_eq i 1 1 (show 1 < 2 by decide) rfl
  constructor
  · rintro ⟨i, hd, hx⟩
    refine ⟨i 2, ?_⟩
    have e : i = ix3 r c (i 2) := by
      funext k
      match k with
      | ⟨0, _⟩ => exact Fin.ext ((d0 i).symm.trans (congrArg (fun j : (⟨2, ![a, b]⟩ : Shape).Idx => (j 0).val) hd))
      | ⟨1, _⟩ => exact Fin.ext ((d1 i).symm.trans (congrArg (fun j : (⟨2, ![a, b]⟩ : Shape).Idx => (j 1).val) hd))
      | ⟨2, _⟩ => rfl
    exact (congrArg x e).symm.trans hx
  · rintro ⟨s, hx⟩
    refine ⟨_, ?_, hx⟩
    funext k
    match k with
    | ⟨0, _⟩ => exact Fin.ext (d0 _)
    | ⟨1, _⟩ => exact Fin.ext (d1 _)

section
open Cert.On_routed

theorem mask_facts : Cert.On_routed.Facts where
  bcast_S16384_S16384x1_0 := by decide
  bcast_S4096_S4096x1_0 := by decide
  bcast_S_S128 := by decide
  bcast_S_S16384x1 := by decide
  bcast_S128_S1x128_1 := by decide
  bcast_S1x128_S16384x128_0_1 := by decide
  bcast_S16384x1_S16384x128_0_1 := by decide
  bcast_S_S4096x1 := by decide
  bcast_S1x128_S4096x128_0_1 := by decide
  bcast_S4096x1_S4096x128_0_1 := by decide
  bcast_S16384x128_S16384x1x128_0_2 := by decide
  bcast_S4096x128_S1x4096x128_1_2 := by decide
  bcast_S16384x1x128_S16384x4096x128_0_1_2 := by decide
  bcast_S1x4096x128_S16384x4096x128_0_1_2 := by decide
  reducesTo_S16384x4096x128_S16384x4096_d2 := by decide
  h_S_ := by decide

attribute [local instance] mask_facts

variable {F : FTy → Type} [FloatOps F] {te tn tm tf tk : IVec S128 32} {x : FVec F S16384x2048 .bf16}
  {g u : FVec F S2x8x2048x4096 .f32}

/-- Division of a small number of at least zero. -/
theorem quotient (n k : ℕ) (hn : n < 2 ^ 31) (hk : k < 2 ^ 31) (h0 : 0 < k) :
    IntOp.divsi .host (BitVec.ofNat 32 n) (BitVec.ofNat 32 k) = BitVec.ofNat 32 (n / k) := by
  have en : (BitVec.ofNat 32 n).toNat = n := by rw [BitVec.toNat_ofNat]; exact Nat.mod_eq_of_lt (by omega)
  have ek : (BitVec.ofNat 32 k).toNat = k := by rw [BitVec.toNat_ofNat]; exact Nat.mod_eq_of_lt (by omega)
  have mn : (BitVec.ofNat 32 n).msb = false := BitVec.msb_eq_false_iff_two_mul_lt.2 (by rw [en]; omega)
  have mk : (BitVec.ofNat 32 k).msb = false := BitVec.msb_eq_false_iff_two_mul_lt.2 (by rw [ek]; omega)
  have nc : ¬ IntOp.SDivCorner (BitVec.ofNat 32 n) (BitVec.ofNat 32 k) := by
    rintro (h | ⟨-, h⟩)
    · rw [h] at ek; exact absurd ek (by change ¬ 0 = k; omega)
    · rw [h] at mk; exact absurd mk (by decide)
  rw [IntOp.divsi, if_neg nc, BitVec.sdiv_eq, mn, mk]
  apply BitVec.eq_of_toNat_eq
  have : n / k ≤ n := Nat.div_le_self _ _
  rw [BitVec.toNat_ofNat, Nat.mod_eq_of_lt (a := n / k) (by omega)]
  exact (BitVec.toNat_udiv ..).trans (by rw [en, ek])

/-- Its remainder. -/
theorem remainder (n k : ℕ) (hn : n < 2 ^ 31) (hk : k < 2 ^ 31) (h0 : 0 < k) :
    IntOp.remsi .host (BitVec.ofNat 32 n) (BitVec.ofNat 32 k) = BitVec.ofNat 32 (n % k) := by
  have en : (BitVec.ofNat 32 n).toNat = n := by rw [BitVec.toNat_ofNat]; exact Nat.mod_eq_of_lt (by omega)
  have ek : (BitVec.ofNat 32 k).toNat = k := by rw [BitVec.toNat_ofNat]; exact Nat.mod_eq_of_lt (by omega)
  have mn : (BitVec.ofNat 32 n).msb = false := BitVec.msb_eq_false_iff_two_mul_lt.2 (by rw [en]; omega)
  have mk : (BitVec.ofNat 32 k).msb = false := BitVec.msb_eq_false_iff_two_mul_lt.2 (by rw [ek]; omega)
  have nc : ¬ IntOp.SDivCorner (BitVec.ofNat 32 n) (BitVec.ofNat 32 k) := by
    rintro (h | ⟨-, h⟩)
    · rw [h] at ek; exact absurd ek (by change ¬ 0 = k; omega)
    · rw [h] at mk; exact absurd mk (by decide)
  rw [IntOp.remsi, if_neg nc, BitVec.srem_eq, mn, mk]
  apply BitVec.eq_of_toNat_eq
  have : n % k ≤ n := Nat.mod_le _ _
  rw [BitVec.toNat_ofNat, Nat.mod_eq_of_lt (a := n % k) (by omega)]
  exact (BitVec.toNat_umod ..).trans (by rw [en, ek])

/-- A table's word is the tile of a row. -/
theorem tile_bit (v : BitVec 32) (n k : ℕ) (hn : n < 2 ^ 31) (hk : k < 2 ^ 31) (h0 : 0 < k) :
    IntOp.cmpi .eq v (IntOp.divsi .host (BitVec.ofNat 32 n) (BitVec.ofNat 32 k)) = 1#1 ↔ v.toNat = n / k := by
  have : n / k ≤ n := Nat.div_le_self _ _
  have e : (BitVec.ofNat 32 (n / k)).toNat = n / k := by rw [BitVec.toNat_ofNat]; exact Nat.mod_eq_of_lt (by omega)
  rw [quotient n k hn hk h0, eq_bit]
  exact ⟨fun h => h ▸ e, fun h => BitVec.eq_of_toNat_eq (h.trans e.symm)⟩

theorem half_bit (r : Fin 16384) :
    IntOp.cmpi .slt (IntOp.remsi .host (BitVec.ofNat 32 r.val) 512#32) 256#32 = 1#1 ↔ r.val % 512 < 256 := by
  have := r.isLt
  rw [show IntOp.remsi .host (BitVec.ofNat 32 r.val) 512#32 = BitVec.ofNat 32 (r.val % 512) from
    remainder r.val 512 (by omega) (by decide) (by decide)]
  generalize hq : (⟨r.val % 512, by omega⟩ : Fin 512) = q
  have e : r.val % 512 = q.val := congrArg Fin.val hq
  rw [e]
  word_cmp

theorem routed (r : Fin 16384) (c : Fin 4096) (h : fn te tn tm tf tk x g u (ix2 r c) = 1#1) :
    ∃ s : Fin 128, (tm (ix1 s)).toNat = r.val / 512 ∧ (tn (ix1 s)).toNat = c.val / 1024
      ∧ (tf (ix1 s) = 1#32 ∨ tk (ix1 s) = 1#32 ∨ (tk (ix1 s) = 2#32 ∧ r.val % 512 < 256)) := by
  unfold fn fn_part1 fn_part2 at h
  dsimp only at h
  replace h := (or_last (n := 128) _ _ _ _ (by rfl) r c).1 h
  obtain ⟨s, h⟩ := h
  refine ⟨s, ?_⟩
  pointwise at h
  rw [and_bit, and_bit, or_bit, or_bit, and_bit, tile_bit _ r.val 512 (by omega) (by decide) (by decide), tile_bit _ c.val 1024 (by omega) (by decide) (by decide), half_bit, eq_bit, eq_bit, eq_bit, or_assoc] at h
  exact ⟨h.1.1, h.2, h.1.2⟩

end

end Cert.Tables

end
-- ==== Proof.Experts.lean ====
/- What the experts' two products have in common: the experts' weights, the first half of a block, and whose rows a tile has. -/
module

public import proofs.«01_k».proof.Proof.MoeUpTables
public import proofs.«01_k».proof.Proof.Product
public import Idealize.ShloMosaic.Lib.VecWindow

@[expose] public section

set_option maxRecDepth 16384

noncomputable section

open Idealize.ShloMosaic

namespace Cert.Experts

open Cert.Spec Cert.Product Cert.Tables

/-- The weights of two layers' eight experts. -/
abbrev Bank (k b : ℕ) : Type := (⟨4, ![2, 8, k, b]⟩ : Shape).Idx → EReal

/-- One expert's weights of the first layer. -/
def expert {k b : ℕ} (w : Bank k b) (e : Fin 8) : Mat k b := fun i => w (ix4 0 e (i 0) (i 1))

/-- The block of weights that holds only some columns of one expert's. -/
def layer4 {k b : ℕ} (w : (⟨4, ![1, 1, k, b]⟩ : Shape).Idx → EReal) : Mat k b := fun i => w (ix4 0 0 (i 0) (i 1))

/-- An entry of a block's first half, when that half is put in. -/
theorem put_half {α : Type} (y : (⟨2, ![512, 1024]⟩ : Shape).Idx → α) (X : (⟨2, ![256, 1024]⟩ : Shape).Idx → α) (r : Fin 512) (n : Fin 1024)
    (hr : r.val < 256) : VecWindow.put y ![0, 0] (⟨2, ![256, 1024]⟩ : Shape).size X (ix2 r n) = X (ix2 ⟨r.val, hr⟩ n) := by
  unfold VecWindow.put
  rw [dif_pos (by
    intro a; fin_cases a
    · exact ⟨Nat.zero_le _, by change r.val < 0 + 256; omega⟩
    · exact ⟨Nat.zero_le _, by change n.val < 0 + 1024; omega⟩)]
  refine congrArg X ?_
  funext a; fin_cases a <;> exact Fin.ext (Nat.sub_zero _)

/-- The expert that some step of a tile has is the one that any of the tile's steps has. -/
theorem owns_iff {n k : ℕ} {te tn tm tf tk : Tab n} (h : Steps k te tn tm tf tk) (e : Fin 8) (s : Fin n) {p : ℕ} (hs : (tm (ix1 s)).toNat = p) :
    (∃ s : Fin n, te (ix1 s) = BitVec.ofNat 32 e.val ∧ (tm (ix1 s)).toNat = p) ↔ e = ⟨_, h.expert s⟩ := by
  constructor
  · rintro ⟨s', h1, h2⟩
    rw [h.owner s' s (BitVec.eq_of_toNat_eq (h2.trans hs.symm))] at h1
    apply Fin.ext
    have := congrArg BitVec.toNat h1
    rw [BitVec.toNat_ofNat, Nat.mod_eq_of_lt (by omega)] at this
    exact this.symm
  · rintro rfl
    exact ⟨s, (BitVec.ofNat_toNat ..).symm ▸ (BitVec.setWidth_eq _).symm, hs⟩

end Cert.Experts

end
-- ==== Proof.MoeUp.lean ====
/- The experts' first product: the kernel's result and the reference's, where they are claimed, are the gated product of a row and
   its expert's weights. -/
module

public import proofs.«01_k».proof.Defs
public import proofs.«01_k».proof.Proof.MoeUpValue
public import proofs.«01_k».proof.Proof.MoeUpMask
public import proofs.«01_k».proof.Proof.Experts
public import proofs.«01_k».proof.Proof.Gen.MoeUp
public import proofs.«01_k».proof.Proof.Gen.MoeUpReferenceIdeal.Run
public import proofs.«01_k».proof.Proof.Gen.MoeUpReferenceIdeal.Read
public import Idealize.ShloMosaic.Lib.Pipeline.ValueKit
public import Idealize.ShloMosaic.Lib.Pipeline.Regions
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem

namespace Cert.MoeUpIdeal.Mm

open Cert.MoeUpIdeal Cert.MoeUpIdeal.Gen Cert.MoeUpIdeal.Step Cert.Spec Cert.Product Cert.Experts Cert.Tables

theorem pay_gate (w : Vec Ideal S1x1x2048x1024 .f32) : k0_pay3 (F := Ideal) w = layer4 w := by
  funext i
  obtain ⟨l, n, rfl⟩ := exists_ix2 i
  pointwise [k0_pay3, k0_pay1]
  rfl

theorem pay_up (w : Vec Ideal S1x1x2048x1024 .f32) : k0_pay4 (F := Ideal) w = layer4 w := by
  funext i
  obtain ⟨l, n, rfl⟩ := exists_ix2 i
  pointwise [k0_pay4, k0_pay2]
  rfl

theorem pay_first (g u : Vec Ideal S1x1x2048x1024 .f32) (x : Vec Ideal S512x2048 .bf16) :
    k0_pay5 (F := Ideal) g u x = gated (mul x (layer4 g)) (mul x (layer4 u)) := by
  funext i
  obtain ⟨r, n, rfl⟩ := exists_ix2 i
  pointwise [k0_pay5, k0_pay1, k0_pay2]
  rfl

theorem pay_full (g u : Vec Ideal S2048x1024 .bf16) (x : Vec Ideal S512x2048 .bf16) :
    k0_pay6 (F := Ideal) g u x = gated (mul x g) (mul x u) := by
  funext i
  obtain ⟨r, n, rfl⟩ := exists_ix2 i
  pointwise [k0_pay6]
  rfl

theorem pay_half (g u : Vec Ideal S2048x1024 .bf16) (x : Vec Ideal S256x2048 .bf16) :
    k0_pay7 (F := Ideal) g u x = gated (mul x g) (mul x u) := by
  funext i
  obtain ⟨r, n, rfl⟩ := exists_ix2 i
  pointwise [k0_pay7]
  rfl

variable {m : (ℓ : Loc nD τ sig) → Buf (Elt Ideal) ℓ} (hg : Good (tabs m)) (c : Dev nD)

/-- What a step leaves in the rows it computes. -/
theorem wrote {s : Fin (cfgA hg).N} {X : S512x1024.Idx → Elt Ideal .bf16} (h : Wrote hg c s X) (r : Fin 512) (n : Fin 1024)
    (hr : tf (tabs m) (ix1 (at' hg s)) = 1#32 ∨ tk (tabs m) (ix1 (at' hg s)) = 1#32 ∨ r.val < 256) :
    X (ix2 r n) = gated (mul (rows hg c s) (layer4 (gateW hg c s))) (mul (rows hg c s) (layer4 (upW hg c s))) (ix2 r n) := by
  rcases h with ⟨-, e⟩ | ⟨-, e⟩ | ⟨f, k, y, e⟩
  · rw [e, pay_first]
  · rw [e, pay_full, pay_gate, pay_up]
  · have hr : r.val < 256 := by
      rcases hr with hr | hr | hr
      · exact absurd hr f
      · rw [k] at hr; exact absurd hr (by decide)
      · exact hr
    rw [e, pay_half, pay_gate, pay_up]
    refine (put_half _ _ r n hr).trans ?_
    have row : ∀ l : Fin 2048, half (rows hg c s) (ix2 ⟨r.val, hr⟩ l) = rows hg c s (ix2 r l) := fun l => by
      refine congrArg (rows hg c s) ?_
      funext a; fin_cases a
      · exact Fin.ext (by change 0 + 1 * r.val = r.val; omega)
      · exact Fin.ext (by change 0 + 1 * l.val = l.val; omega)
    exact gated_congr (Finset.sum_congr rfl fun l _ => congrArg₂ (· * ·) (row l) rfl)
      (Finset.sum_congr rfl fun l _ => congrArg₂ (· * ·) (row l) rfl)

abbrev ax : Mat 16384 2048 := m ((c : Thread nD τ).loc main_arg5)
abbrev ag : Bank 2048 4096 := m ((c : Thread nD τ).loc main_arg6)
abbrev au : Bank 2048 4096 := m ((c : Thread nD τ).loc main_arg7)

/-- The entry of the whole product that a step's entry is. -/
theorem placed (s : Fin (cfgA hg).N) (r : Fin 512) (n : Fin 1024) :
    gated (mul (rows hg c s) (layer4 (gateW hg c s))) (mul (rows hg c s) (layer4 (upW hg c s))) (ix2 r n)
      = gated (mul (ax (m := m) c) (expert (ag (m := m) c) ⟨_, hg.expert (at' hg s)⟩))
          (mul (ax (m := m) c) (expert (au (m := m) c) ⟨_, hg.expert (at' hg s)⟩)) (place hg s (ix2 r n)) := by
  refine gated_congr (Finset.sum_congr rfl fun l _ => congrArg₂ (· * ·) ?_ ?_) (Finset.sum_congr rfl fun l _ => congrArg₂ (· * ·) ?_ ?_)
  · exact rows_read hg c s _ _ rfl rfl
  · exact gate_at hg c s _
  · exact rows_read hg c s _ _ rfl rfl
  · exact up_at hg c s _

/-- Where the mask holds, the run leaves the gated product of the row and its expert's weights. -/
theorem final {r : PUnit × MemSt nD τ sig (Elt Ideal)} (h : Pipeline.RDat.FramePost (cfgA hg) (rdat hg) (V (m := m)) r)
    (p : Fin 16384) (q : Fin 4096) (s : Fin 128) (h1 : (tm (tabs m) (ix1 s)).toNat = p.val / 512) (h2 : (tn (tabs m) (ix1 s)).toNat = q.val / 1024)
    (h3 : tf (tabs m) (ix1 s) = 1#32 ∨ tk (tabs m) (ix1 s) = 1#32 ∨ (tk (tabs m) (ix1 s) = 2#32 ∧ p.val % 512 < 256)) :
    r.2.mem ((c.tc : Thread nD τ).loc main_v0) (ix2 p q)
      = gated (mul (ax (m := m) c) (expert (ag (m := m) c) ⟨_, hg.expert s⟩)) (mul (ax (m := m) c) (expert (au (m := m) c) ⟨_, hg.expert s⟩)) (ix2 p q) := by
  obtain ⟨t, rfl⟩ : ∃ t : Fin (cfgA hg).N, at' hg t = s := ⟨⟨s.val, s.isLt⟩, Fin.ext (coords_pos ⟨s.val, s.isLt⟩)⟩
  have st : Stores (tf (tabs m)) (tk (tabs m)) (at' hg t) := by
    rcases h3 with h | h | ⟨h, -⟩
    · exact .inl h
    · exact .inr (by rw [h]; decide)
    · exact .inr (by rw [h]; decide)
  have pl : place hg t (ix2 ⟨p.val % 512, by omega⟩ ⟨q.val % 1024, by omega⟩) = ix2 p q := by
    funext a; fin_cases a
    · exact Fin.ext (by change (tm (tabs m) (ix1 (at' hg t))).toNat * 512 + p.val % 512 = p.val; omega)
    · exact Fin.ext (by change (tn (tabs m) (ix1 (at' hg t))).toNat * 1024 + q.val % 1024 = q.val; omega)
  obtain ⟨X, hX, e⟩ := read hg h c t st (ix2 ⟨p.val % 512, by omega⟩ ⟨q.val % 1024, by omega⟩)
  rw [pl] at e
  rw [e, wrote hg c hX _ _ (h3.imp_right (fun h => h.imp_right (fun h => h.2))), placed, pl]

end Cert.MoeUpIdeal.Mm

namespace Cert.MoeUpReferenceIdeal.Mm

open Cert.MoeUpReferenceIdeal Cert.MoeUpReferenceIdeal.Read Cert.Spec Cert.Product Cert.Experts Cert.Tables

theorem unit (x : Mat 16384 2048) (g u : Bank 2048 4096) (e : Fin 8) (p : Fin 16384) (q : Fin 4096) :
    val_main_v10 (F := Ideal) x g u (ix3 e p q) = gated (mul x (expert g e)) (mul x (expert u e)) (ix2 p q) := by
  pointwise [val_main_v10, val_main_v9, val_main_v8, val_main_v7, val_main_v6, val_main_v5, val_main_v4, val_main_call0_v5,
    val_main_call0_v4, val_main_call0_v3, val_main_call0_v2, val_main_call0_v1, val_main_call0_v0, val_main_call0_cst,
    val_main_call0_cst_0, val_main_v3, val_main_v2, val_main_v1, val_main_v0]
  have eg : ∑ l, g (ix4 0 e l q) * x (ix2 p l) = mul x (expert g e) (ix2 p q) := Finset.sum_congr rfl fun l _ => mul_comm _ _
  have eu : ∑ l, u (ix4 0 e l q) * x (ix2 p l) = mul x (expert u e) (ix2 p q) := Finset.sum_congr rfl fun l _ => mul_comm _ _
  rw [eg, eu]
  rfl

/-- The reference gives a row to an expert when some step does. -/
theorem owned (te tm : Tab 128) (e : Fin 8) (p : Fin 16384) :
    val_main_v29 (F := Ideal) te tm (ix2 e p) = 1#1 ↔ ∃ s : Fin 128, te (ix1 s) = BitVec.ofNat 32 e.val ∧ (tm (ix1 s)).toNat = p.val / 512 := by
  unfold val_main_v29
  rw [or_last _ _ _ _ (by rfl)]
  refine exists_congr fun s => ?_
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_c]
  rw [and_bit, eq_bit, tile_bit _ p.val 512 (by omega) (by decide) (by decide)]

/-- The reference's row, where its tile has a step: the gated product with that step's expert. -/
theorem result {te tn tm tf tk : Tab 128} (h : Steps 4 te tn tm tf tk) (x : Mat 16384 2048) (g u : Bank 2048 4096) (p : Fin 16384) (q : Fin 4096)
    (s : Fin 128) (hs : (tm (ix1 s)).toNat = p.val / 512) :
    val_main_v33 (F := Ideal) te tm x g u (ix2 p q)
      = gated (mul x (expert g ⟨_, h.expert s⟩)) (mul x (expert u ⟨_, h.expert s⟩)) (ix2 p q) := by
  have own : ∀ e : Fin 8, val_main_v29 (F := Ideal) te tm (ix2 e p) = 1#1 ↔ e = ⟨_, h.expert s⟩ := fun e => by
    rw [owned]; exact owns_iff h e s hs
  have pick : ∀ e : Fin 8, val_main_v31 (F := Ideal) te tm x g u (ix3 e p q)
      = if e = ⟨_, h.expert s⟩ then gated (mul x (expert g e)) (mul x (expert u e)) (ix2 p q) else 0 := fun e => by
    have b : val_main_call1_v1 (F := Ideal) te tm (ix3 e p q) = val_main_v29 (F := Ideal) te tm (ix2 e p) := by
      rw [val_main_call1_v1_apply, val_main_v30_apply]
      refine congrArg _ ?_
      funext a; fin_cases a <;> rfl
    rw [val_main_v31_apply, b, unit]
    by_cases o : e = ⟨_, h.expert s⟩
    · rw [if_pos o]; exact if_pos ((own e).2 o)
    · rw [if_neg o]
      refine (if_neg (fun w => o ((own e).1 w))).trans ?_
      pointwise [val_main_call1_v2, val_main_call1_v0, val_main_cst]
      change (constant S_ .f32 0#32 : FVec Ideal S_ .f32) ix0 = 0
      pointwise
  rw [val_main_v33_apply]
  change val_main_v32 (F := Ideal) te tm x g u (ix2 p q) = _
  rw [val_main_v32_apply]
  have z : ∀ i, val_main_cst_1 (F := Ideal) i = 0 := fun i => by pointwise [val_main_cst_1]
  have ix : ∀ e : Fin 8, idx_main_v32 (ix2 p q) e = ix3 e p q := fun e => by funext a; fin_cases a <;> rfl
  rw [z, zero_add, Finset.sum_congr rfl fun e _ => (congrArg _ (ix e)).trans (pick e), Finset.sum_ite_eq', if_pos (Finset.mem_univ _)]

/-- The reference leaves its arguments as they are, and declares no semaphore. -/
theorem frame : @Cert.quiescent_MoeUpReferenceIdeal Cert.MoeUpReferenceIdeal.Gen.facts := by
  intro m ρ _
  exact (θ_run Cert.MoeUpReferenceIdeal.defs _ _).mono (fun r h => ⟨fun c => (h c).2, sem_eq_zero_of_no_sems (by decide) r.2⟩)
    (Cert.MoeUpReferenceIdeal.Value.run m ρ)

theorem frame_pre : @Cert.quiescent_MoeUpReferenceIdeal_pre_dispatched Cert.MoeUpReferenceIdeal.Gen.facts facts := by
  intro m ρ _
  exact frame m ρ trivial

end Cert.MoeUpReferenceIdeal.Mm

namespace Cert.MoeUpIdeal.Mm

open Cert.MoeUpIdeal.Step Cert.Tables

theorem frame : @Cert.quiescent_MoeUpIdeal Cert.MoeUpIdeal.Gen.facts facts := by
  intro m g h
  exact run_kept (steps (h 0)) g

theorem algebraic : @Cert.algebraic_MoeUpIdeal_MoeUpReferenceIdeal_on_routed Cert.MoeUpIdeal.Gen.facts Cert.MoeUpReferenceIdeal.Gen.facts
    facts mask_facts := by
  intro m g m' g' hp he
  have hg := steps (hp 0)
  refine ⟨fun c => Cert.MoeUpReferenceIdeal.Read.val_main_v33 (F := Ideal) (m ((c.tc : Thread Cert.MoeUpIdeal.nD Cert.MoeUpIdeal.τ).loc Cert.MoeUpIdeal.main_arg0))
      (m ((c.tc : Thread Cert.MoeUpIdeal.nD Cert.MoeUpIdeal.τ).loc Cert.MoeUpIdeal.main_arg2))
      (m ((c.tc : Thread Cert.MoeUpIdeal.nD Cert.MoeUpIdeal.τ).loc Cert.MoeUpIdeal.main_arg5))
      (m ((c.tc : Thread Cert.MoeUpIdeal.nD Cert.MoeUpIdeal.τ).loc Cert.MoeUpIdeal.main_arg6))
      (m ((c.tc : Thread Cert.MoeUpIdeal.nD Cert.MoeUpIdeal.τ).loc Cert.MoeUpIdeal.main_arg7)), ?_, ?_⟩
  · refine (θ_run _ _ _).mono (fun r h c => ⟨fun i hi => ?_, kept hg h.1 c⟩) (run (m := m) hg g)
    obtain ⟨p, q, rfl⟩ := Cert.Product.exists_ix2 i
    obtain ⟨s, h1, h2, h3⟩ := routed p q hi
    obtain rfl : c = 0 := Subsingleton.elim _ _
    exact (final hg 0 h.1 p q s h1 h2 h3).trans (Cert.MoeUpReferenceIdeal.Mm.result hg _ _ _ p q s h1).symm
  · refine (θ_run _ _ _).mono (fun r h c => ⟨fun i _ => ?_, (h c).2⟩) (Cert.MoeUpReferenceIdeal.Value.run m' g')
    obtain ⟨e0, e1, e2, e3, e4, e5, e6, e7⟩ := he c
    refine (congrFun ((h c).1.trans (Cert.MoeUpReferenceIdeal.Read.val_main_v33_eq _ _ _ _ _)) i).trans ?_
    rw [e0, e2, e5, e6, e7]

end Cert.MoeUpIdeal.Mm

namespace Cert.MoeUp.Mm

open Cert.MoeUpIdeal.Step Cert.Tables

set_option maxHeartbeats 2000000 in
/-- The two printed forms of the call run alike. -/
theorem run_eq {F : FTy → Type} [FloatOps F] (m : (ℓ : Loc Cert.MoeUp.nD Cert.MoeUp.τ Cert.MoeUp.sig) → Buf (Elt F) ℓ) (ρ : Dev Cert.MoeUp.nD → PrngReg)
    (Q : PUnit × MemSt Cert.MoeUp.nD Cert.MoeUp.τ Cert.MoeUp.sig (Elt F) → Prop) :
    θ_run (Cert.MoeUp.defs (F := F)) (onTc (τ := Cert.MoeUp.τ) (Cert.MoeUp.main (F := F))) ⟨m, fun _ => 0, ρ⟩ Q
      = θ_run (Cert.MoeUpIdeal.defs (F := F)) (onTc (τ := Cert.MoeUpIdeal.τ) (Cert.MoeUpIdeal.main (F := F))) ⟨m, fun _ => 0, ρ⟩ Q := by
  chain_rfl

theorem frame : @Cert.quiescent_MoeUp Cert.MoeUp.Gen.facts facts := by
  intro m g h
  rw [run_eq]
  exact run_kept (m := m) (steps (h 0)) g

end Cert.MoeUp.Mm

end
-- ==== Proof.MoeDownRun.lean ====
module

public import proofs.«01_k».proof.Proof.Gen.MoeDownIdeal
public import proofs.«01_k».proof.Proof.Gen.MoeDownIdeal.Launch
public import proofs.«01_k».proof.Proof.Gen.MoeDownIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.DatRel
public import Idealize.ShloMosaic.Lib.Pipeline.ArrRel
public import Idealize.ShloMosaic.Lib.Pipeline.Value
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

/-! The experts' second product, one step of the grid at a time: what the body leaves in its output block and in the
copy of the weights, on each of its four paths. -/

noncomputable section

namespace Cert.MoeDownIdeal.Step

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables that the body reads, and its copy of the weights. -/
abbrev firstM : Memref sig .tc .smem S64 .i32 := Memref.whole main_arg3
abbrev kindM : Memref sig .tc .smem S64 .i32 := Memref.whole main_arg4
abbrev weightM : Memref sig .tc .vmem S4096x1024 .bf16 := Memref.whole cc0_scratch0

/-- The word that the body reads of a table at grid point `i`. -/
abbrev word (M : Memref sig .tc .smem S64 .i32) (T : M.view.ty.Contents (Elt F)) (off : grid0.Coords → Fin 1 → Nat)
    (h : ∀ i : grid0.Coords, ∀ a, (off i) a + S1.size a ≤ S64.size a) (i : grid0.Coords) : Elt F .i32 :=
  View.readAt (Elt F) M.view (Rect.unit (s := S64) (off i) S1.size (h i)).toLoadRect T (Shape.Idx.first (numel1_S1.symm ▸ Nat.one_pos))

variable (c : Dev nD) (i : grid0.Coords)
  (arg6 : Memref sig .tc .vmem S512x4096 .bf16) (harg6 : arg6.IsWhole)
  (arg7 : Memref sig .tc .vmem S1x1x4096x1024 .f32) (harg7 : arg7.IsWhole)
  (arg8 : Memref sig .tc .vmem S512x1024 .bf16) (harg8 : arg8.IsWhole)
  (T3 T4 : S64.Idx → Elt F .i32)
  (x0 : S512x4096.Idx → Elt F .bf16) (x1 : S1x1x4096x1024.Idx → Elt F .f32)
  (y : S512x1024.Idx → Elt F .bf16) (a : S4096x1024.Idx → Elt F .bf16)

/-- What a step holds: the blocks of rows and of weights, the two tables, the output block, the copy of the weights. -/
abbrev held (y : S512x1024.Idx → Elt F .bf16) (a : S4096x1024.Idx → Elt F .bf16) : sProp 𝕄 :=
  iprop((arg6.view.loc (c : Thread nD τ) ↦[arg6.view.set]{fullShare} arg6.view.rep x0)
    ∗ (arg7.view.loc (c : Thread nD τ) ↦[arg7.view.set]{fullShare} arg7.view.rep x1)
    ∗ (firstM.view.loc (c : Thread nD τ) ↦{fullShare.right} T3)
    ∗ (kindM.view.loc (c : Thread nD τ) ↦{fullShare.right} T4)
    ∗ owns (c : Thread nD τ) arg8 fullShare y
    ∗ owns (c : Thread nD τ) weightM fullShare a)

/-- The body at grid point `i`. -/
abbrev body : Prog (TpuEff nD τ sig (Elt F) Λ₀ .tc) PUnit :=
  cc0_moe_down i (Memref.whole main_arg0) (Memref.isWhole_whole _) (Memref.whole main_arg1) (Memref.isWhole_whole _)
    (Memref.whole main_arg2) (Memref.isWhole_whole _) firstM (Memref.isWhole_whole _) kindM (Memref.isWhole_whole _)
    arg6 harg6 arg7 harg7 arg8 harg8 weightM (Memref.isWhole_whole _)

variable {c i T3 T4}

set_option maxHeartbeats 8000000 in
/-- The first step of a run of tiles: the copy of the weights is made, and the output block is stored whole. -/
theorem run_first
    (h1 : k0_cond1 (word firstM T3 k0_off1 k0_off1_inb i) = 1#1)
    (h2 : ¬ k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 T3 T4 x0 x1 y a
      ∗ (held c arg6 arg7 arg8 T3 T4 x0 x1 (k0_pay3 x1 x0) (k0_pay2 x1) -∗ K ⟨⟩))
    ⊢ wp frame (wpE (defs₀ (F := F)) Variants.none c none) Set.univ (body i arg6 harg6 arg7 harg7 arg8 harg8) K := by
  unfold held owns body
  rw [cc0_moe_down_eq_skeleton]; unfold cc0_moe_down_skel
  iintro ⟨⟨H0, H1, HT3, HT4, ⟨%f, %hf, HO⟩, ⟨%fa, %hfa, HA⟩⟩, Hk⟩
  have hS0 : weightM.IsWhole := Memref.isWhole_whole _
  have hT3 : firstM.IsWhole := Memref.isWhole_whole _
  have hT4 : kindM.IsWhole := Memref.isWhole_whole _
  sl_exec! (disch := first | (guard_target = k0_cond1 _ = _; exact h1) | (guard_target = ¬(k0_cond2 _ _ = _); exact h2) | (guard_target = ¬(k0_cond3 _ _ = _); exact h3))
  sl_step
  iapply Hk
  isplitl [H0]; · iexact H0
  isplitl [H1]; · iexact H1
  isplitl [HT3]; · iexact HT3
  isplitl [HT4]; · iexact HT4
  isplitl [HO]
  · iexists _; isplitr; swap
    · iexact HO
    · ipureintro; delta run_first.sl.HO_1
      exact (View.read_writes_full arg8.view _ inb_S512x1024_S512x1024_0_0 _ _).trans
        (congrArg₂ k0_pay3 (View.readAt_rep_full arg7.view x1 _) (View.readAt_rep_full arg6.view x0 _))
  iexists _; isplitr; swap
  · iexact HA
  · ipureintro; delta run_first.sl.HA_1
    exact (View.read_writes_full weightM.view _ inb_S4096x1024_S4096x1024_0_0 _ _).trans (congrArg k0_pay2 (View.readAt_rep_full arg7.view x1 _))

set_option maxHeartbeats 8000000 in
/-- A later step of a run, on a whole tile: the copy is kept, and the output block is stored whole. -/
theorem run_full
    (h1 : ¬ k0_cond1 (word firstM T3 k0_off1 k0_off1_inb i) = 1#1)
    (h2 : k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 T3 T4 x0 x1 y a
      ∗ (held c arg6 arg7 arg8 T3 T4 x0 x1 (k0_pay4 a x0) a -∗ K ⟨⟩))
    ⊢ wp frame (wpE (defs₀ (F := F)) Variants.none c none) Set.univ (body i arg6 harg6 arg7 harg7 arg8 harg8) K := by
  unfold held owns body
  rw [cc0_moe_down_eq_skeleton]; unfold cc0_moe_down_skel
  iintro ⟨⟨H0, H1, HT3, HT4, ⟨%f, %hf, HO⟩, ⟨%fa, %hfa, HA⟩⟩, Hk⟩
  have hS0 : weightM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = k0_cond2 _ _ = _; exact h2) | (guard_target = ¬(k0_cond3 _ _ = _); exact h3))
  sl_step
  iapply Hk
  isplitl [H0]; · iexact H0
  isplitl [H1]; · iexact H1
  isplitl [HT3]; · iexact HT3
  isplitl [HT4]; · iexact HT4
  isplitl [HO]
  · iexists _; isplitr; swap
    · iexact HO
    · ipureintro
      delta run_full.sl.HO_1
      exact (View.read_writes_full arg8.view _ inb_S512x1024_S512x1024_0_0 _ _).trans
        (congrArg₂ k0_pay4 ((View.readAt_full weightM.view fa _).trans hfa) (View.readAt_rep_full arg6.view x0 _))
  iexists _; isplitr; swap
  · iexact HA
  · ipureintro; exact hfa

set_option maxHeartbeats 8000000 in
/-- A later step of a run, on a half tile: the copy is kept, and the output block's first half is stored. -/
theorem run_half
    (h1 : ¬ k0_cond1 (word firstM T3 k0_off1 k0_off1_inb i) = 1#1)
    (h2 : ¬ k0_cond2 (word firstM T3 k0_off2 k0_off2_inb i) (word kindM T4 k0_off2 k0_off2_inb i) = 1#1)
    (h3 : k0_cond3 (word firstM T3 k0_off3 k0_off3_inb i) (word kindM T4 k0_off3 k0_off3_inb i) = 1#1)
    (K : PUnit → sProp 𝕄) :
    iprop(held c arg6 arg7 arg8 T3 T4 x0 x1 y a
      ∗ (held c arg6 arg7 arg8 T3 T4 x0 x1 (VecWindow.put y ![0, 0] S256x1024.size (k0_pay5 a (VecWindow.window x0 ![0, 0] S256x4096.size inb_S512x4096_S256x4096_0_0))) a -∗ K ⟨⟩))
    ⊢ wp frame (wpE (defs₀ (F := F)) Variants.none c none) Set.univ (body i arg6 harg6 arg7 harg7 arg8 harg8) K := by
  unfold held owns body
  rw [cc0_moe_down_eq_skeleton]; unfold cc0_moe_down_skel
  iintro ⟨⟨H0, H1, HT3, HT4, ⟨%f, %hf, HO⟩, ⟨%fa, %hfa, HA⟩⟩, Hk⟩
  have hS0 : weightM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = ¬(k0_cond2 _ _ = _); exact h2) | (guard_target = k0_cond3 _ _ = _; exact h3))
  sl_step
  iapply Hk
  isplitl [H0]; · iexact H0
  isplitl [H1]; · iexact H1
  isplitl [HT3]; · iexact HT3
  isplitl [HT4]; · iexact HT4
  isplitl [HO]
  · iexists _; isplitr; swap
    · iexact HO
    · ipureintro
      rw [View.read_writes_cons_put _ _ _ _ _ rfl, View.writes_nil, hf,
        View.readAt_rep_unit arg6.view x0 _ rfl inb_S512x4096_S256x4096_0_0]
      exact congrArg (VecWindow.put y ![0, 0] S256x1024.size) (congrArg (fun a => k0_pay5 a _)
        ((View.readAt_full weightM.view fa _).trans hfa))
  iexists _; isplitr; swap
  · iexact HA
  · ipureintro; exact hfa

set_option maxHeartbeats 8000000 in
/-- A later step of a run, on an empty tile: nothing is stored. -/
theorem run_skip
    (h1 : ¬ k0_cond1 (word firstM T3 k0_off1 k0_off1_inb i) = 1#1)
    (h2 : ¬ k0_cond2 (word firstM T3 k0_off2 k0_off2_inb i) (word kindM T4 k0_off2 k0_off2_inb i) = 1#1)
    (h3 : ¬ k0_cond3 (word firstM T3 k0_off3 k0_off3_inb i) (word kindM T4 k0_off3 k0_off3_inb i) = 1#1)
    (K : PUnit → sProp 𝕄) :
    iprop(held c arg6 arg7 arg8 T3 T4 x0 x1 y a
      ∗ (held c arg6 arg7 arg8 T3 T4 x0 x1 y a -∗ K ⟨⟩))
    ⊢ wp frame (wpE (defs₀ (F := F)) Variants.none c none) Set.univ (body i arg6 harg6 arg7 harg7 arg8 harg8) K := by
  unfold held owns body
  rw [cc0_moe_down_eq_skeleton]; unfold cc0_moe_down_skel
  iintro ⟨⟨H0, H1, HT3, HT4, ⟨%f, %hf, HO⟩, ⟨%fa, %hfa, HA⟩⟩, Hk⟩
  have hS0 : weightM.IsWhole := Memref.isWhole_whole _
  have hT3 : firstM.IsWhole := Memref.isWhole_whole _
  have hT4 : kindM.IsWhole := Memref.isWhole_whole _
  sl_exec! (disch := first | (guard_target = ¬(k0_cond1 _ = _); exact h1) | (guard_target = ¬(k0_cond2 _ _ = _); exact h2) | (guard_target = ¬(k0_cond3 _ _ = _); exact h3))
  sl_step
  iapply Hk
  isplitl [H0]; · iexact H0
  isplitl [H1]; · iexact H1
  isplitl [HT3]; · iexact HT3
  isplitl [HT4]; · iexact HT4
  isplitl [HO]
  · iexists _; isplitr; swap
    · iexact HO
    · ipureintro; exact hf
  iexists _; isplitr; swap
  · iexact HA
  · ipureintro; exact hfa

end Cert.MoeDownIdeal.Step

end
-- ==== Proof.MoeDownTables.lean ====
/- The second product's tables, and where its result is claimed: what its precondition and its mask say. -/
module

public import proofs.«01_k».proof.Proof.MoeUpMask

@[expose] public section

set_option maxRecDepth 16384

noncomputable section

open Idealize.ShloMosaic

namespace Cert.Tables.Down

section
open Cert.Pre_dispatched_down

theorem facts : Cert.Pre_dispatched_down.Facts where
  bcast_S_S64 := by decide
  bcast_S64_S64x1_0 := by decide
  bcast_S64_S1x64_1 := by decide
  bcast_S64x1_S64x64_0_1 := by decide
  bcast_S1x64_S64x64_0_1 := by decide
  slices_S64_S1_0 := by decide
  slices_S64_S63_0 := by decide
  concatenates_S1_S63_S64_d0 := by decide

attribute [local instance] facts

variable {F : FTy → Type} [FloatOps F] {te tn tm tf tk : IVec S64 32} {x : FVec F S16384x4096 .bf16} {w : FVec F S2x8x4096x2048 .f32}

/-- The nine bits of the precondition. -/
abbrev Bits9 (te tn tm tf tk : IVec S64 32) (x : FVec F S16384x4096 .bf16) (w : FVec F S2x8x4096x2048 .f32) : Prop :=
  (fn te tn tm tf tk x w).1 = (fun _ => 1#1)
    ∧ (fn te tn tm tf tk x w).2.1 = (fun _ => 1#1)
    ∧ (fn te tn tm tf tk x w).2.2.1 = (fun _ => 1#1)
    ∧ (fn te tn tm tf tk x w).2.2.2.1 = (fun _ => 1#1)
    ∧ (fn te tn tm tf tk x w).2.2.2.2.1 = (fun _ => 1#1)
    ∧ (fn te tn tm tf tk x w).2.2.2.2.2.1 = (fun _ => 1#1)
    ∧ (fn te tn tm tf tk x w).2.2.2.2.2.2.1 = (fun _ => 1#1)
    ∧ (fn te tn tm tf tk x w).2.2.2.2.2.2.2.1 = (fun _ => 1#1)
    ∧ (fn te tn tm tf tk x w).2.2.2.2.2.2.2.2 = (fun _ => 1#1)

theorem steps (h : Bits9 te tn tm tf tk x w) : Steps 2 te tn tm tf tk := by
  obtain ⟨h1, h2, h3, h4, h5, h6, h7, h8, h9⟩ := h
  refine Steps.of_bits (by decide) (fun s => ?_) (fun s => ?_) (fun s => ?_) (fun s => ?_) (fun s => ?_) (fun s => ?_) (fun s => ?_)
    (fun s t => ?_) (fun s t => ?_)
  · have b := congrFun h1 (ix1 s)
    pointwise [fn, fn_part1, fn_part2, fn_part3, fn_part4] at b
    exact b
  · have b := congrFun h2 (ix1 s)
    pointwise [fn, fn_part1, fn_part2, fn_part3, fn_part4] at b
    revert b; generalize tn (ix1 s) = v
    exact (by word_cmp : _ ↔ v.toNat < 2).1
  · have b := congrFun h3 (ix1 s)
    pointwise [fn, fn_part1, fn_part2, fn_part3, fn_part4] at b
    exact b
  · have b := congrFun h4 (ix1 s)
    pointwise [fn, fn_part1, fn_part2, fn_part3, fn_part4] at b
    exact b
  · have b := congrFun h5 (ix1 s)
    pointwise [fn, fn_part1, fn_part2, fn_part3, fn_part4] at b
    exact b
  · have b := congrFun h6 (ix1 s)
    pointwise [fn, fn_part1, fn_part2, fn_part3, fn_part4, fn_where] at b
    refine ⟨_, _, fun e => ⟨?_, ?_⟩, b⟩
    · exact dif_neg (by change ¬ s.val < 1; omega)
    · exact dif_neg (by change ¬ s.val < 1; omega)
  · have b := congrFun h7 (ix1 s)
    pointwise [fn, fn_part1, fn_part2, fn_part3, fn_part4] at b
    refine ⟨_, _, fun e => ⟨?_, ?_⟩, b⟩
    · exact dif_neg (by change ¬ s.val < 1; omega)
    · exact dif_neg (by change ¬ s.val < 1; omega)
  · have b := congrFun h8 (ix2 s t)
    pointwise [fn, fn_part1, fn_part2, fn_part3, fn_part4] at b
    exact b
  · have b := congrFun h9 (ix2 s t)
    pointwise [fn, fn_part1, fn_part2, fn_part3, fn_part4] at b
    exact b

end

section
open Cert.On_routed_down

theorem mask_facts : Cert.On_routed_down.Facts where
  bcast_S16384_S16384x1_0 := by decide
  bcast_S2048_S2048x1_0 := by decide
  bcast_S_S64 := by decide
  bcast_S_S16384x1 := by decide
  bcast_S64_S1x64_1 := by decide
  bcast_S1x64_S16384x64_0_1 := by decide
  bcast_S16384x1_S16384x64_0_1 := by decide
  bcast_S_S2048x1 := by decide
  bcast_S1x64_S2048x64_0_1 := by decide
  bcast_S2048x1_S2048x64_0_1 := by decide
  bcast_S16384x64_S16384x1x64_0_2 := by decide
  bcast_S2048x64_S1x2048x64_1_2 := by decide
  bcast_S16384x1x64_S16384x2048x64_0_1_2 := by decide
  bcast_S1x2048x64_S16384x2048x64_0_1_2 := by decide
  reducesTo_S16384x2048x64_S16384x2048_d2 := by decide
  h_S_ := by decide

attribute [local instance] mask_facts

variable {F : FTy → Type} [FloatOps F] {te tn tm tf tk : IVec S64 32} {x : FVec F S16384x4096 .bf16} {w : FVec F S2x8x4096x2048 .f32}

theorem routed (r : Fin 16384) (c : Fin 2048) (h : fn te tn tm tf tk x w (ix2 r c) = 1#1) :
    ∃ s : Fin 64, (tm (ix1 s)).toNat = r.val / 512 ∧ (tn (ix1 s)).toNat = c.val / 1024
      ∧ (tf (ix1 s) = 1#32 ∨ tk (ix1 s) = 1#32 ∨ (tk (ix1 s) = 2#32 ∧ r.val % 512 < 256)) := by
  unfold fn fn_part1 fn_part2 at h
  dsimp only at h
  replace h := (or_last (n := 64) _ _ _ _ (by rfl) r c).1 h
  obtain ⟨s, h⟩ := h
  refine ⟨s, ?_⟩
  pointwise at h
  rw [and_bit, and_bit, or_bit, or_bit, and_bit, tile_bit _ r.val 512 (by omega) (by decide) (by decide), tile_bit _ c.val 1024 (by omega) (by decide) (by decide), half_bit, eq_bit, eq_bit, eq_bit, or_assoc] at h
  exact ⟨h.1.1, h.2, h.1.2⟩

end

end Cert.Tables.Down

end
-- ==== Proof.MoeDownLaunch.lean ====
module

public import proofs.«01_k».proof.Proof.MoeDownRun
public import proofs.«01_k».proof.Proof.MoeDownTables

@[expose] public section

set_option maxRecDepth 16384
set_option Elab.async false

/-! The experts' second product as a whole: the blocks that the tables name, what is known of an output block after each
step, and the run of the grid. -/

noncomputable section

namespace Cert.MoeDownIdeal.Step

open Cert.MoeDownIdeal Cert.MoeDownIdeal.Gen Cert.Tables
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ (UR sig nD τ) ℕ

/-! ## The words of the tables at a step -/

theorem off_eq (i : grid0.Coords) : k0_off1 i = ![(i 0).val] := by
  have h : (i 0).val < 64 := (i 0).isLt
  funext a; fin_cases a
  change (BitVec.ofNat 32 (i 0).val).toNat = _
  rw [BitVec.toNat_ofNat]; exact Nat.mod_eq_of_lt (by omega)

/-- A step's position in the tables. -/
abbrev pos (i : grid0.Coords) : Fin 64 := i 0

/-- The place that a read of one word at a step names. -/
theorem emb_eq (i : grid0.Coords) (h : ∀ a, (k0_off1 i) a + S1.size a ≤ S64.size a) (j : S1.Idx) :
    (Rect.unit (s := S64) (k0_off1 i) S1.size h).emb j = (ix1 (pos i) : S64.Idx) := by
  funext a; fin_cases a
  apply Fin.ext
  have : (j 0).val < 1 := (j 0).isLt
  have e : k0_off1 i 0 = (i 0).val := congrFun (off_eq i) 0
  change k0_off1 i 0 + 1 * (j 0).val = (i 0).val
  omega

theorem word_first (T : S64.Idx → Elt F .i32) (i : grid0.Coords) : word firstM T k0_off1 k0_off1_inb i = T (ix1 (pos i)) := by
  unfold word
  exact congrArg T (emb_eq i _ _)

theorem word_first2 (T : S64.Idx → Elt F .i32) (i : grid0.Coords) : word firstM T k0_off2 k0_off2_inb i = T (ix1 (pos i)) :=
  word_first T i
theorem word_first3 (T : S64.Idx → Elt F .i32) (i : grid0.Coords) : word firstM T k0_off3 k0_off3_inb i = T (ix1 (pos i)) :=
  word_first T i
theorem word_kind (T : S64.Idx → Elt F .i32) (i : grid0.Coords) : word kindM T k0_off2 k0_off2_inb i = T (ix1 (pos i)) :=
  congrArg T (emb_eq i _ _)
theorem word_kind3 (T : S64.Idx → Elt F .i32) (i : grid0.Coords) : word kindM T k0_off3 k0_off3_inb i = T (ix1 (pos i)) :=
  congrArg T (emb_eq i _ _)

/-- The five tables of the launch. -/
abbrev te (pf : pre0.Contents (Elt F)) : Tab 64 := pf 0
abbrev tn (pf : pre0.Contents (Elt F)) : Tab 64 := pf 1
abbrev tm (pf : pre0.Contents (Elt F)) : Tab 64 := pf 2
abbrev tf (pf : pre0.Contents (Elt F)) : Tab 64 := pf 3
abbrev tk (pf : pre0.Contents (Elt F)) : Tab 64 := pf 4

variable (pf : pre0.Contents (Elt F))

theorem rows_index (i : grid0.Coords) : cc0_transform_0 k0_off1_inb numel1_S1 pf i = ![(tm pf (ix1 (pos i))).toNat, 0] :=
  congrArg (fun v : BitVec 32 => ![v.toNat, 0]) (congrArg (tm pf) (emb_eq i (k0_off1_inb i) _))
theorem weight_index (i : grid0.Coords) :
    cc0_transform_1 k0_off1_inb numel1_S1 pf i = ![0, (te pf (ix1 (pos i))).toNat, 0, (tn pf (ix1 (pos i))).toNat] :=
  congrArg₂ (fun v w : BitVec 32 => ![0, v.toNat, 0, w.toNat]) (congrArg (te pf) (emb_eq i (k0_off1_inb i) _)) (congrArg (tn pf) (emb_eq i (k0_off1_inb i) _))
theorem out_index (i : grid0.Coords) :
    cc0_transform_2 k0_off1_inb numel1_S1 pf i = ![(tm pf (ix1 (pos i))).toNat, (tn pf (ix1 (pos i))).toNat] :=
  congrArg₂ (fun v w : BitVec 32 => ![v.toNat, w.toNat]) (congrArg (tm pf) (emb_eq i (k0_off1_inb i) _)) (congrArg (tn pf) (emb_eq i (k0_off1_inb i) _))

/-- The launch's tables are a dispatch's. -/
abbrev Good : Prop := Steps 2 (te pf) (tn pf) (tm pf) (tf pf) (tk pf)

variable {pf}

/-- Every block that the tables name lies in its array. -/
theorem ok (h : Good pf) : ok0 pf := by
  refine ⟨fun i => ?_, fun i => ?_, fun i => ?_⟩
  · have l := h.tile (pos i)
    have inb : ∀ a, (cc0_transform_0 k0_off1_inb numel1_S1 pf i a + 1) * S512x4096.size a ≤ S16384x4096.size a := by
      rw [rows_index]; intro a; fin_cases a
      · change ((tm pf (ix1 (pos i))).toNat + 1) * 512 ≤ 16384; omega
      · change (0 + 1) * 4096 ≤ 4096; omega
    exact ⟨inb, .inr (Affine.block_words_dvd (s := S16384x4096) (p := EltTy.packing .bf16) (by decide) (by decide))⟩
  · have l := h.expert (pos i)
    have l' := h.column (pos i)
    have inb : ∀ a, (cc0_transform_1 k0_off1_inb numel1_S1 pf i a + 1) * S1x1x4096x1024.size a ≤ S2x8x4096x2048.size a := by
      rw [weight_index]; intro a; fin_cases a
      · change (0 + 1) * 1 ≤ 2; omega
      · change ((te pf (ix1 (pos i))).toNat + 1) * 1 ≤ 8; omega
      · change (0 + 1) * 4096 ≤ 4096; omega
      · change ((tn pf (ix1 (pos i))).toNat + 1) * 1024 ≤ 2048; omega
    exact ⟨inb, .inl rfl⟩
  · have l := h.tile (pos i)
    have l' := h.column (pos i)
    have inb : ∀ a, (cc0_transform_2 k0_off1_inb numel1_S1 pf i a + 1) * S512x1024.size a ≤ S16384x2048.size a := by
      rw [out_index]; intro a; fin_cases a
      · change ((tm pf (ix1 (pos i))).toNat + 1) * 512 ≤ 16384; omega
      · change ((tn pf (ix1 (pos i))).toNat + 1) * 1024 ≤ 2048; omega
    exact ⟨inb, .inr (Affine.block_words_dvd (s := S16384x2048) (p := EltTy.packing .bf16) (by decide) (by decide))⟩

/-! ## Which path a step takes -/

theorem cond1_eq (v : BitVec 32) : k0_cond1 v = 1#1 ↔ v = 1#32 := by
  have : k0_cond1 v = 1#1 ↔ v.toNat = 1 := by unfold k0_cond1; word_cmp
  rw [this]; exact ⟨fun h => BitVec.eq_of_toNat_eq h, fun h => h ▸ rfl⟩
theorem cond2_eq (v w : BitVec 32) : k0_cond2 v w = 1#1 ↔ v = 0#32 ∧ w = 1#32 := by
  have : k0_cond2 v w = 1#1 ↔ v.toNat = 0 ∧ w.toNat = 1 := by unfold k0_cond2; word_cmp
  rw [this]; exact ⟨fun h => ⟨BitVec.eq_of_toNat_eq h.1, BitVec.eq_of_toNat_eq h.2⟩, fun h => ⟨h.1 ▸ rfl, h.2 ▸ rfl⟩⟩
theorem cond3_eq (v w : BitVec 32) : k0_cond3 v w = 1#1 ↔ v = 0#32 ∧ w = 2#32 := by
  have : k0_cond3 v w = 1#1 ↔ v.toNat = 0 ∧ w.toNat = 2 := by unfold k0_cond3; word_cmp
  rw [this]; exact ⟨fun h => ⟨BitVec.eq_of_toNat_eq h.1, BitVec.eq_of_toNat_eq h.2⟩, fun h => ⟨h.1 ▸ rfl, h.2 ▸ rfl⟩⟩

/-! ## The launch's data -/

variable (m : (ℓ : Loc nD τ sig) → Buf (Elt F) ℓ)

/-- The tables in the memory of a launch. -/
abbrev tabs : pre0.Contents (Elt F) := fun k => m (((0 : Dev nD) : Thread nD τ).loc (pre0.ref k))

variable {m} (hg : Good (tabs m))

/-- The pipeline at those tables. -/
def adm : (pcfg0 (F := F)).Adm := ⟨tabs m, ok hg⟩
abbrev cfgA : Cfg sig Λ₀ := cfg0 (F := F) (adm hg)
abbrev crd (t : Fin (cfgA hg).N) : grid0.Coords := (cfgA hg).grid.coords t
/-- A point's position in the tables. -/
abbrev at' (t : Fin (cfgA hg).N) : Fin 64 := pos (crd hg t)

abbrev ms0 (t : Fin (cfgA hg).N) : Memref sig .tc .vmem S512x4096 .bf16 := spec0_0.stage ((cfgA hg).slots t (0 : Fin 3))
abbrev hs0 (t : Fin (cfgA hg).N) : (ms0 hg t).IsWhole := hstage0_0 (((cfgA hg).slots t (0 : Fin 3)).cast nbuf0_0)
abbrev ms1 (t : Fin (cfgA hg).N) : Memref sig .tc .vmem S1x1x4096x1024 .f32 := spec0_1.stage ((cfgA hg).slots t (1 : Fin 3))
abbrev hs1 (t : Fin (cfgA hg).N) : (ms1 hg t).IsWhole := hstage0_1 (((cfgA hg).slots t (1 : Fin 3)).cast nbuf0_1)
abbrev ms2 (t : Fin (cfgA hg).N) : Memref sig .tc .vmem S512x1024 .bf16 := spec0_2.stage ((cfgA hg).slots t (2 : Fin 3))
abbrev hs2 (t : Fin (cfgA hg).N) : (ms2 hg t).IsWhole := hstage0_2 (((cfgA hg).slots t (2 : Fin 3)).cast nbuf0_2)

/-- Window `w`'s block at point `t`, read off its array at launch. -/
def iblk (c : Dev nD) (w : Fin (cfgA hg).W) (t : Fin (cfgA hg).N) : (((cfgA hg).win w).xblock (crd hg t)).Idx → Elt F ((cfgA hg).win w).elt :=
  (((cfgA hg).win w).blk t).view.read (Elt F) (m (((cfgA hg).win w).arr.view.loc (c : Thread nD τ)))

abbrev rows (c : Dev nD) (t : Fin (cfgA hg).N) : S512x4096.Idx → Elt F .bf16 := iblk hg c (0 : Fin 3) t
abbrev weight (c : Dev nD) (t : Fin (cfgA hg).N) : S1x1x4096x1024.Idx → Elt F .f32 := iblk hg c (1 : Fin 3) t
/-- The first half of the rows of a block. -/
abbrev half (x : S512x4096.Idx → Elt F .bf16) : S256x4096.Idx → Elt F .bf16 :=
  VecWindow.window x ![0, 0] S256x4096.size inb_S512x4096_S256x4096_0_0

/-- What a step that stores leaves in its block. -/
def Wrote (c : Dev nD) (s : Fin (cfgA hg).N) (X : S512x1024.Idx → Elt F .bf16) : Prop :=
  (tf (tabs m) (ix1 (at' hg s)) = 1#32 ∧ X = k0_pay3 (weight hg c s) (rows hg c s))
  ∨ (tk (tabs m) (ix1 (at' hg s)) = 1#32 ∧ X = k0_pay4 (k0_pay2 (weight hg c s)) (rows hg c s))
  ∨ (tf (tabs m) (ix1 (at' hg s)) ≠ 1#32 ∧ tk (tabs m) (ix1 (at' hg s)) = 2#32 ∧ ∃ y : S512x1024.Idx → Elt F .bf16, X = VecWindow.put y ![0, 0] S256x1024.size
      (k0_pay5 (k0_pay2 (weight hg c s)) (half (rows hg c s))))

/-- What is known of the result's block after a step: a step that stores into this block has left it so. -/
def Known (c : Dev nD) (t : Fin (cfgA hg).N) (X : S512x1024.Idx → Elt F .bf16) : Prop :=
  ∃ s, Stores (tf (tabs m)) (tk (tabs m)) (at' hg s) ∧ Same (tn (tabs m)) (tm (tabs m)) (at' hg s) (at' hg t) ∧ Wrote hg c s X

def Rl (c : Dev nD) (w : Fin (cfgA hg).W) (t : Fin (cfgA hg).N) : (((cfgA hg).win w).block.Idx → Elt F ((cfgA hg).win w).elt) → Prop :=
  match w with
  | ⟨0, _⟩ => fun _ => True
  | ⟨1, _⟩ => fun _ => True
  | ⟨2, _⟩ => fun X => Known hg c t X

def fgt : Fin 3 → Bool := fun w => match w with
  | ⟨0, _⟩ => false
  | ⟨1, _⟩ => false
  | ⟨2, _⟩ => true

/-- What the core holds between steps: the copy of the weights of the step before, its halves of the tables. -/
def Phi (c : Dev nD) (t : Fin ((cfgA hg).N + 1)) : sProp 𝕄 :=
  iprop((∃ a, ⌜∀ s : Fin (cfgA hg).N, t.val = s.val + 1 → a = k0_pay2 (weight hg c s)⌝ ∗ owns (c : Thread nD τ) weightM fullShare a)
    ∗ (((c : Thread nD τ).loc main_arg0) ↦{fullShare.right} tabs m 0) ∗ (((c : Thread nD τ).loc main_arg1) ↦{fullShare.right} tabs m 1)
    ∗ (((c : Thread nD τ).loc main_arg2) ↦{fullShare.right} tabs m 2) ∗ (((c : Thread nD τ).loc main_arg3) ↦{fullShare.right} tabs m 3)
    ∗ (((c : Thread nD τ).loc main_arg4) ↦{fullShare.right} tabs m 4) ∗ ∃ r, prngReg c r)

def dats (_ : Fin 1) (c : Dev nD) : Dat τ (Elt F) Unit ℕ (UR sig nD τ) ℕ (cfgA hg) c where
  A w := m (((cfgA hg).win w).arr.view.loc (c : Thread nD τ))
  after w t := match w with
    | ⟨0, _⟩ => iblk hg c (0 : Fin 3) t
    | ⟨1, _⟩ => iblk hg c (1 : Fin 3) t
    | ⟨2, _⟩ => default
  Φ t := Phi hg c t
  q _ := fullShare
  owed _ := 0

theorem after0 (c : Dev nD) (t : Fin (cfgA hg).N) : (dats hg 0 c).after (0 : Fin 3) t = iblk hg c (0 : Fin 3) t := rfl
theorem after1 (c : Dev nD) (t : Fin (cfgA hg).N) : (dats hg 0 c).after (1 : Fin 3) t = iblk hg c (1 : Fin 3) t := rfl
theorem before0 (c : Dev nD) (t : Fin (cfgA hg).N) (d) : (dats hg 0 c).before (0 : Fin 3) t d = iblk hg c (0 : Fin 3) t :=
  ((dats hg 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA hg).N) (d) : (dats hg 0 c).before (1 : Fin 3) t d = iblk hg c (1 : Fin 3) t :=
  ((dats hg 0 c).before_in_eq_fetched (1 : Fin 3) rfl (fun _ => rfl) (fun _ _ _ => rfl) (fun t => by rw [after1]; unfold Dat.blockOf iblk; rfl) t d).trans
    (by unfold Dat.fetched Dat.blockOf iblk; rfl)
/-! ## How a step's data follow from the step's before -/

theorem coords_pos (t : Fin grid0.N) : (pos (grid0.coords t)).val = t.val := by
  revert t; decide

theorem before_at {s t : Fin (cfgA hg).N} (h : t.val = s.val + 1) : before (at' hg t) = at' hg s := by
  apply Fin.ext
  have e1 := coords_pos t
  have e2 := coords_pos s
  change (pos (grid0.coords t)).val - 1 = (pos (grid0.coords s)).val
  omega

/-- A block of rows at coordinates. -/
theorem rows_read (c : Dev nD) (t : Fin (cfgA hg).N) (j : S512x4096.Idx) (k : S16384x4096.Idx)
    (h0 : (k 0).val = (tm (tabs m) (ix1 (at' hg t))).toNat * 512 + (j 0).val) (h1 : (k 1).val = (j 1).val) :
    rows hg c t j = m ((c : Thread nD τ).loc main_arg5) k := by
  have e : (((cfgA hg).win (0 : Fin 3)).rect t).emb j = k := by
    funext a
    apply Fin.ext
    refine (Window.rect_emb_val _ t j a rfl).trans ?_
    have i := congrFun (rows_index (tabs m) (crd hg t)) a
    fin_cases a
    · exact (congrArg (· * 512 + (j 0).val) i).trans h0.symm
    · exact (congrArg (· * 4096 + (j 1).val) i).trans (by change 0 * 4096 + (j 1).val = (k 1).val; omega)
  exact congrArg (m ((c : Thread nD τ).loc main_arg5)) e

/-- A block of the weights at coordinates. -/
theorem weight_read (c : Dev nD) (t : Fin (cfgA hg).N) (j : S1x1x4096x1024.Idx) (k : S2x8x4096x2048.Idx)
    (h0 : (k 0).val = (j 0).val) (h1 : (k 1).val = (te (tabs m) (ix1 (at' hg t))).toNat + (j 1).val)
    (h2 : (k 2).val = (j 2).val) (h3 : (k 3).val = (tn (tabs m) (ix1 (at' hg t))).toNat * 1024 + (j 3).val) :
    weight hg c t j = m ((c : Thread nD τ).loc main_arg6) k := by
  have e : (((cfgA hg).win (1 : Fin 3)).rect t).emb j = k := by
    funext a
    apply Fin.ext
    refine (Window.rect_emb_val _ t j a rfl).trans ?_
    have i := congrFun (weight_index (tabs m) (crd hg t)) a
    fin_cases a
    · exact (congrArg (· * 1 + (j 0).val) i).trans (by change 0 * 1 + (j 0).val = (k 0).val; omega)
    · exact (congrArg (· * 1 + (j 1).val) i).trans (by change (te (tabs m) (ix1 (at' hg t))).toNat * 1 + (j 1).val = (k 1).val; omega)
    · exact (congrArg (· * 4096 + (j 2).val) i).trans (by change 0 * 4096 + (j 2).val = (k 2).val; omega)
    · exact (congrArg (· * 1024 + (j 3).val) i).trans h3.symm
  exact congrArg (m ((c : Thread nD τ).loc main_arg6)) e

/-- Where an entry of a weight block lies. -/
def weightIx (t : Fin (cfgA hg).N) (j : S1x1x4096x1024.Idx) : S2x8x4096x2048.Idx :=
  ix4 ⟨(j 0).val, by have : (j 0).val < 1 := (j 0).isLt; omega⟩
    ⟨(te (tabs m) (ix1 (at' hg t))).toNat, hg.expert _⟩ ⟨(j 2).val, (j 2).isLt⟩
    ⟨(tn (tabs m) (ix1 (at' hg t))).toNat * 1024 + (j 3).val, by
      have := hg.column (at' hg t); have : (j 3).val < 1024 := (j 3).isLt; omega⟩

theorem weight_at (c : Dev nD) (t : Fin (cfgA hg).N) (j : S1x1x4096x1024.Idx) :
    weight hg c t j = m ((c : Thread nD τ).loc main_arg6) (weightIx hg t j) :=
  weight_read hg c t j _ rfl (by have : (j 1).val < 1 := (j 1).isLt; change _ = _ + (j 1).val; rw [show (j 1).val = 0 by omega]; rfl) rfl rfl
/-- A step that starts no run has the weights of the step before. -/
theorem same_weight (c : Dev nD) {s t : Fin (cfgA hg).N} (h : t.val = s.val + 1) (n : tf (tabs m) (ix1 (at' hg t)) ≠ 1#32) :
    weight hg c s = weight hg c t := by
  have e := coords_pos t
  obtain ⟨k1, k2⟩ := hg.keep (at' hg t) (by change (pos (grid0.coords t)).val ≠ 0; omega) n
  rw [before_at hg h] at k1 k2
  have w : weightIx hg s = weightIx hg t := by unfold weightIx; simp only [k1, k2]
  exact funext fun j => (weight_at hg c s j).trans ((congrArg (m ((c : Thread nD τ).loc main_arg6)) (congrFun w j)).trans (weight_at hg c t j).symm)

/-- A step that stores nothing has the block of the step before, and nothing was written back between. -/
theorem known_of_finds (c : Dev nD) (t : Fin (cfgA hg).N) (n : ¬ Stores (tf (tabs m)) (tk (tabs m)) (at' hg t))
    (Y : S512x1024.Idx → Elt F .bf16) (h : ((dats hg 0 c).toRRel fgt (Rl hg c)).Finds (2 : Fin 3) t Y) : Known hg c t Y := by
  have e := coords_pos t
  have ht : t.val ≠ 0 := fun h0 => n (.inl (hg.first _ (by change (pos (grid0.coords t)).val = 0; omega)))
  have st := hg.stay (at' hg t) (by change (pos (grid0.coords t)).val ≠ 0; omega) n
  obtain ⟨p, hp⟩ : ∃ p : Fin (cfgA hg).N, t.val = p.val + 1 := ⟨⟨t.val - 1, lt_of_le_of_lt (Nat.sub_le _ _) t.isLt⟩, by change _ = t.val - 1 + 1; omega⟩
  rw [before_at hg hp] at st
  have ie : ((cfgA hg).win (2 : Fin 3)).indexMap (crd hg t) = ((cfgA hg).win (2 : Fin 3)).indexMap (crd hg p) :=
    (out_index (tabs m) (crd hg t)).trans ((congrArg₂ (fun v w : BitVec 32 => ![v.toNat, w.toNat]) st.1 st.2).trans (out_index (tabs m) (crd hg p)).symm)
  have hp' : (⟨t.val - 1, by omega⟩ : Fin (cfgA hg).N) = p := Fin.ext (by change t.val - 1 = p.val; omega)
  have hf : ((cfgA hg).win (2 : Fin 3)).flush p = false := by
    rw [Window.flush_eq_flushOf]
    unfold Window.flushOf
    have a1 : ¬ p.val + 1 = (cfgA hg).grid.N := by have := t.isLt; change t.val < (cfgA hg).grid.N at this; omega
    have a2 : ¬ ∃ h : p.val + 1 < (cfgA hg).grid.N, ((cfgA hg).win (2 : Fin 3)).indexMap ((cfgA hg).grid.coords ⟨p.val + 1, h⟩) ≠ ((cfgA hg).win (2 : Fin 3)).indexMap ((cfgA hg).grid.coords p) := by
      rintro ⟨h, hh⟩
      apply hh
      have : (⟨p.val + 1, h⟩ : Fin (cfgA hg).grid.N) = t := Fin.ext hp.symm
      rw [this]; exact ie
    rw [decide_eq_false a1, decide_eq_false a2]; simp only [Bool.or_self, Bool.and_false]
  have := (RDat.finds_of_pos (rd := (dats hg 0 c).toRRel fgt (Rl hg c)) (w := (2 : Fin 3)) rfl ht Y).mp h
  rw [hp'] at this
  rcases this with f | l
  · rw [hf] at f; exact absurd f Bool.false_ne_true
  · obtain ⟨s, hs, hsame, hw⟩ := Dat.toRRel_leaves (dats hg 0 c) (w := (2 : Fin 3)) rfl l
    exact ⟨s, hs, ⟨hsame.1.trans st.1.symm, hsame.2.trans st.2.symm⟩, hw⟩

/-! ## One step -/

/-- A step of the launch: what it finds in the copy is what the step before left, unless it makes it anew; what it leaves in the
    result's block is known. -/
theorem step (c : Dev nD) (t : Fin (cfgA hg).N) (y : S512x1024.Idx → Elt F .bf16) (a : S4096x1024.Idx → Elt F .bf16)
    (hy : ¬ Stores (tf (tabs m)) (tk (tabs m)) (at' hg t) → Known hg c t y)
    (hab : tf (tabs m) (ix1 (at' hg t)) ≠ 1#32 → a = k0_pay2 (weight hg c t)) :
    ∃ y', Known hg c t y' ∧ ∀ K : PUnit → sProp 𝕄,
      iprop(held c (ms0 hg t) (ms1 hg t) (ms2 hg t) (tabs m 3) (tabs m 4) (rows hg c t) (weight hg c t) y a
        ∗ (held c (ms0 hg t) (ms1 hg t) (ms2 hg t) (tabs m 3) (tabs m 4) (rows hg c t) (weight hg c t) y'
            (k0_pay2 (weight hg c t)) -∗ K ⟨⟩))
      ⊢ wp frame (wpE (defs₀ (F := F)) Variants.none c none) Set.univ
          (body (crd hg t) (ms0 hg t) (hs0 hg t) (ms1 hg t) (hs1 hg t) (ms2 hg t) (hs2 hg t)) K := by
  have w1 : word firstM (tabs m 3) k0_off1 k0_off1_inb (crd hg t) = tf (tabs m) (ix1 (at' hg t)) := word_first _ _
  have w2 : word firstM (tabs m 3) k0_off2 k0_off2_inb (crd hg t) = tf (tabs m) (ix1 (at' hg t)) := word_first2 _ _
  have w3 : word firstM (tabs m 3) k0_off3 k0_off3_inb (crd hg t) = tf (tabs m) (ix1 (at' hg t)) := word_first3 _ _
  have v2 : word kindM (tabs m 4) k0_off2 k0_off2_inb (crd hg t) = tk (tabs m) (ix1 (at' hg t)) := word_kind _ _
  have v3 : word kindM (tabs m 4) k0_off3 k0_off3_inb (crd hg t) = tk (tabs m) (ix1 (at' hg t)) := word_kind3 _ _
  by_cases f : tf (tabs m) (ix1 (at' hg t)) = 1#32
  · have h1 : k0_cond1 (word firstM (tabs m 3) k0_off1 k0_off1_inb (crd hg t)) = 1#1 := by rw [w1, cond1_eq]; exact f
    have h2 : ¬ k0_cond2 (word firstM (tabs m 3) k0_off2 k0_off2_inb (crd hg t)) (word kindM (tabs m 4) k0_off2 k0_off2_inb (crd hg t)) = 1#1 := by
      rw [w2, v2, cond2_eq, f]; exact fun h => absurd h.1 (by decide)
    have h3 : ¬ k0_cond3 (word firstM (tabs m 3) k0_off3 k0_off3_inb (crd hg t)) (word kindM (tabs m 4) k0_off3 k0_off3_inb (crd hg t)) = 1#1 := by
      rw [w3, v3, cond3_eq, f]; exact fun h => absurd h.1 (by decide)
    exact ⟨_, ⟨t, .inl f, ⟨rfl, rfl⟩, .inl ⟨f, rfl⟩⟩, fun K => run_first _ _ _ _ _ _ _ _ _ _ h1 h2 h3 K⟩
  obtain rfl := hab f
  have z := (hg.start (at' hg t)).resolve_right f
  have h1 : ¬ k0_cond1 (word firstM (tabs m 3) k0_off1 k0_off1_inb (crd hg t)) = 1#1 := by rw [w1, cond1_eq]; exact f
  rcases hg.kind (at' hg t) with k | k | k
  · have h2 : ¬ k0_cond2 (word firstM (tabs m 3) k0_off2 k0_off2_inb (crd hg t)) (word kindM (tabs m 4) k0_off2 k0_off2_inb (crd hg t)) = 1#1 := by
      rw [w2, v2, cond2_eq, k]; exact fun h => absurd h.2 (by decide)
    have h3 : ¬ k0_cond3 (word firstM (tabs m 3) k0_off3 k0_off3_inb (crd hg t)) (word kindM (tabs m 4) k0_off3 k0_off3_inb (crd hg t)) = 1#1 := by
      rw [w3, v3, cond3_eq, k]; exact fun h => absurd h.2 (by decide)
    exact ⟨y, hy (fun h => h.elim f (fun h => h k)), fun K => run_skip _ _ _ _ _ _ _ _ _ _ h1 h2 h3 K⟩
  · have h2 : k0_cond2 (word firstM (tabs m 3) k0_off2 k0_off2_inb (crd hg t)) (word kindM (tabs m 4) k0_off2 k0_off2_inb (crd hg t)) = 1#1 := by
      rw [w2, v2, cond2_eq]; exact ⟨z, k⟩
    have h3 : ¬ k0_cond3 (word firstM (tabs m 3) k0_off3 k0_off3_inb (crd hg t)) (word kindM (tabs m 4) k0_off3 k0_off3_inb (crd hg t)) = 1#1 := by
      rw [w3, v3, cond3_eq, k]; exact fun h => absurd h.2 (by decide)
    exact ⟨_, ⟨t, .inr (by rw [k]; decide), ⟨rfl, rfl⟩, .inr (.inl ⟨k, rfl⟩)⟩, fun K => run_full _ _ _ _ _ _ _ _ _ _ h1 h2 h3 K⟩
  · have h2 : ¬ k0_cond2 (word firstM (tabs m 3) k0_off2 k0_off2_inb (crd hg t)) (word kindM (tabs m 4) k0_off2 k0_off2_inb (crd hg t)) = 1#1 := by
      rw [w2, v2, cond2_eq, k]; exact fun h => absurd h.2 (by decide)
    have h3 : k0_cond3 (word firstM (tabs m 3) k0_off3 k0_off3_inb (crd hg t)) (word kindM (tabs m 4) k0_off3 k0_off3_inb (crd hg t)) = 1#1 := by
      rw [w3, v3, cond3_eq]; exact ⟨z, k⟩
    exact ⟨_, ⟨t, .inr (by rw [k]; decide), ⟨rfl, rfl⟩, .inr (.inr ⟨f, k, y, rfl⟩)⟩, fun K => run_half _ _ _ _ _ _ _ _ _ _ h1 h2 h3 K⟩

set_option maxHeartbeats 4000000 in
/-- The launch's step on what the pipeline hands it. -/
theorem sound_body (c : Dev nD) (t : Fin (cfgA hg).N) :
    iprop((dats hg 0 c).Φ t.castSucc ∗ (dats hg 0 c).owesAt () t.castSucc
        ∗ (∃ d, owns (c : Thread nD τ) (ms0 hg t) fullShare ((dats hg 0 c).before (0 : Fin 3) t d))
        ∗ (∃ d, owns (c : Thread nD τ) (ms1 hg t) fullShare ((dats hg 0 c).before (1 : Fin 3) t d))
        ∗ (∃ Y, ⌜((dats hg 0 c).toRRel fgt (Rl hg c)).Finds (2 : Fin 3) t Y⌝ ∗ owns (c : Thread nD τ) (ms2 hg t) fullShare Y))
      ⊢ wp frame (wpE (defs₀ (F := F)) Variants.none c none) Set.univ
          (body (crd hg t) (ms0 hg t) (hs0 hg t) (ms1 hg t) (hs1 hg t) (ms2 hg t) (hs2 hg t)) fun _ =>
          iprop((dats hg 0 c).Φ t.succ ∗ (dats hg 0 c).owesAt () t.succ
            ∗ owns (c : Thread nD τ) (ms0 hg t) fullShare (rows hg c t)
            ∗ owns (c : Thread nD τ) (ms1 hg t) fullShare (weight hg c t)
            ∗ (∃ X, ⌜Known hg c t X⌝ ∗ owns (c : Thread nD τ) (ms2 hg t) fullShare X)) := by
  simp only [before0, before1]
  rewrite [show (dats hg 0 c).Φ t.succ = Phi hg c t.succ from rfl, show (dats hg 0 c).Φ t.castSucc = Phi hg c t.castSucc from rfl,
    show (dats hg 0 c).owesAt () t.succ = (dats hg 0 c).owesAt () t.castSucc from rfl]
  unfold Phi
  iintro ⟨⟨⟨%a, %ha, HA⟩, HT0, HT1, HT2, HT3, HT4, HP⟩, Ho, ⟨%d0, H0⟩, ⟨%d1, H1⟩, ⟨%Y, %hY, H3⟩⟩
  obtain ⟨y', hk, hrun⟩ := step hg c t Y a (fun n => known_of_finds hg c t n Y hY) (fun n => by
    have ht : t.val ≠ 0 := fun h0 => n (hg.first _ ((coords_pos t).trans h0))
    have hs : t.val = (⟨t.val - 1, by omega⟩ : Fin (cfgA hg).N).val + 1 := by change _ = t.val - 1 + 1; omega
    exact (ha _ hs).trans (congrArg _ (same_weight hg c hs n)))
  iapply hrun
  isplitl [H0 H1 HT3 HT4 H3 HA]
  · unfold held
    isplitl [H0]; · iapply rep_of_owns; iexact H0
    isplitl [H1]; · iapply rep_of_owns; iexact H1
    isplitl [HT3]; · iexact HT3
    isplitl [HT4]; · iexact HT4
    isplitl [H3]; · iexact H3
    iexact HA
  unfold held
  iintro ⟨H0, H1, HT3, HT4, H3, HA⟩
  isplitl [HA HT0 HT1 HT2 HT3 HT4 HP]
  · isplitl [HA]
    · iexists _; isplitr; swap
      · iexact HA
      · ipureintro; intro s hs
        have : t = s := Fin.ext (by have : t.val + 1 = s.val + 1 := hs; omega)
        rw [this]
    isplitl [HT0]; · iexact HT0
    isplitl [HT1]; · iexact HT1
    isplitl [HT2]; · iexact HT2
    isplitl [HT3]; · iexact HT3
    isplitl [HT4]; · iexact HT4
    iexact HP
  isplitl [Ho]; · iexact Ho
  isplitl [H0]; · iapply owns_of_rep; iexact H0
  isplitl [H1]; · iapply owns_of_rep; iexact H1
  iexists y'; isplitr; swap
  · iexact H3
  · ipureintro; exact hk

set_option maxHeartbeats 4000000 in
theorem body_obligation (c : Dev nD) : BodyObligationRel (dats hg 0 c) (defs₀ (F := F)) Variants.none () Set.univ fgt (Rl hg c) :=
  fun t => by rw [bigSep_W0, bigSep_W0]; exact sound_body hg c t

/-! ## The launch -/

abbrev rdat (c : Dev nD) : RDat τ (Elt F) Unit ℕ (UR sig nD τ) ℕ (cfgA hg) c := (dats hg 0 c).toRRel fgt (Rl hg c)

/-- The arrays at the launch. -/
abbrev V (c : Dev nD) (b : Ref sig .tc) : Buf (Elt F) ((c.tc : Thread nD τ).loc b) := m ((c.tc : Thread nD τ).loc b)

theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)
        ∗ (((c : Thread nD τ).loc main_arg3) ↦{q 3} v 3) ∗ (((c : Thread nD τ).loc main_arg4) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

theorem owns_weight (c : Dev nD) (f : Buf (Elt F) (weightM.view.loc (c : Thread nD τ))) :
    ((weightM.view.loc (c : Thread nD τ) ↦{fullShare} f) : sProp 𝕄) ⊢ owns (c : Thread nD τ) weightM fullShare (weightM.view.read (Elt F) f) := by
  unfold owns
  rw [(Memref.isWhole_whole _ : weightM.IsWhole).set_eq_univ]
  iintro H; iexists f; isplitr; swap
  · iexact H
  · ipureintro; exact Eq.refl _
theorem phi_start (c : Dev nD) :
    iprop(Pipeline.ΦA (cfgA hg).spec c ∗ Pipeline.ΦT pre0 (adm hg).1 c) ⊢ (rdat hg c).Φ 0 := by
  change iprop(Pipeline.ΦA (cfgA hg).spec c ∗ Pipeline.ΦT pre0 (adm hg).1 c) ⊢ Phi hg c 0
  unfold Pipeline.ΦA Pipeline.ΦT
  rw [prefHeld_eq, show (Pipeline.scopedRest (cfgA hg).spec c : sProp 𝕄) = Pipeline.scopedRest spec0 c from rfl, scopedRest0_eq]
  unfold Phi
  iintro ⟨⟨⟨%a, HA⟩, HP⟩, HT0, HT1, HT2, HT3, HT4⟩
  isplitl [HA]
  · iexists (weightM.view.read (Elt F) a); isplitr; swap
    · iapply owns_weight; iexact HA
    · ipureintro; intro s hs; exact absurd (show 0 = s.val + 1 from hs) (by omega)
  isplitl [HT0]; · iexact HT0
  isplitl [HT1]; · iexact HT1
  isplitl [HT2]; · iexact HT2
  isplitl [HT3]; · iexact HT3
  isplitl [HT4]; · iexact HT4
  iexact HP

theorem phi_end (c : Dev nD) : (rdat hg c).Φ (Fin.last (cfgA hg).N) ⊢ Pipeline.ΦA (cfgA hg).spec c := by
  change Phi hg c (Fin.last (cfgA hg).N) ⊢ Pipeline.ΦA (cfgA hg).spec c
  unfold Pipeline.ΦA
  rw [show (Pipeline.scopedRest (cfgA hg).spec c : sProp 𝕄) = Pipeline.scopedRest spec0 c from rfl, scopedRest0_eq]
  unfold Phi owns
  rw [(Memref.isWhole_whole _ : weightM.IsWhole).set_eq_univ]
  iintro ⟨⟨%a, -, %f, -, HA⟩, -, -, -, -, -, HP⟩
  isplitr [HP]
  · iexists f; iexact HA
  iexact HP

variable (g : Dev nD → PrngReg)

set_option backward.isDefEq.respectTransparency.types false in
set_option maxHeartbeats 4000000 in
/-- The launch: every array ends at what the steps may leave, every counter at zero. -/
theorem run : θ_run (defs (F := F)) (onTc (τ := τ) (main (F := F))) ⟨m, fun _ => 0, g⟩
    (fun r => RDat.FramePost (cfgA hg) (rdat hg) (V (m := m)) r ∧ r.2.sem = fun _ => 0) :=
  RDat.θ_run_frameP_track pcfgs (fun _ => adm hg) (0 : Fin 1) launch0 defs₀ Variants.none (rdat hg) m g main
    (hbody := fun c => (body_obligation hg c).toRRel) (hshare := fun c w => by change (dats hg 0 c).share w = _; unfold Dat.share; split <;> rfl)
    (howed := fun _ _ => rfl) (V := V (m := m))
    (hmain := Pipeline.hmainP_region pcfgs 0 defs₀ Variants.none m main (fun c => (main_chain c).trans rfl))
    (hA := fun _ _ => rfl) (hpf := fun c k => by fin_cases c; rfl) (hin := phi_start hg) (hout := phi_end hg) (Q' := _)

end Cert.MoeDownIdeal.Step

end
-- ==== Proof.MoeDownValue.lean ====
/- What the run of the experts' second product leaves: its arguments as they were, and each block as the step that stores it left it. -/
module

public import proofs.«01_k».proof.Proof.MoeDownLaunch
public import Idealize.ShloMosaic.Lib.Pipeline.ValueKit
public import Idealize.ShloMosaic.Lib.Pipeline.ArrRel

@[expose] public section

set_option maxRecDepth 16384
set_option Elab.async false

noncomputable section

namespace Cert.MoeDownIdeal.Step

open Cert.MoeDownIdeal Cert.MoeDownIdeal.Gen Cert.Tables
open Idealize.ShloMosaic
open Idealize.ShloMosaic.TcCoe
open Idealize.SL.Sem
open Idealize.ShloMosaic.Pipeline (Dat RDat Cfg Window)

variable {F : FTy → Type} [FloatOps F] {m : (ℓ : Loc nD τ sig) → Buf (Elt F) ℓ} (hg : Good (tabs m))

/-- The arguments end as they were. -/
theorem kept {r : PUnit × MemSt nD τ sig (Elt F)} (h : RDat.FramePost (cfgA hg) (rdat hg) (V (m := m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have k : ∀ b ∈ Pipeline.restRefs sig spec0, r.2.mem ((c.tc : Thread nD τ).loc b) = m ((c.tc : Thread nD τ).loc b) := fun b hb => (h c).2 b hb
  exact ⟨k _ (by decide), k _ (by decide), k _ (by decide), k _ (by decide), k _ (by decide),
    RDat.FramePost.arr_in h c (0 : Fin 3) rfl, RDat.FramePost.arr_in h c (1 : Fin 3) rfl⟩

include hg in
theorem run_kept (g : Dev nD → PrngReg) : θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => kept hg h.1 c, h.2⟩) (run hg g)

/-- Where an entry of a step's block lies. -/
def place (s : Fin (cfgA hg).N) (j : S512x1024.Idx) : S16384x2048.Idx :=
  ix2 ⟨(tm (tabs m) (ix1 (at' hg s))).toNat * 512 + (j 0).val, by have := hg.tile (at' hg s); have : (j 0).val < 512 := (j 0).isLt; omega⟩
    ⟨(tn (tabs m) (ix1 (at' hg s))).toNat * 1024 + (j 1).val, by have := hg.column (at' hg s); have : (j 1).val < 1024 := (j 1).isLt; omega⟩

theorem place_emb (t : Fin (cfgA hg).N) (y : S512x1024.Idx) : (((cfgA hg).win (2 : Fin 3)).rect t).emb y = place hg t y := by
  funext a
  apply Fin.ext
  refine (Window.rect_emb_val _ t y a rfl).trans ?_
  have i := congrFun (out_index (tabs m) (crd hg t)) a
  fin_cases a
  · exact congrArg (· * 512 + (y 0).val) i
  · exact congrArg (· * 1024 + (y 1).val) i

/-- Two entries at one place are one entry of two steps that have one block. -/
theorem place_inj {s t : Fin (cfgA hg).N} {j y : S512x1024.Idx} (e : place hg t y = place hg s j) :
    Same (tn (tabs m)) (tm (tabs m)) (at' hg t) (at' hg s) ∧ y = j := by
  have e0 : (tm (tabs m) (ix1 (at' hg t))).toNat * 512 + (y 0).val = (tm (tabs m) (ix1 (at' hg s))).toNat * 512 + (j 0).val :=
    congrArg (fun i : S16384x2048.Idx => (i 0).val) e
  have e1 : (tn (tabs m) (ix1 (at' hg t))).toNat * 1024 + (y 1).val = (tn (tabs m) (ix1 (at' hg s))).toNat * 1024 + (j 1).val :=
    congrArg (fun i : S16384x2048.Idx => (i 1).val) e
  have y0 : (y 0).val < 512 := (y 0).isLt
  have j0 : (j 0).val < 512 := (j 0).isLt
  have y1 : (y 1).val < 1024 := (y 1).isLt
  have j1 : (j 1).val < 1024 := (j 1).isLt
  refine ⟨⟨BitVec.eq_of_toNat_eq (by omega), BitVec.eq_of_toNat_eq (by omega)⟩, ?_⟩
  funext a
  fin_cases a
  · exact Fin.ext (by change (y 0).val = (j 0).val; omega)
  · exact Fin.ext (by change (y 1).val = (j 1).val; omega)

theorem at_inj {s t : Fin (cfgA hg).N} (e : at' hg s = at' hg t) : s = t :=
  Fin.ext ((coords_pos s).symm.trans ((congrArg Fin.val e).trans (coords_pos t)))

/-- A step's block is written back at the last step that has it. -/
theorem last (s : Fin (cfgA hg).N) :
    ∃ u, ((cfgA hg).win (2 : Fin 3)).flush u = true ∧ Same (tn (tabs m)) (tm (tabs m)) (at' hg u) (at' hg s) := by
  classical
  obtain ⟨u, hu, hmax⟩ := Finset.exists_max_image
    (Finset.univ.filter fun u : Fin (cfgA hg).N => Same (tn (tabs m)) (tm (tabs m)) (at' hg u) (at' hg s)) (fun u => u.val)
    ⟨s, Finset.mem_filter.2 ⟨Finset.mem_univ _, rfl, rfl⟩⟩
  have hu := (Finset.mem_filter.1 hu).2
  refine ⟨u, ?_, hu⟩
  rw [Window.flush_eq_flushOf]
  unfold Window.flushOf
  by_cases hn : u.val + 1 = (cfgA hg).grid.N
  · rw [decide_eq_true hn, Bool.true_or, Bool.and_true]
  have hlt : u.val + 1 < (cfgA hg).grid.N := by have := u.isLt; change u.val < (cfgA hg).grid.N at this; omega
  have : ∃ h : u.val + 1 < (cfgA hg).grid.N, ((cfgA hg).win (2 : Fin 3)).indexMap ((cfgA hg).grid.coords ⟨u.val + 1, h⟩)
      ≠ ((cfgA hg).win (2 : Fin 3)).indexMap ((cfgA hg).grid.coords u) := by
    refine ⟨hlt, fun e => ?_⟩
    have e' : (![(tm (tabs m) (ix1 (at' hg ⟨u.val + 1, hlt⟩))).toNat, (tn (tabs m) (ix1 (at' hg ⟨u.val + 1, hlt⟩))).toNat] : Fin 2 → ℕ)
        = ![(tm (tabs m) (ix1 (at' hg u))).toNat, (tn (tabs m) (ix1 (at' hg u))).toNat] :=
      (out_index (tabs m) (crd hg ⟨u.val + 1, hlt⟩)).symm.trans (e.trans (out_index (tabs m) (crd hg u)))
    have := hmax ⟨u.val + 1, hlt⟩ (Finset.mem_filter.2 ⟨Finset.mem_univ _,
      (BitVec.eq_of_toNat_eq (congrFun e' 0)).trans hu.1, (BitVec.eq_of_toNat_eq (congrFun e' 1)).trans hu.2⟩)
    exact absurd this (by change ¬ u.val + 1 ≤ u.val; omega)
  rw [decide_eq_true this, Bool.or_true, Bool.and_true]

/-- Every entry of a block that a step stores ends as that step left it. -/
theorem read {r : PUnit × MemSt nD τ sig (Elt F)} (h : RDat.FramePost (cfgA hg) (rdat hg) (V (m := m)) r) (c : Dev nD)
    (s : Fin (cfgA hg).N) (hs : Stores (tf (tabs m)) (tk (tabs m)) (at' hg s)) (j : S512x1024.Idx) :
    ∃ X, Wrote hg c s X ∧ r.2.mem ((c.tc : Thread nD τ).loc main_v0) (place hg s j) = X j := by
  obtain ⟨after, hL, hA⟩ := RDat.FramePost.exists_exact h c
  obtain ⟨u, hu, hsame⟩ := last hg s
  have eu : place hg u j = place hg s j := by unfold place; simp only [hsame.1, hsame.2]
  have key := Dat.arrAt_forall_of_flushed ((rdat hg c).withAfter after) (2 : Fin 3)
    (fun i v => ∀ j : S512x1024.Idx, i = place hg s j → ∃ X, Wrote hg c s X ∧ v = X j) (fun t hf y j hj => by
      obtain ⟨hst, rfl⟩ := place_inj hg ((place_emb hg t y).symm.trans hj)
      obtain ⟨s', hs', hsame', hw⟩ := Dat.toRRel_leaves (dats hg 0 c) (w := (2 : Fin 3)) rfl (hL (2 : Fin 3) t hf)
      have : s' = s := at_inj hg (hg.unique hs' hs ⟨hsame'.1.trans hst.1, hsame'.2.trans hst.2⟩)
      subst this
      exact ⟨_, hw, rfl⟩)
    (cfgA hg).N u (place hg s j) u.isLt hu (by
      rw [← eu, ← place_emb]
      exact (((cfgA hg).win (2 : Fin 3)).blk u).view.emb_mem_set j) j rfl
  obtain ⟨X, hX, e⟩ := key
  exact ⟨X, hX, (congrFun (hA (2 : Fin 3)) _).trans e⟩

end Cert.MoeDownIdeal.Step

end
-- ==== Proof.MoeDown.lean ====
/- The experts' second product: the kernel's result and the reference's, where they are claimed, are the product of a row and
   its expert's weights. -/
module

public import proofs.«01_k».proof.Defs
public import proofs.«01_k».proof.Proof.MoeDownValue
public import proofs.«01_k».proof.Proof.MoeDownTables
public import proofs.«01_k».proof.Proof.Experts
public import proofs.«01_k».proof.Proof.Gen.MoeDown
public import proofs.«01_k».proof.Proof.Gen.MoeDownReferenceIdeal.Run
public import proofs.«01_k».proof.Proof.Gen.MoeDownReferenceIdeal.Read
public import Idealize.ShloMosaic.Lib.Pipeline.ValueKit
public import Idealize.ShloMosaic.Lib.Pipeline.Regions
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem

namespace Cert.MoeDownIdeal.Mm

open Cert.MoeDownIdeal Cert.MoeDownIdeal.Gen Cert.MoeDownIdeal.Step Cert.Spec Cert.Product Cert.Experts Cert.Tables Cert.Tables.Down

theorem pay_weight (w : Vec Ideal S1x1x4096x1024 .f32) : k0_pay2 (F := Ideal) w = layer4 w := by
  funext i
  obtain ⟨l, n, rfl⟩ := exists_ix2 i
  pointwise [k0_pay2, k0_pay1]
  rfl

theorem pay_first (w : Vec Ideal S1x1x4096x1024 .f32) (x : Vec Ideal S512x4096 .bf16) :
    k0_pay3 (F := Ideal) w x = mul x (layer4 w) := by
  funext i
  obtain ⟨r, n, rfl⟩ := exists_ix2 i
  pointwise [k0_pay3, k0_pay1]
  rfl

theorem pay_full (w : Vec Ideal S4096x1024 .bf16) (x : Vec Ideal S512x4096 .bf16) : k0_pay4 (F := Ideal) w x = mul x w := by
  funext i
  obtain ⟨r, n, rfl⟩ := exists_ix2 i
  pointwise [k0_pay4]
  rfl

theorem pay_half (w : Vec Ideal S4096x1024 .bf16) (x : Vec Ideal S256x4096 .bf16) : k0_pay5 (F := Ideal) w x = mul x w := by
  funext i
  obtain ⟨r, n, rfl⟩ := exists_ix2 i
  pointwise [k0_pay5]
  rfl

variable {m : (ℓ : Loc nD τ sig) → Buf (Elt Ideal) ℓ} (hg : Good (tabs m)) (c : Dev nD)

/-- What a step leaves in the rows it computes. -/
theorem wrote {s : Fin (cfgA hg).N} {X : S512x1024.Idx → Elt Ideal .bf16} (h : Wrote hg c s X) (r : Fin 512) (n : Fin 1024)
    (hr : tf (tabs m) (ix1 (at' hg s)) = 1#32 ∨ tk (tabs m) (ix1 (at' hg s)) = 1#32 ∨ r.val < 256) :
    X (ix2 r n) = mul (rows hg c s) (layer4 (weight hg c s)) (ix2 r n) := by
  rcases h with ⟨-, e⟩ | ⟨-, e⟩ | ⟨f, k, y, e⟩
  · rw [e, pay_first]
  · rw [e, pay_full, pay_weight]
  · have hr : r.val < 256 := by
      rcases hr with hr | hr | hr
      · exact absurd hr f
      · rw [k] at hr; exact absurd hr (by decide)
      · exact hr
    rw [e, pay_half, pay_weight]
    refine (put_half _ _ r n hr).trans ?_
    have row : ∀ l : Fin 4096, half (rows hg c s) (ix2 ⟨r.val, hr⟩ l) = rows hg c s (ix2 r l) := fun l => by
      refine congrArg (rows hg c s) ?_
      funext a; fin_cases a
      · exact Fin.ext (by change 0 + 1 * r.val = r.val; omega)
      · exact Fin.ext (by change 0 + 1 * l.val = l.val; omega)
    exact Finset.sum_congr rfl fun l _ => congrArg₂ (· * ·) (row l) rfl

abbrev ax : Mat 16384 4096 := m ((c : Thread nD τ).loc main_arg5)
abbrev aw : Bank 4096 2048 := m ((c : Thread nD τ).loc main_arg6)

/-- The entry of the whole product that a step's entry is. -/
theorem placed (s : Fin (cfgA hg).N) (r : Fin 512) (n : Fin 1024) :
    mul (rows hg c s) (layer4 (weight hg c s)) (ix2 r n)
      = mul (ax (m := m) c) (expert (aw (m := m) c) ⟨_, hg.expert (at' hg s)⟩) (place hg s (ix2 r n)) := by
  refine Finset.sum_congr rfl fun l _ => congrArg₂ (· * ·) ?_ ?_
  · exact rows_read hg c s _ _ rfl rfl
  · exact weight_at hg c s _

/-- Where the mask holds, the run leaves the product of the row and its expert's weights. -/
theorem final {r : PUnit × MemSt nD τ sig (Elt Ideal)} (h : Pipeline.RDat.FramePost (cfgA hg) (rdat hg) (V (m := m)) r)
    (p : Fin 16384) (q : Fin 2048) (s : Fin 64) (h1 : (tm (tabs m) (ix1 s)).toNat = p.val / 512) (h2 : (tn (tabs m) (ix1 s)).toNat = q.val / 1024)
    (h3 : tf (tabs m) (ix1 s) = 1#32 ∨ tk (tabs m) (ix1 s) = 1#32 ∨ (tk (tabs m) (ix1 s) = 2#32 ∧ p.val % 512 < 256)) :
    r.2.mem ((c.tc : Thread nD τ).loc main_v0) (ix2 p q)
      = mul (ax (m := m) c) (expert (aw (m := m) c) ⟨_, hg.expert s⟩) (ix2 p q) := by
  obtain ⟨t, rfl⟩ : ∃ t : Fin (cfgA hg).N, at' hg t = s := ⟨⟨s.val, s.isLt⟩, Fin.ext (coords_pos ⟨s.val, s.isLt⟩)⟩
  have st : Stores (tf (tabs m)) (tk (tabs m)) (at' hg t) := by
    rcases h3 with h | h | ⟨h, -⟩
    · exact .inl h
    · exact .inr (by rw [h]; decide)
    · exact .inr (by rw [h]; decide)
  have pl : place hg t (ix2 ⟨p.val % 512, by omega⟩ ⟨q.val % 1024, by omega⟩) = ix2 p q := by
    funext a; fin_cases a
    · exact Fin.ext (by change (tm (tabs m) (ix1 (at' hg t))).toNat * 512 + p.val % 512 = p.val; omega)
    · exact Fin.ext (by change (tn (tabs m) (ix1 (at' hg t))).toNat * 1024 + q.val % 1024 = q.val; omega)
  obtain ⟨X, hX, e⟩ := read hg h c t st (ix2 ⟨p.val % 512, by omega⟩ ⟨q.val % 1024, by omega⟩)
  rw [pl] at e
  rw [e, wrote hg c hX _ _ (h3.imp_right (fun h => h.imp_right (fun h => h.2))), placed, pl]

end Cert.MoeDownIdeal.Mm

namespace Cert.MoeDownReferenceIdeal.Mm

open Cert.MoeDownReferenceIdeal Cert.MoeDownReferenceIdeal.Read Cert.Spec Cert.Product Cert.Experts Cert.Tables Cert.Tables.Down

theorem unit (x : Mat 16384 4096) (w : Bank 4096 2048) (e : Fin 8) (p : Fin 16384) (q : Fin 2048) :
    val_main_v4 (F := Ideal) x w (ix3 e p q) = mul x (expert w e) (ix2 p q) := by
  pointwise [val_main_v4, val_main_v3, val_main_v2, val_main_v1, val_main_v0]
  exact Finset.sum_congr rfl fun l _ => mul_comm _ _

/-- The reference gives a row to an expert when some step does. -/
theorem owned (te tm : Tab 64) (e : Fin 8) (p : Fin 16384) :
    val_main_v23 (F := Ideal) te tm (ix2 e p) = 1#1 ↔ ∃ s : Fin 64, te (ix1 s) = BitVec.ofNat 32 e.val ∧ (tm (ix1 s)).toNat = p.val / 512 := by
  unfold val_main_v23
  rw [or_last _ _ _ _ (by rfl)]
  refine exists_congr fun s => ?_
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_c]
  rw [and_bit, eq_bit, tile_bit _ p.val 512 (by omega) (by decide) (by decide)]

/-- The reference's row, where its tile has a step: the product with that step's expert. -/
theorem result {te tn tm tf tk : Tab 64} (h : Steps 2 te tn tm tf tk) (x : Mat 16384 4096) (w : Bank 4096 2048) (p : Fin 16384) (q : Fin 2048)
    (s : Fin 64) (hs : (tm (ix1 s)).toNat = p.val / 512) :
    val_main_v27 (F := Ideal) te tm x w (ix2 p q)
      = mul x (expert w ⟨_, h.expert s⟩) (ix2 p q) := by
  have own : ∀ e : Fin 8, val_main_v23 (F := Ideal) te tm (ix2 e p) = 1#1 ↔ e = ⟨_, h.expert s⟩ := fun e => by
    rw [owned]; exact owns_iff h e s hs
  have pick : ∀ e : Fin 8, val_main_v25 (F := Ideal) te tm x w (ix3 e p q)
      = if e = ⟨_, h.expert s⟩ then mul x (expert w e) (ix2 p q) else 0 := fun e => by
    have b : val_main_call0_v1 (F := Ideal) te tm (ix3 e p q) = val_main_v23 (F := Ideal) te tm (ix2 e p) := by
      rw [val_main_call0_v1_apply, val_main_v24_apply]
      refine congrArg _ ?_
      funext a; fin_cases a <;> rfl
    rw [val_main_v25_apply, b, unit]
    by_cases o : e = ⟨_, h.expert s⟩
    · rw [if_pos o]; exact if_pos ((own e).2 o)
    · rw [if_neg o]
      refine (if_neg (fun b => o ((own e).1 b))).trans ?_
      pointwise [val_main_call0_v2, val_main_call0_v0, val_main_cst]
      change (constant S_ .f32 0#32 : FVec Ideal S_ .f32) ix0 = 0
      pointwise
  rw [val_main_v27_apply]
  change val_main_v26 (F := Ideal) te tm x w (ix2 p q) = _
  rw [val_main_v26_apply]
  have z : ∀ i, val_main_cst_1 (F := Ideal) i = 0 := fun i => by pointwise [val_main_cst_1]
  have ix : ∀ e : Fin 8, idx_main_v26 (ix2 p q) e = ix3 e p q := fun e => by funext a; fin_cases a <;> rfl
  rw [z, zero_add, Finset.sum_congr rfl fun e _ => (congrArg _ (ix e)).trans (pick e), Finset.sum_ite_eq', if_pos (Finset.mem_univ _)]

/-- The reference leaves its arguments as they are, and declares no semaphore. -/
theorem frame : @Cert.quiescent_MoeDownReferenceIdeal Cert.MoeDownReferenceIdeal.Gen.facts := by
  intro m ρ _
  exact (θ_run Cert.MoeDownReferenceIdeal.defs _ _).mono (fun r h => ⟨fun c => (h c).2, sem_eq_zero_of_no_sems (by decide) r.2⟩)
    (Cert.MoeDownReferenceIdeal.Value.run m ρ)

theorem frame_pre : @Cert.quiescent_MoeDownReferenceIdeal_pre_dispatched_down Cert.MoeDownReferenceIdeal.Gen.facts facts := by
  intro m ρ _
  exact frame m ρ trivial

end Cert.MoeDownReferenceIdeal.Mm

namespace Cert.MoeDownIdeal.Mm

open Cert.MoeDownIdeal.Step Cert.Tables Cert.Tables.Down

theorem frame : @Cert.quiescent_MoeDownIdeal Cert.MoeDownIdeal.Gen.facts facts := by
  intro m g h
  exact run_kept (steps (h 0)) g

theorem algebraic : @Cert.algebraic_MoeDownIdeal_MoeDownReferenceIdeal_on_routed_down Cert.MoeDownIdeal.Gen.facts Cert.MoeDownReferenceIdeal.Gen.facts
    facts mask_facts := by
  intro m g m' g' hp he
  have hg := steps (hp 0)
  refine ⟨fun c => Cert.MoeDownReferenceIdeal.Read.val_main_v27 (F := Ideal) (m ((c.tc : Thread Cert.MoeDownIdeal.nD Cert.MoeDownIdeal.τ).loc Cert.MoeDownIdeal.main_arg0))
      (m ((c.tc : Thread Cert.MoeDownIdeal.nD Cert.MoeDownIdeal.τ).loc Cert.MoeDownIdeal.main_arg2))
      (m ((c.tc : Thread Cert.MoeDownIdeal.nD Cert.MoeDownIdeal.τ).loc Cert.MoeDownIdeal.main_arg5))
      (m ((c.tc : Thread Cert.MoeDownIdeal.nD Cert.MoeDownIdeal.τ).loc Cert.MoeDownIdeal.main_arg6)), ?_, ?_⟩
  · refine (θ_run _ _ _).mono (fun r h c => ⟨fun i hi => ?_, kept hg h.1 c⟩) (run (m := m) hg g)
    obtain ⟨p, q, rfl⟩ := Cert.Product.exists_ix2 i
    obtain ⟨s, h1, h2, h3⟩ := routed p q hi
    obtain rfl : c = 0 := Subsingleton.elim _ _
    exact (final hg 0 h.1 p q s h1 h2 h3).trans (Cert.MoeDownReferenceIdeal.Mm.result hg _ _ p q s h1).symm
  · refine (θ_run _ _ _).mono (fun r h c => ⟨fun i _ => ?_, (h c).2⟩) (Cert.MoeDownReferenceIdeal.Value.run m' g')
    obtain ⟨e0, e1, e2, e3, e4, e5, e6⟩ := he c
    refine (congrFun ((h c).1.trans (Cert.MoeDownReferenceIdeal.Read.val_main_v27_eq _ _ _ _)) i).trans ?_
    rw [e0, e2, e5, e6]

end Cert.MoeDownIdeal.Mm

namespace Cert.MoeDown.Mm

open Cert.MoeDownIdeal.Step Cert.Tables Cert.Tables.Down

set_option maxHeartbeats 2000000 in
/-- The two printed forms of the call run alike. -/
theorem run_eq {F : FTy → Type} [FloatOps F] (m : (ℓ : Loc Cert.MoeDown.nD Cert.MoeDown.τ Cert.MoeDown.sig) → Buf (Elt F) ℓ) (ρ : Dev Cert.MoeDown.nD → PrngReg)
    (Q : PUnit × MemSt Cert.MoeDown.nD Cert.MoeDown.τ Cert.MoeDown.sig (Elt F) → Prop) :
    θ_run (Cert.MoeDown.defs (F := F)) (onTc (τ := Cert.MoeDown.τ) (Cert.MoeDown.main (F := F))) ⟨m, fun _ => 0, ρ⟩ Q
      = θ_run (Cert.MoeDownIdeal.defs (F := F)) (onTc (τ := Cert.MoeDownIdeal.τ) (Cert.MoeDownIdeal.main (F := F))) ⟨m, fun _ => 0, ρ⟩ Q := by
  chain_rfl

theorem frame : @Cert.quiescent_MoeDown Cert.MoeDown.Gen.facts facts := by
  intro m g h
  rw [run_eq]
  exact run_kept (m := m) (steps (h 0)) g

end Cert.MoeDown.Mm

end
-- ==== Proof.SsmDt.lean ====
/- The step sizes of the recurrent mixer, the last columns of its first product: the kernel's result and the reference's are the product of the whole matrices. -/
module

public import proofs.«01_k».proof.Defs
public import proofs.«01_k».proof.Proof.Gen.SsmDtIdeal.Value
public import proofs.«01_k».proof.Proof.Gen.SsmDtReferenceIdeal.Run
public import proofs.«01_k».proof.Proof.Gen.SsmDtReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsmDtIdeal.Mm

open Cert.SsmDtIdeal Cert.SsmDtIdeal.Gen Cert.Spec Cert.Product

variable (m : (ℓ : Loc nD τ sig) → Buf (Elt Ideal) ℓ)

abbrev ax (c : Dev nD) : Mat 6144 2048 := m ((c : Thread nD τ).loc main_arg0)
abbrev aw (c : Dev nD) : Cube 2 2048 10368 := m ((c : Thread nD τ).loc main_arg1)

theorem idx : ∀ t : Fin cfg0.N, win0_0.index t = ![t.val, 0] ∧ win0_1.index t = ![0, 0, 80]
    ∧ win0_2.index t = ![t.val, 0] :=
  (by decide +kernel : ∀ t : Fin grid0.N, _)

theorem t_lt (t : Fin cfg0.N) : t.val < 6 := t.isLt

variable (c : Dev nD) (t : Fin cfg0.N)

theorem pay_held (w : Vec Ideal S1x2048x128 .f32) : k0_pay2 (F := Ideal) w = layer w := by
  funext i
  obtain ⟨l, n, rfl⟩ := exists_ix2 i
  pointwise [k0_pay2, k0_pay1]
  rfl

theorem pay_first (w : Vec Ideal S1x2048x128 .f32) (x : Vec Ideal S1024x2048 .bf16) : k0_pay3 (F := Ideal) w x = mul x (layer w) := by
  funext i
  obtain ⟨r, n, rfl⟩ := exists_ix2 i
  pointwise [k0_pay3, k0_pay1]
  rfl

theorem pay_later (w : Vec Ideal S2048x128 .bf16) (x : Vec Ideal S1024x2048 .bf16) : k0_pay4 (F := Ideal) w x = mul x w := by
  funext i
  obtain ⟨r, n, rfl⟩ := exists_ix2 i
  pointwise [k0_pay4]
  rfl

theorem block : (outsAt0 m c t.val t.isLt).1 = mul (iblk m c 0 t) (layer (iblk m c 1 ⟨6 * (t.val / 6), Pipeline.run_start_lt t⟩)) :=
  carried (outsAt0 m c) 6 (fun t w => mul (iblk m c 0 t) w) (fun t => layer (iblk m c 1 t))
    (fun t h => by rw [outsAt0_A m c t h (by have := t_lt t; omega)]; refine Prod.ext ?_ ?_ <;> funext i <;> frame_out <;> simp only [pay_first, pay_held])
    (fun t h => by rw [outsAt0_B m c t h (by have := t_lt t; omega)]; refine Prod.ext ?_ ?_ <;> funext i <;> frame_out <;> (try simp only [read_unread_whole, pay_later]) <;> rfl) t

/-- The kernel's result array after the run. -/
theorem final : (dats m 0 c).arrAt 2 cfg0.N = fromCol 10240 128 (by decide) (prod (ax m c) (aw m c)) := by
  refine (dats m 0 c).arrAt_eq_of_covers 2 _ (by decide +kernel) fun t hf y => ?_
  have ht := t_lt t
  blk_simp
  rw [after0_2, block]
  obtain ⟨r, n, rfl⟩ : ∃ (r : Fin 1024) (n : Fin 128), y = ix2 r n := exists_ix2 y
  refine mul_eq_fromCol _ _ _ _ _ r n _ (fun l => ?_) (fun l => ?_)
  · blk_ext [iblk, V, idx t]
  · unfold layer
    blk_ext [iblk, V, idx t, idx ⟨6 * (t.val / 6), Pipeline.run_start_lt t⟩]

end Cert.SsmDtIdeal.Mm

namespace Cert.SsmDtReferenceIdeal.Mm

open Cert.SsmDtReferenceIdeal Cert.SsmDtReferenceIdeal.Read Cert.Spec Cert.Product

theorem result (x : Mat 6144 2048) (w : Cube 2 2048 10368) :
    val_main_v4 (F := Ideal) x w = fromCol 10240 128 (by decide) (prod x (w : Cube 2 2048 10368)) := by
  funext i
  obtain ⟨r, n, rfl⟩ := exists_ix2 i
  pointwise [val_main_v4, val_main_v3, val_main_v2, val_main_v1, val_main_v0]
  rfl

/-- The reference leaves its arguments as they are, and declares no semaphore. -/
theorem frame : @Cert.quiescent_SsmDtReferenceIdeal Cert.SsmDtReferenceIdeal.Gen.facts := by
  intro m ρ _
  exact (θ_run Cert.SsmDtReferenceIdeal.defs _ _).mono (fun r h => ⟨fun c => (h c).2, sem_eq_zero_of_no_sems (by decide) r.2⟩)
    (Cert.SsmDtReferenceIdeal.Value.run m ρ)

theorem algebraic : @Cert.algebraic_SsmDtIdeal_SsmDtReferenceIdeal Cert.SsmDtIdeal.Gen.facts Cert.SsmDtReferenceIdeal.Gen.facts := by
  intro m g m' g' _ he
  refine ⟨fun c => _, (θ_run _ _ _).mono (fun r h c => ⟨(h c).1.trans (Cert.SsmDtIdeal.Mm.final m c), (h c).2⟩)
    (Cert.SsmDtIdeal.Value.run_blocks m g), ?_⟩
  refine (θ_run _ _ _).mono (fun r h c => ⟨((h c).1.trans (val_main_v4_eq _ _)).trans ?_, (h c).2⟩) (Cert.SsmDtReferenceIdeal.Value.run m' g')
  obtain ⟨e0, e1⟩ := he c
  rw [e0, e1]
  exact result _ _

end Cert.SsmDtReferenceIdeal.Mm

end
-- ==== Proof.Norm.lean ====
/- The root mean square norm of a matrix's rows, with a gain per column. -/
module

public import proofs.«01_k».proof.Proof.Product

@[expose] public section

noncomputable section

open Idealize.ShloMosaic
open scoped BigOperators

namespace Cert.Norm

open Cert.Spec Cert.Product

/-- What is added to the mean of the squares: the literal of all the programs. -/
def eps : EReal := Ideal.ofBits .f32 0x3727C5AC#32

/-- An entry of a row of `b` entries whose norm is wanted; `d` is the literal for `b`. -/
def normed {b : ℕ} (d : EReal) (x : Fin b → EReal) (w : EReal) (n : Fin b) : EReal :=
  x n * Ideal.rsqrt (Ideal.div (∑ l, x l * x l) d + eps) * w

theorem normed_congr {b : ℕ} {d : EReal} {x X : Fin b → EReal} {w W : EReal} {n N : Fin b} (hx : ∀ l, x l = X l) (hw : w = W) (hn : n = N) :
    normed d x w n = normed d X W N := by
  rw [funext hx, hw, hn]

/-- The recurrent mixer's gate. -/
def gate (y z : EReal) : EReal := y * (z * Ideal.logistic z)

end Cert.Norm

end
-- ==== Proof.GateNorm.lean ====
/- The recurrent mixer's gate and norm: the kernel's result and the reference's are one formula of the arguments. -/
module

public import proofs.«01_k».proof.Defs
public import proofs.«01_k».proof.Proof.Gen.GateNormIdeal.Value
public import proofs.«01_k».proof.Proof.Gen.GateNormReferenceIdeal.Run
public import proofs.«01_k».proof.Proof.Gen.GateNormReferenceIdeal.Read
public import proofs.«01_k».proof.Proof.Norm
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Norm

open Cert.Spec

/-- The rows `y * silu z`, normed, with the first of the two layers' gains. -/
def gated {a : ℕ} (y z : Mat a 4096) (w : Mat 2 4096) : Mat a 4096 := fun i =>
  normed (Ideal.ofBits .f32 0x45800000#32) (fun l => gate (y (ix2 (i 0) l)) (z (ix2 (i 0) l))) (w (ix2 0 (i 1))) (i 1)

end Cert.Norm

namespace Cert.GateNormIdeal.Mm

open Cert.GateNormIdeal Cert.GateNormIdeal.Gen Cert.Spec Cert.Product

variable (m : (ℓ : Loc nD τ sig) → Buf (Elt Ideal) ℓ)

abbrev ay (c : Dev nD) : Mat 6144 4096 := m ((c : Thread nD τ).loc main_arg0)
abbrev az (c : Dev nD) : Mat 6144 4096 := m ((c : Thread nD τ).loc main_arg1)
abbrev aw (c : Dev nD) : Mat 2 4096 := m ((c : Thread nD τ).loc main_arg2)

theorem idx : ∀ t : Fin cfg0.N, win0_0.index t = ![t.val, 0] ∧ win0_1.index t = ![t.val, 0] ∧ win0_2.index t = ![0, 0, 0]
    ∧ win0_3.index t = ![t.val, 0] :=
  (by decide +kernel : ∀ t : Fin grid0.N, _)

theorem t_lt (t : Fin cfg0.N) : t.val < 12 := t.isLt

variable (c : Dev nD) (t : Fin cfg0.N)

theorem gains (l : Fin 4096) : (V m c main_v0 (ix3 0 0 l) : EReal) = aw m c (ix2 0 l) := by
  entry_read
  pointwise

theorem y_block (r : Fin 512) (l : Fin 4096) : (iblk m c 0 t (ix2 r l) : EReal) = ay m c (ix2 ⟨t.val * 512 + r.val, by have := t_lt t; omega⟩ l) := by
  blk_ext [iblk, V, idx t]

theorem z_block (r : Fin 512) (l : Fin 4096) : (iblk m c 1 t (ix2 r l) : EReal) = az m c (ix2 ⟨t.val * 512 + r.val, by have := t_lt t; omega⟩ l) := by
  blk_ext [iblk, V, idx t]

theorem w_block (l : Fin 4096) : (iblk m c 2 t (ix3 0 0 l) : EReal) = aw m c (ix2 0 l) := by
  refine Eq.trans ?_ (gains m c l)
  blk_ext [iblk, idx t]

theorem pay (y z : Vec Ideal S512x4096 .bf16) (w : Vec Ideal S1x1x4096 .f32) (r : Fin 512) (n : Fin 4096) :
    k0_pay1 (F := Ideal) y z w (ix2 r n) = Norm.normed (Ideal.ofBits .f32 0x45800000#32)
      (fun l => Norm.gate (y (ix2 r l)) (z (ix2 r l))) (w (ix3 0 0 n)) n := by
  pointwise [k0_pay1]
  rfl

/-- The kernel's result array after the run. -/
theorem final : (dats m 0 c).arrAt 3 cfg0.N = Norm.gated (ay m c) (az m c) (aw m c) := by
  refine (dats m 0 c).arrAt_eq_of_covers 3 _ (by decide +kernel) fun t hf y => ?_
  have ht := t_lt t
  blk_simp
  rw [after0_3]
  obtain ⟨r, n, rfl⟩ : ∃ (r : Fin 512) (n : Fin 4096), y = ix2 r n := exists_ix2 y
  unfold out0_3
  frame_out
  rw [pay, show ((View.whole main_v1).slice (win0_3.rect t)).emb (ix2 r n) = ix2 (⟨t.val * 512 + r.val, by omega⟩ : Fin 6144) n by
    blk_ext [idx t]]
  exact Norm.normed_congr (fun l => by rw [y_block, z_block]; rfl) (w_block m c t n) rfl

end Cert.GateNormIdeal.Mm

namespace Cert.GateNormReferenceIdeal.Mm

open Cert.GateNormReferenceIdeal Cert.GateNormReferenceIdeal.Read Cert.Spec Cert.Product

theorem result (y z : Mat 6144 4096) (w : Mat 2 4096) :
    val_main_v19 (F := Ideal) y z w = Norm.gated y z w := by
  funext i
  obtain ⟨r, n, rfl⟩ := exists_ix2 i
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_call0_v5,
    val_main_call0_v4, val_main_call0_v3, val_main_call0_v2, val_main_call0_v1, val_main_call0_v0, val_main_call0_cst,
    val_main_call0_cst_0]
  rfl

/-- The reference leaves its arguments as they are, and declares no semaphore. -/
theorem frame : @Cert.quiescent_GateNormReferenceIdeal Cert.GateNormReferenceIdeal.Gen.facts := by
  intro m ρ _
  exact (θ_run Cert.GateNormReferenceIdeal.defs _ _).mono (fun r h => ⟨fun c => (h c).2, sem_eq_zero_of_no_sems (by decide) r.2⟩)
    (Cert.GateNormReferenceIdeal.Value.run m ρ)

theorem algebraic : @Cert.algebraic_GateNormIdeal_GateNormReferenceIdeal Cert.GateNormIdeal.Gen.facts Cert.GateNormReferenceIdeal.Gen.facts := by
  intro m g m' g' _ he
  refine ⟨fun c => _, (θ_run _ _ _).mono (fun r h c => ⟨(h c).1.trans (Cert.GateNormIdeal.Mm.final m c), (h c).2⟩)
    (Cert.GateNormIdeal.Value.run_blocks m g), ?_⟩
  refine (θ_run _ _ _).mono (fun r h c => ⟨((h c).1.trans (val_main_v19_eq _ _ _)).trans ?_, (h c).2⟩) (Cert.GateNormReferenceIdeal.Value.run m' g')
  obtain ⟨e0, e1, e2⟩ := he c
  rw [e0, e1, e2]
  exact result _ _ _

end Cert.GateNormReferenceIdeal.Mm

end
-- ==== Proof.Caches.lean ====
/- The split of the mixer's first product in both layers, with its two norms and the stacking of what the prompts keep:
   the kernel's results and the reference's are the same formulas of the arguments. The program runs two calls with
   operations of the host before, between and after them, so the contents are carried from one to the next here. -/
module

public import proofs.«01_k».proof.Defs
public import proofs.«01_k».proof.Proof.Gen.CachesIdeal.Frame
public import proofs.«01_k».proof.Proof.Gen.CachesReferenceIdeal.Run
public import proofs.«01_k».proof.Proof.Gen.CachesReferenceIdeal.Read
public import proofs.«01_k».proof.Proof.Norm
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.Norm

open Cert.Spec

/-- The columns of the latent queries, normed with layer `j`'s gains. -/
def queries (j : Fin 2) (p : Mat 6144 1600) (w : Mat 2 768) : Mat 6144 768 := fun i =>
  normed (Ideal.ofBits .f32 0x44400000#32) (fun l : Fin 768 => p (ix2 (i 0) ⟨512 + l.val, by omega⟩)) (w (ix2 j (i 1))) (i 1)

/-- The columns of the latent keys, normed with layer `j`'s gains. -/
def latents (j : Fin 2) (p : Mat 6144 1600) (w : Mat 2 256) : Mat 6144 256 := fun i =>
  normed (Ideal.ofBits .f32 0x43800000#32) (fun l : Fin 256 => p (ix2 (i 0) ⟨1280 + l.val, by omega⟩)) (w (ix2 j (i 1))) (i 1)

/-- The columns of the rotary keys. -/
def rotary (p : Mat 6144 1600) : Mat 6144 64 := fun i => p (ix2 (i 0) ⟨1536 + (i 1).val, by have := (i 1).isLt; simp at this; omega⟩)

end Cert.Norm

namespace Cert.CachesIdeal.Mm

open Cert.CachesIdeal Cert.CachesIdeal.Gen Cert.Spec Cert.Product

/-- The prompts' rows of two layers' latent keys, one layer beside the other. -/
def stackL (a b : Mat 6144 256) : (⟨S16x2x256x256, .f32⟩ : BufTy).Contents (Elt Ideal) :=
  concatenate S16x2x256x256 1
    [⟨S16x1x256x256, broadcastInDim S16x1x256x256 ![0, 2, 3] bcast_S16x256x256_S16x1x256x256_0_2_3
        (shapeCast S16x256x256 (extractStridedSlice S4096x256 ![0, 0] a slices_S6144x256_S4096x256_0_0) shapeCasts_S4096x256_S16x256x256)⟩,
     ⟨S16x1x256x256, broadcastInDim S16x1x256x256 ![0, 2, 3] bcast_S16x256x256_S16x1x256x256_0_2_3
        (shapeCast S16x256x256 (extractStridedSlice S4096x256 ![0, 0] b slices_S6144x256_S4096x256_0_0) shapeCasts_S4096x256_S16x256x256)⟩]
    concatenates_S16x1x256x256_S16x1x256x256_S16x2x256x256_d1

/-- The prompts' rows of two layers' rotary keys, one layer beside the other. -/
def stackR (a b : Mat 6144 64) : (⟨S16x2x256x64, .f32⟩ : BufTy).Contents (Elt Ideal) :=
  concatenate S16x2x256x64 1
    [⟨S16x1x256x64, broadcastInDim S16x1x256x64 ![0, 2, 3] bcast_S16x256x64_S16x1x256x64_0_2_3
        (shapeCast S16x256x64 (extractStridedSlice S4096x64 ![0, 0] a slices_S6144x64_S4096x64_0_0) shapeCasts_S4096x64_S16x256x64)⟩,
     ⟨S16x1x256x64, broadcastInDim S16x1x256x64 ![0, 2, 3] bcast_S16x256x64_S16x1x256x64_0_2_3
        (shapeCast S16x256x64 (extractStridedSlice S4096x64 ![0, 0] b slices_S6144x64_S4096x64_0_0) shapeCasts_S4096x64_S16x256x64)⟩]
    concatenates_S16x1x256x64_S16x1x256x64_S16x2x256x64_d1

/-- Some columns of a block, read. -/
theorem ld_cols {o k : ℕ} (h : ∀ a, (![0, o] : Fin 2 → ℕ) a + (⟨2, ![512, k]⟩ : Shape).size a ≤ S512x1600.size a) (hk : o + k ≤ 1600)
    (X : Vec Ideal S512x1600 .f32) (r : Fin 512) (l : Fin k) :
    View.ld X (Rect.unit (s := S512x1600) ![0, o] (⟨2, ![512, k]⟩ : Shape).size h) (ix2 r l) = X (ix2 r ⟨o + l.val, by omega⟩) := by
  refine congrArg X ?_
  funext a
  match a with
  | ⟨0, _⟩ => exact Fin.ext (by show 0 + 1 * r.val = r.val; omega)
  | ⟨1, _⟩ => exact Fin.ext (by show o + 1 * l.val = o + l.val; omega)

theorem payQ (p : Vec Ideal S512x768 .f32) (w : Vec Ideal S1x1x768 .f32) (r : Fin 512) (n : Fin 768) :
    k0_pay1 (F := Ideal) p w (ix2 r n) = Norm.normed (Ideal.ofBits .f32 0x44400000#32) (fun l => p (ix2 r l)) (w (ix3 0 0 n)) n := by
  pointwise [k0_pay1]
  rfl

theorem payL (p : Vec Ideal S512x256 .f32) (w : Vec Ideal S1x1x256 .f32) (r : Fin 512) (n : Fin 256) :
    k0_pay2 (F := Ideal) p w (ix2 r n) = Norm.normed (Ideal.ofBits .f32 0x43800000#32) (fun l => p (ix2 r l)) (w (ix3 0 0 n)) n := by
  pointwise [k0_pay2]
  rfl

theorem pay1 : k1_pay1 (F := Ideal) = k0_pay1 := rfl
theorem pay2 : k1_pay2 (F := Ideal) = k0_pay2 := rfl

section Regions

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] :=
  (by decide +kernel : ∀ t : Fin grid0.N, _)

theorem idx1 : ∀ t : Fin cfg1.N, win1_0.index t = ![t.val, 0] ∧ win1_1.index t = ![1, 0, 0] ∧ win1_2.index t = ![1, 0, 0]
    ∧ win1_3.index t = ![t.val, 0] ∧ win1_4.index t = ![t.val, 0] ∧ win1_5.index t = ![t.val, 0] :=
  (by decide +kernel : ∀ t : Fin grid1.N, _)

theorem t0_lt (t : Fin cfg0.N) : t.val < 12 := t.isLt
theorem t1_lt (t : Fin cfg1.N) : t.val < 12 := t.isLt

theorem p_block0 (t : Fin cfg0.N) (r : Fin 512) (l : Fin 1600) :
    (iblk0 V c 0 t (ix2 r l) : EReal) = (V c main_arg0 : Mat 6144 1600) (ix2 ⟨t.val * 512 + r.val, by have := t0_lt t; omega⟩ l) := by
  blk_ext [iblk0, idx0 t]

theorem q_block0 (t : Fin cfg0.N) (l : Fin 768) :
    (iblk0 V c 1 t (ix3 0 0 l) : EReal) = (V c main_v0 : Cube 2 1 768) (ix3 0 0 l) := by
  blk_ext [iblk0, idx0 t]

theorem l_block0 (t : Fin cfg0.N) (l : Fin 256) :
    (iblk0 V c 2 t (ix3 0 0 l) : EReal) = (V c main_v1 : Cube 2 1 256) (ix3 0 0 l) := by
  blk_ext [iblk0, idx0 t]

theorem p_block1 (t : Fin cfg1.N) (r : Fin 512) (l : Fin 1600) :
    (iblk1 V c 0 t (ix2 r l) : EReal) = (V c main_arg1 : Mat 6144 1600) (ix2 ⟨t.val * 512 + r.val, by have := t1_lt t; omega⟩ l) := by
  blk_ext [iblk1, idx1 t]

theorem q_block1 (t : Fin cfg1.N) (l : Fin 768) :
    (iblk1 V c 1 t (ix3 0 0 l) : EReal) = (V c main_v3 : Cube 2 1 768) (ix3 1 0 l) := by
  blk_ext [iblk1, idx1 t]

theorem l_block1 (t : Fin cfg1.N) (l : Fin 256) :
    (iblk1 V c 2 t (ix3 0 0 l) : EReal) = (V c main_v4 : Cube 2 1 256) (ix3 1 0 l) := by
  blk_ext [iblk1, idx1 t]

/-- The first call's latent queries after it, when the gains it finds are layer 0's. -/
theorem q0 (w : Mat 2 768) (hw : ∀ l, (V c main_v0 : Cube 2 1 768) (ix3 0 0 l) = w (ix2 0 l)) :
    (dat0 V c).arrAt 3 cfg0.N = Norm.queries 0 (V c main_arg0) w := by
  refine (dat0 V c).arrAt_eq_of_covers 3 _ (by decide +kernel) fun t hf y => ?_
  have ht := t0_lt t
  blk_simp
  rw [after0_3]
  obtain ⟨r, n, rfl⟩ : ∃ (r : Fin 512) (n : Fin 768), y = ix2 r n := exists_ix2 y
  unfold out0_3
  frame_out
  rw [payQ, show ((View.whole main_v2_0).slice (win0_3.rect t)).emb (ix2 r n) = ix2 (⟨t.val * 512 + r.val, by omega⟩ : Fin 6144) n by
    blk_ext [idx0 t]]
  exact Norm.normed_congr (fun l => (ld_cols _ (by omega) _ r l).trans (p_block0 V c t r _)) ((q_block0 V c t n).trans (hw n)) rfl

/-- The first call's latent keys after it, when the gains it finds are layer 0's. -/
theorem l0 (w : Mat 2 256) (hw : ∀ l, (V c main_v1 : Cube 2 1 256) (ix3 0 0 l) = w (ix2 0 l)) :
    (dat0 V c).arrAt 4 cfg0.N = Norm.latents 0 (V c main_arg0) w := by
  refine (dat0 V c).arrAt_eq_of_covers 4 _ (by decide +kernel) fun t hf y => ?_
  have ht := t0_lt t
  blk_simp
  rw [after0_4]
  obtain ⟨r, n, rfl⟩ : ∃ (r : Fin 512) (n : Fin 256), y = ix2 r n := exists_ix2 y
  unfold out0_4
  frame_out
  rw [payL, show ((View.whole main_v2_1).slice (win0_4.rect t)).emb (ix2 r n) = ix2 (⟨t.val * 512 + r.val, by omega⟩ : Fin 6144) n by
    blk_ext [idx0 t]]
  exact Norm.normed_congr (fun l => (ld_cols _ (by omega) _ r l).trans (p_block0 V c t r _)) ((l_block0 V c t n).trans (hw n)) rfl

/-- The first call's rotary keys after it. -/
theorem r0 : (dat0 V c).arrAt 5 cfg0.N = Norm.rotary (V c main_arg0) := by
  refine (dat0 V c).arrAt_eq_of_covers 5 _ (by decide +kernel) fun t hf y => ?_
  have ht := t0_lt t
  blk_simp
  rw [after0_5]
  obtain ⟨r, n, rfl⟩ : ∃ (r : Fin 512) (n : Fin 64), y = ix2 r n := exists_ix2 y
  unfold out0_5
  frame_out
  rw [show ((View.whole main_v2_2).slice (win0_5.rect t)).emb (ix2 r n) = ix2 (⟨t.val * 512 + r.val, by omega⟩ : Fin 6144) n by
    blk_ext [idx0 t]]
  exact (ld_cols _ (by omega) _ r n).trans (p_block0 V c t r _)

/-- The second call's latent queries after it, when the gains it finds are layer 1's. -/
theorem q1 (w : Mat 2 768) (hw : ∀ l, (V c main_v3 : Cube 2 1 768) (ix3 1 0 l) = w (ix2 1 l)) :
    (dat1 V c).arrAt 3 cfg1.N = Norm.queries 1 (V c main_arg1) w := by
  refine (dat1 V c).arrAt_eq_of_covers 3 _ (by decide +kernel) fun t hf y => ?_
  have ht := t1_lt t
  blk_simp
  rw [after1_3]
  obtain ⟨r, n, rfl⟩ : ∃ (r : Fin 512) (n : Fin 768), y = ix2 r n := exists_ix2 y
  unfold out1_3
  frame_out
  rw [pay1, payQ, show ((View.whole main_v5_0).slice (win1_3.rect t)).emb (ix2 r n) = ix2 (⟨t.val * 512 + r.val, by omega⟩ : Fin 6144) n by
    blk_ext [idx1 t]]
  exact Norm.normed_congr (fun l => (ld_cols _ (by omega) _ r l).trans (p_block1 V c t r _)) ((q_block1 V c t n).trans (hw n)) rfl

/-- The second call's latent keys after it, when the gains it finds are layer 1's. -/
theorem l1 (w : Mat 2 256) (hw : ∀ l, (V c main_v4 : Cube 2 1 256) (ix3 1 0 l) = w (ix2 1 l)) :
    (dat1 V c).arrAt 4 cfg1.N = Norm.latents 1 (V c main_arg1) w := by
  refine (dat1 V c).arrAt_eq_of_covers 4 _ (by decide +kernel) fun t hf y => ?_
  have ht := t1_lt t
  blk_simp
  rw [after1_4]
  obtain ⟨r, n, rfl⟩ : ∃ (r : Fin 512) (n : Fin 256), y = ix2 r n := exists_ix2 y
  unfold out1_4
  frame_out
  rw [pay2, payL, show ((View.whole main_v5_1).slice (win1_4.rect t)).emb (ix2 r n) = ix2 (⟨t.val * 512 + r.val, by omega⟩ : Fin 6144) n by
    blk_ext [idx1 t]]
  exact Norm.normed_congr (fun l => (ld_cols _ (by omega) _ r l).trans (p_block1 V c t r _)) ((l_block1 V c t n).trans (hw n)) rfl

/-- The second call's rotary keys after it. -/
theorem r1 : (dat1 V c).arrAt 5 cfg1.N = Norm.rotary (V c main_arg1) := by
  refine (dat1 V c).arrAt_eq_of_covers 5 _ (by decide +kernel) fun t hf y => ?_
  have ht := t1_lt t
  blk_simp
  rw [after1_5]
  obtain ⟨r, n, rfl⟩ : ∃ (r : Fin 512) (n : Fin 64), y = ix2 r n := exists_ix2 y
  unfold out1_5
  frame_out
  rw [show ((View.whole main_v5_2).slice (win1_5.rect t)).emb (ix2 r n) = ix2 (⟨t.val * 512 + r.val, by omega⟩ : Fin 6144) n by
    blk_ext [idx1 t]]
  exact (ld_cols _ (by omega) _ r n).trans (p_block1 V c t r _)

end Regions

variable (m : (ℓ : Loc nD τ sig) → Buf (Elt Ideal) ℓ) (ρ : Dev nD → PrngReg) (c : Dev nD)

abbrev a0 : Mat 6144 1600 := m ((c : Thread nD τ).loc main_arg0)
abbrev a1 : Mat 6144 1600 := m ((c : Thread nD τ).loc main_arg1)
abbrev wq : Mat 2 768 := m ((c : Thread nD τ).loc main_arg2)
abbrev wl : Mat 2 256 := m ((c : Thread nD τ).loc main_arg3)

/-! ## The gains as the host hands them over -/

theorem gainsQ0 (l : Fin 768) : (V1 m ρ c main_v0 : Cube 2 1 768) (ix3 0 0 l) = wq m c (ix2 0 l) := by
  have e : (W1 m ρ c (Proc.devRef .tc main_v0) : Cube 2 1 768) = shapeCast S2x1x768 (wq m c) shapeCasts_S2x768_S2x1x768 := by after_results_simp <;> rfl
  refine (congrFun e _).trans ?_
  pointwise

theorem gainsL0 (l : Fin 256) : (V1 m ρ c main_v1 : Cube 2 1 256) (ix3 0 0 l) = wl m c (ix2 0 l) := by
  have e : (W1 m ρ c (Proc.devRef .tc main_v1) : Cube 2 1 256) = shapeCast S2x1x256 (wl m c) shapeCasts_S2x256_S2x1x256 := by after_results_simp <;> rfl
  refine (congrFun e _).trans ?_
  pointwise

theorem gainsQ1 (l : Fin 768) : (V3 m ρ c main_v3 : Cube 2 1 768) (ix3 1 0 l) = wq m c (ix2 1 l) := by
  have e : (W3 m ρ c (Proc.devRef .tc main_v3) : Cube 2 1 768) = shapeCast S2x1x768 (W2 m ρ c (Proc.devRef .tc main_arg2)) shapeCasts_S2x768_S2x1x768 := by
    after_results_simp <;> rfl
  rw [W2_args m ρ c main_arg2 (by decide)] at e
  refine (congrFun e _).trans ?_
  pointwise

theorem gainsL1 (l : Fin 256) : (V3 m ρ c main_v4 : Cube 2 1 256) (ix3 1 0 l) = wl m c (ix2 1 l) := by
  have e : (W3 m ρ c (Proc.devRef .tc main_v4) : Cube 2 1 256) = shapeCast S2x1x256 (W2 m ρ c (Proc.devRef .tc main_arg3)) shapeCasts_S2x256_S2x1x256 := by
    after_results_simp <;> rfl
  rw [W2_args m ρ c main_arg3 (by decide)] at e
  refine (congrFun e _).trans ?_
  pointwise

/-! ## What the run leaves -/

/-- What the first call leaves is there after the second. -/
theorem keep {r : Ref sig .tc} (h1 : r ∉ hostOps1_W) (h : ∀ w : Fin cfg1.W, Pipeline.arrRef spec1 w = r → (cfg1.win w).isOut = false) :
    W4 m ρ c (Proc.devRef .tc r) = W2 m ρ c (Proc.devRef .tc r) :=
  (W4_of m ρ c r h).trans (W3_of m ρ c r h1)

theorem atQ0 : W4 m ρ c (Proc.devRef .tc main_v2_0) = Norm.queries 0 (a0 m c) (wq m c) := by
  refine (keep m ρ c (by decide) (by decide)).trans ((W2_arr m ρ c 3).trans ((q0 (V1 m ρ) c (wq m c) (gainsQ0 m ρ c)).trans ?_))
  exact congrArg (Norm.queries 0 · (wq m c)) (W1_args m ρ c main_arg0 (by decide))

theorem atL0 : W4 m ρ c (Proc.devRef .tc main_v2_1) = Norm.latents 0 (a0 m c) (wl m c) := by
  refine (keep m ρ c (by decide) (by decide)).trans ((W2_arr m ρ c 4).trans ((l0 (V1 m ρ) c (wl m c) (gainsL0 m ρ c)).trans ?_))
  exact congrArg (Norm.latents 0 · (wl m c)) (W1_args m ρ c main_arg0 (by decide))

theorem atR0 : W4 m ρ c (Proc.devRef .tc main_v2_2) = Norm.rotary (a0 m c) := by
  refine (keep m ρ c (by decide) (by decide)).trans ((W2_arr m ρ c 5).trans ((r0 (V1 m ρ) c).trans ?_))
  exact congrArg Norm.rotary (W1_args m ρ c main_arg0 (by decide))

theorem atQ1 : W4 m ρ c (Proc.devRef .tc main_v5_0) = Norm.queries 1 (a1 m c) (wq m c) := by
  refine (W4_arr m ρ c 3).trans ((q1 (V3 m ρ) c (wq m c) (gainsQ1 m ρ c)).trans ?_)
  exact congrArg (Norm.queries 1 · (wq m c)) (W3_args m ρ c main_arg1 (by decide))

theorem atL1 : W4 m ρ c (Proc.devRef .tc main_v5_1) = Norm.latents 1 (a1 m c) (wl m c) := by
  refine (W4_arr m ρ c 4).trans ((l1 (V3 m ρ) c (wl m c) (gainsL1 m ρ c)).trans ?_)
  exact congrArg (Norm.latents 1 · (wl m c)) (W3_args m ρ c main_arg1 (by decide))

theorem atR1 : W4 m ρ c (Proc.devRef .tc main_v5_2) = Norm.rotary (a1 m c) := by
  refine (W4_arr m ρ c 5).trans ((r1 (V3 m ρ) c).trans ?_)
  exact congrArg Norm.rotary (W3_args m ρ c main_arg1 (by decide))

theorem atS : W5 m ρ c (Proc.devRef .tc main_v16)
    = stackL (Norm.latents 0 (a0 m c) (wl m c)) (Norm.latents 1 (a1 m c) (wl m c)) := by
  rw [← atL0 m ρ c, ← atL1 m ρ c]
  after_results_simp <;> rfl

theorem atT : W5 m ρ c (Proc.devRef .tc main_v19) = stackR (Norm.rotary (a0 m c)) (Norm.rotary (a1 m c)) := by
  rw [← atR0 m ρ c, ← atR1 m ρ c]
  after_results_simp <;> rfl

end Cert.CachesIdeal.Mm

namespace Cert.CachesIdeal.Run

open Cert.CachesIdeal Cert.CachesIdeal.Gen
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run: every buffer that outlives the calls ends with the contents carried to the last boundary. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.CachesIdeal.Run

namespace Cert.CachesReferenceIdeal.Mm

open Cert.CachesReferenceIdeal Cert.CachesReferenceIdeal.Read Cert.Spec Cert.Product

theorem resultQ0 (p : Mat 6144 1600) (w : Mat 2 768) : val_main_v21 (F := Ideal) p w = Norm.queries 0 p w := by
  funext i
  obtain ⟨r, n, rfl⟩ := exists_ix2 i
  pointwise [val_main_v21, val_main_v20, val_main_v19, val_main_v18, val_main_v17, val_main_v16, val_main_v15, val_main_v14,
    val_main_v13, val_main_v12, val_main_v11, val_main_v10, val_main_v9, val_main_v8, val_main_v5, val_main_v1, val_main_v0,
    val_main_cst, val_main_cst_0, val_main_cst_1]
  rfl

theorem resultL0 (p : Mat 6144 1600) (w : Mat 2 256) : val_main_v34 (F := Ideal) p w = Norm.latents 0 p w := by
  funext i
  obtain ⟨r, n, rfl⟩ := exists_ix2 i
  pointwise [val_main_v34, val_main_v33, val_main_v32, val_main_v31, val_main_v30, val_main_v29, val_main_v28, val_main_v27,
    val_main_v26, val_main_v25, val_main_v24, val_main_v23, val_main_v22, val_main_v6, val_main_v3, val_main_v2,
    val_main_cst_2, val_main_cst_3, val_main_cst_4]
  rfl

theorem resultR0 (p : Mat 6144 1600) : val_main_v7 (F := Ideal) p = Norm.rotary p := by
  funext i
  obtain ⟨r, n, rfl⟩ := exists_ix2 i
  pointwise [val_main_v7]
  rfl

theorem resultQ1 (p : Mat 6144 1600) (w : Mat 2 768) : val_main_v56 (F := Ideal) p w = Norm.queries 1 p w := by
  funext i
  obtain ⟨r, n, rfl⟩ := exists_ix2 i
  pointwise [val_main_v56, val_main_v55, val_main_v54, val_main_v53, val_main_v52, val_main_v51, val_main_v50, val_main_v49,
    val_main_v48, val_main_v47, val_main_v46, val_main_v45, val_main_v44, val_main_v43, val_main_v40, val_main_v36, val_main_v35,
    val_main_cst_5, val_main_cst_6, val_main_cst_7]
  rfl

theorem resultL1 (p : Mat 6144 1600) (w : Mat 2 256) : val_main_v69 (F := Ideal) p w = Norm.latents 1 p w := by
  funext i
  obtain ⟨r, n, rfl⟩ := exists_ix2 i
  pointwise [val_main_v69, val_main_v68, val_main_v67, val_main_v66, val_main_v65, val_main_v64, val_main_v63, val_main_v62,
    val_main_v61, val_main_v60, val_main_v59, val_main_v58, val_main_v57, val_main_v41, val_main_v38, val_main_v37,
    val_main_cst_8, val_main_cst_9, val_main_cst_10]
  rfl

theorem resultR1 (p : Mat 6144 1600) : val_main_v42 (F := Ideal) p = Norm.rotary p := by
  funext i
  obtain ⟨r, n, rfl⟩ := exists_ix2 i
  pointwise [val_main_v42]
  rfl

/-- The latent keys of the prompts: what the reference stacks. -/
theorem resultS (p q : Mat 6144 1600) (w : Mat 2 256) :
    val_main_v76 (F := Ideal) p q w = Cert.CachesIdeal.Mm.stackL (Norm.latents 0 p w) (Norm.latents 1 q w) := by
  rw [← resultL0, ← resultL1]
  rfl

/-- The rotary keys of the prompts: what the reference stacks. -/
theorem resultT (p q : Mat 6144 1600) :
    val_main_v83 (F := Ideal) p q = Cert.CachesIdeal.Mm.stackR (Norm.rotary p) (Norm.rotary q) := by
  rw [← resultR0, ← resultR1]
  rfl

/-- The reference leaves its arguments as they are, and declares no semaphore. -/
theorem frame : @Cert.quiescent_CachesReferenceIdeal Cert.CachesReferenceIdeal.Gen.facts := by
  intro m ρ _
  exact (θ_run Cert.CachesReferenceIdeal.defs _ _).mono
    (fun r h => ⟨fun c => (h c).2.2.2.2.2.2.2.2, sem_eq_zero_of_no_sems (by decide) r.2⟩) (Cert.CachesReferenceIdeal.Value.run m ρ)

theorem algebraic : @Cert.algebraic_CachesIdeal_CachesReferenceIdeal Cert.CachesIdeal.Gen.facts Cert.CachesReferenceIdeal.Gen.facts := by
  intro m g m' g' _ he
  refine ⟨fun c => _, fun c => _, fun c => _, fun c => _, fun c => _, fun c => _, fun c => _, fun c => _,
    (θ_run _ _ _).mono (fun r h c =>
      ⟨(h c _ (Cert.CachesIdeal.Gen.mem_uc Cert.CachesIdeal.main_v16 (by decide))).trans (Cert.CachesIdeal.Mm.atS m g c),
       (h c _ (Cert.CachesIdeal.Gen.mem_uc Cert.CachesIdeal.main_v19 (by decide))).trans (Cert.CachesIdeal.Mm.atT m g c),
       (h c _ (Cert.CachesIdeal.Gen.mem_uc Cert.CachesIdeal.main_v2_0 (by decide))).trans
         ((Cert.CachesIdeal.Gen.W5_of m g c _ (by decide)).trans (Cert.CachesIdeal.Mm.atQ0 m g c)),
       (h c _ (Cert.CachesIdeal.Gen.mem_uc Cert.CachesIdeal.main_v2_1 (by decide))).trans
         ((Cert.CachesIdeal.Gen.W5_of m g c _ (by decide)).trans (Cert.CachesIdeal.Mm.atL0 m g c)),
       (h c _ (Cert.CachesIdeal.Gen.mem_uc Cert.CachesIdeal.main_v2_2 (by decide))).trans
         ((Cert.CachesIdeal.Gen.W5_of m g c _ (by decide)).trans (Cert.CachesIdeal.Mm.atR0 m g c)),
       (h c _ (Cert.CachesIdeal.Gen.mem_uc Cert.CachesIdeal.main_v5_0 (by decide))).trans
         ((Cert.CachesIdeal.Gen.W5_of m g c _ (by decide)).trans (Cert.CachesIdeal.Mm.atQ1 m g c)),
       (h c _ (Cert.CachesIdeal.Gen.mem_uc Cert.CachesIdeal.main_v5_1 (by decide))).trans
         ((Cert.CachesIdeal.Gen.W5_of m g c _ (by decide)).trans (Cert.CachesIdeal.Mm.atL1 m g c)),
       (h c _ (Cert.CachesIdeal.Gen.mem_uc Cert.CachesIdeal.main_v5_2 (by decide))).trans
         ((Cert.CachesIdeal.Gen.W5_of m g c _ (by decide)).trans (Cert.CachesIdeal.Mm.atR1 m g c)),
       (h c _ (Cert.CachesIdeal.Gen.mem_uc Cert.CachesIdeal.main_arg0 (by decide))).trans (Cert.CachesIdeal.Gen.W5_main_arg0 m g c),
       (h c _ (Cert.CachesIdeal.Gen.mem_uc Cert.CachesIdeal.main_arg1 (by decide))).trans (Cert.CachesIdeal.Gen.W5_main_arg1 m g c),
       (h c _ (Cert.CachesIdeal.Gen.mem_uc Cert.CachesIdeal.main_arg2 (by decide))).trans (Cert.CachesIdeal.Gen.W5_main_arg2 m g c),
       (h c _ (Cert.CachesIdeal.Gen.mem_uc Cert.CachesIdeal.main_arg3 (by decide))).trans (Cert.CachesIdeal.Gen.W5_main_arg3 m g c)⟩)
    (Cert.CachesIdeal.Run.ends m g), ?_⟩
  refine (θ_run _ _ _).mono (fun r h c => ?_) (Cert.CachesReferenceIdeal.Value.run m' g')
  obtain ⟨e0, e1, e2, e3⟩ := he c
  obtain ⟨h0, h1, h2, h3, h4, h5, h6, h7, h8⟩ := h c
  refine ⟨h0.trans ((val_main_v76_eq _ _ _).trans ?_), h1.trans ((val_main_v83_eq _ _).trans ?_),
    h2.trans ((val_main_v21_eq _ _).trans ?_), h3.trans ((val_main_v34_eq _ _).trans ?_), h4.trans ((val_main_v7_eq _).trans ?_),
    h5.trans ((val_main_v56_eq _ _).trans ?_), h6.trans ((val_main_v69_eq _ _).trans ?_), h7.trans ((val_main_v42_eq _).trans ?_), h8⟩
  · rw [e0, e1, e3]; exact resultS _ _ _
  · rw [e0, e1]; exact resultT _ _
  · rw [e0, e2]; exact resultQ0 _ _
  · rw [e0, e3]; exact resultL0 _ _
  · rw [e0]; exact resultR0 _
  · rw [e1, e2]; exact resultQ1 _ _
  · rw [e1, e3]; exact resultL1 _ _
  · rw [e1]; exact resultR1 _

end Cert.CachesReferenceIdeal.Mm

end
-- ==== Proof.Rows.lean ====
/- A layer's shifts, scales and gates, which a row takes of its own condition, and the norm of a row about its mean. -/
module

public import proofs.«01_k».proof.Proof.Norm

@[expose] public section

noncomputable section

open Idealize.ShloMosaic
open scoped BigOperators

namespace Cert.Rows

open Cert.Spec Cert.Product

/-- The modulations of four layers under three conditions: six chunks of shifts, scales and gates. -/
abbrev Mods := (⟨5, ![4, 3, 6, 1, 2048]⟩ : Shape).Idx → EReal

/-- The condition of a row: the prompts have the first, each of the two samples its own. -/
def condOf (r : ℕ) : Fin 3 := if r < 4096 then 0 else if r < 5120 then 1 else 2

/-- A block of 512 rows is of one condition. -/
theorem cond_block (t r : ℕ) (h : r < 512) : condOf (t * 512 + r) = condOf (t * 512) := by
  unfold condOf
  split_ifs <;> first | rfl | omega

/-- An entry of a row's shift, scale or gate. -/
def entry (M : Mods) (l : Fin 4) (k : Fin 6) (r : ℕ) (n : Fin 2048) : EReal := M (ix5 l (condOf r) k 0 n)

/-- The scaled and shifted rows. -/
def modulated {a : ℕ} (x : Mat a 2048) (M : Mods) (l : Fin 4) (scale shift : Fin 6) : Mat a 2048 := fun i =>
  x i * (Ideal.ofBits .f32 0x3F800000#32 + entry M l scale (i 0).val (i 1)) + entry M l shift (i 0).val (i 1)

/-- The mean of a row of 2048 entries. -/
def mean (x : Fin 2048 → EReal) : EReal := Ideal.div (∑ l, x l) (Ideal.ofBits .f32 0x45000000#32)

/-- An entry of a row's norm about its mean, with a gain and an offset. -/
def centred (x : Fin 2048 → EReal) (g b : EReal) (n : Fin 2048) : EReal :=
  (x n - mean x) * Ideal.rsqrt (mean (fun l => (x l - mean x) * (x l - mean x)) + Norm.eps) * g + b

theorem centred_congr {x X : Fin 2048 → EReal} {g G b B : EReal} {n N : Fin 2048} (hx : ∀ l, x l = X l) (hg : g = G) (hb : b = B) (hn : n = N) :
    centred x g b n = centred X G B N := by
  rw [funext hx, hg, hb, hn]

/-- A mixer's result on top of the rows it was given. -/
def added (x h gate : EReal) : EReal := Ideal.ofBits .f32 0x3FD744FD#32 * x + gate * h

end Cert.Rows

end
-- ==== Proof.Modulate.lean ====
/- The rows and their first shift and scale: the kernel's two results and the reference's are the same formulas of the arguments. -/
module

public import proofs.«01_k».proof.Defs
public import proofs.«01_k».proof.Proof.Gen.ModulateIdeal.Value
public import proofs.«01_k».proof.Proof.Gen.ModulateReferenceIdeal.Run
public import proofs.«01_k».proof.Proof.Gen.ModulateReferenceIdeal.Read
public import proofs.«01_k».proof.Proof.Rows
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows

open Cert.Spec

/-- All rows: the prompts' first, then the samples'. -/
def joined (p : Cube 16 256 2048) (s : Cube 2 1024 2048) : Mat 6144 2048 := fun i =>
  if h : (i 0).val < 4096 then p (ix3 ⟨(i 0).val / 256, by omega⟩ ⟨(i 0).val % 256, by omega⟩ (i 1))
  else s (ix3 ⟨((i 0).val - 4096) / 1024, by have : (i 0).val < 6144 := (i 0).isLt; omega⟩ ⟨((i 0).val - 4096) % 1024, by omega⟩ (i 1))

theorem joined_prompt (p : Cube 16 256 2048) (s : Cube 2 1024 2048) (r : Fin 6144) (n : Fin 2048) (h : r.val < 4096) :
    joined p s (ix2 r n) = p (ix3 ⟨r.val / 256, by omega⟩ ⟨r.val % 256, by omega⟩ n) := dif_pos h

theorem joined_sample (p : Cube 16 256 2048) (s : Cube 2 1024 2048) (r : Fin 6144) (n : Fin 2048) (h : ¬ r.val < 4096) :
    joined p s (ix2 r n) = s (ix3 ⟨(r.val - 4096) / 1024, by omega⟩ ⟨(r.val - 4096) % 1024, by omega⟩ n) := dif_neg h

end Cert.Rows

namespace Cert.ModulateIdeal.Mm

open Cert.ModulateIdeal Cert.ModulateIdeal.Gen Cert.Spec Cert.Product Cert.Rows

variable (m : (ℓ : Loc nD τ sig) → Buf (Elt Ideal) ℓ)

abbrev ax (c : Dev nD) : Cube 16 256 2048 := m ((c : Thread nD τ).loc main_arg0)
abbrev aq (c : Dev nD) : Cube 2 1024 2048 := m ((c : Thread nD τ).loc main_arg1)
abbrev am (c : Dev nD) : Mods := m ((c : Thread nD τ).loc main_arg2)

theorem idx : ∀ t : Fin cfg0.N, win0_0.index t = ![min t.val 7, 0] ∧ win0_1.index t = ![t.val - 8, 0]
    ∧ win0_2.index t = ![0, (condOf (t.val * 512)).val, 1, 0, 0] ∧ win0_3.index t = ![0, (condOf (t.val * 512)).val, 0, 0, 0]
    ∧ win0_4.index t = ![t.val, 0] ∧ win0_5.index t = ![t.val, 0] :=
  (by decide +kernel : ∀ t : Fin grid0.N, _)

theorem t_lt (t : Fin cfg0.N) : t.val < 12 := t.isLt

variable (c : Dev nD) (t : Fin cfg0.N)

/-- The row of the arrays that is a block's row. -/
abbrev row (r : Fin 512) : Fin 6144 := ⟨t.val * 512 + r.val, by have := t_lt t; omega⟩

theorem prompt (r : Fin 4096) (n : Fin 2048) :
    (V m c main_v0 (ix2 r n) : EReal) = ax m c (ix3 ⟨r.val / 256, by omega⟩ ⟨r.val % 256, by omega⟩ n) := by
  entry_read
  pointwise

theorem sample (r : Fin 2048) (n : Fin 2048) :
    (V m c main_v1 (ix2 r n) : EReal) = aq m c (ix3 ⟨r.val / 1024, by omega⟩ ⟨r.val % 1024, by omega⟩ n) := by
  entry_read
  pointwise

theorem x_block (h : t.val < 8) (r : Fin 512) (n : Fin 2048) : (iblk m c 0 t (ix2 r n) : EReal) = joined (ax m c) (aq m c) (ix2 (row t r) n) := by
  have ht : t.val * 512 + r.val < 4096 := by omega
  rw [joined_prompt _ _ _ _ ht]
  refine Eq.trans ?_ (prompt m c ⟨t.val * 512 + r.val, ht⟩ n)
  have : min t.val 7 = t.val := by omega
  blk_ext [iblk, idx t, this]

theorem s_block (h : 8 ≤ t.val) (r : Fin 512) (n : Fin 2048) : (iblk m c 1 t (ix2 r n) : EReal) = joined (ax m c) (aq m c) (ix2 (row t r) n) := by
  have ht := t_lt t
  rw [joined_sample _ _ _ _ (by show ¬ t.val * 512 + r.val < 4096; omega)]
  have e : t.val * 512 + r.val - 4096 = (t.val - 8) * 512 + r.val := by omega
  simp only [e]
  refine Eq.trans ?_ (sample m c ⟨(t.val - 8) * 512 + r.val, by omega⟩ n)
  blk_ext [iblk, idx t]

theorem scale_block (r : Fin 512) (l : Fin 2048) : (iblk m c 2 t (ix5 0 0 0 0 l) : EReal) = entry (am m c) 0 1 (row t r).val l := by
  unfold entry
  rw [cond_block t.val r.val r.isLt]
  blk_ext [iblk, V, idx t]

theorem shift_block (r : Fin 512) (l : Fin 2048) : (iblk m c 3 t (ix5 0 0 0 0 l) : EReal) = entry (am m c) 0 0 (row t r).val l := by
  unfold entry
  rw [cond_block t.val r.val r.isLt]
  blk_ext [iblk, V, idx t]

theorem pay_rows (x : Vec Ideal S512x2048 .f32) : k0_pay1 (F := Ideal) x = x ∧ k0_pay3 (F := Ideal) x = x := by
  constructor <;> funext i <;> obtain ⟨r, n, rfl⟩ := exists_ix2 i <;> pointwise [k0_pay1, k0_pay3]

theorem pay_modulated (x : Vec Ideal S512x2048 .f32) (k s : Vec Ideal S1x1x1x1x2048 .f32) (r : Fin 512) (n : Fin 2048) :
    k0_pay2 (F := Ideal) x k s (ix2 r n) = x (ix2 r n) * (Ideal.ofBits .f32 0x3F800000#32 + k (ix5 0 0 0 0 n)) + s (ix5 0 0 0 0 n)
    ∧ k0_pay4 (F := Ideal) x k s (ix2 r n) = x (ix2 r n) * (Ideal.ofBits .f32 0x3F800000#32 + k (ix5 0 0 0 0 n)) + s (ix5 0 0 0 0 n) := by
  constructor <;> pointwise [k0_pay2, k0_pay4, (pay_rows x).1, (pay_rows x).2]

/-- What a step stores in the two results' blocks. -/
theorem stored (r : Fin 512) (n : Fin 2048) :
    ((outsAt0 m c t.val t.isLt).1 (ix2 r n) : EReal) = joined (ax m c) (aq m c) (ix2 (row t r) n)
    ∧ ((outsAt0 m c t.val t.isLt).2 (ix2 r n) : EReal) = modulated (joined (ax m c) (aq m c)) (am m c) 0 1 0 (ix2 (row t r) n) := by
  by_cases h : t.val < 8
  · rw [outsAt0_A m c t h (by omega)]
    constructor
    · frame_out
      rw [(pay_rows _).1, x_block m c t h]
    · frame_out
      rw [(pay_modulated _ _ _ r n).1, x_block m c t h, scale_block m c t r, shift_block m c t r]
      rfl
  · have h' : 8 ≤ t.val := by omega
    rw [outsAt0_B m c t h h']
    constructor
    · frame_out
      rw [(pay_rows _).2, s_block m c t h']
    · frame_out
      rw [(pay_modulated _ _ _ r n).2, s_block m c t h', scale_block m c t r, shift_block m c t r]
      rfl

/-- The first result's array after the run. -/
theorem final : (dats m 0 c).arrAt 4 cfg0.N = joined (ax m c) (aq m c) := by
  refine (dats m 0 c).arrAt_eq_of_covers 4 _ (by decide +kernel) fun t hf y => ?_
  have ht := t_lt t
  blk_simp
  rw [after0_4]
  obtain ⟨r, n, rfl⟩ : ∃ (r : Fin 512) (n : Fin 2048), y = ix2 r n := exists_ix2 y
  rw [(stored m c t r n).1, show ((View.whole main_v2_0).slice (win0_4.rect t)).emb (ix2 r n) = ix2 (row t r) n by blk_ext [idx t]]

/-- The second result's array after the run. -/
theorem final_modulated : (dats m 0 c).arrAt 5 cfg0.N = modulated (joined (ax m c) (aq m c)) (am m c) 0 1 0 := by
  refine (dats m 0 c).arrAt_eq_of_covers 5 _ (by decide +kernel) fun t hf y => ?_
  have ht := t_lt t
  blk_simp
  rw [after0_5]
  obtain ⟨r, n, rfl⟩ : ∃ (r : Fin 512) (n : Fin 2048), y = ix2 r n := exists_ix2 y
  rw [(stored m c t r n).2, show ((View.whole main_v2_1).slice (win0_5.rect t)).emb (ix2 r n) = ix2 (row t r) n by blk_ext [idx t]]

end Cert.ModulateIdeal.Mm

namespace Cert.ModulateReferenceIdeal.Mm

open Cert.ModulateReferenceIdeal Cert.ModulateReferenceIdeal.Read Cert.Spec Cert.Product Cert.Rows

theorem scale_rows (M : Mods) (r : Fin 6144) (l : Fin 2048) : (val_main_v14 (F := Ideal) M (ix2 r l) : EReal) = entry M 0 1 r.val l := by
  unfold entry condOf
  pointwise [val_main_v14, val_main_v13, val_main_v12, val_main_v11, val_main_v10, val_main_v9, val_main_v8, val_main_v7, val_main_v6,
    val_main_v5, val_main_v4, val_main_v3]
  split_ifs <;> first | rfl | omega

theorem shift_rows (M : Mods) (r : Fin 6144) (l : Fin 2048) : (val_main_v29 (F := Ideal) M (ix2 r l) : EReal) = entry M 0 0 r.val l := by
  unfold entry condOf
  pointwise [val_main_v29, val_main_v28, val_main_v27, val_main_v26, val_main_v25, val_main_v24, val_main_v23, val_main_v22, val_main_v21,
    val_main_v20, val_main_v19, val_main_v18]
  split_ifs <;> first | rfl | omega

theorem result (p : Cube 16 256 2048) (s : Cube 2 1024 2048) : val_main_v2 (F := Ideal) p s = joined p s := by
  funext i
  obtain ⟨r, n, rfl⟩ := exists_ix2 i
  by_cases h : r.val < 4096
  · rw [joined_prompt _ _ _ _ h]
    pointwise [val_main_v2, val_main_v1, val_main_v0]
    split_ifs <;> first | rfl | omega
  · rw [joined_sample _ _ _ _ h]
    pointwise [val_main_v2, val_main_v1, val_main_v0]
    split_ifs <;> first | rfl | omega

theorem result_modulated (p : Cube 16 256 2048) (s : Cube 2 1024 2048) (M : Mods) :
    val_main_v31 (F := Ideal) p s M = modulated (joined p s) M 0 1 0 := by
  funext i
  obtain ⟨r, n, rfl⟩ := exists_ix2 i
  rw [← result]
  show _ = val_main_v2 (F := Ideal) p s (ix2 r n) * (_ + entry M 0 1 r.val n) + entry M 0 0 r.val n
  rw [← scale_rows, ← shift_rows]
  pointwise [val_main_v31, val_main_v30, val_main_v17, val_main_v16, val_main_v15, val_main_cst]

/-- The reference leaves its arguments as they are, and declares no semaphore. -/
theorem frame : @Cert.quiescent_ModulateReferenceIdeal Cert.ModulateReferenceIdeal.Gen.facts := by
  intro m ρ _
  exact (θ_run Cert.ModulateReferenceIdeal.defs _ _).mono (fun r h => ⟨fun c => (h c).2.2, sem_eq_zero_of_no_sems (by decide) r.2⟩)
    (Cert.ModulateReferenceIdeal.Value.run m ρ)

theorem algebraic : @Cert.algebraic_ModulateIdeal_ModulateReferenceIdeal Cert.ModulateIdeal.Gen.facts Cert.ModulateReferenceIdeal.Gen.facts := by
  intro m g m' g' _ he
  refine ⟨fun c => _, fun c => _, (θ_run _ _ _).mono (fun r h c => ⟨(h c).1.trans (Cert.ModulateIdeal.Mm.final m c),
    (h c).2.1.trans (Cert.ModulateIdeal.Mm.final_modulated m c), (h c).2.2⟩) (Cert.ModulateIdeal.Value.run_blocks m g), ?_⟩
  refine (θ_run _ _ _).mono (fun r h c => ⟨((h c).1.trans (val_main_v2_eq _ _)).trans ?_,
    ((h c).2.1.trans (val_main_v31_eq _ _ _)).trans ?_, (h c).2.2⟩) (Cert.ModulateReferenceIdeal.Value.run m' g')
  all_goals obtain ⟨e0, e1, e2⟩ := he c
  all_goals rw [e0, e1]
  · exact result _ _
  · rw [e2]
    exact result_modulated _ _ _

end Cert.ModulateReferenceIdeal.Mm

end
-- ==== Proof.Mixed.lean ====
/- The norm after a layer's mixer: the kernel's two results and the reference's are the same formulas of the arguments. -/
module

public import proofs.«01_k».proof.Defs
public import proofs.«01_k».proof.Proof.Gen.MixedIdeal.Value
public import proofs.«01_k».proof.Proof.Gen.MixedReferenceIdeal.Run
public import proofs.«01_k».proof.Proof.Gen.MixedReferenceIdeal.Read
public import proofs.«01_k».proof.Proof.Rows
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows

open Cert.Spec

/-- The first layer's norm after its mixer. -/
def mixed (x h : Mat 6144 2048) (M : Mods) (g b : Mat 4 2048) : Mat 6144 2048 := fun i =>
  centred (fun l => added (x (ix2 (i 0) l)) (h (ix2 (i 0) l)) (entry M 0 2 (i 0).val l)) (g (ix2 0 (i 1))) (b (ix2 0 (i 1))) (i 1)

end Cert.Rows

namespace Cert.MixedIdeal.Mm

open Cert.MixedIdeal Cert.MixedIdeal.Gen Cert.Spec Cert.Product Cert.Rows

variable (m : (ℓ : Loc nD τ sig) → Buf (Elt Ideal) ℓ)

abbrev ax (c : Dev nD) : Mat 6144 2048 := m ((c : Thread nD τ).loc main_arg0)
abbrev ah (c : Dev nD) : Mat 6144 2048 := m ((c : Thread nD τ).loc main_arg1)
abbrev am (c : Dev nD) : Mods := m ((c : Thread nD τ).loc main_arg2)
abbrev ag (c : Dev nD) : Mat 4 2048 := m ((c : Thread nD τ).loc main_arg3)
abbrev ab (c : Dev nD) : Mat 4 2048 := m ((c : Thread nD τ).loc main_arg4)

theorem idx : ∀ t : Fin cfg0.N, win0_0.index t = ![t.val, 0] ∧ win0_1.index t = ![t.val, 0]
    ∧ win0_2.index t = ![0, (condOf (t.val * 512)).val, 2, 0, 0] ∧ win0_3.index t = ![0, 0, 0] ∧ win0_4.index t = ![0, 0, 0]
    ∧ win0_5.index t = ![0, (condOf (t.val * 512)).val, 4, 0, 0] ∧ win0_6.index t = ![0, (condOf (t.val * 512)).val, 3, 0, 0]
    ∧ win0_7.index t = ![t.val, 0] ∧ win0_8.index t = ![t.val, 0] :=
  (by decide +kernel : ∀ t : Fin grid0.N, _)

theorem t_lt (t : Fin cfg0.N) : t.val < 12 := t.isLt

variable (c : Dev nD) (t : Fin cfg0.N)

/-- The row of the arrays that is a block's row. -/
abbrev row (r : Fin 512) : Fin 6144 := ⟨t.val * 512 + r.val, by have := t_lt t; omega⟩

theorem gains (l : Fin 2048) : (V m c main_v0 (ix3 0 0 l) : EReal) = ag m c (ix2 0 l) := by
  entry_read
  pointwise

theorem offsets (l : Fin 2048) : (V m c main_v1 (ix3 0 0 l) : EReal) = ab m c (ix2 0 l) := by
  entry_read
  pointwise

theorem x_block (r : Fin 512) (l : Fin 2048) : (iblk m c 0 t (ix2 r l) : EReal) = ax m c (ix2 (row t r) l) := by
  blk_ext [iblk, V, idx t]

theorem h_block (r : Fin 512) (l : Fin 2048) : (iblk m c 1 t (ix2 r l) : EReal) = ah m c (ix2 (row t r) l) := by
  blk_ext [iblk, V, idx t]

theorem g_block (l : Fin 2048) : (iblk m c 3 t (ix3 0 0 l) : EReal) = ag m c (ix2 0 l) := by
  refine Eq.trans ?_ (gains m c l)
  blk_ext [iblk, idx t]

theorem b_block (l : Fin 2048) : (iblk m c 4 t (ix3 0 0 l) : EReal) = ab m c (ix2 0 l) := by
  refine Eq.trans ?_ (offsets m c l)
  blk_ext [iblk, idx t]

theorem gate_block (r : Fin 512) (l : Fin 2048) : (iblk m c 2 t (ix5 0 0 0 0 l) : EReal) = entry (am m c) 0 2 (row t r).val l := by
  unfold entry
  rw [cond_block t.val r.val r.isLt]
  blk_ext [iblk, V, idx t]

theorem scale_block (r : Fin 512) (l : Fin 2048) : (iblk m c 5 t (ix5 0 0 0 0 l) : EReal) = entry (am m c) 0 4 (row t r).val l := by
  unfold entry
  rw [cond_block t.val r.val r.isLt]
  blk_ext [iblk, V, idx t]

theorem shift_block (r : Fin 512) (l : Fin 2048) : (iblk m c 6 t (ix5 0 0 0 0 l) : EReal) = entry (am m c) 0 3 (row t r).val l := by
  unfold entry
  rw [cond_block t.val r.val r.isLt]
  blk_ext [iblk, V, idx t]

theorem pay_norm (h : Vec Ideal S512x2048 .bf16) (x : Vec Ideal S512x2048 .f32) (k : Vec Ideal S1x1x1x1x2048 .f32)
    (g b : Vec Ideal S1x1x2048 .f32) (r : Fin 512) (n : Fin 2048) :
    k0_pay2 (F := Ideal) h x k g b (ix2 r n)
      = centred (fun l => added (x (ix2 r l)) (h (ix2 r l)) (k (ix5 0 0 0 0 l))) (g (ix3 0 0 n)) (b (ix3 0 0 n)) n := by
  pointwise [k0_pay2]
  rfl

theorem pay_modulated (y : Vec Ideal S512x2048 .f32) (k s : Vec Ideal S1x1x1x1x2048 .f32) (r : Fin 512) (n : Fin 2048) :
    k0_pay1 (F := Ideal) y k s (ix2 r n)
      = y (ix2 r n) * (Ideal.ofBits .f32 0x3F800000#32 + k (ix5 0 0 0 0 n)) + s (ix5 0 0 0 0 n) := by
  pointwise [k0_pay1]

theorem normed (r : Fin 512) (n : Fin 2048) :
    k0_pay2 (F := Ideal) (iblk m c 1 t) (iblk m c 0 t) (iblk m c 2 t) (iblk m c 3 t) (iblk m c 4 t) (ix2 r n)
      = mixed (ax m c) (ah m c) (am m c) (ag m c) (ab m c) (ix2 (row t r) n) := by
  rw [pay_norm]
  exact centred_congr (fun l => by rw [x_block, h_block, gate_block m c t r]; rfl) (g_block m c t n) (b_block m c t n) rfl

/-- The first result's array after the run. -/
theorem final : (dats m 0 c).arrAt 7 cfg0.N = mixed (ax m c) (ah m c) (am m c) (ag m c) (ab m c) := by
  refine (dats m 0 c).arrAt_eq_of_covers 7 _ (by decide +kernel) fun t hf y => ?_
  have ht := t_lt t
  blk_simp
  rw [after0_7]
  obtain ⟨r, n, rfl⟩ : ∃ (r : Fin 512) (n : Fin 2048), y = ix2 r n := exists_ix2 y
  unfold out0_7 k0_pay3
  frame_out
  rw [normed, show ((View.whole main_v2_0).slice (win0_7.rect t)).emb (ix2 r n) = ix2 (row t r) n by blk_ext [idx t]]

/-- The second result's array after the run. -/
theorem final_modulated : (dats m 0 c).arrAt 8 cfg0.N = modulated (mixed (ax m c) (ah m c) (am m c) (ag m c) (ab m c)) (am m c) 0 4 3 := by
  refine (dats m 0 c).arrAt_eq_of_covers 8 _ (by decide +kernel) fun t hf y => ?_
  have ht := t_lt t
  blk_simp
  rw [after0_8]
  obtain ⟨r, n, rfl⟩ : ∃ (r : Fin 512) (n : Fin 2048), y = ix2 r n := exists_ix2 y
  unfold out0_8 k0_pay3
  frame_out
  rw [pay_modulated, normed, scale_block m c t r, shift_block m c t r,
    show ((View.whole main_v2_1).slice (win0_8.rect t)).emb (ix2 r n) = ix2 (row t r) n by blk_ext [idx t]]
  rfl

end Cert.MixedIdeal.Mm

namespace Cert.MixedReferenceIdeal.Mm

open Cert.MixedReferenceIdeal Cert.MixedReferenceIdeal.Read Cert.Spec Cert.Product Cert.Rows

theorem gate_rows (M : Mods) (r : Fin 6144) (l : Fin 2048) : (val_main_v13 (F := Ideal) M (ix2 r l) : EReal) = entry M 0 2 r.val l := by
  unfold entry condOf
  pointwise [val_main_v13, val_main_v12, val_main_v11, val_main_v10, val_main_v9, val_main_v8, val_main_v7, val_main_v6, val_main_v5,
    val_main_v4, val_main_v3, val_main_v2]
  split_ifs <;> first | rfl | omega

theorem scale_rows (M : Mods) (r : Fin 6144) (l : Fin 2048) : (val_main_v56 (F := Ideal) M (ix2 r l) : EReal) = entry M 0 4 r.val l := by
  unfold entry condOf
  pointwise [val_main_v56, val_main_v55, val_main_v54, val_main_v53, val_main_v52, val_main_v51, val_main_v50, val_main_v49, val_main_v48,
    val_main_v47, val_main_v46, val_main_v45]
  split_ifs <;> first | rfl | omega

theorem shift_rows (M : Mods) (r : Fin 6144) (l : Fin 2048) : (val_main_v71 (F := Ideal) M (ix2 r l) : EReal) = entry M 0 3 r.val l := by
  unfold entry condOf
  pointwise [val_main_v71, val_main_v70, val_main_v69, val_main_v68, val_main_v67, val_main_v66, val_main_v65, val_main_v64, val_main_v63,
    val_main_v62, val_main_v61, val_main_v60]
  split_ifs <;> first | rfl | omega

theorem sums (x h : Mat 6144 2048) (M : Mods) (r : Fin 6144) (l : Fin 2048) :
    (val_main_v16 (F := Ideal) x h M (ix2 r l) : EReal) = added (x (ix2 r l)) (h (ix2 r l)) (entry M 0 2 r.val l) := by
  rw [← gate_rows]
  pointwise [val_main_v16, val_main_v15, val_main_v14, val_main_v1, val_main_v0, val_main_cst]
  rfl

theorem result (x h : Mat 6144 2048) (M : Mods) (g b : Mat 4 2048) :
    val_main_v44 (F := Ideal) x h M g b = mixed x h M g b := by
  funext i
  obtain ⟨r, n, rfl⟩ := exists_ix2 i
  refine Eq.trans ?_ (centred_congr (fun l => sums x h M r l) rfl rfl rfl)
  pointwise [val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_cst_0, val_main_cst_1, val_main_cst_2, val_main_cst_3, val_main_cst_4]
  rfl

theorem result_modulated (x h : Mat 6144 2048) (M : Mods) (g b : Mat 4 2048) :
    val_main_v73 (F := Ideal) x h M g b = modulated (mixed x h M g b) M 0 4 3 := by
  funext i
  obtain ⟨r, n, rfl⟩ := exists_ix2 i
  rw [← result]
  show _ = val_main_v44 (F := Ideal) x h M g b (ix2 r n) * (_ + entry M 0 4 r.val n) + entry M 0 3 r.val n
  rw [← scale_rows, ← shift_rows]
  pointwise [val_main_v73, val_main_v72, val_main_v59, val_main_v58, val_main_v57, val_main_cst_5]

/-- The reference leaves its arguments as they are, and declares no semaphore. -/
theorem frame : @Cert.quiescent_MixedReferenceIdeal Cert.MixedReferenceIdeal.Gen.facts := by
  intro m ρ _
  exact (θ_run Cert.MixedReferenceIdeal.defs _ _).mono (fun r h => ⟨fun c => (h c).2.2, sem_eq_zero_of_no_sems (by decide) r.2⟩)
    (Cert.MixedReferenceIdeal.Value.run m ρ)

theorem algebraic : @Cert.algebraic_MixedIdeal_MixedReferenceIdeal Cert.MixedIdeal.Gen.facts Cert.MixedReferenceIdeal.Gen.facts := by
  intro m g m' g' _ he
  refine ⟨fun c => _, fun c => _, (θ_run _ _ _).mono (fun r h c => ⟨(h c).1.trans (Cert.MixedIdeal.Mm.final m c),
    (h c).2.1.trans (Cert.MixedIdeal.Mm.final_modulated m c), (h c).2.2⟩) (Cert.MixedIdeal.Value.run_blocks m g), ?_⟩
  refine (θ_run _ _ _).mono (fun r h c => ⟨((h c).1.trans (val_main_v44_eq _ _)).trans ?_,
    ((h c).2.1.trans (val_main_v73_eq _ _)).trans ?_, (h c).2.2⟩) (Cert.MixedReferenceIdeal.Value.run m' g')
  all_goals obtain ⟨e0, e1, e2, e3, e4⟩ := he c
  all_goals rw [e0, e1, e2, e3, e4]
  · exact result _ _ _ _ _
  · exact result_modulated _ _ _ _ _

end Cert.MixedReferenceIdeal.Mm

end
-- ==== Proof.Adapt.lean ====
/- The modulations of all the layers: the kernel's result and the reference's are the same products of the conditions' `silu`, plus the biases. -/
module

public import proofs.«01_k».proof.Defs
public import proofs.«01_k».proof.Proof.Gen.AdaptIdeal.Value
public import proofs.«01_k».proof.Proof.Gen.AdaptReferenceIdeal.Run
public import proofs.«01_k».proof.Proof.Gen.AdaptReferenceIdeal.Read
public import proofs.«01_k».proof.Proof.Product
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Adapted

open Cert.Spec

/-- A condition's modulation of a layer: its `silu` times the layer's weights, plus the layer's bias. -/
def adapted (C : Mat 8 2048) (W : Cube 4 2048 12288) (b : Mat 4 12288) : Cube 4 8 12288 := fun i =>
  (∑ l, C (ix2 (i 1) l) * Ideal.logistic (C (ix2 (i 1) l)) * W (ix3 (i 0) l (i 2))) + b (ix2 (i 0) (i 2))

theorem exists_ix3 {a b d : ℕ} (i : (⟨3, ![a, b, d]⟩ : Shape).Idx) : ∃ (p : Fin a) (r : Fin b) (n : Fin d), i = ix3 p r n :=
  ⟨i 0, i 1, i 2, by funext k; fin_cases k <;> rfl⟩

end Cert.Adapted

namespace Cert.AdaptIdeal.Mm

open Cert.AdaptIdeal Cert.AdaptIdeal.Gen Cert.Spec Cert.Product Cert.Adapted

variable (m : (ℓ : Loc nD τ sig) → Buf (Elt Ideal) ℓ)

abbrev ac (c : Dev nD) : Mat 2 2048 := m ((c : Thread nD τ).loc main_arg0)
abbrev ak (c : Dev nD) : Buf (Elt Ideal) ((c : Thread nD τ).loc main_arg1) := m ((c : Thread nD τ).loc main_arg1)
abbrev aw (c : Dev nD) : Cube 4 2048 12288 := m ((c : Thread nD τ).loc main_arg2)
abbrev ab (c : Dev nD) : Mat 4 12288 := m ((c : Thread nD τ).loc main_arg3)

/-- The conditions, one below the other, as the kernel joins them. -/
abbrev conds (c : Dev nD) : Mat 8 2048 := V m c main_v2

theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

theorem t_lt (t : Fin cfg0.N) : t.val < 48 := t.isLt

variable (c : Dev nD) (t : Fin cfg0.N)

/-- The layer of a step. -/
abbrev lay : Fin 4 := ⟨t.val / 12, by have := t_lt t; omega⟩

/-- The column of the whole array that is a step's column. -/
abbrev col (n : Fin 1024) : Fin 12288 := ⟨t.val % 12 * 1024 + n.val, by omega⟩

theorem bias (p : Fin 4) (n : Fin 12288) : (V m c main_v3 (ix3 p 0 n) : EReal) = ab m c (ix2 p n) := by
  entry_read
  pointwise

theorem c_block (r : Fin 8) (l : Fin 2048) : (iblk m c 0 t (ix2 r l) : EReal) = conds m c (ix2 r l) := by
  blk_ext [iblk, idx t]

theorem w_block (l : Fin 2048) (n : Fin 1024) : (iblk m c 1 t (ix3 0 l n) : EReal) = aw m c (ix3 (lay t) l (col t n)) := by
  blk_ext [iblk, V, idx t]

theorem b_block (n : Fin 1024) : (iblk m c 2 t (ix3 0 0 n) : EReal) = ab m c (ix2 (lay t) (col t n)) := by
  refine Eq.trans ?_ (bias m c (lay t) (col t n))
  blk_ext [iblk, idx t]

theorem pay (x : Vec Ideal S8x2048 .f32) (w : Vec Ideal S1x2048x1024 .f32) (b : Vec Ideal S1x1x1024 .f32) (r : Fin 8) (n : Fin 1024) :
    k0_pay1 (F := Ideal) x w b (ix3 0 r n) = (∑ l, x (ix2 r l) * Ideal.logistic (x (ix2 r l)) * w (ix3 0 l n)) + b (ix3 0 0 n) := by
  pointwise [k0_pay1]

/-- What a step stores in the result's block. -/
theorem stored (r : Fin 8) (n : Fin 1024) : ((dats m 0 c).after 3 t (ix3 0 r n) : EReal) = adapted (conds m c) (aw m c) (ab m c) (ix3 (lay t) r (col t n)) := by
  rw [after0_3]
  unfold out0_3
  frame_out
  rw [pay, b_block m c t]
  simp only [c_block m c t, w_block m c t]
  rfl

/-- The kernel's result array after the run. -/
theorem final : (dats m 0 c).arrAt 3 cfg0.N = adapted (conds m c) (aw m c) (ab m c) := by
  refine (dats m 0 c).arrAt_eq_of_covers 3 _ (by decide +kernel) fun t hf y => ?_
  have ht := t_lt t
  blk_simp
  obtain ⟨p, r, n, rfl⟩ : ∃ (p : Fin 1) (r : Fin 8) (n : Fin 1024), y = ix3 p r n := exists_ix3 y
  obtain rfl : p = 0 := Subsingleton.elim _ _
  rw [stored m c t r n, show ((View.whole main_v4).slice (win0_3.rect t)).emb (ix3 0 r n) = ix3 (lay t) r (col t n) by blk_ext [idx t]]

end Cert.AdaptIdeal.Mm

namespace Cert.AdaptReferenceIdeal.Mm

open Cert.AdaptReferenceIdeal Cert.AdaptReferenceIdeal.Read Cert.Spec Cert.Product Cert.Adapted

theorem result (x : Mat 2 2048) (k : (⟨S2048, .f32⟩ : BufTy).Contents (Elt Ideal)) (w : Cube 4 2048 12288) (b : Mat 4 12288) :
    val_main_v8 (F := Ideal) x k w b = adapted (val_main_v2 (F := Ideal) x k) w b := by
  funext i
  obtain ⟨p, r, n, rfl⟩ := exists_ix3 i
  unfold adapted
  pointwise [val_main_v8, val_main_v7, val_main_v6, val_main_v5, val_main_v4, val_main_v3, val_main_call0_v5,
    val_main_call0_v4, val_main_call0_v3, val_main_call0_v2, val_main_call0_v1, val_main_call0_v0, val_main_call0_cst,
    val_main_call0_cst_0]
  refine congrArg (· + _) (Finset.sum_congr rfl fun l _ => ?_)
  rw [mul_comm]
  rfl

/-- The kernel's conditions are the reference's. -/
theorem conds (m : (ℓ : Loc Cert.AdaptIdeal.nD Cert.AdaptIdeal.τ Cert.AdaptIdeal.sig) → Buf (Elt Ideal) ℓ) (c : Dev Cert.AdaptIdeal.nD) :
    Cert.AdaptIdeal.Mm.conds m c = val_main_v2 (F := Ideal) (Cert.AdaptIdeal.Mm.ac m c) (Cert.AdaptIdeal.Mm.ak m c) := by
  show StableHlo.after Cert.AdaptIdeal.Gen.hostOps0 (fun b => m (c, b)) (Proc.devRef .tc Cert.AdaptIdeal.main_v2) = _
  unfold Cert.AdaptIdeal.Gen.hostOps0
  after_results_simp <;> rfl

/-- The reference leaves its arguments as they are, and declares no semaphore. -/
theorem frame : @Cert.quiescent_AdaptReferenceIdeal Cert.AdaptReferenceIdeal.Gen.facts := by
  intro m ρ _
  exact (θ_run Cert.AdaptReferenceIdeal.defs _ _).mono (fun r h => ⟨fun c => (h c).2, sem_eq_zero_of_no_sems (by decide) r.2⟩)
    (Cert.AdaptReferenceIdeal.Value.run m ρ)

theorem algebraic : @Cert.algebraic_AdaptIdeal_AdaptReferenceIdeal Cert.AdaptIdeal.Gen.facts Cert.AdaptReferenceIdeal.Gen.facts := by
  intro m g m' g' _ he
  refine ⟨fun c => _, (θ_run _ _ _).mono (fun r h c => ⟨(h c).1.trans (Cert.AdaptIdeal.Mm.final m c), (h c).2⟩)
    (Cert.AdaptIdeal.Value.run_blocks m g), ?_⟩
  refine (θ_run _ _ _).mono (fun r h c => ⟨((h c).1.trans (val_main_v8_eq _ _ _ _)).trans ?_, (h c).2⟩) (Cert.AdaptReferenceIdeal.Value.run m' g')
  obtain ⟨e0, e1, e2, e3⟩ := he c
  rw [e0, e1, e2, e3]
  exact (result _ _ _ _).trans (congrArg (fun C => adapted C _ _) (conds m c).symm)

end Cert.AdaptReferenceIdeal.Mm

end
-- ==== Proof.LastRun.lean ====
/- The norm that ends the last layer, run step by step: the first eight steps store the first result's blocks, the last four the second's. -/
module

public import proofs.«01_k».proof.Proof.Gen.LastIdeal
public import proofs.«01_k».proof.Proof.Gen.LastIdeal.Launch
public import proofs.«01_k».proof.Proof.Gen.LastIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Claim
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.LastIdeal.Step

open Cert.LastIdeal Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a step stores, from its blocks of the arguments. -/
abbrev stored (x0 : Vec F S512x2048 .f32) (x1 x2 : Vec F S512x2048 .bf16) (x3 : Vec F S512x128 .f32)
    (x4 : Vec F S1x1x1x1x2048 .f32) (x5 x6 : Vec F S1x1x2048 .f32) : Vec F S512x2048 .f32 :=
  k0_pay1 (k0_pay2 x3 x1 x2 x0 x4) x5 x6

theorem stored_congr {x0 y0 : Vec F S512x2048 .f32} {x1 x2 y1 y2 : Vec F S512x2048 .bf16} {x3 y3 : Vec F S512x128 .f32}
    {x4 y4 : Vec F S1x1x1x1x2048 .f32} {x5 x6 y5 y6 : Vec F S1x1x2048 .f32} (h0 : x0 = y0) (h1 : x1 = y1) (h2 : x2 = y2)
    (h3 : x3 = y3) (h4 : x4 = y4) (h5 : x5 = y5) (h6 : x6 = y6) :
    k0_pay1 (k0_pay2 x3 x1 x2 x0 x4) x5 x6 = stored y0 y1 y2 y3 y4 y5 y6 := by
  rw [h0, h1, h2, h3, h4, h5, h6]

section body

variable (c : Dev nD) (i : grid0.Coords)
  (arg1 : Memref sig .tc .vmem S512x2048 .f32) (harg1 : arg1.IsWhole) (arg2 : Memref sig .tc .vmem S512x2048 .bf16) (harg2 : arg2.IsWhole)
  (arg3 : Memref sig .tc .vmem S512x2048 .bf16) (harg3 : arg3.IsWhole) (arg4 : Memref sig .tc .vmem S512x128 .f32) (harg4 : arg4.IsWhole)
  (arg5 : Memref sig .tc .vmem S1x1x1x1x2048 .f32) (harg5 : arg5.IsWhole) (arg6 : Memref sig .tc .vmem S1x1x2048 .f32) (harg6 : arg6.IsWhole)
  (arg7 : Memref sig .tc .vmem S1x1x2048 .f32) (harg7 : arg7.IsWhole) (arg8 : Memref sig .tc .vmem S512x2048 .f32) (harg8 : arg8.IsWhole)
  (arg9 : Memref sig .tc .vmem S512x2048 .f32) (harg9 : arg9.IsWhole)
  (x0 : Vec F S512x2048 .f32) (x1 x2 : Vec F S512x2048 .bf16) (x3 : Vec F S512x128 .f32)
  (x4 : Vec F S1x1x1x1x2048 .f32) (x5 x6 : Vec F S1x1x2048 .f32)

/-- What a step holds: its blocks of the arguments, and a block of each result. -/
abbrev held (y z : Vec F S512x2048 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6 ∗ owns (c : Thread nD τ) arg8 fullShare y ∗ owns (c : Thread nD τ) arg9 fullShare z)

/-- The body at grid point `i`. -/
abbrev body : Prog (TpuEff nD τ sig (Elt F) Λ₀ .tc) PUnit :=
  cc0_ln i arg1 harg1 arg2 harg2 arg3 harg3 arg4 harg4 arg5 harg5 arg6 harg6 arg7 harg7 arg8 harg8 arg9 harg9

set_option maxHeartbeats 4000000 in
/-- An early step stores the first result's block and leaves the second's. -/
theorem run_early (h1 : k0_cond1 i = 1#1) (h2 : ¬ k0_cond2 i = 1#1) (y z : Vec F S512x2048 .f32) (K : PUnit → sProp 𝕄) :
    iprop(held c arg1 arg2 arg3 arg4 arg5 arg6 arg7 arg8 arg9 x0 x1 x2 x3 x4 x5 x6 y z
      ∗ (held c arg1 arg2 arg3 arg4 arg5 arg6 arg7 arg8 arg9 x0 x1 x2 x3 x4 x5 x6 (stored x0 x1 x2 x3 x4 x5 x6) z -∗ K ⟨⟩))
    ⊢ wp frame (wpE (defs₀ (F := F)) Variants.none c none) Set.univ
      (body i arg1 harg1 arg2 harg2 arg3 harg3 arg4 harg4 arg5 harg5 arg6 harg6 arg7 harg7 arg8 harg8 arg9 harg9) K := by
  unfold body held
  simp only [cc0_ln_eq_skeleton]; unfold cc0_ln_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec! (disch := first | sl_exact h1 | sl_exact h2)
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [H7]
  · iexists _; isplitr; swap
    · iexact H7
    · ipureintro; delta run_early.sl.H7_1
      exact (View.read_writes_full arg8.view _ inb_S512x2048_S512x2048_0_0 _ _).trans
        (stored_congr ((View.readAt_full arg1.view f0 _).trans hf0) ((View.readAt_full arg2.view f1 _).trans hf1)
          ((View.readAt_full arg3.view f2 _).trans hf2) ((View.readAt_full arg4.view f3 _).trans hf3)
          ((View.readAt_full arg5.view f4 _).trans hf4) ((View.readAt_full arg6.view f5 _).trans hf5)
          ((View.readAt_full arg7.view f6 _).trans hf6))
  iexists f8; isplitr
  · ipureintro; exact hf8
  iexact H8

set_option maxHeartbeats 4000000 in
/-- A late step stores the second result's block and leaves the first's. -/
theorem run_late (h1 : ¬ k0_cond1 i = 1#1) (h2 : k0_cond2 i = 1#1) (y z : Vec F S512x2048 .f32) (K : PUnit → sProp 𝕄) :
    iprop(held c arg1 arg2 arg3 arg4 arg5 arg6 arg7 arg8 arg9 x0 x1 x2 x3 x4 x5 x6 y z
      ∗ (held c arg1 arg2 arg3 arg4 arg5 arg6 arg7 arg8 arg9 x0 x1 x2 x3 x4 x5 x6 y (stored x0 x1 x2 x3 x4 x5 x6) -∗ K ⟨⟩))
    ⊢ wp frame (wpE (defs₀ (F := F)) Variants.none c none) Set.univ
      (body i arg1 harg1 arg2 harg2 arg3 harg3 arg4 harg4 arg5 harg5 arg6 harg6 arg7 harg7 arg8 harg8 arg9 harg9) K := by
  unfold body held
  simp only [cc0_ln_eq_skeleton]; unfold cc0_ln_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  sl_exec! (disch := first | sl_exact h1 | sl_exact h2)
  sl_step
  iapply Hk
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]; · iexists f6; isplitr; · ipureintro; exact hf6
                  iexact H6
  isplitl [H7]; · iexists f7; isplitr; · ipureintro; exact hf7
                  iexact H7
  iexists _; isplitr; swap
  · iexact H8
  · ipureintro; delta run_late.sl.H8_1
    exact (View.read_writes_full arg9.view _ inb_S512x2048_S512x2048_0_0 _ _).trans
      (stored_congr ((View.readAt_full arg1.view f0 _).trans hf0) ((View.readAt_full arg2.view f1 _).trans hf1)
        ((View.readAt_full arg3.view f2 _).trans hf2) ((View.readAt_full arg4.view f3 _).trans hf3)
        ((View.readAt_full arg5.view f4 _).trans hf4) ((View.readAt_full arg6.view f5 _).trans hf5)
        ((View.readAt_full arg7.view f6 _).trans hf6))

end body

/-! ## What every step leaves -/

variable (m : (ℓ : Loc nD τ sig) → Buf (Elt F) ℓ) (ρ : Dev nD → PrngReg)

/-- The arrays when the grid is entered: the gains and the offsets have been laid out, the arguments are as they were. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

theorem enters (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_ops main_chain

theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A window's block at a step. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What step `t` stores. -/
def out (c : Dev nD) (t : Fin cfg0.N) : Vec F S512x2048 .f32 :=
  stored (iblk m c 0 t) (iblk m c 1 t) (iblk m c 2 t) (iblk m c 3 t) (iblk m c 4 t) (iblk m c 5 t) (iblk m c 6 t)

/-- The last early step up to `t`: the step that stored the block of the first result that step `t` holds. -/
def early (t : Fin cfg0.N) : Fin cfg0.N := ⟨min t.val 7, lt_of_le_of_lt (min_le_left _ _) t.isLt⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out m c (early t)
    | ⟨8, _⟩ => out m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_first (c : Dev nD) (t : Fin cfg0.N) : (dats m 0 c).after 7 t = out m c (early t) := by dsimp only [dats]
theorem after_second (c : Dev nD) (t : Fin cfg0.N) : (dats m 0 c).after 8 t = out m c t := by dsimp only [dats]

/-- A step finds its blocks of the arguments, and leaves them. -/
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = iblk m c 5 t ∧ (dats m 0 c).after 6 t = iblk m c 6 t := by
  refine ⟨?_, ?_, ?_, ?_, ?_, ?_, ?_⟩ <;> dsimp only [dats]

theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) := by
  refine ⟨fun d => ?_, fun d => ?_, fun d => ?_, fun d => ?_, fun d => ?_, fun d => ?_, fun d => ?_⟩
  all_goals refine ((dats m 0 c).before_in_eq_fetched _ rfl (fun _ => rfl) (fun _ _ _ => rfl) (fun t => ?_) t d).trans ?_
  all_goals simp only [dats, Dat.fetched, Dat.blockOf, iblk]
  all_goals rfl

/-- The early steps are the first eight; the late ones are the rest. -/
theorem cases_at : ∀ t : Fin cfg0.N, (t.val < 8 → k0_cond1 (grid0.coords t) = 1#1 ∧ ¬ k0_cond2 (grid0.coords t) = 1#1
      ∧ cfg0.idle 7 (cfg0.grid.coords t) = false ∧ cfg0.idle 8 (cfg0.grid.coords t) = true ∧ (cfg0.win 8).flush t = false)
    ∧ (8 ≤ t.val → ¬ k0_cond1 (grid0.coords t) = 1#1 ∧ k0_cond2 (grid0.coords t) = 1#1
      ∧ cfg0.idle 7 (cfg0.grid.coords t) = true ∧ cfg0.idle 8 (cfg0.grid.coords t) = false) :=
  (by decide +kernel : ∀ t : Fin grid0.N, _)

theorem fresh_first (n : ℕ) (h : n ≤ cfg0.N) : cfg0.fresh 7 n = decide (n < 8 ∨ n = 12) :=
  cfg0.fresh_tab 7 (fun n => decide (n < 8 ∨ n = 12)) rfl (by decide +kernel : ∀ t : Fin grid0.N, _) n h

/-- A late step finds the first result's block as the last early step left it. -/
theorem before_late (c : Dev nD) (t : Fin cfg0.N) (h : 8 ≤ t.val) (d) : (dats m 0 c).before 7 t d = (dats m 0 c).after 7 t := by
  have carry : ∀ (t : Fin cfg0.N), 8 ≤ t.val → (dats m 0 c).after 7 t = (dats m 0 c).after 7 ⟨t.val - 1, by omega⟩ := fun t h => by
    rw [after_first, after_first]
    exact congrArg (out m c) (Fin.ext (by unfold early; dsimp only; omega))
  rw [(dats m 0 c).before_out_traj 7 rfl (fun _ _ => rfl) (fun t _ hi hf => carry t (by
      by_contra hlt
      rw [((cases_at t).1 (by omega)).2.2.1] at hi
      exact Bool.false_ne_true hi)) t.val t rfl d, fresh_first _ (le_of_lt t.isLt), if_neg (by have : t.val < 12 := t.isLt; simp; omega)]
  exact (carry t h).symm

/-- The staging buffers at a step. -/
abbrev st (w : Fin cfg0.W) (t : Fin cfg0.N) := (cfg0.win w).stage (cfg0.slots t w)

theorem leaves_late (c : Dev nD) (t : Fin cfg0.N) (h : 8 ≤ t.val) (d) :
    (owns (c : Thread nD τ) (st 7 t) fullShare ((dats m 0 c).before 7 t d) : sProp 𝕄) ⊢ (dats m 0 c).leavesExact 7 t := by
  cases hf : (cfg0.win 7).flush t
  · rw [(dats m 0 c).leavesExact_idle 7 t ((cases_at t).2 h).2.2.1 hf]
    iintro H
    iexists d
    iexact H
  · unfold Dat.leavesExact
    rw [((cases_at t).2 h).2.2.1, hf, before_late m c t h d]

/-- The body at step `t`, on its staging buffers. -/
abbrev bodyAt (t : Fin cfg0.N) : Prog (TpuEff nD τ sig (Elt F) Λ₀ .tc) PUnit :=
  body (grid0.coords t) (st 0 t) (hstage0_0 ((cfg0.slots t 0).cast nbuf0_0)) (st 1 t) (hstage0_1 ((cfg0.slots t 1).cast nbuf0_1))
    (st 2 t) (hstage0_2 ((cfg0.slots t 2).cast nbuf0_2)) (st 3 t) (hstage0_3 ((cfg0.slots t 3).cast nbuf0_3))
    (st 4 t) (hstage0_4 ((cfg0.slots t 4).cast nbuf0_4)) (st 5 t) (hstage0_5 ((cfg0.slots t 5).cast nbuf0_5))
    (st 6 t) (hstage0_6 ((cfg0.slots t 6).cast nbuf0_6)) (st 7 t) (hstage0_7 ((cfg0.slots t 7).cast nbuf0_7))
    (st 8 t) (hstage0_8 ((cfg0.slots t 8).cast nbuf0_8))

/-- What the body is called with at step `t`. -/
def bodyPre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d))
    ∗ (∃ d, owns (c : Thread nD τ) (st 8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st 0 t) fullShare ((dats m 0 c).after 0 t)
    ∗ owns (c : Thread nD τ) (st 1 t) fullShare ((dats m 0 c).after 1 t)
    ∗ owns (c : Thread nD τ) (st 2 t) fullShare ((dats m 0 c).after 2 t)
    ∗ owns (c : Thread nD τ) (st 3 t) fullShare ((dats m 0 c).after 3 t)
    ∗ owns (c : Thread nD τ) (st 4 t) fullShare ((dats m 0 c).after 4 t)
    ∗ owns (c : Thread nD τ) (st 5 t) fullShare ((dats m 0 c).after 5 t)
    ∗ owns (c : Thread nD τ) (st 6 t) fullShare ((dats m 0 c).after 6 t)
    ∗ (dats m 0 c).leavesExact 7 t
    ∗ (dats m 0 c).leavesExact 8 t)

theorem early_of (t : Fin cfg0.N) (h : t.val < 8) : early t = t := Fin.ext (by unfold early; dsimp only; omega)

set_option maxHeartbeats 1600000 in
theorem sound_body (c : Dev nD) (t : Fin cfg0.N) :
    bodyPre m c t ⊢ wp frame (wpE (defs₀ (F := F)) Variants.none c none) Set.univ (bodyAt t) (fun _ => bodyPost m c t) := by
  obtain ⟨b0, b1, b2, b3, b4, b5, b6⟩ := before_in m c t
  obtain ⟨a0, a1, a2, a3, a4, a5, a6⟩ := after_in m c t
  unfold bodyPre bodyPost
  simp only [b0, b1, b2, b3, b4, b5, b6]
  rw [show (dats m 0 c).Φ t.succ = (dats m 0 c).Φ t.castSucc from rfl,
    show (dats m 0 c).owesAt () t.succ = (dats m 0 c).owesAt () t.castSucc from rfl, a0, a1, a2, a3, a4, a5, a6]
  by_cases h : t.val < 8
  · obtain ⟨h1, h2, l7, l8, f8⟩ := (cases_at t).1 h
    rw [(dats m 0 c).leavesExact_idle 8 t l8 f8,
      show (dats m 0 c).leavesExact 7 t = owns (c : Thread nD τ) (st 7 t) fullShare (out m c t) from by
        unfold Dat.leavesExact; rw [l7, after_first, early_of t h]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_early c (grid0.coords t) _ _ _ _ _ _ _ _ _ _ _ _ _ _ _ _ _ _ (iblk m c 0 t) (iblk m c 1 t) (iblk m c 2 t) (iblk m c 3 t)
      (iblk m c 4 t) (iblk m c 5 t) (iblk m c 6 t) h1 h2 ((dats m 0 c).before 7 t d7) ((dats m 0 c).before 8 t d8) _)
    isplitl [H0 H1 H2 H3 H4 H5 H6 H7 H8]
    · unfold held
      iframe
    unfold held
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8
    iexact H8
  · have h' : 8 ≤ t.val := by omega
    obtain ⟨h1, h2, l7, l8⟩ := (cases_at t).2 h'
    rw [show (dats m 0 c).leavesExact 8 t = owns (c : Thread nD τ) (st 8 t) fullShare (out m c t) from by
        unfold Dat.leavesExact; rw [l8, after_second]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_late c (grid0.coords t) _ _ _ _ _ _ _ _ _ _ _ _ _ _ _ _ _ _ (iblk m c 0 t) (iblk m c 1 t) (iblk m c 2 t) (iblk m c 3 t)
      (iblk m c 4 t) (iblk m c 5 t) (iblk m c 6 t) h1 h2 ((dats m 0 c).before 7 t d7) ((dats m 0 c).before 8 t d8) _)
    isplitl [H0 H1 H2 H3 H4 H5 H6 H7 H8]
    · unfold held
      iframe
    unfold held
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (leaves_late m c t h' d7)
      iexact H7
    iexact H8

theorem row (t : Fin cfg0.N) : defs₀ (F := F) .tc cfg0.body (cfg0.bodyArgs t (cfg0.slots t)) = bodyAt t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The whole run ends with every array as the steps' blocks make it, and every semaphore at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := enters m Variants.none) (hA := A_eq m) (hΦ := fun _ _ => rfl)

variable {m}

theorem kept_in {r : PUnit × MemSt nD τ sig (Elt F)} (h : Pipeline.FramePost cfgs (dats m) 0 (V m) r) (c : Dev nD) (w : Fin cfg0.W)
    (hin : (cfg0.win w).isOut = false) (h0 : Pipeline.arrRef spec0 w ≠ main_v0) (h1 : Pipeline.arrRef spec0 w ≠ main_v1) :
    r.2.mem ((c : Thread nD τ).loc (Pipeline.arrRef spec0 w)) = m ((c : Thread nD τ).loc (Pipeline.arrRef spec0 w)) :=
  ((h c).1 w).trans (((dats m 0 c).arrAt_in w hin _).trans ((A_eq m c w).trans (V_kept m c _ h0 h1)))

theorem kept_rest {r : PUnit × MemSt nD τ sig (Elt F)} (h : Pipeline.FramePost cfgs (dats m) 0 (V m) r) (c : Dev nD) :
    r.2.mem ((c : Thread nD τ).loc main_arg5) = m ((c : Thread nD τ).loc main_arg5)
      ∧ r.2.mem ((c : Thread nD τ).loc main_arg6) = m ((c : Thread nD τ).loc main_arg6) :=
  ⟨((h c).2 main_arg5 (Pipeline.mem_restRefs_of main_arg5 (by decide) (by decide))).trans (V_kept m c _ (by decide) (by decide)),
    ((h c).2 main_arg6 (Pipeline.mem_restRefs_of main_arg6 (by decide) (by decide))).trans (V_kept m c _ (by decide) (by decide))⟩

/-- The run leaves the arguments as they are. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨kept_in h c 0 rfl (by decide) (by decide), kept_in h c 1 rfl (by decide) (by decide), kept_in h c 2 rfl (by decide) (by decide),
    kept_in h c 3 rfl (by decide) (by decide), kept_in h c 4 rfl (by decide) (by decide), kept_rest h c⟩

end Cert.LastIdeal.Step

end
-- ==== Proof.Last.lean ====
/- The norm that ends the last layer: the kernel's two results and the reference's are the same formulas of the arguments. -/
module

public import proofs.«01_k».proof.Defs
public import proofs.«01_k».proof.Proof.LastRun
public import proofs.«01_k».proof.Proof.Gen.Last
public import proofs.«01_k».proof.Proof.Gen.LastReferenceIdeal.Run
public import proofs.«01_k».proof.Proof.Gen.LastReferenceIdeal.Read
public import proofs.«01_k».proof.Proof.Rows
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows

open Cert.Spec

/-- The last layer's norm, of the rows and of the two chosen experts' results weighed by the row's two probabilities. -/
def ended (x h k : Mat 6144 2048) (p : Mat 6144 128) (M : Mods) (g b : Mat 4 2048) : Mat 6144 2048 := fun i =>
  centred (fun l => added (x (ix2 (i 0) l)) (h (ix2 (i 0) l) * p (ix2 (i 0) 0) + k (ix2 (i 0) l) * p (ix2 (i 0) 1)) (entry M 3 5 (i 0).val l))
    (g (ix2 3 (i 1))) (b (ix2 3 (i 1))) (i 1)

/-- The prompts' rows, which are the first 4096. -/
def prompts (y : Mat 6144 2048) : Mat 4096 2048 := fun i => y (ix2 ⟨(i 0).val, by have : (i 0).val < 4096 := (i 0).isLt; omega⟩ (i 1))

/-- The samples' rows, which are the last 2048. -/
def samples (y : Mat 6144 2048) : Mat 2048 2048 := fun i => y (ix2 ⟨4096 + (i 0).val, by have : (i 0).val < 2048 := (i 0).isLt; omega⟩ (i 1))

end Cert.Rows

namespace Cert.LastIdeal.Mm

open Cert.LastIdeal Cert.LastIdeal.Gen Cert.LastIdeal.Step Cert.Spec Cert.Product Cert.Rows

variable (m : (ℓ : Loc nD τ sig) → Buf (Elt Ideal) ℓ)

abbrev ax (c : Dev nD) : Mat 6144 2048 := m ((c : Thread nD τ).loc main_arg0)
abbrev ah (c : Dev nD) : Mat 6144 2048 := m ((c : Thread nD τ).loc main_arg1)
abbrev ak (c : Dev nD) : Mat 6144 2048 := m ((c : Thread nD τ).loc main_arg2)
abbrev ap (c : Dev nD) : Mat 6144 128 := m ((c : Thread nD τ).loc main_arg3)
abbrev am (c : Dev nD) : Mods := m ((c : Thread nD τ).loc main_arg4)
abbrev ag (c : Dev nD) : Mat 4 2048 := m ((c : Thread nD τ).loc main_arg5)
abbrev ab (c : Dev nD) : Mat 4 2048 := m ((c : Thread nD τ).loc main_arg6)

theorem idx : ∀ t : Fin cfg0.N, win0_0.index t = ![t.val, 0] ∧ win0_1.index t = ![t.val, 0] ∧ win0_2.index t = ![t.val, 0]
    ∧ win0_3.index t = ![t.val, 0] ∧ win0_4.index t = ![3, (condOf (t.val * 512)).val, 5, 0, 0] ∧ win0_5.index t = ![3, 0, 0]
    ∧ win0_6.index t = ![3, 0, 0] ∧ win0_7.index t = ![min t.val 7, 0] ∧ win0_8.index t = ![t.val - 8, 0] :=
  (by decide +kernel : ∀ t : Fin grid0.N, _)

theorem t_lt (t : Fin cfg0.N) : t.val < 12 := t.isLt

variable (c : Dev nD) (t : Fin cfg0.N)

/-- The row of the arrays that is a block's row. -/
abbrev row (r : Fin 512) : Fin 6144 := ⟨t.val * 512 + r.val, by have := t_lt t; omega⟩

theorem gains (l : Fin 2048) : (V m c main_v0 (ix3 3 0 l) : EReal) = ag m c (ix2 3 l) := by
  entry_read
  pointwise

theorem offsets (l : Fin 2048) : (V m c main_v1 (ix3 3 0 l) : EReal) = ab m c (ix2 3 l) := by
  entry_read
  pointwise

theorem x_block (r : Fin 512) (l : Fin 2048) : (iblk m c 0 t (ix2 r l) : EReal) = ax m c (ix2 (row t r) l) := by
  blk_ext [iblk, V, idx t]

theorem h_block (r : Fin 512) (l : Fin 2048) : (iblk m c 1 t (ix2 r l) : EReal) = ah m c (ix2 (row t r) l) := by
  blk_ext [iblk, V, idx t]

theorem k_block (r : Fin 512) (l : Fin 2048) : (iblk m c 2 t (ix2 r l) : EReal) = ak m c (ix2 (row t r) l) := by
  blk_ext [iblk, V, idx t]

theorem p_block (r : Fin 512) (l : Fin 128) : (iblk m c 3 t (ix2 r l) : EReal) = ap m c (ix2 (row t r) l) := by
  blk_ext [iblk, V, idx t]

theorem gate_block (r : Fin 512) (l : Fin 2048) : (iblk m c 4 t (ix5 0 0 0 0 l) : EReal) = entry (am m c) 3 5 (row t r).val l := by
  unfold entry
  rw [cond_block t.val r.val r.isLt]
  blk_ext [iblk, V, idx t]

theorem g_block (l : Fin 2048) : (iblk m c 5 t (ix3 0 0 l) : EReal) = ag m c (ix2 3 l) := by
  refine Eq.trans ?_ (gains m c l)
  blk_ext [iblk, idx t]

theorem b_block (l : Fin 2048) : (iblk m c 6 t (ix3 0 0 l) : EReal) = ab m c (ix2 3 l) := by
  refine Eq.trans ?_ (offsets m c l)
  blk_ext [iblk, idx t]

theorem pay (x : Vec Ideal S512x2048 .f32) (h k : Vec Ideal S512x2048 .bf16) (p : Vec Ideal S512x128 .f32) (s : Vec Ideal S1x1x1x1x2048 .f32)
    (g b : Vec Ideal S1x1x2048 .f32) (r : Fin 512) (n : Fin 2048) :
    k0_pay1 (F := Ideal) (k0_pay2 p h k x s) g b (ix2 r n)
      = centred (fun l => added (x (ix2 r l)) (h (ix2 r l) * p (ix2 r 0) + k (ix2 r l) * p (ix2 r 1)) (s (ix5 0 0 0 0 l)))
        (g (ix3 0 0 n)) (b (ix3 0 0 n)) n := by
  pointwise [k0_pay1, k0_pay2]
  rfl

theorem out_rows (r : Fin 512) (n : Fin 2048) :
    (Step.out m c t (ix2 r n) : EReal) = ended (ax m c) (ah m c) (ak m c) (ap m c) (am m c) (ag m c) (ab m c) (ix2 (row t r) n) := by
  unfold Step.out stored
  rw [pay]
  exact centred_congr (fun l => by rw [x_block, h_block, k_block, p_block, p_block, gate_block m c t r]; rfl)
    (g_block m c t n) (b_block m c t n) rfl

/-- The first result's array after the run. -/
theorem final : (dats m 0 c).arrAt 7 cfg0.N = prompts (ended (ax m c) (ah m c) (ak m c) (ap m c) (am m c) (ag m c) (ab m c)) := by
  refine (dats m 0 c).arrAt_eq_of_covers 7 _ (by decide +kernel) fun t hf y => ?_
  have ht := t_lt t
  blk_simp
  rw [after_first]
  obtain ⟨r, n, rfl⟩ : ∃ (r : Fin 512) (n : Fin 2048), y = ix2 r n := exists_ix2 y
  rw [out_rows, show ((View.whole main_v2_0).slice (win0_7.rect t)).emb (ix2 r n)
    = ix2 (⟨min t.val 7 * 512 + r.val, by omega⟩ : Fin 4096) n by blk_ext [idx t]]
  rfl

theorem flush_second : ∀ t : Fin cfg0.N, (cfg0.win 8).flush t = true → 8 ≤ t.val := (by decide +kernel : ∀ t : Fin grid0.N, _)

/-- The second result's array after the run. -/
theorem final_second : (dats m 0 c).arrAt 8 cfg0.N = samples (ended (ax m c) (ah m c) (ak m c) (ap m c) (am m c) (ag m c) (ab m c)) := by
  refine (dats m 0 c).arrAt_eq_of_covers 8 _ (by decide +kernel) fun t hf y => ?_
  have ht := t_lt t
  have ht' := flush_second t hf
  blk_simp
  rw [after_second]
  obtain ⟨r, n, rfl⟩ : ∃ (r : Fin 512) (n : Fin 2048), y = ix2 r n := exists_ix2 y
  rw [out_rows, show ((View.whole main_v2_1).slice (win0_8.rect t)).emb (ix2 r n)
    = ix2 (⟨(t.val - 8) * 512 + r.val, by omega⟩ : Fin 2048) n by blk_ext [idx t]]
  unfold samples
  refine congrArg (ended (ax m c) (ah m c) (ak m c) (ap m c) (am m c) (ag m c) (ab m c)) (congrArg (fun r => ix2 r n) (Fin.ext ?_))
  show t.val * 512 + r.val = 4096 + ((t.val - 8) * 512 + r.val)
  omega

theorem frame : @Cert.quiescent_LastIdeal Cert.LastIdeal.Gen.facts := by
  intro m ρ _
  exact (θ_run Cert.LastIdeal.defs _ _).mono (fun r h => ⟨fun c => kept h.1 c, h.2⟩) (run m ρ)

end Cert.LastIdeal.Mm

namespace Cert.Last.Mm

set_option maxHeartbeats 2000000 in
/-- The two printed forms of the call run alike. -/
theorem run_eq {F : FTy → Type} [FloatOps F] (m : (ℓ : Loc Cert.Last.nD Cert.Last.τ Cert.Last.sig) → Buf (Elt F) ℓ) (ρ : Dev Cert.Last.nD → PrngReg)
    (Q : PUnit × MemSt Cert.Last.nD Cert.Last.τ Cert.Last.sig (Elt F) → Prop) :
    θ_run (Cert.Last.defs (F := F)) (onTc (τ := Cert.Last.τ) (Cert.Last.main (F := F))) ⟨m, fun _ => 0, ρ⟩ Q
      = θ_run (Cert.LastIdeal.defs (F := F)) (onTc (τ := Cert.LastIdeal.τ) (Cert.LastIdeal.main (F := F))) ⟨m, fun _ => 0, ρ⟩ Q := by
  chain_rfl

theorem frame : @Cert.quiescent_Last Cert.Last.Gen.facts := by
  intro m ρ _
  rw [run_eq]
  exact (θ_run Cert.LastIdeal.defs _ _).mono (fun r h => ⟨fun c => Cert.LastIdeal.Step.kept h.1 c, h.2⟩) (Cert.LastIdeal.Step.run m ρ)

end Cert.Last.Mm

namespace Cert.LastReferenceIdeal.Mm

open Cert.LastReferenceIdeal Cert.LastReferenceIdeal.Read Cert.Spec Cert.Product Cert.Rows

theorem gate_rows (M : Mods) (r : Fin 6144) (l : Fin 2048) : (val_main_v22 (F := Ideal) M (ix2 r l) : EReal) = entry M 3 5 r.val l := by
  unfold entry condOf
  pointwise [val_main_v22, val_main_v21, val_main_v20, val_main_v19, val_main_v18, val_main_v17, val_main_v16, val_main_v15, val_main_v14,
    val_main_v13, val_main_v12, val_main_v11]
  split_ifs <;> first | rfl | omega

theorem sums (x h k : Mat 6144 2048) (p : Mat 6144 128) (M : Mods) (r : Fin 6144) (l : Fin 2048) :
    (val_main_v24 (F := Ideal) x h k p M (ix2 r l) : EReal)
      = added (x (ix2 r l)) (h (ix2 r l) * p (ix2 r 0) + k (ix2 r l) * p (ix2 r 1)) (entry M 3 5 r.val l) := by
  rw [← gate_rows]
  pointwise [val_main_v24, val_main_v23, val_main_v10, val_main_v9, val_main_cst, val_main_v8, val_main_v7, val_main_v6, val_main_v5,
    val_main_v4, val_main_v3, val_main_v2, val_main_v1, val_main_v0]
  rfl

theorem rows (x h k : Mat 6144 2048) (p : Mat 6144 128) (M : Mods) (g b : Mat 4 2048) :
    val_main_v52 (F := Ideal) x h k p M g b = ended x h k p M g b := by
  funext i
  obtain ⟨r, n, rfl⟩ := exists_ix2 i
  refine Eq.trans ?_ (centred_congr (fun l => sums x h k p M r l) rfl rfl rfl)
  pointwise [val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_v26, val_main_v25, val_main_cst_0, val_main_cst_1, val_main_cst_2, val_main_cst_3, val_main_cst_4]
  rfl

theorem result (x h k : Mat 6144 2048) (p : Mat 6144 128) (M : Mods) (g b : Mat 4 2048) :
    val_main_v53 (F := Ideal) x h k p M g b = prompts (ended x h k p M g b) := by
  funext i
  obtain ⟨r, n, rfl⟩ := exists_ix2 i
  rw [← rows]
  unfold prompts
  pointwise [val_main_v53]

theorem result_second (x h k : Mat 6144 2048) (p : Mat 6144 128) (M : Mods) (g b : Mat 4 2048) :
    val_main_v54 (F := Ideal) x h k p M g b = samples (ended x h k p M g b) := by
  funext i
  obtain ⟨r, n, rfl⟩ := exists_ix2 i
  rw [← rows]
  unfold samples
  pointwise [val_main_v54]

/-- The reference leaves its arguments as they are, and declares no semaphore. -/
theorem frame : @Cert.quiescent_LastReferenceIdeal Cert.LastReferenceIdeal.Gen.facts := by
  intro m ρ _
  exact (θ_run Cert.LastReferenceIdeal.defs _ _).mono (fun r h => ⟨fun c => (h c).2.2, sem_eq_zero_of_no_sems (by decide) r.2⟩)
    (Cert.LastReferenceIdeal.Value.run m ρ)

theorem algebraic : @Cert.algebraic_LastIdeal_LastReferenceIdeal Cert.LastIdeal.Gen.facts Cert.LastReferenceIdeal.Gen.facts := by
  intro m g m' g' _ he
  refine ⟨fun c => _, fun c => _, (θ_run _ _ _).mono (fun r h c => ⟨((h.1 c).1 7).trans (Cert.LastIdeal.Mm.final m c),
    ((h.1 c).1 8).trans (Cert.LastIdeal.Mm.final_second m c), Cert.LastIdeal.Step.kept h.1 c⟩) (Cert.LastIdeal.Step.run m g), ?_⟩
  refine (θ_run _ _ _).mono (fun r h c => ⟨((h c).1.trans (val_main_v53_eq _ _)).trans ?_,
    ((h c).2.1.trans (val_main_v54_eq _ _)).trans ?_, (h c).2.2⟩) (Cert.LastReferenceIdeal.Value.run m' g')
  all_goals obtain ⟨e0, e1, e2, e3, e4, e5, e6⟩ := he c
  all_goals rw [e0, e1, e2, e3, e4, e5, e6]
  · exact result _ _ _ _ _ _ _
  · exact result_second _ _ _ _ _ _ _

end Cert.LastReferenceIdeal.Mm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.SsmInZ
public import proofs.«01_k».proof.Proof.Gen.SsmInZ.Skeleton
public import proofs.«01_k».proof.Proof.Gen.SsmInZ.Launch
public import proofs.«01_k».proof.Proof.Gen.SsmInZ.Points
public import proofs.«01_k».proof.Proof.Gen.SsmInZ.Frame
public import proofs.«01_k».proof.Proof.Gen.SsmInZIdeal
public import proofs.«01_k».proof.Proof.Gen.SsmInZIdeal.Skeleton
public import proofs.«01_k».proof.Proof.Gen.SsmInZIdeal.Launch
public import proofs.«01_k».proof.Proof.Gen.SsmInZIdeal.Points
public import proofs.«01_k».proof.Proof.Gen.SsmInZIdeal.Frame
public import proofs.«01_k».proof.Proof.Gen.SsmInZIdeal.Value
public import proofs.«01_k».proof.Proof.Gen.SsmInZReferenceIdeal
public import proofs.«01_k».proof.Proof.Gen.SsmInZReferenceIdeal.Run
public import proofs.«01_k».proof.Proof.Gen.SsmInZReferenceIdeal.Read
public import proofs.«01_k».proof.Proof.Gen.SsmInXbc
public import proofs.«01_k».proof.Proof.Gen.SsmInXbc.Skeleton
public import proofs.«01_k».proof.Proof.Gen.SsmInXbc.Launch
public import proofs.«01_k».proof.Proof.Gen.SsmInXbc.Points
public import proofs.«01_k».proof.Proof.Gen.SsmInXbc.Frame
public import proofs.«01_k».proof.Proof.Gen.SsmInXbcIdeal
public import proofs.«01_k».proof.Proof.Gen.SsmInXbcIdeal.Skeleton
public import proofs.«01_k».proof.Proof.Gen.SsmInXbcIdeal.Launch
public import proofs.«01_k».proof.Proof.Gen.SsmInXbcIdeal.Points
public import proofs.«01_k».proof.Proof.Gen.SsmInXbcIdeal.Frame
public import proofs.«01_k».proof.Proof.Gen.SsmInXbcIdeal.Value
public import proofs.«01_k».proof.Proof.Gen.SsmInXbcReferenceIdeal
public import proofs.«01_k».proof.Proof.Gen.SsmInXbcReferenceIdeal.Run
public import proofs.«01_k».proof.Proof.Gen.SsmInXbcReferenceIdeal.Read
public import proofs.«01_k».proof.Proof.Gen.SsmOut
public import proofs.«01_k».proof.Proof.Gen.SsmOut.Skeleton
public import proofs.«01_k».proof.Proof.Gen.SsmOut.Launch
public import proofs.«01_k».proof.Proof.Gen.SsmOut.Points
public import proofs.«01_k».proof.Proof.Gen.SsmOut.Frame
public import proofs.«01_k».proof.Proof.Gen.SsmOutIdeal
public import proofs.«01_k».proof.Proof.Gen.SsmOutIdeal.Skeleton
public import proofs.«01_k».proof.Proof.Gen.SsmOutIdeal.Launch
public import proofs.«01_k».proof.Proof.Gen.SsmOutIdeal.Points
public import proofs.«01_k».proof.Proof.Gen.SsmOutIdeal.Frame
public import proofs.«01_k».proof.Proof.Gen.SsmOutIdeal.Value
public import proofs.«01_k».proof.Proof.Gen.SsmOutReferenceIdeal
public import proofs.«01_k».proof.Proof.Gen.SsmOutReferenceIdeal.Run
public import proofs.«01_k».proof.Proof.Gen.SsmOutReferenceIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjReferenceIdeal
public import proofs.«01_k».proof.Proof.Gen.QProjReferenceIdeal.Run
public import proofs.«01_k».proof.Proof.Gen.QProjReferenceIdeal.Read
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.KvProjReferenceIdeal
public import proofs.«01_k».proof.Proof.Gen.KvProjReferenceIdeal.Run
public import proofs.«01_k».proof.Proof.Gen.KvProjReferenceIdeal.Read
public import proofs.«01_k».proof.Proof.Attention
public import proofs.«01_k».proof.Proof.KvProj
public import proofs.«01_k».proof.Proof.QProj
public import proofs.«01_k».proof.Proof.MixOut
public import proofs.«01_k».proof.Proof.MixIn
public import proofs.«01_k».proof.Proof.SsmOut
public import proofs.«01_k».proof.Proof.SsmInXbc
public import proofs.«01_k».proof.Proof.SsmInZ
public import proofs.«01_k».proof.Proof.FfnDown
public import proofs.«01_k».proof.Proof.FfnUp
public import proofs.«01_k».proof.Proof.MoeUp
public import proofs.«01_k».proof.Proof.MoeDown
public import proofs.«01_k».proof.Proof.SsmDt
public import proofs.«01_k».proof.Proof.GateNorm
public import proofs.«01_k».proof.Proof.Caches
public import proofs.«01_k».proof.Proof.Modulate
public import proofs.«01_k».proof.Proof.Mixed
public import proofs.«01_k».proof.Proof.Adapt
public import proofs.«01_k».proof.Proof.Last
public import Idealize.ShloMosaic.Adequacy
public import Idealize.ShloMosaic.Init
public import proofs.«01_k».proof.Proof.Gen.MoeUp
public import proofs.«01_k».proof.Proof.Gen.MoeUp.Skeleton
public import proofs.«01_k».proof.Proof.Gen.MoeUp.Launch
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpReferenceIdeal
public import proofs.«01_k».proof.Proof.Gen.MoeUpReferenceIdeal.Run
public import proofs.«01_k».proof.Proof.Gen.MoeUpReferenceIdeal.Read
public import proofs.«01_k».proof.Proof.Gen.MoeDown
public import proofs.«01_k».proof.Proof.Gen.MoeDown.Skeleton
public import proofs.«01_k».proof.Proof.Gen.MoeDown.Launch
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownReferenceIdeal
public import proofs.«01_k».proof.Proof.Gen.MoeDownReferenceIdeal.Run
public import proofs.«01_k».proof.Proof.Gen.MoeDownReferenceIdeal.Read
public import proofs.«01_k».proof.Proof.Gen.SsmDt
public import proofs.«01_k».proof.Proof.Gen.SsmDt.Skeleton
public import proofs.«01_k».proof.Proof.Gen.SsmDt.Launch
public import proofs.«01_k».proof.Proof.Gen.SsmDt.Points
public import proofs.«01_k».proof.Proof.Gen.SsmDt.Frame
public import proofs.«01_k».proof.Proof.Gen.SsmDtIdeal
public import proofs.«01_k».proof.Proof.Gen.SsmDtIdeal.Skeleton
public import proofs.«01_k».proof.Proof.Gen.SsmDtIdeal.Launch
public import proofs.«01_k».proof.Proof.Gen.SsmDtIdeal.Points
public import proofs.«01_k».proof.Proof.Gen.SsmDtIdeal.Frame
public import proofs.«01_k».proof.Proof.Gen.SsmDtIdeal.Value
public import proofs.«01_k».proof.Proof.Gen.SsmDtReferenceIdeal
public import proofs.«01_k».proof.Proof.Gen.SsmDtReferenceIdeal.Run
public import proofs.«01_k».proof.Proof.Gen.SsmDtReferenceIdeal.Read
public import proofs.«01_k».proof.Proof.Gen.GateNorm
public import proofs.«01_k».proof.Proof.Gen.GateNorm.Skeleton
public import proofs.«01_k».proof.Proof.Gen.GateNorm.Launch
public import proofs.«01_k».proof.Proof.Gen.GateNorm.Points
public import proofs.«01_k».proof.Proof.Gen.GateNorm.Frame
public import proofs.«01_k».proof.Proof.Gen.GateNormIdeal
public import proofs.«01_k».proof.Proof.Gen.GateNormIdeal.Skeleton
public import proofs.«01_k».proof.Proof.Gen.GateNormIdeal.Launch
public import proofs.«01_k».proof.Proof.Gen.GateNormIdeal.Points
public import proofs.«01_k».proof.Proof.Gen.GateNormIdeal.Frame
public import proofs.«01_k».proof.Proof.Gen.GateNormIdeal.Value
public import proofs.«01_k».proof.Proof.Gen.GateNormReferenceIdeal
public import proofs.«01_k».proof.Proof.Gen.GateNormReferenceIdeal.Run
public import proofs.«01_k».proof.Proof.Gen.GateNormReferenceIdeal.Read
public import proofs.«01_k».proof.Proof.Gen.Caches
public import proofs.«01_k».proof.Proof.Gen.Caches.Skeleton
public import proofs.«01_k».proof.Proof.Gen.Caches.Launch
public import proofs.«01_k».proof.Proof.Gen.Caches.Points
public import proofs.«01_k».proof.Proof.Gen.Caches.Frame
public import proofs.«01_k».proof.Proof.Gen.CachesIdeal
public import proofs.«01_k».proof.Proof.Gen.CachesIdeal.Skeleton
public import proofs.«01_k».proof.Proof.Gen.CachesIdeal.Launch
public import proofs.«01_k».proof.Proof.Gen.CachesIdeal.Points
public import proofs.«01_k».proof.Proof.Gen.CachesIdeal.Frame
public import proofs.«01_k».proof.Proof.Gen.CachesReferenceIdeal
public import proofs.«01_k».proof.Proof.Gen.CachesReferenceIdeal.Run
public import proofs.«01_k».proof.Proof.Gen.CachesReferenceIdeal.Read
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateIdeal.Value
public import proofs.«01_k».proof.Proof.Gen.ModulateReferenceIdeal
public import proofs.«01_k».proof.Proof.Gen.ModulateReferenceIdeal.Run
public import proofs.«01_k».proof.Proof.Gen.ModulateReferenceIdeal.Read
public import proofs.«01_k».proof.Proof.Gen.Mixed
public import proofs.«01_k».proof.Proof.Gen.Mixed.Skeleton
public import proofs.«01_k».proof.Proof.Gen.Mixed.Launch
public import proofs.«01_k».proof.Proof.Gen.Mixed.Points
public import proofs.«01_k».proof.Proof.Gen.Mixed.Frame
public import proofs.«01_k».proof.Proof.Gen.MixedIdeal
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.MixedIdeal.Frame
public import proofs.«01_k».proof.Proof.Gen.MixedIdeal.Value
public import proofs.«01_k».proof.Proof.Gen.MixedReferenceIdeal
public import proofs.«01_k».proof.Proof.Gen.MixedReferenceIdeal.Run
public import proofs.«01_k».proof.Proof.Gen.MixedReferenceIdeal.Read
public import proofs.«01_k».proof.Proof.Gen.Adapt
public import proofs.«01_k».proof.Proof.Gen.Adapt.Skeleton
public import proofs.«01_k».proof.Proof.Gen.Adapt.Launch
public import proofs.«01_k».proof.Proof.Gen.Adapt.Points
public import proofs.«01_k».proof.Proof.Gen.Adapt.Frame
public import proofs.«01_k».proof.Proof.Gen.AdaptIdeal
public import proofs.«01_k».proof.Proof.Gen.AdaptIdeal.Skeleton
public import proofs.«01_k».proof.Proof.Gen.AdaptIdeal.Launch
public import proofs.«01_k».proof.Proof.Gen.AdaptIdeal.Points
public import proofs.«01_k».proof.Proof.Gen.AdaptIdeal.Frame
public import proofs.«01_k».proof.Proof.Gen.AdaptIdeal.Value
public import proofs.«01_k».proof.Proof.Gen.AdaptReferenceIdeal
public import proofs.«01_k».proof.Proof.Gen.AdaptReferenceIdeal.Run
public import proofs.«01_k».proof.Proof.Gen.AdaptReferenceIdeal.Read
public import proofs.«01_k».proof.Proof.Gen.Last
public import proofs.«01_k».proof.Proof.Gen.Last.Skeleton
public import proofs.«01_k».proof.Proof.Gen.Last.Launch
public import proofs.«01_k».proof.Proof.Gen.LastIdeal
public import proofs.«01_k».proof.Proof.Gen.LastIdeal.Skeleton
public import proofs.«01_k».proof.Proof.Gen.LastIdeal.Launch
public import proofs.«01_k».proof.Proof.Gen.LastReferenceIdeal
public import proofs.«01_k».proof.Proof.Gen.LastReferenceIdeal.Run
public import proofs.«01_k».proof.Proof.Gen.LastReferenceIdeal.Read

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.FfnUp.Gen.facts, Cert.FfnUpIdeal.Gen.facts, Cert.FfnUpReferenceIdeal.Gen.facts,
    Cert.FfnDown.Gen.facts, Cert.FfnDownIdeal.Gen.facts, Cert.FfnDownReferenceIdeal.Gen.facts,
    Cert.SsmInZ.Gen.facts, Cert.SsmInZIdeal.Gen.facts, Cert.SsmInZReferenceIdeal.Gen.facts,
    Cert.SsmInXbc.Gen.facts, Cert.SsmInXbcIdeal.Gen.facts, Cert.SsmInXbcReferenceIdeal.Gen.facts,
    Cert.SsmOut.Gen.facts, Cert.SsmOutIdeal.Gen.facts, Cert.SsmOutReferenceIdeal.Gen.facts,
    Cert.MixIn.Gen.facts, Cert.MixInIdeal.Gen.facts, Cert.MixInReferenceIdeal.Gen.facts,
    Cert.MixOut.Gen.facts, Cert.MixOutIdeal.Gen.facts, Cert.MixOutReferenceIdeal.Gen.facts,
    Cert.QProj.Gen.facts, Cert.QProjIdeal.Gen.facts, Cert.QProjReferenceIdeal.Gen.facts,
    Cert.KvProj.Gen.facts, Cert.KvProjIdeal.Gen.facts, Cert.KvProjReferenceIdeal.Gen.facts,
    Cert.MoeUp.Gen.facts, Cert.MoeUpIdeal.Gen.facts, Cert.MoeUpReferenceIdeal.Gen.facts,
    Cert.MoeDown.Gen.facts, Cert.MoeDownIdeal.Gen.facts, Cert.MoeDownReferenceIdeal.Gen.facts,
    Cert.SsmDt.Gen.facts, Cert.SsmDtIdeal.Gen.facts, Cert.SsmDtReferenceIdeal.Gen.facts,
    Cert.GateNorm.Gen.facts, Cert.GateNormIdeal.Gen.facts, Cert.GateNormReferenceIdeal.Gen.facts,
    Cert.Caches.Gen.facts, Cert.CachesIdeal.Gen.facts, Cert.CachesReferenceIdeal.Gen.facts,
    Cert.Modulate.Gen.facts, Cert.ModulateIdeal.Gen.facts, Cert.ModulateReferenceIdeal.Gen.facts,
    Cert.Mixed.Gen.facts, Cert.MixedIdeal.Gen.facts, Cert.MixedReferenceIdeal.Gen.facts,
    Cert.Adapt.Gen.facts, Cert.AdaptIdeal.Gen.facts, Cert.AdaptReferenceIdeal.Gen.facts,
    Cert.Last.Gen.facts, Cert.LastIdeal.Gen.facts, Cert.LastReferenceIdeal.Gen.facts,
    Cert.Finite.facts, Cert.Tables.facts, Cert.Tables.Down.facts, Cert.Tables.mask_facts, Cert.Tables.Down.mask_facts,
    fun m ρ _ => Cert.Kernel.Gen.frame m ρ,
    fun m ρ _ => Cert.KernelIdeal.Gen.frame m ρ,
    fun m ρ _ => Cert.KernelIdeal.Gen.frame m ρ,
    fun m ρ _ => Cert.Attention.reference_frame m ρ trivial,
    fun m ρ _ => Cert.Attention.reference_frame m ρ trivial,
    fun m ρ _ => Cert.FfnUp.Gen.frame m ρ, fun m ρ _ => Cert.FfnUpIdeal.Gen.frame m ρ, Cert.FfnUpReferenceIdeal.Mm.frame,
    fun m ρ _ => Cert.FfnDown.Gen.frame m ρ, fun m ρ _ => Cert.FfnDownIdeal.Gen.frame m ρ, Cert.FfnDownReferenceIdeal.Mm.frame,
    fun m ρ _ => Cert.SsmInZ.Gen.frame m ρ, fun m ρ _ => Cert.SsmInZIdeal.Gen.frame m ρ, Cert.SsmInZReferenceIdeal.Mm.frame,
    fun m ρ _ => Cert.SsmInXbc.Gen.frame m ρ, fun m ρ _ => Cert.SsmInXbcIdeal.Gen.frame m ρ, Cert.SsmInXbcReferenceIdeal.Mm.frame,
    fun m ρ _ => Cert.SsmOut.Gen.frame m ρ, fun m ρ _ => Cert.SsmOutIdeal.Gen.frame m ρ, Cert.SsmOutReferenceIdeal.Mm.frame,
    fun m ρ _ => Cert.MixIn.Gen.frame m ρ, fun m ρ _ => Cert.MixInIdeal.Gen.frame m ρ, Cert.MixInReferenceIdeal.Mm.frame,
    fun m ρ _ => Cert.MixOut.Gen.frame m ρ, fun m ρ _ => Cert.MixOutIdeal.Gen.frame m ρ, Cert.MixOutReferenceIdeal.Mm.frame,
    fun m ρ _ => Cert.QProj.Gen.frame m ρ, fun m ρ _ => Cert.QProjIdeal.Gen.frame m ρ, Cert.QProjReferenceIdeal.Mm.frame,
    fun m ρ _ => Cert.KvProj.Gen.frame m ρ, fun m ρ _ => Cert.KvProjIdeal.Gen.frame m ρ, Cert.KvProjReferenceIdeal.Mm.frame,
    Cert.MoeUp.Mm.frame, Cert.MoeUpIdeal.Mm.frame,
    Cert.MoeUpReferenceIdeal.Mm.frame, Cert.MoeUpReferenceIdeal.Mm.frame_pre,
    Cert.MoeDown.Mm.frame, Cert.MoeDownIdeal.Mm.frame,
    Cert.MoeDownReferenceIdeal.Mm.frame, Cert.MoeDownReferenceIdeal.Mm.frame_pre,
    fun m ρ _ => Cert.SsmDt.Gen.frame m ρ, fun m ρ _ => Cert.SsmDtIdeal.Gen.frame m ρ, Cert.SsmDtReferenceIdeal.Mm.frame,
    fun m ρ _ => Cert.GateNorm.Gen.frame m ρ, fun m ρ _ => Cert.GateNormIdeal.Gen.frame m ρ, Cert.GateNormReferenceIdeal.Mm.frame,
    fun m ρ _ => Cert.Caches.Gen.frame m ρ, fun m ρ _ => Cert.CachesIdeal.Gen.frame m ρ, Cert.CachesReferenceIdeal.Mm.frame,
    fun m ρ _ => Cert.Modulate.Gen.frame m ρ, fun m ρ _ => Cert.ModulateIdeal.Gen.frame m ρ, Cert.ModulateReferenceIdeal.Mm.frame,
    fun m ρ _ => Cert.Mixed.Gen.frame m ρ, fun m ρ _ => Cert.MixedIdeal.Gen.frame m ρ, Cert.MixedReferenceIdeal.Mm.frame,
    fun m ρ _ => Cert.Adapt.Gen.frame m ρ, fun m ρ _ => Cert.AdaptIdeal.Gen.frame m ρ, Cert.AdaptReferenceIdeal.Mm.frame,
    Cert.Last.Mm.frame, Cert.LastIdeal.Mm.frame, Cert.LastReferenceIdeal.Mm.frame,
    trivial, Cert.Attention.algebraic,
    trivial, Cert.FfnUpReferenceIdeal.Mm.algebraic,
    trivial, Cert.FfnDownReferenceIdeal.Mm.algebraic,
    trivial, Cert.SsmInZReferenceIdeal.Mm.algebraic,
    trivial, Cert.SsmInXbcReferenceIdeal.Mm.algebraic,
    trivial, Cert.SsmOutReferenceIdeal.Mm.algebraic,
    trivial, Cert.MixInReferenceIdeal.Mm.algebraic,
    trivial, Cert.MixOutReferenceIdeal.Mm.algebraic,
    trivial, Cert.QProjReferenceIdeal.Mm.algebraic,
    trivial, Cert.KvProjReferenceIdeal.Mm.algebraic,
    trivial, Cert.MoeUpIdeal.Mm.algebraic,
    trivial, Cert.MoeDownIdeal.Mm.algebraic,
    trivial, Cert.SsmDtReferenceIdeal.Mm.algebraic,
    trivial, Cert.GateNormReferenceIdeal.Mm.algebraic,
    trivial, Cert.CachesReferenceIdeal.Mm.algebraic,
    trivial, Cert.ModulateReferenceIdeal.Mm.algebraic,
    trivial, Cert.MixedReferenceIdeal.Mm.algebraic,
    trivial, Cert.AdaptReferenceIdeal.Mm.algebraic,
    trivial, Cert.LastReferenceIdeal.Mm.algebraic⟩

end Cert.Proof

end
